-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def preserves_Kernel_KernelIdeal : Prop :=
  IdealRules.named_const.Statement Cert.KernelIdeal.κ "m_init" .f32 0xF149F2CA#32 ⊥
  ∧ IdealRules.named_const.Statement Cert.KernelIdeal.κ "scale" .f32 0x3E16C740#32 (((Real.sqrt 96)⁻¹ * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v12_0)) (v1 : (c : Dev Cert.Kernel2Ideal.nD) → Buf (Elt Ideal) ((c.tc : Thread Cert.Kernel2Ideal.nD Cert.Kernel2Ideal.τ).loc Cert.Kernel2Ideal.main_v12_2)) (v2 : (c : Dev Cert.Kernel2Ideal.nD) → Buf (Elt Ideal) ((c.tc : Thread Cert.Kernel2Ideal.nD Cert.Kernel2Ideal.τ).loc Cert.Kernel2Ideal.main_v12_3)) (v3 : (c : Dev Cert.Kernel2Ideal.nD) → Buf (Elt Ideal) ((c.tc : Thread Cert.Kernel2Ideal.nD Cert.Kernel2Ideal.τ).loc Cert.Kernel2Ideal.main_v12_5)) (v4 : (c : Dev Cert.Kernel2Ideal.nD) → Buf (Elt Ideal) ((c.tc : Thread Cert.Kernel2Ideal.nD Cert.Kernel2Ideal.τ).loc Cert.Kernel2Ideal.main_v12_7)) (v5 : (c : Dev Cert.Kernel2Ideal.nD) → Buf (Elt Ideal) ((c.tc : Thread Cert.Kernel2Ideal.nD Cert.Kernel2Ideal.τ).loc Cert.Kernel2Ideal.main_v12_8)) (v6 : (c : Dev Cert.Kernel2Ideal.nD) → Buf (Elt Ideal) ((c.tc : Thread Cert.Kernel2Ideal.nD Cert.Kernel2Ideal.τ).loc Cert.Kernel2Ideal.main_v12_9)) (v7 : (c : Dev Cert.Kernel2Ideal.nD) → Buf (Elt Ideal) ((c.tc : Thread Cert.Kernel2Ideal.nD Cert.Kernel2Ideal.τ).loc Cert.Kernel2Ideal.main_v12_10)) (v8 : (c : Dev Cert.Kernel2Ideal.nD) → Buf (Elt Ideal) ((c.tc : Thread Cert.Kernel2Ideal.nD Cert.Kernel2Ideal.τ).loc Cert.Kernel2Ideal.main_v12_11)) (v9 : (c : Dev Cert.Kernel2Ideal.nD) → Buf (Elt Ideal) ((c.tc : Thread Cert.Kernel2Ideal.nD Cert.Kernel2Ideal.τ).loc Cert.Kernel2Ideal.main_v12_12)) (v10 : (c : Dev Cert.Kernel2Ideal.nD) → Buf (Elt Ideal) ((c.tc : Thread Cert.Kernel2Ideal.nD Cert.Kernel2Ideal.τ).loc Cert.Kernel2Ideal.main_v12_13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12_0) = v0 c
          ∧ r.2.mem ((c.tc : Thread Cert.Kernel2Ideal.nD Cert.Kernel2Ideal.τ).loc Cert.Kernel2Ideal.main_v12_2) = v1 c
          ∧ r.2.mem ((c.tc : Thread Cert.Kernel2Ideal.nD Cert.Kernel2Ideal.τ).loc Cert.Kernel2Ideal.main_v12_3) = v2 c
          ∧ r.2.mem ((c.tc : Thread Cert.Kernel2Ideal.nD Cert.Kernel2Ideal.τ).loc Cert.Kernel2Ideal.main_v12_5) = v3 c
          ∧ r.2.mem ((c.tc : Thread Cert.Kernel2Ideal.nD Cert.Kernel2Ideal.τ).loc Cert.Kernel2Ideal.main_v12_7) = v4 c
          ∧ r.2.mem ((c.tc : Thread Cert.Kernel2Ideal.nD Cert.Kernel2Ideal.τ).loc Cert.Kernel2Ideal.main_v12_8) = v5 c
          ∧ r.2.mem ((c.tc : Thread Cert.Kernel2Ideal.nD Cert.Kernel2Ideal.τ).loc Cert.Kernel2Ideal.main_v12_9) = v6 c
          ∧ r.2.mem ((c.tc : Thread Cert.Kernel2Ideal.nD Cert.Kernel2Ideal.τ).loc Cert.Kernel2Ideal.main_v12_10) = v7 c
          ∧ r.2.mem ((c.tc : Thread Cert.Kernel2Ideal.nD Cert.Kernel2Ideal.τ).loc Cert.Kernel2Ideal.main_v12_11) = v8 c
          ∧ r.2.mem ((c.tc : Thread Cert.Kernel2Ideal.nD Cert.Kernel2Ideal.τ).loc Cert.Kernel2Ideal.main_v12_12) = v9 c
          ∧ r.2.mem ((c.tc : Thread Cert.Kernel2Ideal.nD Cert.Kernel2Ideal.τ).loc Cert.Kernel2Ideal.main_v12_13) = v10 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_v22) = v1 c
          ∧ r.2.mem ((c.tc : Thread Cert.Reference2Ideal.nD Cert.Reference2Ideal.τ).loc Cert.Reference2Ideal.main_v23) = v2 c
          ∧ r.2.mem ((c.tc : Thread Cert.Reference2Ideal.nD Cert.Reference2Ideal.τ).loc Cert.Reference2Ideal.main_v25) = v3 c
          ∧ r.2.mem ((c.tc : Thread Cert.Reference2Ideal.nD Cert.Reference2Ideal.τ).loc Cert.Reference2Ideal.main_v27) = v4 c
          ∧ r.2.mem ((c.tc : Thread Cert.Reference2Ideal.nD Cert.Reference2Ideal.τ).loc Cert.Reference2Ideal.main_v34) = v5 c
          ∧ r.2.mem ((c.tc : Thread Cert.Reference2Ideal.nD Cert.Reference2Ideal.τ).loc Cert.Reference2Ideal.main_v35) = v6 c
          ∧ r.2.mem ((c.tc : Thread Cert.Reference2Ideal.nD Cert.Reference2Ideal.τ).loc Cert.Reference2Ideal.main_v36) = v7 c
          ∧ r.2.mem ((c.tc : Thread Cert.Reference2Ideal.nD Cert.Reference2Ideal.τ).loc Cert.Reference2Ideal.main_v37) = v8 c
          ∧ r.2.mem ((c.tc : Thread Cert.Reference2Ideal.nD Cert.Reference2Ideal.τ).loc Cert.Reference2Ideal.main_v38) = v9 c
          ∧ r.2.mem ((c.tc : Thread Cert.Reference2Ideal.nD Cert.Reference2Ideal.τ).loc Cert.Reference2Ideal.main_v39) = v10 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v25_2)) (v1 : (c : Dev Cert.Kernel4Ideal.nD) → Buf (Elt Ideal) ((c.tc : Thread Cert.Kernel4Ideal.nD Cert.Kernel4Ideal.τ).loc Cert.Kernel4Ideal.main_v25_3)) (v2 : (c : Dev Cert.Kernel4Ideal.nD) → Buf (Elt Ideal) ((c.tc : Thread Cert.Kernel4Ideal.nD Cert.Kernel4Ideal.τ).loc Cert.Kernel4Ideal.main_v25_5)) (v3 : (c : Dev Cert.Kernel4Ideal.nD) → Buf (Elt Ideal) ((c.tc : Thread Cert.Kernel4Ideal.nD Cert.Kernel4Ideal.τ).loc Cert.Kernel4Ideal.main_v25_6)) (v4 : (c : Dev Cert.Kernel4Ideal.nD) → Buf (Elt Ideal) ((c.tc : Thread Cert.Kernel4Ideal.nD Cert.Kernel4Ideal.τ).loc Cert.Kernel4Ideal.main_v25_9)) (v5 : (c : Dev Cert.Kernel4Ideal.nD) → Buf (Elt Ideal) ((c.tc : Thread Cert.Kernel4Ideal.nD Cert.Kernel4Ideal.τ).loc Cert.Kernel4Ideal.main_v25_10)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v25_2) = v0 c
          ∧ r.2.mem ((c.tc : Thread Cert.Kernel4Ideal.nD Cert.Kernel4Ideal.τ).loc Cert.Kernel4Ideal.main_v25_3) = v1 c
          ∧ r.2.mem ((c.tc : Thread Cert.Kernel4Ideal.nD Cert.Kernel4Ideal.τ).loc Cert.Kernel4Ideal.main_v25_5) = v2 c
          ∧ r.2.mem ((c.tc : Thread Cert.Kernel4Ideal.nD Cert.Kernel4Ideal.τ).loc Cert.Kernel4Ideal.main_v25_6) = v3 c
          ∧ r.2.mem ((c.tc : Thread Cert.Kernel4Ideal.nD Cert.Kernel4Ideal.τ).loc Cert.Kernel4Ideal.main_v25_9) = v4 c
          ∧ r.2.mem ((c.tc : Thread Cert.Kernel4Ideal.nD Cert.Kernel4Ideal.τ).loc Cert.Kernel4Ideal.main_v25_10) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v41) = v0 c
          ∧ r.2.mem ((c.tc : Thread Cert.Reference4Ideal.nD Cert.Reference4Ideal.τ).loc Cert.Reference4Ideal.main_v44) = v1 c
          ∧ r.2.mem ((c.tc : Thread Cert.Reference4Ideal.nD Cert.Reference4Ideal.τ).loc Cert.Reference4Ideal.main_v45) = v2 c
          ∧ r.2.mem ((c.tc : Thread Cert.Reference4Ideal.nD Cert.Reference4Ideal.τ).loc Cert.Reference4Ideal.main_v46) = v3 c
          ∧ r.2.mem ((c.tc : Thread Cert.Reference4Ideal.nD Cert.Reference4Ideal.τ).loc Cert.Reference4Ideal.main_v48) = v4 c
          ∧ r.2.mem ((c.tc : Thread Cert.Reference4Ideal.nD Cert.Reference4Ideal.τ).loc Cert.Reference4Ideal.main_v49) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  IdealRules.named_const.Statement Cert.Kernel5Ideal.κ "q_scale" .f32 0x3E38AA3B#32 (((Real.sqrt 64)⁻¹ * (Real.log 2)⁻¹ : ℝ) : EReal)

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v57_0)) (v1 : (c : Dev Cert.Kernel5Ideal.nD) → Buf (Elt Ideal) ((c.tc : Thread Cert.Kernel5Ideal.nD Cert.Kernel5Ideal.τ).loc Cert.Kernel5Ideal.main_v57_1)) (v2 : (c : Dev Cert.Kernel5Ideal.nD) → Buf (Elt Ideal) ((c.tc : Thread Cert.Kernel5Ideal.nD Cert.Kernel5Ideal.τ).loc Cert.Kernel5Ideal.main_v57_4)) (v3 : (c : Dev Cert.Kernel5Ideal.nD) → Buf (Elt Ideal) ((c.tc : Thread Cert.Kernel5Ideal.nD Cert.Kernel5Ideal.τ).loc Cert.Kernel5Ideal.main_v57_7)) (v4 : (c : Dev Cert.Kernel5Ideal.nD) → Buf (Elt Ideal) ((c.tc : Thread Cert.Kernel5Ideal.nD Cert.Kernel5Ideal.τ).loc Cert.Kernel5Ideal.main_v57_8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v57_0) = v0 c
          ∧ r.2.mem ((c.tc : Thread Cert.Kernel5Ideal.nD Cert.Kernel5Ideal.τ).loc Cert.Kernel5Ideal.main_v57_1) = v1 c
          ∧ r.2.mem ((c.tc : Thread Cert.Kernel5Ideal.nD Cert.Kernel5Ideal.τ).loc Cert.Kernel5Ideal.main_v57_4) = v2 c
          ∧ r.2.mem ((c.tc : Thread Cert.Kernel5Ideal.nD Cert.Kernel5Ideal.τ).loc Cert.Kernel5Ideal.main_v57_7) = v3 c
          ∧ r.2.mem ((c.tc : Thread Cert.Kernel5Ideal.nD Cert.Kernel5Ideal.τ).loc Cert.Kernel5Ideal.main_v57_8) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v65) = v0 c
          ∧ r.2.mem ((c.tc : Thread Cert.Reference5Ideal.nD Cert.Reference5Ideal.τ).loc Cert.Reference5Ideal.main_v102) = v1 c
          ∧ r.2.mem ((c.tc : Thread Cert.Reference5Ideal.nD Cert.Reference5Ideal.τ).loc Cert.Reference5Ideal.main_v139) = v2 c
          ∧ r.2.mem ((c.tc : Thread Cert.Reference5Ideal.nD Cert.Reference5Ideal.τ).loc Cert.Reference5Ideal.main_v189) = v3 c
          ∧ r.2.mem ((c.tc : Thread Cert.Reference5Ideal.nD Cert.Reference5Ideal.τ).loc Cert.Reference5Ideal.main_v226) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite5 : Cert.Pre_finite5.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
-- ==== Pre_finite5.lean ====
abbrev S32768x1024 : Shape := ⟨2, ![32768, 1024]⟩
abbrev S1024 : Shape := ⟨1, ![1024]⟩
abbrev S1024x2944 : Shape := ⟨2, ![1024, 2944]⟩
abbrev S8192x32 : Shape := ⟨2, ![8192, 32]⟩
abbrev S2x64 : Shape := ⟨2, ![2, 64]⟩
abbrev S64 : Shape := ⟨1, ![64]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x2944 : S_.BroadcastsInDim S1024x2944 (![] : Fin 0 → Fin S1024x2944.rank)
  reducesTo_S1024x2944_S_d0_1 : S1024x2944.ReducesTo [0, 1] S_

variable [Facts]

def fn {F : FTy → Type} [FloatOps F] (main_arg0 : FVec F S32768x1024 .f32) (main_arg1 : FVec F S1024 .f32) (main_arg2 : FVec F S1024x2944 .f32) (main_arg3 : FVec F S8192x32 .f32) (main_arg4 : FVec F S8192x32 .f32) (main_arg5 : FVec F S2x64 .f32) (main_arg6 : FVec F S64 .f32) (main_arg7 : FVec F S2x64 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x2944 .f32 := Host.absf main_arg2
  let main_cst_0 : FVec F S_ .f32 := constant S_ .f32 0x7F800000#32
  let main_v5 : FVec F S1024x2944 .f32 := broadcastInDim S1024x2944 ![] bcast_S_S1024x2944 main_cst_0
  let main_v6 : IVec S1024x2944 1 := cmpf .olt main_v4 main_v5
  let main_c_1 : IVec S_ 1 := constantI S_ 1 1#1
  let main_v7 : IVec S_ 1 := (fun x v => Host.reduce IntOp.andi x v reducesTo_S1024x2944_S_d0_1 h_S_) main_v6 main_c_1
  let main_v8 : IVec S_ 1 := andi main_v3 main_v7
  main_v8
-- ==== Kernel.lean ====
abbrev S8x32768x128 : Shape := ⟨3, ![8, 32768, 128]⟩
abbrev S4x32768x128 : Shape := ⟨3, ![4, 32768, 128]⟩
abbrev S32768x512 : Shape := ⟨2, ![32768, 512]⟩
abbrev S_ : Shape := ⟨0, ![]⟩
abbrev S4x32768x256 : Shape := ⟨3, ![4, 32768, 256]⟩
abbrev S8x512x128 : Shape := ⟨3, ![8, 512, 128]⟩
abbrev S8x8192x128 : Shape := ⟨3, ![8, 8192, 128]⟩
abbrev S4x8192x256 : Shape := ⟨3, ![4, 8192, 256]⟩
abbrev S512x512 : Shape := ⟨2, ![512, 512]⟩
abbrev S4096x128 : Shape := ⟨2, ![4096, 128]⟩
abbrev S4096x256 : Shape := ⟨2, ![4096, 256]⟩
abbrev S1x512x128 : Shape := ⟨3, ![1, 512, 128]⟩
abbrev S512x128 : Shape := ⟨2, ![512, 128]⟩
abbrev S1x512x256 : Shape := ⟨3, ![1, 512, 256]⟩
abbrev S512x256 : Shape := ⟨2, ![512, 256]⟩
abbrev S1x128x128 : Shape := ⟨3, ![1, 128, 128]⟩
abbrev S128x128 : Shape := ⟨2, ![128, 128]⟩
abbrev S128x512 : Shape := ⟨2, ![128, 512]⟩
abbrev S128 : Shape := ⟨1, ![128]⟩
abbrev S128x1 : Shape := ⟨2, ![128, 1]⟩
abbrev S128x256 : Shape := ⟨2, ![128, 256]⟩

abbrev nBuf : Space → Nat
  | .hbm => 10
  | .vmem => 10
  | .smem => 0
  | _ => 0

abbrev bufTy : (tb : Table) → Fin (tcTables nBuf tb) → BufTy
  | .hbm, ⟨0, _⟩ => ⟨S8x32768x128, .f32⟩
  | .hbm, ⟨1, _⟩ => ⟨S8x32768x128, .f32⟩
  | .hbm, ⟨2, _⟩ => ⟨S4x32768x128, .f32⟩
  | .hbm, ⟨3, _⟩ => ⟨S32768x512, .f32⟩
  | .hbm, ⟨4, _⟩ => ⟨S8x32768x128, .bf16⟩
  | .hbm, ⟨5, _⟩ => ⟨S4x32768x128, .bf16⟩
  | .hbm, ⟨6, _⟩ => ⟨S_, .bf16⟩
  | .hbm, ⟨7, _⟩ => ⟨S4x32768x128, .bf16⟩
  | .hbm, ⟨8, _⟩ => ⟨S4x32768x256, .bf16⟩
  | .hbm, ⟨9, _⟩ => ⟨S32768x512, .bf16⟩
  | .local _ .vmem, ⟨0, _⟩ => ⟨S8x512x128, .f32⟩
  | .local _ .vmem, ⟨1, _⟩ => ⟨S8x512x128, .f32⟩
  | .local _ .vmem, ⟨2, _⟩ => ⟨S8x8192x128, .bf16⟩
  | .local _ .vmem, ⟨3, _⟩ => ⟨S4x8192x256, .bf16⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | .local _ .vmem, ⟨8, _⟩ => ⟨S4096x128, .f32⟩
  | .local _ .vmem, ⟨9, _⟩ => ⟨S4096x256, .f32⟩
  | _, _ => ⟨S8x32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![4, 1, 16], ![false, false, false]⟩

@[reducible] def k0_t1_loop (i : grid0.Coords) : Scf.Loop 32 :=
  let c0_i32_9 : BitVec 32 := 0#32
  let arg2 : BitVec 32 := BitVec.ofNat 32 (i 2).val
  let c0_i32 : BitVec 32 := 0#32
  let v9 : BitVec 1 := Scalar.cmpi .sgt arg2 c0_i32
  let v10 : BitVec 32 := Scalar.extui v9
  let c0_i32_4 : BitVec 32 := 0#32
  let v11 : BitVec 1 := Scalar.cmpi .slt arg2 c0_i32_4
  let v12 : BitVec 32 := Scalar.extui v11
  let v13 : BitVec 32 := Scalar.subi v10 v12
  let c4_i32 : BitVec 32 := 4#32
  let c0_i32_5 : BitVec 32 := 0#32
  let v14 : BitVec 1 := Scalar.cmpi .sgt c4_i32 c0_i32_5
  let v15 : BitVec 32 := Scalar.extui v14
  let c0_i32_6 : BitVec 32 := 0#32
  let v16 : BitVec 1 := Scalar.cmpi .slt c4_i32 c0_i32_6
  let v17 : BitVec 32 := Scalar.extui v16
  let v18 : BitVec 32 := Scalar.subi v15 v17
  let v19 : BitVec 1 := Scalar.cmpi .ne v13 v18
  let v20 : BitVec 32 := Scalar.remsi arg2 c4_i32
  let c0_i32_7 : BitVec 32 := 0#32
  let v21 : BitVec 1 := Scalar.cmpi .ne v20 c0_i32_7
  let v22 : BitVec 1 := Scalar.andi v19 v21
  let v8 : BitVec 32 := Scalar.divsi arg2 c4_i32
  let c1_i32 : BitVec 32 := 1#32
  let v23 : BitVec 32 := Scalar.subi v8 c1_i32
  let v24 : BitVec 32 := Scalar.select v22 v23 v8
  let v25 : BitVec 32 := Scalar.subi v24 c0_i32_9
  let c1_i32_10 : BitVec 32 := 1#32
  let v27 : BitVec 32 := Scalar.divsi v25 c1_i32_10
  let v28 : BitVec 32 := Scalar.muli v27 c1_i32_10
  let v29 : BitVec 32 := Scalar.addi c0_i32_9 v28
  let c1_i32_11 : BitVec 32 := 1#32
  ⟨c0_i32_9, v29, c1_i32_11⟩
def k0_mult1 (i : grid0.Coords) (k0_t1 : Fin (k0_t1_loop i).trips) : BitVec 32 :=
  let c0_i32_9 : BitVec 32 := 0#32
  let c1_i32_11 : BitVec 32 := 1#32
  let arg10 : BitVec 32 := Scf.iv c0_i32_9 c1_i32_11 k0_t1
  let c4_i32_593 : BitVec 32 := 4#32
  let v1361 : BitVec 32 := Scalar.muli arg10 c4_i32_593
  let c0_i32_594 : BitVec 32 := 0#32
  let v1362 : BitVec 32 := Scalar.addi v1361 c0_i32_594
  let c512_i32_595 : BitVec 32 := 512#32
  let v1363 : BitVec 32 := Scalar.muli v1362 c512_i32_595
  v1363
def k0_off1 (i : grid0.Coords) (k0_t1 : Fin (k0_t1_loop i).trips) (c0_i32_594 : BitVec 32) : Fin 3 → Nat :=
  let c0_596 : Index := 0#32
  let c0_i32_9 : BitVec 32 := 0#32
  let c1_i32_11 : BitVec 32 := 1#32
  let arg10 : BitVec 32 := Scf.iv c0_i32_9 c1_i32_11 k0_t1
  let c4_i32_593 : BitVec 32 := 4#32
  let v1361 : BitVec 32 := Scalar.muli arg10 c4_i32_593
  let v1362 : BitVec 32 := Scalar.addi v1361 c0_i32_594
  let c512_i32_595 : BitVec 32 := 512#32
  let v1363 : BitVec 32 := Scalar.muli v1362 c512_i32_595
  let v1364 : BitVec 32 := v1363
  let v1365 : Index := Scalar.indexCast v1364
  let c0_597 : Index := 0#32
  ![0, v1365.toNat, 0]
def k0_off2 (i : grid0.Coords) (k0_t1 : Fin (k0_t1_loop i).trips) (c0_i32_594 : BitVec 32) : Fin 3 → Nat :=
  let c0_598 : Index := 0#32
  let c0_i32_9 : BitVec 32 := 0#32
  let c1_i32_11 : BitVec 32 := 1#32
  let arg10 : BitVec 32 := Scf.iv c0_i32_9 c1_i32_11 k0_t1
  let c4_i32_593 : BitVec 32 := 4#32
  let v1361 : BitVec 32 := Scalar.muli arg10 c4_i32_593
  let v1362 : BitVec 32 := Scalar.addi v1361 c0_i32_594
  let c512_i32_595 : BitVec 32 := 512#32
  let v1363 : BitVec 32 := Scalar.muli v1362 c512_i32_595
  let v1364 : BitVec 32 := v1363
  let v1368 : Index := Scalar.indexCast v1364
  let c0_599 : Index := 0#32
  ![0, v1368.toNat, 0]
def k0_off3 (i : grid0.Coords) (k0_t1 : Fin (k0_t1_loop i).trips) (c0_i32_594 : BitVec 32) : Fin 3 → Nat :=
  let c1_660 : Index := 1#32
  let c0_i32_9 : BitVec 32 := 0#32
  let c1_i32_11 : BitVec 32 := 1#32
  let arg10 : BitVec 32 := Scf.iv c0_i32_9 c1_i32_11 k0_t1
  let c4_i32_593 : BitVec 32 := 4#32
  let v1361 : BitVec 32 := Scalar.muli arg10 c4_i32_593
  let v1362 : BitVec 32 := Scalar.addi v1361 c0_i32_594
  let c512_i32_595 : BitVec 32 := 512#32
  let v1363 : BitVec 32 := Scalar.muli v1362 c512_i32_595
  let v1364 : BitVec 32 := v1363
  let v1491 : Index := Scalar.indexCast v1364
  let c0_661 : Index := 0#32
  ![1, v1491.toNat, 0]
def k0_off4 (i : grid0.Coords) (k0_t1 : Fin (k0_t1_loop i).trips) (c0_i32_594 : BitVec 32) : Fin 3 → Nat :=
  let c2_724 : Index := 2#32
  let c0_i32_9 : BitVec 32 := 0#32
  let c1_i32_11 : BitVec 32 := 1#32
  let arg10 : BitVec 32 := Scf.iv c0_i32_9 c1_i32_11 k0_t1
  let c4_i32_593 : BitVec 32 := 4#32
  let v1361 : BitVec 32 := Scalar.muli arg10 c4_i32_593
  let v1362 : BitVec 32 := Scalar.addi v1361 c0_i32_594
  let c512_i32_595 : BitVec 32 := 512#32
  let v1363 : BitVec 32 := Scalar.muli v1362 c512_i32_595
  let v1364 : BitVec 32 := v1363
  let v1617 : Index := Scalar.indexCast v1364
  let c0_725 : Index := 0#32
  ![2, v1617.toNat, 0]
def k0_off5 (i : grid0.Coords) (k0_t1 : Fin (k0_t1_loop i).trips) (c0_i32_594 : BitVec 32) : Fin 3 → Nat :=
  let c1_726 : Index := 1#32
  let c0_i32_9 : BitVec 32 := 0#32
  let c1_i32_11 : BitVec 32 := 1#32
  let arg10 : BitVec 32 := Scf.iv c0_i32_9 c1_i32_11 k0_t1
  let c4_i32_593 : BitVec 32 := 4#32
  let v1361 : BitVec 32 := Scalar.muli arg10 c4_i32_593
  let v1362 : BitVec 32 := Scalar.addi v1361 c0_i32_594
  let c512_i32_595 : BitVec 32 := 512#32
  let v1363 : BitVec 32 := Scalar.muli v1362 c512_i32_595
  let v1364 : BitVec 32 := v1363
  let v1620 : Index := Scalar.indexCast v1364
  let c0_727 : Index := 0#32
  ![1, v1620.toNat, 0]
def k0_off6 (i : grid0.Coords) (k0_t1 : Fin (k0_t1_loop i).trips) (c0_i32_594 : BitVec 32) : Fin 3 → Nat :=
  let c3_788 : Index := 3#32
  let c0_i32_9 : BitVec 32 := 0#32
  let c1_i32_11 : BitVec 32 := 1#32
  let arg10 : BitVec 32 := Scf.iv c0_i32_9 c1_i32_11 k0_t1
  let c4_i32_593 : BitVec 32 := 4#32
  let v1361 : BitVec 32 := Scalar.muli arg10 c4_i32_593
  let v1362 : BitVec 32 := Scalar.addi v1361 c0_i32_594
  let c512_i32_595 : BitVec 32 := 512#32
  let v1363 : BitVec 32 := Scalar.muli v1362 c512_i32_595
  let v1364 : BitVec 32 := v1363
  let v1743 : Index := Scalar.indexCast v1364
  let c0_789 : Index := 0#32
  ![3, v1743.toNat, 0]
def k0_off7 (i : grid0.Coords) (k0_t1 : Fin (k0_t1_loop i).trips) (c0_i32_594 : BitVec 32) : Fin 3 → Nat :=
  let c4_852 : Index := 4#32
  let c0_i32_9 : BitVec 32 := 0#32
  let c1_i32_11 : BitVec 32 := 1#32
  let arg10 : BitVec 32 := Scf.iv c0_i32_9 c1_i32_11 k0_t1
  let c4_i32_593 : BitVec 32 := 4#32
  let v1361 : BitVec 32 := Scalar.muli arg10 c4_i32_593
  let v1362 : BitVec 32 := Scalar.addi v1361 c0_i32_594
  let c512_i32_595 : BitVec 32 := 512#32
  let v1363 : BitVec 32 := Scalar.muli v1362 c512_i32_595
  let v1364 : BitVec 32 := v1363
  let v1869 : Index := Scalar.indexCast v1364
  let c0_853 : Index := 0#32
  ![4, v1869.toNat, 0]
def k0_off8 (i : grid0.Coords) (k0_t1 : Fin (k0_t1_loop i).trips) (c0_i32_594 : BitVec 32) : Fin 3 → Nat :=
  let c2_854 : Index := 2#32
  let c0_i32_9 : BitVec 32 := 0#32
  let c1_i32_11 : BitVec 32 := 1#32
  let arg10 : BitVec 32 := Scf.iv c0_i32_9 c1_i32_11 k0_t1
  let c4_i32_593 : BitVec 32 := 4#32
  let v1361 : BitVec 32 := Scalar.muli arg10 c4_i32_593
  let v1362 : BitVec 32 := Scalar.addi v1361 c0_i32_594
  let c512_i32_595 : BitVec 32 := 512#32
  let v1363 : BitVec 32 := Scalar.muli v1362 c512_i32_595
  let v1364 : BitVec 32 := v1363
  let v1872 : Index := Scalar.indexCast v1364
  let c0_855 : Index := 0#32
  ![2, v1872.toNat, 0]
def k0_off9 (i : grid0.Coords) (k0_t1 : Fin (k0_t1_loop i).trips) (c0_i32_594 : BitVec 32) : Fin 3 → Nat :=
  let c5_916 : Index := 5#32
  let c0_i32_9 : BitVec 32 := 0#32
  let c1_i32_11 : BitVec 32 := 1#32
  let arg10 : BitVec 32 := Scf.iv c0_i32_9 c1_i32_11 k0_t1
  let c4_i32_593 : BitVec 32 := 4#32
  let v1361 : BitVec 32 := Scalar.muli arg10 c4_i32_593
  let v1362 : BitVec 32 := Scalar.addi v1361 c0_i32_594
  let c512_i32_595 : BitVec 32 := 512#32
  let v1363 : BitVec 32 := Scalar.muli v1362 c512_i32_595
  let v1364 : BitVec 32 := v1363
  let v1995 : Index := Scalar.indexCast v1364
  let c0_917 : Index := 0#32
  ![5, v1995.toNat, 0]
def k0_off10 (i : grid0.Coords) (k0_t1 : Fin (k0_t1_loop i).trips) (c0_i32_594 : BitVec 32) : Fin 3 → Nat :=
  let c6_980 : Index := 6#32
  let c0_i32_9 : BitVec 32 := 0#32
  let c1_i32_11 : BitVec 32 := 1#32
  let arg10 : BitVec 32 := Scf.iv c0_i32_9 c1_i32_11 k0_t1
  let c4_i32_593 : BitVec 32 := 4#32
  let v1361 : BitVec 32 := Scalar.muli arg10 c4_i32_593
  let v1362 : BitVec 32 := Scalar.addi v1361 c0_i32_594
  let c512_i32_595 : BitVec 32 := 512#32
  let v1363 : BitVec 32 := Scalar.muli v1362 c512_i32_595
  let v1364 : BitVec 32 := v1363
  let v2121 : Index := Scalar.indexCast v1364
  let c0_981 : Index := 0#32
  ![6, v2121.toNat, 0]
def k0_off11 (i : grid0.Coords) (k0_t1 : Fin (k0_t1_loop i).trips) (c0_i32_594 : BitVec 32) : Fin 3 → Nat :=
  let c3_982 : Index := 3#32
  let c0_i32_9 : BitVec 32 := 0#32
  let c1_i32_11 : BitVec 32 := 1#32
  let arg10 : BitVec 32 := Scf.iv c0_i32_9 c1_i32_11 k0_t1
  let c4_i32_593 : BitVec 32 := 4#32
  let v1361 : BitVec 32 := Scalar.muli arg10 c4_i32_593
  let v1362 : BitVec 32 := Scalar.addi v1361 c0_i32_594
  let c512_i32_595 : BitVec 32 := 512#32
  let v1363 : BitVec 32 := Scalar.muli v1362 c512_i32_595
  let v1364 : BitVec 32 := v1363
  let v2124 : Index := Scalar.indexCast v1364
  let c0_983 : Index := 0#32
  ![3, v2124.toNat, 0]
def k0_off12 (i : grid0.Coords) (k0_t1 : Fin (k0_t1_loop i).trips) (c0_i32_594 : BitVec 32) : Fin 3 → Nat :=
  let c7_1044 : Index := 7#32
  let c0_i32_9 : BitVec 32 := 0#32
  let c1_i32_11 : BitVec 32 := 1#32
  let arg10 : BitVec 32 := Scf.iv c0_i32_9 c1_i32_11 k0_t1
  let c4_i32_593 : BitVec 32 := 4#32
  let v1361 : BitVec 32 := Scalar.muli arg10 c4_i32_593
  let v1362 : BitVec 32 := Scalar.addi v1361 c0_i32_594
  let c512_i32_595 : BitVec 32 := 512#32
  let v1363 : BitVec 32 := Scalar.muli v1362 c512_i32_595
  let v1364 : BitVec 32 := v1363
  let v2247 : Index := Scalar.indexCast v1364
  let c0_1045 : Index := 0#32
  ![7, v2247.toNat, 0]
def k0_mult2 (i : grid0.Coords) (k0_t1 : Fin (k0_t1_loop i).trips) : BitVec 32 :=
  let c0_i32_9 : BitVec 32 := 0#32
  let c1_i32_11 : BitVec 32 := 1#32
  let arg10 : BitVec 32 := Scf.iv c0_i32_9 c1_i32_11 k0_t1
  let c4_i32_1108 : BitVec 32 := 4#32
  let v2373 : BitVec 32 := Scalar.muli arg10 c4_i32_1108
  let c1_i32_1109 : BitVec 32 := 1#32
  let v2374 : BitVec 32 := Scalar.addi v2373 c1_i32_1109
  let c512_i32_1110 : BitVec 32 := 512#32
  let v2375 : BitVec 32 := Scalar.muli v2374 c512_i32_1110
  v2375
def k0_mult3 (i : grid0.Coords) (k0_t1 : Fin (k0_t1_loop i).trips) : BitVec 32 :=
  let c0_i32_9 : BitVec 32 := 0#32
  let c1_i32_11 : BitVec 32 := 1#32
  let arg10 : BitVec 32 := Scf.iv c0_i32_9 c1_i32_11 k0_t1
  let c4_i32_1623 : BitVec 32 := 4#32
  let v3385 : BitVec 32 := Scalar.muli arg10 c4_i32_1623
  let c2_i32_1624 : BitVec 32 := 2#32
  let v3386 : BitVec 32 := Scalar.addi v3385 c2_i32_1624
  let c512_i32_1625 : BitVec 32 := 512#32
  let v3387 : BitVec 32 := Scalar.muli v3386 c512_i32_1625
  v3387
def k0_mult4 (i : grid0.Coords) (k0_t1 : Fin (k0_t1_loop i).trips) : BitVec 32 :=
  let c0_i32_9 : BitVec 32 := 0#32
  let c1_i32_11 : BitVec 32 := 1#32
  let arg10 : BitVec 32 := Scf.iv c0_i32_9 c1_i32_11 k0_t1
  let c4_i32_2138 : BitVec 32 := 4#32
  let v4397 : BitVec 32 := Scalar.muli arg10 c4_i32_2138
  let c3_i32 : BitVec 32 := 3#32
  let v4398 : BitVec 32 := Scalar.addi v4397 c3_i32
  let c512_i32_2139 : BitVec 32 := 512#32
  let v4399 : BitVec 32 := Scalar.muli v4398 c512_i32_2139
  v4399
@[reducible] def k0_t2_loop (i : grid0.Coords) : Scf.Loop 32 :=
  let c0_i32_9 : BitVec 32 := 0#32
  let arg2 : BitVec 32 := BitVec.ofNat 32 (i 2).val
  let c0_i32 : BitVec 32 := 0#32
  let v9 : BitVec 1 := Scalar.cmpi .sgt arg2 c0_i32
  let v10 : BitVec 32 := Scalar.extui v9
  let c0_i32_4 : BitVec 32 := 0#32
  let v11 : BitVec 1 := Scalar.cmpi .slt arg2 c0_i32_4
  let v12 : BitVec 32 := Scalar.extui v11
  let v13 : BitVec 32 := Scalar.subi v10 v12
  let c4_i32 : BitVec 32 := 4#32
  let c0_i32_5 : BitVec 32 := 0#32
  let v14 : BitVec 1 := Scalar.cmpi .sgt c4_i32 c0_i32_5
  let v15 : BitVec 32 := Scalar.extui v14
  let c0_i32_6 : BitVec 32 := 0#32
  let v16 : BitVec 1 := Scalar.cmpi .slt c4_i32 c0_i32_6
  let v17 : BitVec 32 := Scalar.extui v16
  let v18 : BitVec 32 := Scalar.subi v15 v17
  let v19 : BitVec 1 := Scalar.cmpi .ne v13 v18
  let v20 : BitVec 32 := Scalar.remsi arg2 c4_i32
  let c0_i32_7 : BitVec 32 := 0#32
  let v21 : BitVec 1 := Scalar.cmpi .ne v20 c0_i32_7
  let v22 : BitVec 1 := Scalar.andi v19 v21
  let v8 : BitVec 32 := Scalar.divsi arg2 c4_i32
  let c1_i32 : BitVec 32 := 1#32
  let v23 : BitVec 32 := Scalar.subi v8 c1_i32
  let v24 : BitVec 32 := Scalar.select v22 v23 v8
  let v25 : BitVec 32 := Scalar.subi v24 c0_i32_9
  let c1_i32_10 : BitVec 32 := 1#32
  let v27 : BitVec 32 := Scalar.divsi v25 c1_i32_10
  let v28 : BitVec 32 := Scalar.muli v27 c1_i32_10
  let v29 : BitVec 32 := Scalar.addi c0_i32_9 v28
  let v26 : BitVec 32 := Scalar.addi c0_i32_9 v25
  let c1_i32_12 : BitVec 32 := 1#32
  ⟨v29, v26, c1_i32_12⟩
def k0_mult5 (i : grid0.Coords) (k0_t2 : Fin (k0_t2_loop i).trips) : BitVec 32 :=
  let c0_i32_9 : BitVec 32 := 0#32
  let arg2 : BitVec 32 := BitVec.ofNat 32 (i 2).val
  let c0_i32 : BitVec 32 := 0#32
  let v9 : BitVec 1 := Scalar.cmpi .sgt arg2 c0_i32
  let v10 : BitVec 32 := Scalar.extui v9
  let c0_i32_4 : BitVec 32 := 0#32
  let v11 : BitVec 1 := Scalar.cmpi .slt arg2 c0_i32_4
  let v12 : BitVec 32 := Scalar.extui v11
  let v13 : BitVec 32 := Scalar.subi v10 v12
  let c4_i32 : BitVec 32 := 4#32
  let c0_i32_5 : BitVec 32 := 0#32
  let v14 : BitVec 1 := Scalar.cmpi .sgt c4_i32 c0_i32_5
  let v15 : BitVec 32 := Scalar.extui v14
  let c0_i32_6 : BitVec 32 := 0#32
  let v16 : BitVec 1 := Scalar.cmpi .slt c4_i32 c0_i32_6
  let v17 : BitVec 32 := Scalar.extui v16
  let v18 : BitVec 32 := Scalar.subi v15 v17
  let v19 : BitVec 1 := Scalar.cmpi .ne v13 v18
  let v20 : BitVec 32 := Scalar.remsi arg2 c4_i32
  let c0_i32_7 : BitVec 32 := 0#32
  let v21 : BitVec 1 := Scalar.cmpi .ne v20 c0_i32_7
  let v22 : BitVec 1 := Scalar.andi v19 v21
  let v8 : BitVec 32 := Scalar.divsi arg2 c4_i32
  let c1_i32 : BitVec 32 := 1#32
  let v23 : BitVec 32 := Scalar.subi v8 c1_i32
  let v24 : BitVec 32 := Scalar.select v22 v23 v8
  let v25 : BitVec 32 := Scalar.subi v24 c0_i32_9
  let c1_i32_10 : BitVec 32 := 1#32
  let v27 : BitVec 32 := Scalar.divsi v25 c1_i32_10
  let v28 : BitVec 32 := Scalar.muli v27 c1_i32_10
  let v29 : BitVec 32 := Scalar.addi c0_i32_9 v28
  let c1_i32_12 : BitVec 32 := 1#32
  let arg10 : BitVec 32 := Scf.iv v29 c1_i32_12 k0_t2
  let c4_i32_593 : BitVec 32 := 4#32
  let v1361 : BitVec 32 := Scalar.muli arg10 c4_i32_593
  let c0_i32_594 : BitVec 32 := 0#32
  let v1362 : BitVec 32 := Scalar.addi v1361 c0_i32_594
  let c512_i32_595 : BitVec 32 := 512#32
  let v1363 : BitVec 32 := Scalar.muli v1362 c512_i32_595
  v1363
def k0_off13 (i : grid0.Coords) (k0_t2 : Fin (k0_t2_loop i).trips) (c0_i32_594 : BitVec 32) : Fin 3 → Nat :=
  let c0_596 : Index := 0#32
  let c0_i32_9 : BitVec 32 := 0#32
  let arg2 : BitVec 32 := BitVec.ofNat 32 (i 2).val
  let c0_i32 : BitVec 32 := 0#32
  let v9 : BitVec 1 := Scalar.cmpi .sgt arg2 c0_i32
  let v10 : BitVec 32 := Scalar.extui v9
  let c0_i32_4 : BitVec 32 := 0#32
  let v11 : BitVec 1 := Scalar.cmpi .slt arg2 c0_i32_4
  let v12 : BitVec 32 := Scalar.extui v11
  let v13 : BitVec 32 := Scalar.subi v10 v12
  let c4_i32 : BitVec 32 := 4#32
  let c0_i32_5 : BitVec 32 := 0#32
  let v14 : BitVec 1 := Scalar.cmpi .sgt c4_i32 c0_i32_5
  let v15 : BitVec 32 := Scalar.extui v14
  let c0_i32_6 : BitVec 32 := 0#32
  let v16 : BitVec 1 := Scalar.cmpi .slt c4_i32 c0_i32_6
  let v17 : BitVec 32 := Scalar.extui v16
  let v18 : BitVec 32 := Scalar.subi v15 v17
  let v19 : BitVec 1 := Scalar.cmpi .ne v13 v18
  let v20 : BitVec 32 := Scalar.remsi arg2 c4_i32
  let c0_i32_7 : BitVec 32 := 0#32
  let v21 : BitVec 1 := Scalar.cmpi .ne v20 c0_i32_7
  let v22 : BitVec 1 := Scalar.andi v19 v21
  let v8 : BitVec 32 := Scalar.divsi arg2 c4_i32
  let c1_i32 : BitVec 32 := 1#32
  let v23 : BitVec 32 := Scalar.subi v8 c1_i32
  let v24 : BitVec 32 := Scalar.select v22 v23 v8
  let v25 : BitVec 32 := Scalar.subi v24 c0_i32_9
  let c1_i32_10 : BitVec 32 := 1#32
  let v27 : BitVec 32 := Scalar.divsi v25 c1_i32_10
  let v28 : BitVec 32 := Scalar.muli v27 c1_i32_10
  let v29 : BitVec 32 := Scalar.addi c0_i32_9 v28
  let c1_i32_12 : BitVec 32 := 1#32
  let arg10 : BitVec 32 := Scf.iv v29 c1_i32_12 k0_t2
  let c4_i32_593 : BitVec 32 := 4#32
  let v1361 : BitVec 32 := Scalar.muli arg10 c4_i32_593
  let v1362 : BitVec 32 := Scalar.addi v1361 c0_i32_594
  let c512_i32_595 : BitVec 32 := 512#32
  let v1363 : BitVec 32 := Scalar.muli v1362 c512_i32_595
  let v1364 : BitVec 32 := v1363
  let v1365 : Index := Scalar.indexCast v1364
  let c0_597 : Index := 0#32
  ![0, v1365.toNat, 0]
def k0_off14 (i : grid0.Coords) (k0_t2 : Fin (k0_t2_loop i).trips) (c0_i32_594 : BitVec 32) : Fin 3 → Nat :=
  let c0_598 : Index := 0#32
  let c0_i32_9 : BitVec 32 := 0#32
  let arg2 : BitVec 32 := BitVec.ofNat 32 (i 2).val
  let c0_i32 : BitVec 32 := 0#32
  let v9 : BitVec 1 := Scalar.cmpi .sgt arg2 c0_i32
  let v10 : BitVec 32 := Scalar.extui v9
  let c0_i32_4 : BitVec 32 := 0#32
  let v11 : BitVec 1 := Scalar.cmpi .slt arg2 c0_i32_4
  let v12 : BitVec 32 := Scalar.extui v11
  let v13 : BitVec 32 := Scalar.subi v10 v12
  let c4_i32 : BitVec 32 := 4#32
  let c0_i32_5 : BitVec 32 := 0#32
  let v14 : BitVec 1 := Scalar.cmpi .sgt c4_i32 c0_i32_5
  let v15 : BitVec 32 := Scalar.extui v14
  let c0_i32_6 : BitVec 32 := 0#32
  let v16 : BitVec 1 := Scalar.cmpi .slt c4_i32 c0_i32_6
  let v17 : BitVec 32 := Scalar.extui v16
  let v18 : BitVec 32 := Scalar.subi v15 v17
  let v19 : BitVec 1 := Scalar.cmpi .ne v13 v18
  let v20 : BitVec 32 := Scalar.remsi arg2 c4_i32
  let c0_i32_7 : BitVec 32 := 0#32
  let v21 : BitVec 1 := Scalar.cmpi .ne v20 c0_i32_7
  let v22 : BitVec 1 := Scalar.andi v19 v21
  let v8 : BitVec 32 := Scalar.divsi arg2 c4_i32
  let c1_i32 : BitVec 32 := 1#32
  let v23 : BitVec 32 := Scalar.subi v8 c1_i32
  let v24 : BitVec 32 := Scalar.select v22 v23 v8
  let v25 : BitVec 32 := Scalar.subi v24 c0_i32_9
  let c1_i32_10 : BitVec 32 := 1#32
  let v27 : BitVec 32 := Scalar.divsi v25 c1_i32_10
  let v28 : BitVec 32 := Scalar.muli v27 c1_i32_10
  let v29 : BitVec 32 := Scalar.addi c0_i32_9 v28
  let c1_i32_12 : BitVec 32 := 1#32
  let arg10 : BitVec 32 := Scf.iv v29 c1_i32_12 k0_t2
  let c4_i32_593 : BitVec 32 := 4#32
  let v1361 : BitVec 32 := Scalar.muli arg10 c4_i32_593
  let v1362 : BitVec 32 := Scalar.addi v1361 c0_i32_594
  let c512_i32_595 : BitVec 32 := 512#32
  let v1363 : BitVec 32 := Scalar.muli v1362 c512_i32_595
  let v1364 : BitVec 32 := v1363
  let v1368 : Index := Scalar.indexCast v1364
  let c0_599 : Index := 0#32
  ![0, v1368.toNat, 0]
def k0_off15 (i : grid0.Coords) (k0_t2 : Fin (k0_t2_loop i).trips) (c0_i32_594 : BitVec 32) : Fin 3 → Nat :=
  let c1_660 : Index := 1#32
  let c0_i32_9 : BitVec 32 := 0#32
  let arg2 : BitVec 32 := BitVec.ofNat 32 (i 2).val
  let c0_i32 : BitVec 32 := 0#32
  let v9 : BitVec 1 := Scalar.cmpi .sgt arg2 c0_i32
  let v10 : BitVec 32 := Scalar.extui v9
  let c0_i32_4 : BitVec 32 := 0#32
  let v11 : BitVec 1 := Scalar.cmpi .slt arg2 c0_i32_4
  let v12 : BitVec 32 := Scalar.extui v11
  let v13 : BitVec 32 := Scalar.subi v10 v12
  let c4_i32 : BitVec 32 := 4#32
  let c0_i32_5 : BitVec 32 := 0#32
  let v14 : BitVec 1 := Scalar.cmpi .sgt c4_i32 c0_i32_5
  let v15 : BitVec 32 := Scalar.extui v14
  let c0_i32_6 : BitVec 32 := 0#32
  let v16 : BitVec 1 := Scalar.cmpi .slt c4_i32 c0_i32_6
  let v17 : BitVec 32 := Scalar.extui v16
  let v18 : BitVec 32 := Scalar.subi v15 v17
  let v19 : BitVec 1 := Scalar.cmpi .ne v13 v18
  let v20 : BitVec 32 := Scalar.remsi arg2 c4_i32
  let c0_i32_7 : BitVec 32 := 0#32
  let v21 : BitVec 1 := Scalar.cmpi .ne v20 c0_i32_7
  let v22 : BitVec 1 := Scalar.andi v19 v21
  let v8 : BitVec 32 := Scalar.divsi arg2 c4_i32
  let c1_i32 : BitVec 32 := 1#32
  let v23 : BitVec 32 := Scalar.subi v8 c1_i32
  let v24 : BitVec 32 := Scalar.select v22 v23 v8
  let v25 : BitVec 32 := Scalar.subi v24 c0_i32_9
  let c1_i32_10 : BitVec 32 := 1#32
  let v27 : BitVec 32 := Scalar.divsi v25 c1_i32_10
  let v28 : BitVec 32 := Scalar.muli v27 c1_i32_10
  let v29 : BitVec 32 := Scalar.addi c0_i32_9 v28
  let c1_i32_12 : BitVec 32 := 1#32
  let arg10 : BitVec 32 := Scf.iv v29 c1_i32_12 k0_t2
  let c4_i32_593 : BitVec 32 := 4#32
  let v1361 : BitVec 32 := Scalar.muli arg10 c4_i32_593
  let v1362 : BitVec 32 := Scalar.addi v1361 c0_i32_594
  let c512_i32_595 : BitVec 32 := 512#32
  let v1363 : BitVec 32 := Scalar.muli v1362 c512_i32_595
  let v1364 : BitVec 32 := v1363
  let v1491 : Index := Scalar.indexCast v1364
  let c0_661 : Index := 0#32
  ![1, v1491.toNat, 0]
def k0_off16 (i : grid0.Coords) (k0_t2 : Fin (k0_t2_loop i).trips) (c0_i32_594 : BitVec 32) : Fin 3 → Nat :=
  let c2_724 : Index := 2#32
  let c0_i32_9 : BitVec 32 := 0#32
  let arg2 : BitVec 32 := BitVec.ofNat 32 (i 2).val
  let c0_i32 : BitVec 32 := 0#32
  let v9 : BitVec 1 := Scalar.cmpi .sgt arg2 c0_i32
  let v10 : BitVec 32 := Scalar.extui v9
  let c0_i32_4 : BitVec 32 := 0#32
  let v11 : BitVec 1 := Scalar.cmpi .slt arg2 c0_i32_4
  let v12 : BitVec 32 := Scalar.extui v11
  let v13 : BitVec 32 := Scalar.subi v10 v12
  let c4_i32 : BitVec 32 := 4#32
  let c0_i32_5 : BitVec 32 := 0#32
  let v14 : BitVec 1 := Scalar.cmpi .sgt c4_i32 c0_i32_5
  let v15 : BitVec 32 := Scalar.extui v14
  let c0_i32_6 : BitVec 32 := 0#32
  let v16 : BitVec 1 := Scalar.cmpi .slt c4_i32 c0_i32_6
  let v17 : BitVec 32 := Scalar.extui v16
  let v18 : BitVec 32 := Scalar.subi v15 v17
  let v19 : BitVec 1 := Scalar.cmpi .ne v13 v18
  let v20 : BitVec 32 := Scalar.remsi arg2 c4_i32
  let c0_i32_7 : BitVec 32 := 0#32
  let v21 : BitVec 1 := Scalar.cmpi .ne v20 c0_i32_7
  let v22 : BitVec 1 := Scalar.andi v19 v21
  let v8 : BitVec 32 := Scalar.divsi arg2 c4_i32
  let c1_i32 : BitVec 32 := 1#32
  let v23 : BitVec 32 := Scalar.subi v8 c1_i32
  let v24 : BitVec 32 := Scalar.select v22 v23 v8
  let v25 : BitVec 32 := Scalar.subi v24 c0_i32_9
  let c1_i32_10 : BitVec 32 := 1#32
  let v27 : BitVec 32 := Scalar.divsi v25 c1_i32_10
  let v28 : BitVec 32 := Scalar.muli v27 c1_i32_10
  let v29 : BitVec 32 := Scalar.addi c0_i32_9 v28
  let c1_i32_12 : BitVec 32 := 1#32
  let arg10 : BitVec 32 := Scf.iv v29 c1_i32_12 k0_t2
  let c4_i32_593 : BitVec 32 := 4#32
  let v1361 : BitVec 32 := Scalar.muli arg10 c4_i32_593
  let v1362 : BitVec 32 := Scalar.addi v1361 c0_i32_594
  let c512_i32_595 : BitVec 32 := 512#32
  let v1363 : BitVec 32 := Scalar.muli v1362 c512_i32_595
  let v1364 : BitVec 32 := v1363
  let v1617 : Index := Scalar.indexCast v1364
  let c0_725 : Index := 0#32
  ![2, v1617.toNat, 0]
def k0_off17 (i : grid0.Coords) (k0_t2 : Fin (k0_t2_loop i).trips) (c0_i32_594 : BitVec 32) : Fin 3 → Nat :=
  let c1_726 : Index := 1#32
  let c0_i32_9 : BitVec 32 := 0#32
  let arg2 : BitVec 32 := BitVec.ofNat 32 (i 2).val
  let c0_i32 : BitVec 32 := 0#32
  let v9 : BitVec 1 := Scalar.cmpi .sgt arg2 c0_i32
  let v10 : BitVec 32 := Scalar.extui v9
  let c0_i32_4 : BitVec 32 := 0#32
  let v11 : BitVec 1 := Scalar.cmpi .slt arg2 c0_i32_4
  let v12 : BitVec 32 := Scalar.extui v11
  let v13 : BitVec 32 := Scalar.subi v10 v12
  let c4_i32 : BitVec 32 := 4#32
  let c0_i32_5 : BitVec 32 := 0#32
  let v14 : BitVec 1 := Scalar.cmpi .sgt c4_i32 c0_i32_5
  let v15 : BitVec 32 := Scalar.extui v14
  let c0_i32_6 : BitVec 32 := 0#32
  let v16 : BitVec 1 := Scalar.cmpi .slt c4_i32 c0_i32_6
  let v17 : BitVec 32 := Scalar.extui v16
  let v18 : BitVec 32 := Scalar.subi v15 v17
  let v19 : BitVec 1 := Scalar.cmpi .ne v13 v18
  let v20 : BitVec 32 := Scalar.remsi arg2 c4_i32
  let c0_i32_7 : BitVec 32 := 0#32
  let v21 : BitVec 1 := Scalar.cmpi .ne v20 c0_i32_7
  let v22 : BitVec 1 := Scalar.andi v19 v21
  let v8 : BitVec 32 := Scalar.divsi arg2 c4_i32
  let c1_i32 : BitVec 32 := 1#32
  let v23 : BitVec 32 := Scalar.subi v8 c1_i32
  let v24 : BitVec 32 := Scalar.select v22 v23 v8
  let v25 : BitVec 32 := Scalar.subi v24 c0_i32_9
  let c1_i32_10 : BitVec 32 := 1#32
  let v27 : BitVec 32 := Scalar.divsi v25 c1_i32_10
  let v28 : BitVec 32 := Scalar.muli v27 c1_i32_10
  let v29 : BitVec 32 := Scalar.addi c0_i32_9 v28
  let c1_i32_12 : BitVec 32 := 1#32
  let arg10 : BitVec 32 := Scf.iv v29 c1_i32_12 k0_t2
  let c4_i32_593 : BitVec 32 := 4#32
  let v1361 : BitVec 32 := Scalar.muli arg10 c4_i32_593
  let v1362 : BitVec 32 := Scalar.addi v1361 c0_i32_594
  let c512_i32_595 : BitVec 32 := 512#32
  let v1363 : BitVec 32 := Scalar.muli v1362 c512_i32_595
  let v1364 : BitVec 32 := v1363
  let v1620 : Index := Scalar.indexCast v1364
  let c0_727 : Index := 0#32
  ![1, v1620.toNat, 0]
def k0_off18 (i : grid0.Coords) (k0_t2 : Fin (k0_t2_loop i).trips) (c0_i32_594 : BitVec 32) : Fin 3 → Nat :=
  let c3_788 : Index := 3#32
  let c0_i32_9 : BitVec 32 := 0#32
  let arg2 : BitVec 32 := BitVec.ofNat 32 (i 2).val
  let c0_i32 : BitVec 32 := 0#32
  let v9 : BitVec 1 := Scalar.cmpi .sgt arg2 c0_i32
  let v10 : BitVec 32 := Scalar.extui v9
  let c0_i32_4 : BitVec 32 := 0#32
  let v11 : BitVec 1 := Scalar.cmpi .slt arg2 c0_i32_4
  let v12 : BitVec 32 := Scalar.extui v11
  let v13 : BitVec 32 := Scalar.subi v10 v12
  let c4_i32 : BitVec 32 := 4#32
  let c0_i32_5 : BitVec 32 := 0#32
  let v14 : BitVec 1 := Scalar.cmpi .sgt c4_i32 c0_i32_5
  let v15 : BitVec 32 := Scalar.extui v14
  let c0_i32_6 : BitVec 32 := 0#32
  let v16 : BitVec 1 := Scalar.cmpi .slt c4_i32 c0_i32_6
  let v17 : BitVec 32 := Scalar.extui v16
  let v18 : BitVec 32 := Scalar.subi v15 v17
  let v19 : BitVec 1 := Scalar.cmpi .ne v13 v18
  let v20 : BitVec 32 := Scalar.remsi arg2 c4_i32
  let c0_i32_7 : BitVec 32 := 0#32
  let v21 : BitVec 1 := Scalar.cmpi .ne v20 c0_i32_7
  let v22 : BitVec 1 := Scalar.andi v19 v21
  let v8 : BitVec 32 := Scalar.divsi arg2 c4_i32
  let c1_i32 : BitVec 32 := 1#32
  let v23 : BitVec 32 := Scalar.subi v8 c1_i32
  let v24 : BitVec 32 := Scalar.select v22 v23 v8
  let v25 : BitVec 32 := Scalar.subi v24 c0_i32_9
  let c1_i32_10 : BitVec 32 := 1#32
  let v27 : BitVec 32 := Scalar.divsi v25 c1_i32_10
  let v28 : BitVec 32 := Scalar.muli v27 c1_i32_10
  let v29 : BitVec 32 := Scalar.addi c0_i32_9 v28
  let c1_i32_12 : BitVec 32 := 1#32
  let arg10 : BitVec 32 := Scf.iv v29 c1_i32_12 k0_t2
  let c4_i32_593 : BitVec 32 := 4#32
  let v1361 : BitVec 32 := Scalar.muli arg10 c4_i32_593
  let v1362 : BitVec 32 := Scalar.addi v1361 c0_i32_594
  let c512_i32_595 : BitVec 32 := 512#32
  let v1363 : BitVec 32 := Scalar.muli v1362 c512_i32_595
  let v1364 : BitVec 32 := v1363
  let v1743 : Index := Scalar.indexCast v1364
  let c0_789 : Index := 0#32
  ![3, v1743.toNat, 0]
def k0_off19 (i : grid0.Coords) (k0_t2 : Fin (k0_t2_loop i).trips) (c0_i32_594 : BitVec 32) : Fin 3 → Nat :=
  let c4_852 : Index := 4#32
  let c0_i32_9 : BitVec 32 := 0#32
  let arg2 : BitVec 32 := BitVec.ofNat 32 (i 2).val
  let c0_i32 : BitVec 32 := 0#32
  let v9 : BitVec 1 := Scalar.cmpi .sgt arg2 c0_i32
  let v10 : BitVec 32 := Scalar.extui v9
  let c0_i32_4 : BitVec 32 := 0#32
  let v11 : BitVec 1 := Scalar.cmpi .slt arg2 c0_i32_4
  let v12 : BitVec 32 := Scalar.extui v11
  let v13 : BitVec 32 := Scalar.subi v10 v12
  let c4_i32 : BitVec 32 := 4#32
  let c0_i32_5 : BitVec 32 := 0#32
  let v14 : BitVec 1 := Scalar.cmpi .sgt c4_i32 c0_i32_5
  let v15 : BitVec 32 := Scalar.extui v14
  let c0_i32_6 : BitVec 32 := 0#32
  let v16 : BitVec 1 := Scalar.cmpi .slt c4_i32 c0_i32_6
  let v17 : BitVec 32 := Scalar.extui v16
  let v18 : BitVec 32 := Scalar.subi v15 v17
  let v19 : BitVec 1 := Scalar.cmpi .ne v13 v18
  let v20 : BitVec 32 := Scalar.remsi arg2 c4_i32
  let c0_i32_7 : BitVec 32 := 0#32
  let v21 : BitVec 1 := Scalar.cmpi .ne v20 c0_i32_7
  let v22 : BitVec 1 := Scalar.andi v19 v21
  let v8 : BitVec 32 := Scalar.divsi arg2 c4_i32
  let c1_i32 : BitVec 32 := 1#32
  let v23 : BitVec 32 := Scalar.subi v8 c1_i32
  let v24 : BitVec 32 := Scalar.select v22 v23 v8
  let v25 : BitVec 32 := Scalar.subi v24 c0_i32_9
  let c1_i32_10 : BitVec 32 := 1#32
  let v27 : BitVec 32 := Scalar.divsi v25 c1_i32_10
  let v28 : BitVec 32 := Scalar.muli v27 c1_i32_10
  let v29 : BitVec 32 := Scalar.addi c0_i32_9 v28
  let c1_i32_12 : BitVec 32 := 1#32
  let arg10 : BitVec 32 := Scf.iv v29 c1_i32_12 k0_t2
  let c4_i32_593 : BitVec 32 := 4#32
  let v1361 : BitVec 32 := Scalar.muli arg10 c4_i32_593
  let v1362 : BitVec 32 := Scalar.addi v1361 c0_i32_594
  let c512_i32_595 : BitVec 32 := 512#32
  let v1363 : BitVec 32 := Scalar.muli v1362 c512_i32_595
  let v1364 : BitVec 32 := v1363
  let v1869 : Index := Scalar.indexCast v1364
  let c0_853 : Index := 0#32
  ![4, v1869.toNat, 0]
def k0_off20 (i : grid0.Coords) (k0_t2 : Fin (k0_t2_loop i).trips) (c0_i32_594 : BitVec 32) : Fin 3 → Nat :=
  let c2_854 : Index := 2#32
  let c0_i32_9 : BitVec 32 := 0#32
  let arg2 : BitVec 32 := BitVec.ofNat 32 (i 2).val
  let c0_i32 : BitVec 32 := 0#32
  let v9 : BitVec 1 := Scalar.cmpi .sgt arg2 c0_i32
  let v10 : BitVec 32 := Scalar.extui v9
  let c0_i32_4 : BitVec 32 := 0#32
  let v11 : BitVec 1 := Scalar.cmpi .slt arg2 c0_i32_4
  let v12 : BitVec 32 := Scalar.extui v11
  let v13 : BitVec 32 := Scalar.subi v10 v12
  let c4_i32 : BitVec 32 := 4#32
  let c0_i32_5 : BitVec 32 := 0#32
  let v14 : BitVec 1 := Scalar.cmpi .sgt c4_i32 c0_i32_5
  let v15 : BitVec 32 := Scalar.extui v14
  let c0_i32_6 : BitVec 32 := 0#32
  let v16 : BitVec 1 := Scalar.cmpi .slt c4_i32 c0_i32_6
  let v17 : BitVec 32 := Scalar.extui v16
  let v18 : BitVec 32 := Scalar.subi v15 v17
  let v19 : BitVec 1 := Scalar.cmpi .ne v13 v18
  let v20 : BitVec 32 := Scalar.remsi arg2 c4_i32
  let c0_i32_7 : BitVec 32 := 0#32
  let v21 : BitVec 1 := Scalar.cmpi .ne v20 c0_i32_7
  let v22 : BitVec 1 := Scalar.andi v19 v21
  let v8 : BitVec 32 := Scalar.divsi arg2 c4_i32
  let c1_i32 : BitVec 32 := 1#32
  let v23 : BitVec 32 := Scalar.subi v8 c1_i32
  let v24 : BitVec 32 := Scalar.select v22 v23 v8
  let v25 : BitVec 32 := Scalar.subi v24 c0_i32_9
  let c1_i32_10 : BitVec 32 := 1#32
  let v27 : BitVec 32 := Scalar.divsi v25 c1_i32_10
  let v28 : BitVec 32 := Scalar.muli v27 c1_i32_10
  let v29 : BitVec 32 := Scalar.addi c0_i32_9 v28
  let c1_i32_12 : BitVec 32 := 1#32
  let arg10 : BitVec 32 := Scf.iv v29 c1_i32_12 k0_t2
  let c4_i32_593 : BitVec 32 := 4#32
  let v1361 : BitVec 32 := Scalar.muli arg10 c4_i32_593
  let v1362 : BitVec 32 := Scalar.addi v1361 c0_i32_594
  let c512_i32_595 : BitVec 32 := 512#32
  let v1363 : BitVec 32 := Scalar.muli v1362 c512_i32_595
  let v1364 : BitVec 32 := v1363
  let v1872 : Index := Scalar.indexCast v1364
  let c0_855 : Index := 0#32
  ![2, v1872.toNat, 0]
def k0_off21 (i : grid0.Coords) (k0_t2 : Fin (k0_t2_loop i).trips) (c0_i32_594 : BitVec 32) : Fin 3 → Nat :=
  let c5_916 : Index := 5#32
  let c0_i32_9 : BitVec 32 := 0#32
  let arg2 : BitVec 32 := BitVec.ofNat 32 (i 2).val
  let c0_i32 : BitVec 32 := 0#32
  let v9 : BitVec 1 := Scalar.cmpi .sgt arg2 c0_i32
  let v10 : BitVec 32 := Scalar.extui v9
  let c0_i32_4 : BitVec 32 := 0#32
  let v11 : BitVec 1 := Scalar.cmpi .slt arg2 c0_i32_4
  let v12 : BitVec 32 := Scalar.extui v11
  let v13 : BitVec 32 := Scalar.subi v10 v12
  let c4_i32 : BitVec 32 := 4#32
  let c0_i32_5 : BitVec 32 := 0#32
  let v14 : BitVec 1 := Scalar.cmpi .sgt c4_i32 c0_i32_5
  let v15 : BitVec 32 := Scalar.extui v14
  let c0_i32_6 : BitVec 32 := 0#32
  let v16 : BitVec 1 := Scalar.cmpi .slt c4_i32 c0_i32_6
  let v17 : BitVec 32 := Scalar.extui v16
  let v18 : BitVec 32 := Scalar.subi v15 v17
  let v19 : BitVec 1 := Scalar.cmpi .ne v13 v18
  let v20 : BitVec 32 := Scalar.remsi arg2 c4_i32
  let c0_i32_7 : BitVec 32 := 0#32
  let v21 : BitVec 1 := Scalar.cmpi .ne v20 c0_i32_7
  let v22 : BitVec 1 := Scalar.andi v19 v21
  let v8 : BitVec 32 := Scalar.divsi arg2 c4_i32
  let c1_i32 : BitVec 32 := 1#32
  let v23 : BitVec 32 := Scalar.subi v8 c1_i32
  let v24 : BitVec 32 := Scalar.select v22 v23 v8
  let v25 : BitVec 32 := Scalar.subi v24 c0_i32_9
  let c1_i32_10 : BitVec 32 := 1#32
  let v27 : BitVec 32 := Scalar.divsi v25 c1_i32_10
  let v28 : BitVec 32 := Scalar.muli v27 c1_i32_10
  let v29 : BitVec 32 := Scalar.addi c0_i32_9 v28
  let c1_i32_12 : BitVec 32 := 1#32
  let arg10 : BitVec 32 := Scf.iv v29 c1_i32_12 k0_t2
  let c4_i32_593 : BitVec 32 := 4#32
  let v1361 : BitVec 32 := Scalar.muli arg10 c4_i32_593
  let v1362 : BitVec 32 := Scalar.addi v1361 c0_i32_594
  let c512_i32_595 : BitVec 32 := 512#32
  let v1363 : BitVec 32 := Scalar.muli v1362 c512_i32_595
  let v1364 : BitVec 32 := v1363
  let v1995 : Index := Scalar.indexCast v1364
  let c0_917 : Index := 0#32
  ![5, v1995.toNat, 0]
def k0_off22 (i : grid0.Coords) (k0_t2 : Fin (k0_t2_loop i).trips) (c0_i32_594 : BitVec 32) : Fin 3 → Nat :=
  let c6_980 : Index := 6#32
  let c0_i32_9 : BitVec 32 := 0#32
  let arg2 : BitVec 32 := BitVec.ofNat 32 (i 2).val
  let c0_i32 : BitVec 32 := 0#32
  let v9 : BitVec 1 := Scalar.cmpi .sgt arg2 c0_i32
  let v10 : BitVec 32 := Scalar.extui v9
  let c0_i32_4 : BitVec 32 := 0#32
  let v11 : BitVec 1 := Scalar.cmpi .slt arg2 c0_i32_4
  let v12 : BitVec 32 := Scalar.extui v11
  let v13 : BitVec 32 := Scalar.subi v10 v12
  let c4_i32 : BitVec 32 := 4#32
  let c0_i32_5 : BitVec 32 := 0#32
  let v14 : BitVec 1 := Scalar.cmpi .sgt c4_i32 c0_i32_5
  let v15 : BitVec 32 := Scalar.extui v14
  let c0_i32_6 : BitVec 32 := 0#32
  let v16 : BitVec 1 := Scalar.cmpi .slt c4_i32 c0_i32_6
  let v17 : BitVec 32 := Scalar.extui v16
  let v18 : BitVec 32 := Scalar.subi v15 v17
  let v19 : BitVec 1 := Scalar.cmpi .ne v13 v18
  let v20 : BitVec 32 := Scalar.remsi arg2 c4_i32
  let c0_i32_7 : BitVec 32 := 0#32
  let v21 : BitVec 1 := Scalar.cmpi .ne v20 c0_i32_7
  let v22 : BitVec 1 := Scalar.andi v19 v21
  let v8 : BitVec 32 := Scalar.divsi arg2 c4_i32
  let c1_i32 : BitVec 32 := 1#32
  let v23 : BitVec 32 := Scalar.subi v8 c1_i32
  let v24 : BitVec 32 := Scalar.select v22 v23 v8
  let v25 : BitVec 32 := Scalar.subi v24 c0_i32_9
  let c1_i32_10 : BitVec 32 := 1#32
  let v27 : BitVec 32 := Scalar.divsi v25 c1_i32_10
  let v28 : BitVec 32 := Scalar.muli v27 c1_i32_10
  let v29 : BitVec 32 := Scalar.addi c0_i32_9 v28
  let c1_i32_12 : BitVec 32 := 1#32
  let arg10 : BitVec 32 := Scf.iv v29 c1_i32_12 k0_t2
  let c4_i32_593 : BitVec 32 := 4#32
  let v1361 : BitVec 32 := Scalar.muli arg10 c4_i32_593
  let v1362 : BitVec 32 := Scalar.addi v1361 c0_i32_594
  let c512_i32_595 : BitVec 32 := 512#32
  let v1363 : BitVec 32 := Scalar.muli v1362 c512_i32_595
  let v1364 : BitVec 32 := v1363
  let v2121 : Index := Scalar.indexCast v1364
  let c0_981 : Index := 0#32
  ![6, v2121.toNat, 0]
def k0_off23 (i : grid0.Coords) (k0_t2 : Fin (k0_t2_loop i).trips) (c0_i32_594 : BitVec 32) : Fin 3 → Nat :=
  let c3_982 : Index := 3#32
  let c0_i32_9 : BitVec 32 := 0#32
  let arg2 : BitVec 32 := BitVec.ofNat 32 (i 2).val
  let c0_i32 : BitVec 32 := 0#32
  let v9 : BitVec 1 := Scalar.cmpi .sgt arg2 c0_i32
  let v10 : BitVec 32 := Scalar.extui v9
  let c0_i32_4 : BitVec 32 := 0#32
  let v11 : BitVec 1 := Scalar.cmpi .slt arg2 c0_i32_4
  let v12 : BitVec 32 := Scalar.extui v11
  let v13 : BitVec 32 := Scalar.subi v10 v12
  let c4_i32 : BitVec 32 := 4#32
  let c0_i32_5 : BitVec 32 := 0#32
  let v14 : BitVec 1 := Scalar.cmpi .sgt c4_i32 c0_i32_5
  let v15 : BitVec 32 := Scalar.extui v14
  let c0_i32_6 : BitVec 32 := 0#32
  let v16 : BitVec 1 := Scalar.cmpi .slt c4_i32 c0_i32_6
  let v17 : BitVec 32 := Scalar.extui v16
  let v18 : BitVec 32 := Scalar.subi v15 v17
  let v19 : BitVec 1 := Scalar.cmpi .ne v13 v18
  let v20 : BitVec 32 := Scalar.remsi arg2 c4_i32
  let c0_i32_7 : BitVec 32 := 0#32
  let v21 : BitVec 1 := Scalar.cmpi .ne v20 c0_i32_7
  let v22 : BitVec 1 := Scalar.andi v19 v21
  let v8 : BitVec 32 := Scalar.divsi arg2 c4_i32
  let c1_i32 : BitVec 32 := 1#32
  let v23 : BitVec 32 := Scalar.subi v8 c1_i32
  let v24 : BitVec 32 := Scalar.select v22 v23 v8
  let v25 : BitVec 32 := Scalar.subi v24 c0_i32_9
  let c1_i32_10 : BitVec 32 := 1#32
  let v27 : BitVec 32 := Scalar.divsi v25 c1_i32_10
  let v28 : BitVec 32 := Scalar.muli v27 c1_i32_10
  let v29 : BitVec 32 := Scalar.addi c0_i32_9 v28
  let c1_i32_12 : BitVec 32 := 1#32
  let arg10 : BitVec 32 := Scf.iv v29 c1_i32_12 k0_t2
  let c4_i32_593 : BitVec 32 := 4#32
  let v1361 : BitVec 32 := Scalar.muli arg10 c4_i32_593
  let v1362 : BitVec 32 := Scalar.addi v1361 c0_i32_594
  let c512_i32_595 : BitVec 32 := 512#32
  let v1363 : BitVec 32 := Scalar.muli v1362 c512_i32_595
  let v1364 : BitVec 32 := v1363
  let v2124 : Index := Scalar.indexCast v1364
  let c0_983 : Index := 0#32
  ![3, v2124.toNat, 0]
def k0_off24 (i : grid0.Coords) (k0_t2 : Fin (k0_t2_loop i).trips) (c0_i32_594 : BitVec 32) : Fin 3 → Nat :=
  let c7_1044 : Index := 7#32
  let c0_i32_9 : BitVec 32 := 0#32
  let arg2 : BitVec 32 := BitVec.ofNat 32 (i 2).val
  let c0_i32 : BitVec 32 := 0#32
  let v9 : BitVec 1 := Scalar.cmpi .sgt arg2 c0_i32
  let v10 : BitVec 32 := Scalar.extui v9
  let c0_i32_4 : BitVec 32 := 0#32
  let v11 : BitVec 1 := Scalar.cmpi .slt arg2 c0_i32_4
  let v12 : BitVec 32 := Scalar.extui v11
  let v13 : BitVec 32 := Scalar.subi v10 v12
  let c4_i32 : BitVec 32 := 4#32
  let c0_i32_5 : BitVec 32 := 0#32
  let v14 : BitVec 1 := Scalar.cmpi .sgt c4_i32 c0_i32_5
  let v15 : BitVec 32 := Scalar.extui v14
  let c0_i32_6 : BitVec 32 := 0#32
  let v16 : BitVec 1 := Scalar.cmpi .slt c4_i32 c0_i32_6
  let v17 : BitVec 32 := Scalar.extui v16
  let v18 : BitVec 32 := Scalar.subi v15 v17
  let v19 : BitVec 1 := Scalar.cmpi .ne v13 v18
  let v20 : BitVec 32 := Scalar.remsi arg2 c4_i32
  let c0_i32_7 : BitVec 32 := 0#32
  let v21 : BitVec 1 := Scalar.cmpi .ne v20 c0_i32_7
  let v22 : BitVec 1 := Scalar.andi v19 v21
  let v8 : BitVec 32 := Scalar.divsi arg2 c4_i32
  let c1_i32 : BitVec 32 := 1#32
  let v23 : BitVec 32 := Scalar.subi v8 c1_i32
  let v24 : BitVec 32 := Scalar.select v22 v23 v8
  let v25 : BitVec 32 := Scalar.subi v24 c0_i32_9
  let c1_i32_10 : BitVec 32 := 1#32
  let v27 : BitVec 32 := Scalar.divsi v25 c1_i32_10
  let v28 : BitVec 32 := Scalar.muli v27 c1_i32_10
  let v29 : BitVec 32 := Scalar.addi c0_i32_9 v28
  let c1_i32_12 : BitVec 32 := 1#32
  let arg10 : BitVec 32 := Scf.iv v29 c1_i32_12 k0_t2
  let c4_i32_593 : BitVec 32 := 4#32
  let v1361 : BitVec 32 := Scalar.muli arg10 c4_i32_593
  let v1362 : BitVec 32 := Scalar.addi v1361 c0_i32_594
  let c512_i32_595 : BitVec 32 := 512#32
  let v1363 : BitVec 32 := Scalar.muli v1362 c512_i32_595
  let v1364 : BitVec 32 := v1363
  let v2247 : Index := Scalar.indexCast v1364
  let c0_1045 : Index := 0#32
  ![7, v2247.toNat, 0]
def k0_mult6 (i : grid0.Coords) (k0_t2 : Fin (k0_t2_loop i).trips) : BitVec 32 :=
  let c0_i32_9 : BitVec 32 := 0#32
  let arg2 : BitVec 32 := BitVec.ofNat 32 (i 2).val
  let c0_i32 : BitVec 32 := 0#32
  let v9 : BitVec 1 := Scalar.cmpi .sgt arg2 c0_i32
  let v10 : BitVec 32 := Scalar.extui v9
  let c0_i32_4 : BitVec 32 := 0#32
  let v11 : BitVec 1 := Scalar.cmpi .slt arg2 c0_i32_4
  let v12 : BitVec 32 := Scalar.extui v11
  let v13 : BitVec 32 := Scalar.subi v10 v12
  let c4_i32 : BitVec 32 := 4#32
  let c0_i32_5 : BitVec 32 := 0#32
  let v14 : BitVec 1 := Scalar.cmpi .sgt c4_i32 c0_i32_5
  let v15 : BitVec 32 := Scalar.extui v14
  let c0_i32_6 : BitVec 32 := 0#32
  let v16 : BitVec 1 := Scalar.cmpi .slt c4_i32 c0_i32_6
  let v17 : BitVec 32 := Scalar.extui v16
  let v18 : BitVec 32 := Scalar.subi v15 v17
  let v19 : BitVec 1 := Scalar.cmpi .ne v13 v18
  let v20 : BitVec 32 := Scalar.remsi arg2 c4_i32
  let c0_i32_7 : BitVec 32 := 0#32
  let v21 : BitVec 1 := Scalar.cmpi .ne v20 c0_i32_7
  let v22 : BitVec 1 := Scalar.andi v19 v21
  let v8 : BitVec 32 := Scalar.divsi arg2 c4_i32
  let c1_i32 : BitVec 32 := 1#32
  let v23 : BitVec 32 := Scalar.subi v8 c1_i32
  let v24 : BitVec 32 := Scalar.select v22 v23 v8
  let v25 : BitVec 32 := Scalar.subi v24 c0_i32_9
  let c1_i32_10 : BitVec 32 := 1#32
  let v27 : BitVec 32 := Scalar.divsi v25 c1_i32_10
  let v28 : BitVec 32 := Scalar.muli v27 c1_i32_10
  let v29 : BitVec 32 := Scalar.addi c0_i32_9 v28
  let c1_i32_12 : BitVec 32 := 1#32
  let arg10 : BitVec 32 := Scf.iv v29 c1_i32_12 k0_t2
  let c4_i32_1108 : BitVec 32 := 4#32
  let v2373 : BitVec 32 := Scalar.muli arg10 c4_i32_1108
  let c1_i32_1109 : BitVec 32 := 1#32
  let v2374 : BitVec 32 := Scalar.addi v2373 c1_i32_1109
  let c512_i32_1110 : BitVec 32 := 512#32
  let v2375 : BitVec 32 := Scalar.muli v2374 c512_i32_1110
  v2375
def k0_mult7 (i : grid0.Coords) (k0_t2 : Fin (k0_t2_loop i).trips) : BitVec 32 :=
  let c0_i32_9 : BitVec 32 := 0#32
  let arg2 : BitVec 32 := BitVec.ofNat 32 (i 2).val
  let c0_i32 : BitVec 32 := 0#32
  let v9 : BitVec 1 := Scalar.cmpi .sgt arg2 c0_i32
  let v10 : BitVec 32 := Scalar.extui v9
  let c0_i32_4 : BitVec 32 := 0#32
  let v11 : BitVec 1 := Scalar.cmpi .slt arg2 c0_i32_4
  let v12 : BitVec 32 := Scalar.extui v11
  let v13 : BitVec 32 := Scalar.subi v10 v12
  let c4_i32 : BitVec 32 := 4#32
  let c0_i32_5 : BitVec 32 := 0#32
  let v14 : BitVec 1 := Scalar.cmpi .sgt c4_i32 c0_i32_5
  let v15 : BitVec 32 := Scalar.extui v14
  let c0_i32_6 : BitVec 32 := 0#32
  let v16 : BitVec 1 := Scalar.cmpi .slt c4_i32 c0_i32_6
  let v17 : BitVec 32 := Scalar.extui v16
  let v18 : BitVec 32 := Scalar.subi v15 v17
  let v19 : BitVec 1 := Scalar.cmpi .ne v13 v18
  let v20 : BitVec 32 := Scalar.remsi arg2 c4_i32
  let c0_i32_7 : BitVec 32 := 0#32
  let v21 : BitVec 1 := Scalar.cmpi .ne v20 c0_i32_7
  let v22 : BitVec 1 := Scalar.andi v19 v21
  let v8 : BitVec 32 := Scalar.divsi arg2 c4_i32
  let c1_i32 : BitVec 32 := 1#32
  let v23 : BitVec 32 := Scalar.subi v8 c1_i32
  let v24 : BitVec 32 := Scalar.select v22 v23 v8
  let v25 : BitVec 32 := Scalar.subi v24 c0_i32_9
  let c1_i32_10 : BitVec 32 := 1#32
  let v27 : BitVec 32 := Scalar.divsi v25 c1_i32_10
  let v28 : BitVec 32 := Scalar.muli v27 c1_i32_10
  let v29 : BitVec 32 := Scalar.addi c0_i32_9 v28
  let c1_i32_12 : BitVec 32 := 1#32
  let arg10 : BitVec 32 := Scf.iv v29 c1_i32_12 k0_t2
  let c4_i32_1623 : BitVec 32 := 4#32
  let v3385 : BitVec 32 := Scalar.muli arg10 c4_i32_1623
  let c2_i32_1624 : BitVec 32 := 2#32
  let v3386 : BitVec 32 := Scalar.addi v3385 c2_i32_1624
  let c512_i32_1625 : BitVec 32 := 512#32
  let v3387 : BitVec 32 := Scalar.muli v3386 c512_i32_1625
  v3387
def k0_mult8 (i : grid0.Coords) (k0_t2 : Fin (k0_t2_loop i).trips) : BitVec 32 :=
  let c0_i32_9 : BitVec 32 := 0#32
  let arg2 : BitVec 32 := BitVec.ofNat 32 (i 2).val
  let c0_i32 : BitVec 32 := 0#32
  let v9 : BitVec 1 := Scalar.cmpi .sgt arg2 c0_i32
  let v10 : BitVec 32 := Scalar.extui v9
  let c0_i32_4 : BitVec 32 := 0#32
  let v11 : BitVec 1 := Scalar.cmpi .slt arg2 c0_i32_4
  let v12 : BitVec 32 := Scalar.extui v11
  let v13 : BitVec 32 := Scalar.subi v10 v12
  let c4_i32 : BitVec 32 := 4#32
  let c0_i32_5 : BitVec 32 := 0#32
  let v14 : BitVec 1 := Scalar.cmpi .sgt c4_i32 c0_i32_5
  let v15 : BitVec 32 := Scalar.extui v14
  let c0_i32_6 : BitVec 32 := 0#32
  let v16 : BitVec 1 := Scalar.cmpi .slt c4_i32 c0_i32_6
  let v17 : BitVec 32 := Scalar.extui v16
  let v18 : BitVec 32 := Scalar.subi v15 v17
  let v19 : BitVec 1 := Scalar.cmpi .ne v13 v18
  let v20 : BitVec 32 := Scalar.remsi arg2 c4_i32
  let c0_i32_7 : BitVec 32 := 0#32
  let v21 : BitVec 1 := Scalar.cmpi .ne v20 c0_i32_7
  let v22 : BitVec 1 := Scalar.andi v19 v21
  let v8 : BitVec 32 := Scalar.divsi arg2 c4_i32
  let c1_i32 : BitVec 32 := 1#32
  let v23 : BitVec 32 := Scalar.subi v8 c1_i32
  let v24 : BitVec 32 := Scalar.select v22 v23 v8
  let v25 : BitVec 32 := Scalar.subi v24 c0_i32_9
  let c1_i32_10 : BitVec 32 := 1#32
  let v27 : BitVec 32 := Scalar.divsi v25 c1_i32_10
  let v28 : BitVec 32 := Scalar.muli v27 c1_i32_10
  let v29 : BitVec 32 := Scalar.addi c0_i32_9 v28
  let c1_i32_12 : BitVec 32 := 1#32
  let arg10 : BitVec 32 := Scf.iv v29 c1_i32_12 k0_t2
  let c4_i32_2138 : BitVec 32 := 4#32
  let v4397 : BitVec 32 := Scalar.muli arg10 c4_i32_2138
  let c3_i32 : BitVec 32 := 3#32
  let v4398 : BitVec 32 := Scalar.addi v4397 c3_i32
  let c512_i32_2139 : BitVec 32 := 512#32
  let v4399 : BitVec 32 := Scalar.muli v4398 c512_i32_2139
  v4399
def k0_cond1 (i : grid0.Coords) : BitVec 1 :=
  let arg2 : BitVec 32 := BitVec.ofNat 32 (i 2).val
  let c2_i32 : BitVec 32 := 2#32
  let v48 : BitVec 32 := Scalar.andi arg2 c2_i32
  let c0_i32_21 : BitVec 32 := 0#32
  let v49 : BitVec 1 := Scalar.cmpi .ne v48 c0_i32_21
  let v50 : BitVec 32 := Scalar.extui v49
  let c0_i32_22 : BitVec 32 := 0#32
  let v51 : BitVec 1 := Scalar.cmpi .ne v50 c0_i32_22
  v51

def k0_mult9 (i : grid0.Coords) : BitVec 32 :=
  let arg2 : BitVec 32 := BitVec.ofNat 32 (i 2).val
  let c0_i32_14 : BitVec 32 := 0#32
  let v31 : BitVec 1 := Scalar.cmpi .sgt arg2 c0_i32_14
  let v32 : BitVec 32 := Scalar.extui v31
  let c0_i32_15 : BitVec 32 := 0#32
  let v33 : BitVec 1 := Scalar.cmpi .slt arg2 c0_i32_15
  let v34 : BitVec 32 := Scalar.extui v33
  let v35 : BitVec 32 := Scalar.subi v32 v34
  let c4_i32_13 : BitVec 32 := 4#32
  let c0_i32_16 : BitVec 32 := 0#32
  let v36 : BitVec 1 := Scalar.cmpi .sgt c4_i32_13 c0_i32_16
  let v37 : BitVec 32 := Scalar.extui v36
  let c0_i32_17 : BitVec 32 := 0#32
  let v38 : BitVec 1 := Scalar.cmpi .slt c4_i32_13 c0_i32_17
  let v39 : BitVec 32 := Scalar.extui v38
  let v40 : BitVec 32 := Scalar.subi v37 v39
  let v41 : BitVec 1 := Scalar.cmpi .ne v35 v40
  let v42 : BitVec 32 := Scalar.remsi arg2 c4_i32_13
  let c0_i32_18 : BitVec 32 := 0#32
  let v43 : BitVec 1 := Scalar.cmpi .ne v42 c0_i32_18
  let v44 : BitVec 1 := Scalar.andi v41 v43
  let v30 : BitVec 32 := Scalar.divsi arg2 c4_i32_13
  let c1_i32_19 : BitVec 32 := 1#32
  let v45 : BitVec 32 := Scalar.subi v30 c1_i32_19
  let v46 : BitVec 32 := Scalar.select v44 v45 v30
  let c4_i32_20 : BitVec 32 := 4#32
  let v47 : BitVec 32 := Scalar.muli v46 c4_i32_20
  let c0_i32_593 : BitVec 32 := 0#32
  let v1361 : BitVec 32 := Scalar.addi v47 c0_i32_593
  let c512_i32_594 : BitVec 32 := 512#32
  let v1362 : BitVec 32 := Scalar.muli v1361 c512_i32_594
  v1362
def k0_off25 (i : grid0.Coords) (c0_i32_593 : BitVec 32) : Fin 3 → Nat :=
  let c0_595 : Index := 0#32
  let arg2 : BitVec 32 := BitVec.ofNat 32 (i 2).val
  let c0_i32_14 : BitVec 32 := 0#32
  let v31 : BitVec 1 := Scalar.cmpi .sgt arg2 c0_i32_14
  let v32 : BitVec 32 := Scalar.extui v31
  let c0_i32_15 : BitVec 32 := 0#32
  let v33 : BitVec 1 := Scalar.cmpi .slt arg2 c0_i32_15
  let v34 : BitVec 32 := Scalar.extui v33
  let v35 : BitVec 32 := Scalar.subi v32 v34
  let c4_i32_13 : BitVec 32 := 4#32
  let c0_i32_16 : BitVec 32 := 0#32
  let v36 : BitVec 1 := Scalar.cmpi .sgt c4_i32_13 c0_i32_16
  let v37 : BitVec 32 := Scalar.extui v36
  let c0_i32_17 : BitVec 32 := 0#32
  let v38 : BitVec 1 := Scalar.cmpi .slt c4_i32_13 c0_i32_17
  let v39 : BitVec 32 := Scalar.extui v38
  let v40 : BitVec 32 := Scalar.subi v37 v39
  let v41 : BitVec 1 := Scalar.cmpi .ne v35 v40
  let v42 : BitVec 32 := Scalar.remsi arg2 c4_i32_13
  let c0_i32_18 : BitVec 32 := 0#32
  let v43 : BitVec 1 := Scalar.cmpi .ne v42 c0_i32_18
  let v44 : BitVec 1 := Scalar.andi v41 v43
  let v30 : BitVec 32 := Scalar.divsi arg2 c4_i32_13
  let c1_i32_19 : BitVec 32 := 1#32
  let v45 : BitVec 32 := Scalar.subi v30 c1_i32_19
  let v46 : BitVec 32 := Scalar.select v44 v45 v30
  let c4_i32_20 : BitVec 32 := 4#32
  let v47 : BitVec 32 := Scalar.muli v46 c4_i32_20
  let v1361 : BitVec 32 := Scalar.addi v47 c0_i32_593
  let c512_i32_594 : BitVec 32 := 512#32
  let v1362 : BitVec 32 := Scalar.muli v1361 c512_i32_594
  let v1363 : BitVec 32 := v1362
  let v1364 : Index := Scalar.indexCast v1363
  let c0_596 : Index := 0#32
  ![0, v1364.toNat, 0]
def k0_off26 (i : grid0.Coords) (c0_i32_593 : BitVec 32) : Fin 3 → Nat :=
  let c0_597 : Index := 0#32
  let arg2 : BitVec 32 := BitVec.ofNat 32 (i 2).val
  let c0_i32_14 : BitVec 32 := 0#32
  let v31 : BitVec 1 := Scalar.cmpi .sgt arg2 c0_i32_14
  let v32 : BitVec 32 := Scalar.extui v31
  let c0_i32_15 : BitVec 32 := 0#32
  let v33 : BitVec 1 := Scalar.cmpi .slt arg2 c0_i32_15
  let v34 : BitVec 32 := Scalar.extui v33
  let v35 : BitVec 32 := Scalar.subi v32 v34
  let c4_i32_13 : BitVec 32 := 4#32
  let c0_i32_16 : BitVec 32 := 0#32
  let v36 : BitVec 1 := Scalar.cmpi .sgt c4_i32_13 c0_i32_16
  let v37 : BitVec 32 := Scalar.extui v36
  let c0_i32_17 : BitVec 32 := 0#32
  let v38 : BitVec 1 := Scalar.cmpi .slt c4_i32_13 c0_i32_17
  let v39 : BitVec 32 := Scalar.extui v38
  let v40 : BitVec 32 := Scalar.subi v37 v39
  let v41 : BitVec 1 := Scalar.cmpi .ne v35 v40
  let v42 : BitVec 32 := Scalar.remsi arg2 c4_i32_13
  let c0_i32_18 : BitVec 32 := 0#32
  let v43 : BitVec 1 := Scalar.cmpi .ne v42 c0_i32_18
  let v44 : BitVec 1 := Scalar.andi v41 v43
  let v30 : BitVec 32 := Scalar.divsi arg2 c4_i32_13
  let c1_i32_19 : BitVec 32 := 1#32
  let v45 : BitVec 32 := Scalar.subi v30 c1_i32_19
  let v46 : BitVec 32 := Scalar.select v44 v45 v30
  let c4_i32_20 : BitVec 32 := 4#32
  let v47 : BitVec 32 := Scalar.muli v46 c4_i32_20
  let v1361 : BitVec 32 := Scalar.addi v47 c0_i32_593
  let c512_i32_594 : BitVec 32 := 512#32
  let v1362 : BitVec 32 := Scalar.muli v1361 c512_i32_594
  let v1363 : BitVec 32 := v1362
  let v1367 : Index := Scalar.indexCast v1363
  let c0_598 : Index := 0#32
  ![0, v1367.toNat, 0]
def k0_off27 (i : grid0.Coords) (c0_i32_593 : BitVec 32) : Fin 3 → Nat :=
  let c1_659 : Index := 1#32
  let arg2 : BitVec 32 := BitVec.ofNat 32 (i 2).val
  let c0_i32_14 : BitVec 32 := 0#32
  let v31 : BitVec 1 := Scalar.cmpi .sgt arg2 c0_i32_14
  let v32 : BitVec 32 := Scalar.extui v31
  let c0_i32_15 : BitVec 32 := 0#32
  let v33 : BitVec 1 := Scalar.cmpi .slt arg2 c0_i32_15
  let v34 : BitVec 32 := Scalar.extui v33
  let v35 : BitVec 32 := Scalar.subi v32 v34
  let c4_i32_13 : BitVec 32 := 4#32
  let c0_i32_16 : BitVec 32 := 0#32
  let v36 : BitVec 1 := Scalar.cmpi .sgt c4_i32_13 c0_i32_16
  let v37 : BitVec 32 := Scalar.extui v36
  let c0_i32_17 : BitVec 32 := 0#32
  let v38 : BitVec 1 := Scalar.cmpi .slt c4_i32_13 c0_i32_17
  let v39 : BitVec 32 := Scalar.extui v38
  let v40 : BitVec 32 := Scalar.subi v37 v39
  let v41 : BitVec 1 := Scalar.cmpi .ne v35 v40
  let v42 : BitVec 32 := Scalar.remsi arg2 c4_i32_13
  let c0_i32_18 : BitVec 32 := 0#32
  let v43 : BitVec 1 := Scalar.cmpi .ne v42 c0_i32_18
  let v44 : BitVec 1 := Scalar.andi v41 v43
  let v30 : BitVec 32 := Scalar.divsi arg2 c4_i32_13
  let c1_i32_19 : BitVec 32 := 1#32
  let v45 : BitVec 32 := Scalar.subi v30 c1_i32_19
  let v46 : BitVec 32 := Scalar.select v44 v45 v30
  let c4_i32_20 : BitVec 32 := 4#32
  let v47 : BitVec 32 := Scalar.muli v46 c4_i32_20
  let v1361 : BitVec 32 := Scalar.addi v47 c0_i32_593
  let c512_i32_594 : BitVec 32 := 512#32
  let v1362 : BitVec 32 := Scalar.muli v1361 c512_i32_594
  let v1363 : BitVec 32 := v1362
  let v1490 : Index := Scalar.indexCast v1363
  let c0_660 : Index := 0#32
  ![1, v1490.toNat, 0]
def k0_off28 (i : grid0.Coords) (c0_i32_593 : BitVec 32) : Fin 3 → Nat :=
  let c2_723 : Index := 2#32
  let arg2 : BitVec 32 := BitVec.ofNat 32 (i 2).val
  let c0_i32_14 : BitVec 32 := 0#32
  let v31 : BitVec 1 := Scalar.cmpi .sgt arg2 c0_i32_14
  let v32 : BitVec 32 := Scalar.extui v31
  let c0_i32_15 : BitVec 32 := 0#32
  let v33 : BitVec 1 := Scalar.cmpi .slt arg2 c0_i32_15
  let v34 : BitVec 32 := Scalar.extui v33
  let v35 : BitVec 32 := Scalar.subi v32 v34
  let c4_i32_13 : BitVec 32 := 4#32
  let c0_i32_16 : BitVec 32 := 0#32
  let v36 : BitVec 1 := Scalar.cmpi .sgt c4_i32_13 c0_i32_16
  let v37 : BitVec 32 := Scalar.extui v36
  let c0_i32_17 : BitVec 32 := 0#32
  let v38 : BitVec 1 := Scalar.cmpi .slt c4_i32_13 c0_i32_17
  let v39 : BitVec 32 := Scalar.extui v38
  let v40 : BitVec 32 := Scalar.subi v37 v39
  let v41 : BitVec 1 := Scalar.cmpi .ne v35 v40
  let v42 : BitVec 32 := Scalar.remsi arg2 c4_i32_13
  let c0_i32_18 : BitVec 32 := 0#32
  let v43 : BitVec 1 := Scalar.cmpi .ne v42 c0_i32_18
  let v44 : BitVec 1 := Scalar.andi v41 v43
  let v30 : BitVec 32 := Scalar.divsi arg2 c4_i32_13
  let c1_i32_19 : BitVec 32 := 1#32
  let v45 : BitVec 32 := Scalar.subi v30 c1_i32_19
  let v46 : BitVec 32 := Scalar.select v44 v45 v30
  let c4_i32_20 : BitVec 32 := 4#32
  let v47 : BitVec 32 := Scalar.muli v46 c4_i32_20
  let v1361 : BitVec 32 := Scalar.addi v47 c0_i32_593
  let c512_i32_594 : BitVec 32 := 512#32
  let v1362 : BitVec 32 := Scalar.muli v1361 c512_i32_594
  let v1363 : BitVec 32 := v1362
  let v1616 : Index := Scalar.indexCast v1363
  let c0_724 : Index := 0#32
  ![2, v1616.toNat, 0]
def k0_off29 (i : grid0.Coords) (c0_i32_593 : BitVec 32) : Fin 3 → Nat :=
  let c1_725 : Index := 1#32
  let arg2 : BitVec 32 := BitVec.ofNat 32 (i 2).val
  let c0_i32_14 : BitVec 32 := 0#32
  let v31 : BitVec 1 := Scalar.cmpi .sgt arg2 c0_i32_14
  let v32 : BitVec 32 := Scalar.extui v31
  let c0_i32_15 : BitVec 32 := 0#32
  let v33 : BitVec 1 := Scalar.cmpi .slt arg2 c0_i32_15
  let v34 : BitVec 32 := Scalar.extui v33
  let v35 : BitVec 32 := Scalar.subi v32 v34
  let c4_i32_13 : BitVec 32 := 4#32
  let c0_i32_16 : BitVec 32 := 0#32
  let v36 : BitVec 1 := Scalar.cmpi .sgt c4_i32_13 c0_i32_16
  let v37 : BitVec 32 := Scalar.extui v36
  let c0_i32_17 : BitVec 32 := 0#32
  let v38 : BitVec 1 := Scalar.cmpi .slt c4_i32_13 c0_i32_17
  let v39 : BitVec 32 := Scalar.extui v38
  let v40 : BitVec 32 := Scalar.subi v37 v39
  let v41 : BitVec 1 := Scalar.cmpi .ne v35 v40
  let v42 : BitVec 32 := Scalar.remsi arg2 c4_i32_13
  let c0_i32_18 : BitVec 32 := 0#32
  let v43 : BitVec 1 := Scalar.cmpi .ne v42 c0_i32_18
  let v44 : BitVec 1 := Scalar.andi v41 v43
  let v30 : BitVec 32 := Scalar.divsi arg2 c4_i32_13
  let c1_i32_19 : BitVec 32 := 1#32
  let v45 : BitVec 32 := Scalar.subi v30 c1_i32_19
  let v46 : BitVec 32 := Scalar.select v44 v45 v30
  let c4_i32_20 : BitVec 32 := 4#32
  let v47 : BitVec 32 := Scalar.muli v46 c4_i32_20
  let v1361 : BitVec 32 := Scalar.addi v47 c0_i32_593
  let c512_i32_594 : BitVec 32 := 512#32
  let v1362 : BitVec 32 := Scalar.muli v1361 c512_i32_594
  let v1363 : BitVec 32 := v1362
  let v1619 : Index := Scalar.indexCast v1363
  let c0_726 : Index := 0#32
  ![1, v1619.toNat, 0]
def k0_off30 (i : grid0.Coords) (c0_i32_593 : BitVec 32) : Fin 3 → Nat :=
  let c3_787 : Index := 3#32
  let arg2 : BitVec 32 := BitVec.ofNat 32 (i 2).val
  let c0_i32_14 : BitVec 32 := 0#32
  let v31 : BitVec 1 := Scalar.cmpi .sgt arg2 c0_i32_14
  let v32 : BitVec 32 := Scalar.extui v31
  let c0_i32_15 : BitVec 32 := 0#32
  let v33 : BitVec 1 := Scalar.cmpi .slt arg2 c0_i32_15
  let v34 : BitVec 32 := Scalar.extui v33
  let v35 : BitVec 32 := Scalar.subi v32 v34
  let c4_i32_13 : BitVec 32 := 4#32
  let c0_i32_16 : BitVec 32 := 0#32
  let v36 : BitVec 1 := Scalar.cmpi .sgt c4_i32_13 c0_i32_16
  let v37 : BitVec 32 := Scalar.extui v36
  let c0_i32_17 : BitVec 32 := 0#32
  let v38 : BitVec 1 := Scalar.cmpi .slt c4_i32_13 c0_i32_17
  let v39 : BitVec 32 := Scalar.extui v38
  let v40 : BitVec 32 := Scalar.subi v37 v39
  let v41 : BitVec 1 := Scalar.cmpi .ne v35 v40
  let v42 : BitVec 32 := Scalar.remsi arg2 c4_i32_13
  let c0_i32_18 : BitVec 32 := 0#32
  let v43 : BitVec 1 := Scalar.cmpi .ne v42 c0_i32_18
  let v44 : BitVec 1 := Scalar.andi v41 v43
  let v30 : BitVec 32 := Scalar.divsi arg2 c4_i32_13
  let c1_i32_19 : BitVec 32 := 1#32
  let v45 : BitVec 32 := Scalar.subi v30 c1_i32_19
  let v46 : BitVec 32 := Scalar.select v44 v45 v30
  let c4_i32_20 : BitVec 32 := 4#32
  let v47 : BitVec 32 := Scalar.muli v46 c4_i32_20
  let v1361 : BitVec 32 := Scalar.addi v47 c0_i32_593
  let c512_i32_594 : BitVec 32 := 512#32
  let v1362 : BitVec 32 := Scalar.muli v1361 c512_i32_594
  let v1363 : BitVec 32 := v1362
  let v1742 : Index := Scalar.indexCast v1363
  let c0_788 : Index := 0#32
  ![3, v1742.toNat, 0]
def k0_off31 (i : grid0.Coords) (c0_i32_593 : BitVec 32) : Fin 3 → Nat :=
  let c4_851 : Index := 4#32
  let arg2 : BitVec 32 := BitVec.ofNat 32 (i 2).val
  let c0_i32_14 : BitVec 32 := 0#32
  let v31 : BitVec 1 := Scalar.cmpi .sgt arg2 c0_i32_14
  let v32 : BitVec 32 := Scalar.extui v31
  let c0_i32_15 : BitVec 32 := 0#32
  let v33 : BitVec 1 := Scalar.cmpi .slt arg2 c0_i32_15
  let v34 : BitVec 32 := Scalar.extui v33
  let v35 : BitVec 32 := Scalar.subi v32 v34
  let c4_i32_13 : BitVec 32 := 4#32
  let c0_i32_16 : BitVec 32 := 0#32
  let v36 : BitVec 1 := Scalar.cmpi .sgt c4_i32_13 c0_i32_16
  let v37 : BitVec 32 := Scalar.extui v36
  let c0_i32_17 : BitVec 32 := 0#32
  let v38 : BitVec 1 := Scalar.cmpi .slt c4_i32_13 c0_i32_17
  let v39 : BitVec 32 := Scalar.extui v38
  let v40 : BitVec 32 := Scalar.subi v37 v39
  let v41 : BitVec 1 := Scalar.cmpi .ne v35 v40
  let v42 : BitVec 32 := Scalar.remsi arg2 c4_i32_13
  let c0_i32_18 : BitVec 32 := 0#32
  let v43 : BitVec 1 := Scalar.cmpi .ne v42 c0_i32_18
  let v44 : BitVec 1 := Scalar.andi v41 v43
  let v30 : BitVec 32 := Scalar.divsi arg2 c4_i32_13
  let c1_i32_19 : BitVec 32 := 1#32
  let v45 : BitVec 32 := Scalar.subi v30 c1_i32_19
  let v46 : BitVec 32 := Scalar.select v44 v45 v30
  let c4_i32_20 : BitVec 32 := 4#32
  let v47 : BitVec 32 := Scalar.muli v46 c4_i32_20
  let v1361 : BitVec 32 := Scalar.addi v47 c0_i32_593
  let c512_i32_594 : BitVec 32 := 512#32
  let v1362 : BitVec 32 := Scalar.muli v1361 c512_i32_594
  let v1363 : BitVec 32 := v1362
  let v1868 : Index := Scalar.indexCast v1363
  let c0_852 : Index := 0#32
  ![4, v1868.toNat, 0]
def k0_off32 (i : grid0.Coords) (c0_i32_593 : BitVec 32) : Fin 3 → Nat :=
  let c2_853 : Index := 2#32
  let arg2 : BitVec 32 := BitVec.ofNat 32 (i 2).val
  let c0_i32_14 : BitVec 32 := 0#32
  let v31 : BitVec 1 := Scalar.cmpi .sgt arg2 c0_i32_14
  let v32 : BitVec 32 := Scalar.extui v31
  let c0_i32_15 : BitVec 32 := 0#32
  let v33 : BitVec 1 := Scalar.cmpi .slt arg2 c0_i32_15
  let v34 : BitVec 32 := Scalar.extui v33
  let v35 : BitVec 32 := Scalar.subi v32 v34
  let c4_i32_13 : BitVec 32 := 4#32
  let c0_i32_16 : BitVec 32 := 0#32
  let v36 : BitVec 1 := Scalar.cmpi .sgt c4_i32_13 c0_i32_16
  let v37 : BitVec 32 := Scalar.extui v36
  let c0_i32_17 : BitVec 32 := 0#32
  let v38 : BitVec 1 := Scalar.cmpi .slt c4_i32_13 c0_i32_17
  let v39 : BitVec 32 := Scalar.extui v38
  let v40 : BitVec 32 := Scalar.subi v37 v39
  let v41 : BitVec 1 := Scalar.cmpi .ne v35 v40
  let v42 : BitVec 32 := Scalar.remsi arg2 c4_i32_13
  let c0_i32_18 : BitVec 32 := 0#32
  let v43 : BitVec 1 := Scalar.cmpi .ne v42 c0_i32_18
  let v44 : BitVec 1 := Scalar.andi v41 v43
  let v30 : BitVec 32 := Scalar.divsi arg2 c4_i32_13
  let c1_i32_19 : BitVec 32 := 1#32
  let v45 : BitVec 32 := Scalar.subi v30 c1_i32_19
  let v46 : BitVec 32 := Scalar.select v44 v45 v30
  let c4_i32_20 : BitVec 32 := 4#32
  let v47 : BitVec 32 := Scalar.muli v46 c4_i32_20
  let v1361 : BitVec 32 := Scalar.addi v47 c0_i32_593
  let c512_i32_594 : BitVec 32 := 512#32
  let v1362 : BitVec 32 := Scalar.muli v1361 c512_i32_594
  let v1363 : BitVec 32 := v1362
  let v1871 : Index := Scalar.indexCast v1363
  let c0_854 : Index := 0#32
  ![2, v1871.toNat, 0]
def k0_off33 (i : grid0.Coords) (c0_i32_593 : BitVec 32) : Fin 3 → Nat :=
  let c5_915 : Index := 5#32
  let arg2 : BitVec 32 := BitVec.ofNat 32 (i 2).val
  let c0_i32_14 : BitVec 32 := 0#32
  let v31 : BitVec 1 := Scalar.cmpi .sgt arg2 c0_i32_14
  let v32 : BitVec 32 := Scalar.extui v31
  let c0_i32_15 : BitVec 32 := 0#32
  let v33 : BitVec 1 := Scalar.cmpi .slt arg2 c0_i32_15
  let v34 : BitVec 32 := Scalar.extui v33
  let v35 : BitVec 32 := Scalar.subi v32 v34
  let c4_i32_13 : BitVec 32 := 4#32
  let c0_i32_16 : BitVec 32 := 0#32
  let v36 : BitVec 1 := Scalar.cmpi .sgt c4_i32_13 c0_i32_16
  let v37 : BitVec 32 := Scalar.extui v36
  let c0_i32_17 : BitVec 32 := 0#32
  let v38 : BitVec 1 := Scalar.cmpi .slt c4_i32_13 c0_i32_17
  let v39 : BitVec 32 := Scalar.extui v38
  let v40 : BitVec 32 := Scalar.subi v37 v39
  let v41 : BitVec 1 := Scalar.cmpi .ne v35 v40
  let v42 : BitVec 32 := Scalar.remsi arg2 c4_i32_13
  let c0_i32_18 : BitVec 32 := 0#32
  let v43 : BitVec 1 := Scalar.cmpi .ne v42 c0_i32_18
  let v44 : BitVec 1 := Scalar.andi v41 v43
  let v30 : BitVec 32 := Scalar.divsi arg2 c4_i32_13
  let c1_i32_19 : BitVec 32 := 1#32
  let v45 : BitVec 32 := Scalar.subi v30 c1_i32_19
  let v46 : BitVec 32 := Scalar.select v44 v45 v30
  let c4_i32_20 : BitVec 32 := 4#32
  let v47 : BitVec 32 := Scalar.muli v46 c4_i32_20
  let v1361 : BitVec 32 := Scalar.addi v47 c0_i32_593
  let c512_i32_594 : BitVec 32 := 512#32
  let v1362 : BitVec 32 := Scalar.muli v1361 c512_i32_594
  let v1363 : BitVec 32 := v1362
  let v1994 : Index := Scalar.indexCast v1363
  let c0_916 : Index := 0#32
  ![5, v1994.toNat, 0]
def k0_off34 (i : grid0.Coords) (c0_i32_593 : BitVec 32) : Fin 3 → Nat :=
  let c6_979 : Index := 6#32
  let arg2 : BitVec 32 := BitVec.ofNat 32 (i 2).val
  let c0_i32_14 : BitVec 32 := 0#32
  let v31 : BitVec 1 := Scalar.cmpi .sgt arg2 c0_i32_14
  let v32 : BitVec 32 := Scalar.extui v31
  let c0_i32_15 : BitVec 32 := 0#32
  let v33 : BitVec 1 := Scalar.cmpi .slt arg2 c0_i32_15
  let v34 : BitVec 32 := Scalar.extui v33
  let v35 : BitVec 32 := Scalar.subi v32 v34
  let c4_i32_13 : BitVec 32 := 4#32
  let c0_i32_16 : BitVec 32 := 0#32
  let v36 : BitVec 1 := Scalar.cmpi .sgt c4_i32_13 c0_i32_16
  let v37 : BitVec 32 := Scalar.extui v36
  let c0_i32_17 : BitVec 32 := 0#32
  let v38 : BitVec 1 := Scalar.cmpi .slt c4_i32_13 c0_i32_17
  let v39 : BitVec 32 := Scalar.extui v38
  let v40 : BitVec 32 := Scalar.subi v37 v39
  let v41 : BitVec 1 := Scalar.cmpi .ne v35 v40
  let v42 : BitVec 32 := Scalar.remsi arg2 c4_i32_13
  let c0_i32_18 : BitVec 32 := 0#32
  let v43 : BitVec 1 := Scalar.cmpi .ne v42 c0_i32_18
  let v44 : BitVec 1 := Scalar.andi v41 v43
  let v30 : BitVec 32 := Scalar.divsi arg2 c4_i32_13
  let c1_i32_19 : BitVec 32 := 1#32
  let v45 : BitVec 32 := Scalar.subi v30 c1_i32_19
  let v46 : BitVec 32 := Scalar.select v44 v45 v30
  let c4_i32_20 : BitVec 32 := 4#32
  let v47 : BitVec 32 := Scalar.muli v46 c4_i32_20
  let v1361 : BitVec 32 := Scalar.addi v47 c0_i32_593
  let c512_i32_594 : BitVec 32 := 512#32
  let v1362 : BitVec 32 := Scalar.muli v1361 c512_i32_594
  let v1363 : BitVec 32 := v1362
  let v2120 : Index := Scalar.indexCast v1363
  let c0_980 : Index := 0#32
  ![6, v2120.toNat, 0]
def k0_off35 (i : grid0.Coords) (c0_i32_593 : BitVec 32) : Fin 3 → Nat :=
  let c3_981 : Index := 3#32
  let arg2 : BitVec 32 := BitVec.ofNat 32 (i 2).val
  let c0_i32_14 : BitVec 32 := 0#32
  let v31 : BitVec 1 := Scalar.cmpi .sgt arg2 c0_i32_14
  let v32 : BitVec 32 := Scalar.extui v31
  let c0_i32_15 : BitVec 32 := 0#32
  let v33 : BitVec 1 := Scalar.cmpi .slt arg2 c0_i32_15
  let v34 : BitVec 32 := Scalar.extui v33
  let v35 : BitVec 32 := Scalar.subi v32 v34
  let c4_i32_13 : BitVec 32 := 4#32
  let c0_i32_16 : BitVec 32 := 0#32
  let v36 : BitVec 1 := Scalar.cmpi .sgt c4_i32_13 c0_i32_16
  let v37 : BitVec 32 := Scalar.extui v36
  let c0_i32_17 : BitVec 32 := 0#32
  let v38 : BitVec 1 := Scalar.cmpi .slt c4_i32_13 c0_i32_17
  let v39 : BitVec 32 := Scalar.extui v38
  let v40 : BitVec 32 := Scalar.subi v37 v39
  let v41 : BitVec 1 := Scalar.cmpi .ne v35 v40
  let v42 : BitVec 32 := Scalar.remsi arg2 c4_i32_13
  let c0_i32_18 : BitVec 32 := 0#32
  let v43 : BitVec 1 := Scalar.cmpi .ne v42 c0_i32_18
  let v44 : BitVec 1 := Scalar.andi v41 v43
  let v30 : BitVec 32 := Scalar.divsi arg2 c4_i32_13
  let c1_i32_19 : BitVec 32 := 1#32
  let v45 : BitVec 32 := Scalar.subi v30 c1_i32_19
  let v46 : BitVec 32 := Scalar.select v44 v45 v30
  let c4_i32_20 : BitVec 32 := 4#32
  let v47 : BitVec 32 := Scalar.muli v46 c4_i32_20
  let v1361 : BitVec 32 := Scalar.addi v47 c0_i32_593
  let c512_i32_594 : BitVec 32 := 512#32
  let v1362 : BitVec 32 := Scalar.muli v1361 c512_i32_594
  let v1363 : BitVec 32 := v1362
  let v2123 : Index := Scalar.indexCast v1363
  let c0_982 : Index := 0#32
  ![3, v2123.toNat, 0]
def k0_off36 (i : grid0.Coords) (c0_i32_593 : BitVec 32) : Fin 3 → Nat :=
  let c7_1043 : Index := 7#32
  let arg2 : BitVec 32 := BitVec.ofNat 32 (i 2).val
  let c0_i32_14 : BitVec 32 := 0#32
  let v31 : BitVec 1 := Scalar.cmpi .sgt arg2 c0_i32_14
  let v32 : BitVec 32 := Scalar.extui v31
  let c0_i32_15 : BitVec 32 := 0#32
  let v33 : BitVec 1 := Scalar.cmpi .slt arg2 c0_i32_15
  let v34 : BitVec 32 := Scalar.extui v33
  let v35 : BitVec 32 := Scalar.subi v32 v34
  let c4_i32_13 : BitVec 32 := 4#32
  let c0_i32_16 : BitVec 32 := 0#32
  let v36 : BitVec 1 := Scalar.cmpi .sgt c4_i32_13 c0_i32_16
  let v37 : BitVec 32 := Scalar.extui v36
  let c0_i32_17 : BitVec 32 := 0#32
  let v38 : BitVec 1 := Scalar.cmpi .slt c4_i32_13 c0_i32_17
  let v39 : BitVec 32 := Scalar.extui v38
  let v40 : BitVec 32 := Scalar.subi v37 v39
  let v41 : BitVec 1 := Scalar.cmpi .ne v35 v40
  let v42 : BitVec 32 := Scalar.remsi arg2 c4_i32_13
  let c0_i32_18 : BitVec 32 := 0#32
  let v43 : BitVec 1 := Scalar.cmpi .ne v42 c0_i32_18
  let v44 : BitVec 1 := Scalar.andi v41 v43
  let v30 : BitVec 32 := Scalar.divsi arg2 c4_i32_13
  let c1_i32_19 : BitVec 32 := 1#32
  let v45 : BitVec 32 := Scalar.subi v30 c1_i32_19
  let v46 : BitVec 32 := Scalar.select v44 v45 v30
  let c4_i32_20 : BitVec 32 := 4#32
  let v47 : BitVec 32 := Scalar.muli v46 c4_i32_20
  let v1361 : BitVec 32 := Scalar.addi v47 c0_i32_593
  let c512_i32_594 : BitVec 32 := 512#32
  let v1362 : BitVec 32 := Scalar.muli v1361 c512_i32_594
  let v1363 : BitVec 32 := v1362
  let v2246 : Index := Scalar.indexCast v1363
  let c0_1044 : Index := 0#32
  ![7, v2246.toNat, 0]
def k0_mult10 (i : grid0.Coords) : BitVec 32 :=
  let arg2 : BitVec 32 := BitVec.ofNat 32 (i 2).val
  let c0_i32_14 : BitVec 32 := 0#32
  let v31 : BitVec 1 := Scalar.cmpi .sgt arg2 c0_i32_14
  let v32 : BitVec 32 := Scalar.extui v31
  let c0_i32_15 : BitVec 32 := 0#32
  let v33 : BitVec 1 := Scalar.cmpi .slt arg2 c0_i32_15
  let v34 : BitVec 32 := Scalar.extui v33
  let v35 : BitVec 32 := Scalar.subi v32 v34
  let c4_i32_13 : BitVec 32 := 4#32
  let c0_i32_16 : BitVec 32 := 0#32
  let v36 : BitVec 1 := Scalar.cmpi .sgt c4_i32_13 c0_i32_16
  let v37 : BitVec 32 := Scalar.extui v36
  let c0_i32_17 : BitVec 32 := 0#32
  let v38 : BitVec 1 := Scalar.cmpi .slt c4_i32_13 c0_i32_17
  let v39 : BitVec 32 := Scalar.extui v38
  let v40 : BitVec 32 := Scalar.subi v37 v39
  let v41 : BitVec 1 := Scalar.cmpi .ne v35 v40
  let v42 : BitVec 32 := Scalar.remsi arg2 c4_i32_13
  let c0_i32_18 : BitVec 32 := 0#32
  let v43 : BitVec 1 := Scalar.cmpi .ne v42 c0_i32_18
  let v44 : BitVec 1 := Scalar.andi v41 v43
  let v30 : BitVec 32 := Scalar.divsi arg2 c4_i32_13
  let c1_i32_19 : BitVec 32 := 1#32
  let v45 : BitVec 32 := Scalar.subi v30 c1_i32_19
  let v46 : BitVec 32 := Scalar.select v44 v45 v30
  let c4_i32_20 : BitVec 32 := 4#32
  let v47 : BitVec 32 := Scalar.muli v46 c4_i32_20
  let c1_i32_1107 : BitVec 32 := 1#32
  let v2372 : BitVec 32 := Scalar.addi v47 c1_i32_1107
  let c512_i32_1108 : BitVec 32 := 512#32
  let v2373 : BitVec 32 := Scalar.muli v2372 c512_i32_1108
  v2373
def k0_cond2 (i : grid0.Coords) : BitVec 1 :=
  let arg2 : BitVec 32 := BitVec.ofNat 32 (i 2).val
  let c1_i32_24 : BitVec 32 := 1#32
  let v54 : BitVec 32 := Scalar.andi arg2 c1_i32_24
  let c0_i32_25 : BitVec 32 := 0#32
  let v55 : BitVec 1 := Scalar.cmpi .ne v54 c0_i32_25
  let v56 : BitVec 32 := Scalar.extui v55
  let c0_i32_26 : BitVec 32 := 0#32
  let v57 : BitVec 1 := Scalar.cmpi .ne v56 c0_i32_26
  v57

def k0_mult11 (i : grid0.Coords) : BitVec 32 :=
  let arg2 : BitVec 32 := BitVec.ofNat 32 (i 2).val
  let c0_i32_14 : BitVec 32 := 0#32
  let v31 : BitVec 1 := Scalar.cmpi .sgt arg2 c0_i32_14
  let v32 : BitVec 32 := Scalar.extui v31
  let c0_i32_15 : BitVec 32 := 0#32
  let v33 : BitVec 1 := Scalar.cmpi .slt arg2 c0_i32_15
  let v34 : BitVec 32 := Scalar.extui v33
  let v35 : BitVec 32 := Scalar.subi v32 v34
  let c4_i32_13 : BitVec 32 := 4#32
  let c0_i32_16 : BitVec 32 := 0#32
  let v36 : BitVec 1 := Scalar.cmpi .sgt c4_i32_13 c0_i32_16
  let v37 : BitVec 32 := Scalar.extui v36
  let c0_i32_17 : BitVec 32 := 0#32
  let v38 : BitVec 1 := Scalar.cmpi .slt c4_i32_13 c0_i32_17
  let v39 : BitVec 32 := Scalar.extui v38
  let v40 : BitVec 32 := Scalar.subi v37 v39
  let v41 : BitVec 1 := Scalar.cmpi .ne v35 v40
  let v42 : BitVec 32 := Scalar.remsi arg2 c4_i32_13
  let c0_i32_18 : BitVec 32 := 0#32
  let v43 : BitVec 1 := Scalar.cmpi .ne v42 c0_i32_18
  let v44 : BitVec 1 := Scalar.andi v41 v43
  let v30 : BitVec 32 := Scalar.divsi arg2 c4_i32_13
  let c1_i32_19 : BitVec 32 := 1#32
  let v45 : BitVec 32 := Scalar.subi v30 c1_i32_19
  let v46 : BitVec 32 := Scalar.select v44 v45 v30
  let c4_i32_20 : BitVec 32 := 4#32
  let v47 : BitVec 32 := Scalar.muli v46 c4_i32_20
  let c2_i32_23 : BitVec 32 := 2#32
  let v52 : BitVec 32 := Scalar.andi arg2 c2_i32_23
  let v53 : BitVec 32 := Scalar.addi v47 v52
  let c0_i32_593 : BitVec 32 := 0#32
  let v1361 : BitVec 32 := Scalar.addi v53 c0_i32_593
  let c512_i32_594 : BitVec 32 := 512#32
  let v1362 : BitVec 32 := Scalar.muli v1361 c512_i32_594
  v1362
def k0_off37 (i : grid0.Coords) : Fin 3 → Nat :=
  let c0_595 : Index := 0#32
  let arg2 : BitVec 32 := BitVec.ofNat 32 (i 2).val
  let c0_i32_14 : BitVec 32 := 0#32
  let v31 : BitVec 1 := Scalar.cmpi .sgt arg2 c0_i32_14
  let v32 : BitVec 32 := Scalar.extui v31
  let c0_i32_15 : BitVec 32 := 0#32
  let v33 : BitVec 1 := Scalar.cmpi .slt arg2 c0_i32_15
  let v34 : BitVec 32 := Scalar.extui v33
  let v35 : BitVec 32 := Scalar.subi v32 v34
  let c4_i32_13 : BitVec 32 := 4#32
  let c0_i32_16 : BitVec 32 := 0#32
  let v36 : BitVec 1 := Scalar.cmpi .sgt c4_i32_13 c0_i32_16
  let v37 : BitVec 32 := Scalar.extui v36
  let c0_i32_17 : BitVec 32 := 0#32
  let v38 : BitVec 1 := Scalar.cmpi .slt c4_i32_13 c0_i32_17
  let v39 : BitVec 32 := Scalar.extui v38
  let v40 : BitVec 32 := Scalar.subi v37 v39
  let v41 : BitVec 1 := Scalar.cmpi .ne v35 v40
  let v42 : BitVec 32 := Scalar.remsi arg2 c4_i32_13
  let c0_i32_18 : BitVec 32 := 0#32
  let v43 : BitVec 1 := Scalar.cmpi .ne v42 c0_i32_18
  let v44 : BitVec 1 := Scalar.andi v41 v43
  let v30 : BitVec 32 := Scalar.divsi arg2 c4_i32_13
  let c1_i32_19 : BitVec 32 := 1#32
  let v45 : BitVec 32 := Scalar.subi v30 c1_i32_19
  let v46 : BitVec 32 := Scalar.select v44 v45 v30
  let c4_i32_20 : BitVec 32 := 4#32
  let v47 : BitVec 32 := Scalar.muli v46 c4_i32_20
  let c2_i32_23 : BitVec 32 := 2#32
  let v52 : BitVec 32 := Scalar.andi arg2 c2_i32_23
  let v53 : BitVec 32 := Scalar.addi v47 v52
  let c0_i32_593 : BitVec 32 := 0#32
  let v1361 : BitVec 32 := Scalar.addi v53 c0_i32_593
  let c512_i32_594 : BitVec 32 := 512#32
  let v1362 : BitVec 32 := Scalar.muli v1361 c512_i32_594
  let v1363 : BitVec 32 := v1362
  let v1364 : Index := Scalar.indexCast v1363
  let c0_596 : Index := 0#32
  ![0, v1364.toNat, 0]
def k0_off38 (i : grid0.Coords) : Fin 3 → Nat :=
  let c0_597 : Index := 0#32
  let arg2 : BitVec 32 := BitVec.ofNat 32 (i 2).val
  let c0_i32_14 : BitVec 32 := 0#32
  let v31 : BitVec 1 := Scalar.cmpi .sgt arg2 c0_i32_14
  let v32 : BitVec 32 := Scalar.extui v31
  let c0_i32_15 : BitVec 32 := 0#32
  let v33 : BitVec 1 := Scalar.cmpi .slt arg2 c0_i32_15
  let v34 : BitVec 32 := Scalar.extui v33
  let v35 : BitVec 32 := Scalar.subi v32 v34
  let c4_i32_13 : BitVec 32 := 4#32
  let c0_i32_16 : BitVec 32 := 0#32
  let v36 : BitVec 1 := Scalar.cmpi .sgt c4_i32_13 c0_i32_16
  let v37 : BitVec 32 := Scalar.extui v36
  let c0_i32_17 : BitVec 32 := 0#32
  let v38 : BitVec 1 := Scalar.cmpi .slt c4_i32_13 c0_i32_17
  let v39 : BitVec 32 := Scalar.extui v38
  let v40 : BitVec 32 := Scalar.subi v37 v39
  let v41 : BitVec 1 := Scalar.cmpi .ne v35 v40
  let v42 : BitVec 32 := Scalar.remsi arg2 c4_i32_13
  let c0_i32_18 : BitVec 32 := 0#32
  let v43 : BitVec 1 := Scalar.cmpi .ne v42 c0_i32_18
  let v44 : BitVec 1 := Scalar.andi v41 v43
  let v30 : BitVec 32 := Scalar.divsi arg2 c4_i32_13
  let c1_i32_19 : BitVec 32 := 1#32
  let v45 : BitVec 32 := Scalar.subi v30 c1_i32_19
  let v46 : BitVec 32 := Scalar.select v44 v45 v30
  let c4_i32_20 : BitVec 32 := 4#32
  let v47 : BitVec 32 := Scalar.muli v46 c4_i32_20
  let c2_i32_23 : BitVec 32 := 2#32
  let v52 : BitVec 32 := Scalar.andi arg2 c2_i32_23
  let v53 : BitVec 32 := Scalar.addi v47 v52
  let c0_i32_593 : BitVec 32 := 0#32
  let v1361 : BitVec 32 := Scalar.addi v53 c0_i32_593
  let c512_i32_594 : BitVec 32 := 512#32
  let v1362 : BitVec 32 := Scalar.muli v1361 c512_i32_594
  let v1363 : BitVec 32 := v1362
  let v1367 : Index := Scalar.indexCast v1363
  let c0_598 : Index := 0#32
  ![0, v1367.toNat, 0]
def k0_off39 (i : grid0.Coords) : Fin 3 → Nat :=
  let c1_659 : Index := 1#32
  let arg2 : BitVec 32 := BitVec.ofNat 32 (i 2).val
  let c0_i32_14 : BitVec 32 := 0#32
  let v31 : BitVec 1 := Scalar.cmpi .sgt arg2 c0_i32_14
  let v32 : BitVec 32 := Scalar.extui v31
  let c0_i32_15 : BitVec 32 := 0#32
  let v33 : BitVec 1 := Scalar.cmpi .slt arg2 c0_i32_15
  let v34 : BitVec 32 := Scalar.extui v33
  let v35 : BitVec 32 := Scalar.subi v32 v34
  let c4_i32_13 : BitVec 32 := 4#32
  let c0_i32_16 : BitVec 32 := 0#32
  let v36 : BitVec 1 := Scalar.cmpi .sgt c4_i32_13 c0_i32_16
  let v37 : BitVec 32 := Scalar.extui v36
  let c0_i32_17 : BitVec 32 := 0#32
  let v38 : BitVec 1 := Scalar.cmpi .slt c4_i32_13 c0_i32_17
  let v39 : BitVec 32 := Scalar.extui v38
  let v40 : BitVec 32 := Scalar.subi v37 v39
  let v41 : BitVec 1 := Scalar.cmpi .ne v35 v40
  let v42 : BitVec 32 := Scalar.remsi arg2 c4_i32_13
  let c0_i32_18 : BitVec 32 := 0#32
  let v43 : BitVec 1 := Scalar.cmpi .ne v42 c0_i32_18
  let v44 : BitVec 1 := Scalar.andi v41 v43
  let v30 : BitVec 32 := Scalar.divsi arg2 c4_i32_13
  let c1_i32_19 : BitVec 32 := 1#32
  let v45 : BitVec 32 := Scalar.subi v30 c1_i32_19
  let v46 : BitVec 32 := Scalar.select v44 v45 v30
  let c4_i32_20 : BitVec 32 := 4#32
  let v47 : BitVec 32 := Scalar.muli v46 c4_i32_20
  let c2_i32_23 : BitVec 32 := 2#32
  let v52 : BitVec 32 := Scalar.andi arg2 c2_i32_23
  let v53 : BitVec 32 := Scalar.addi v47 v52
  let c0_i32_593 : BitVec 32 := 0#32
  let v1361 : BitVec 32 := Scalar.addi v53 c0_i32_593
  let c512_i32_594 : BitVec 32 := 512#32
  let v1362 : BitVec 32 := Scalar.muli v1361 c512_i32_594
  let v1363 : BitVec 32 := v1362
  let v1490 : Index := Scalar.indexCast v1363
  let c0_660 : Index := 0#32
  ![1, v1490.toNat, 0]
def k0_off40 (i : grid0.Coords) : Fin 3 → Nat :=
  let c2_723 : Index := 2#32
  let arg2 : BitVec 32 := BitVec.ofNat 32 (i 2).val
  let c0_i32_14 : BitVec 32 := 0#32
  let v31 : BitVec 1 := Scalar.cmpi .sgt arg2 c0_i32_14
  let v32 : BitVec 32 := Scalar.extui v31
  let c0_i32_15 : BitVec 32 := 0#32
  let v33 : BitVec 1 := Scalar.cmpi .slt arg2 c0_i32_15
  let v34 : BitVec 32 := Scalar.extui v33
  let v35 : BitVec 32 := Scalar.subi v32 v34
  let c4_i32_13 : BitVec 32 := 4#32
  let c0_i32_16 : BitVec 32 := 0#32
  let v36 : BitVec 1 := Scalar.cmpi .sgt c4_i32_13 c0_i32_16
  let v37 : BitVec 32 := Scalar.extui v36
  let c0_i32_17 : BitVec 32 := 0#32
  let v38 : BitVec 1 := Scalar.cmpi .slt c4_i32_13 c0_i32_17
  let v39 : BitVec 32 := Scalar.extui v38
  let v40 : BitVec 32 := Scalar.subi v37 v39
  let v41 : BitVec 1 := Scalar.cmpi .ne v35 v40
  let v42 : BitVec 32 := Scalar.remsi arg2 c4_i32_13
  let c0_i32_18 : BitVec 32 := 0#32
  let v43 : BitVec 1 := Scalar.cmpi .ne v42 c0_i32_18
  let v44 : BitVec 1 := Scalar.andi v41 v43
  let v30 : BitVec 32 := Scalar.divsi arg2 c4_i32_13
  let c1_i32_19 : BitVec 32 := 1#32
  let v45 : BitVec 32 := Scalar.subi v30 c1_i32_19
  let v46 : BitVec 32 := Scalar.select v44 v45 v30
  let c4_i32_20 : BitVec 32 := 4#32
  let v47 : BitVec 32 := Scalar.muli v46 c4_i32_20
  let c2_i32_23 : BitVec 32 := 2#32
  let v52 : BitVec 32 := Scalar.andi arg2 c2_i32_23
  let v53 : BitVec 32 := Scalar.addi v47 v52
  let c0_i32_593 : BitVec 32 := 0#32
  let v1361 : BitVec 32 := Scalar.addi v53 c0_i32_593
  let c512_i32_594 : BitVec 32 := 512#32
  let v1362 : BitVec 32 := Scalar.muli v1361 c512_i32_594
  let v1363 : BitVec 32 := v1362
  let v1616 : Index := Scalar.indexCast v1363
  let c0_724 : Index := 0#32
  ![2, v1616.toNat, 0]
def k0_off41 (i : grid0.Coords) : Fin 3 → Nat :=
  let c1_725 : Index := 1#32
  let arg2 : BitVec 32 := BitVec.ofNat 32 (i 2).val
  let c0_i32_14 : BitVec 32 := 0#32
  let v31 : BitVec 1 := Scalar.cmpi .sgt arg2 c0_i32_14
  let v32 : BitVec 32 := Scalar.extui v31
  let c0_i32_15 : BitVec 32 := 0#32
  let v33 : BitVec 1 := Scalar.cmpi .slt arg2 c0_i32_15
  let v34 : BitVec 32 := Scalar.extui v33
  let v35 : BitVec 32 := Scalar.subi v32 v34
  let c4_i32_13 : BitVec 32 := 4#32
  let c0_i32_16 : BitVec 32 := 0#32
  let v36 : BitVec 1 := Scalar.cmpi .sgt c4_i32_13 c0_i32_16
  let v37 : BitVec 32 := Scalar.extui v36
  let c0_i32_17 : BitVec 32 := 0#32
  let v38 : BitVec 1 := Scalar.cmpi .slt c4_i32_13 c0_i32_17
  let v39 : BitVec 32 := Scalar.extui v38
  let v40 : BitVec 32 := Scalar.subi v37 v39
  let v41 : BitVec 1 := Scalar.cmpi .ne v35 v40
  let v42 : BitVec 32 := Scalar.remsi arg2 c4_i32_13
  let c0_i32_18 : BitVec 32 := 0#32
  let v43 : BitVec 1 := Scalar.cmpi .ne v42 c0_i32_18
  let v44 : BitVec 1 := Scalar.andi v41 v43
  let v30 : BitVec 32 := Scalar.divsi arg2 c4_i32_13
  let c1_i32_19 : BitVec 32 := 1#32
  let v45 : BitVec 32 := Scalar.subi v30 c1_i32_19
  let v46 : BitVec 32 := Scalar.select v44 v45 v30
  let c4_i32_20 : BitVec 32 := 4#32
  let v47 : BitVec 32 := Scalar.muli v46 c4_i32_20
  let c2_i32_23 : BitVec 32 := 2#32
  let v52 : BitVec 32 := Scalar.andi arg2 c2_i32_23
  let v53 : BitVec 32 := Scalar.addi v47 v52
  let c0_i32_593 : BitVec 32 := 0#32
  let v1361 : BitVec 32 := Scalar.addi v53 c0_i32_593
  let c512_i32_594 : BitVec 32 := 512#32
  let v1362 : BitVec 32 := Scalar.muli v1361 c512_i32_594
  let v1363 : BitVec 32 := v1362
  let v1619 : Index := Scalar.indexCast v1363
  let c0_726 : Index := 0#32
  ![1, v1619.toNat, 0]
def k0_off42 (i : grid0.Coords) : Fin 3 → Nat :=
  let c3_787 : Index := 3#32
  let arg2 : BitVec 32 := BitVec.ofNat 32 (i 2).val
  let c0_i32_14 : BitVec 32 := 0#32
  let v31 : BitVec 1 := Scalar.cmpi .sgt arg2 c0_i32_14
  let v32 : BitVec 32 := Scalar.extui v31
  let c0_i32_15 : BitVec 32 := 0#32
  let v33 : BitVec 1 := Scalar.cmpi .slt arg2 c0_i32_15
  let v34 : BitVec 32 := Scalar.extui v33
  let v35 : BitVec 32 := Scalar.subi v32 v34
  let c4_i32_13 : BitVec 32 := 4#32
  let c0_i32_16 : BitVec 32 := 0#32
  let v36 : BitVec 1 := Scalar.cmpi .sgt c4_i32_13 c0_i32_16
  let v37 : BitVec 32 := Scalar.extui v36
  let c0_i32_17 : BitVec 32 := 0#32
  let v38 : BitVec 1 := Scalar.cmpi .slt c4_i32_13 c0_i32_17
  let v39 : BitVec 32 := Scalar.extui v38
  let v40 : BitVec 32 := Scalar.subi v37 v39
  let v41 : BitVec 1 := Scalar.cmpi .ne v35 v40
  let v42 : BitVec 32 := Scalar.remsi arg2 c4_i32_13
  let c0_i32_18 : BitVec 32 := 0#32
  let v43 : BitVec 1 := Scalar.cmpi .ne v42 c0_i32_18
  let v44 : BitVec 1 := Scalar.andi v41 v43
  let v30 : BitVec 32 := Scalar.divsi arg2 c4_i32_13
  let c1_i32_19 : BitVec 32 := 1#32
  let v45 : BitVec 32 := Scalar.subi v30 c1_i32_19
  let v46 : BitVec 32 := Scalar.select v44 v45 v30
  let c4_i32_20 : BitVec 32 := 4#32
  let v47 : BitVec 32 := Scalar.muli v46 c4_i32_20
  let c2_i32_23 : BitVec 32 := 2#32
  let v52 : BitVec 32 := Scalar.andi arg2 c2_i32_23
  let v53 : BitVec 32 := Scalar.addi v47 v52
  let c0_i32_593 : BitVec 32 := 0#32
  let v1361 : BitVec 32 := Scalar.addi v53 c0_i32_593
  let c512_i32_594 : BitVec 32 := 512#32
  let v1362 : BitVec 32 := Scalar.muli v1361 c512_i32_594
  let v1363 : BitVec 32 := v1362
  let v1742 : Index := Scalar.indexCast v1363
  let c0_788 : Index := 0#32
  ![3, v1742.toNat, 0]
def k0_off43 (i : grid0.Coords) : Fin 3 → Nat :=
  let c4_851 : Index := 4#32
  let arg2 : BitVec 32 := BitVec.ofNat 32 (i 2).val
  let c0_i32_14 : BitVec 32 := 0#32
  let v31 : BitVec 1 := Scalar.cmpi .sgt arg2 c0_i32_14
  let v32 : BitVec 32 := Scalar.extui v31
  let c0_i32_15 : BitVec 32 := 0#32
  let v33 : BitVec 1 := Scalar.cmpi .slt arg2 c0_i32_15
  let v34 : BitVec 32 := Scalar.extui v33
  let v35 : BitVec 32 := Scalar.subi v32 v34
  let c4_i32_13 : BitVec 32 := 4#32
  let c0_i32_16 : BitVec 32 := 0#32
  let v36 : BitVec 1 := Scalar.cmpi .sgt c4_i32_13 c0_i32_16
  let v37 : BitVec 32 := Scalar.extui v36
  let c0_i32_17 : BitVec 32 := 0#32
  let v38 : BitVec 1 := Scalar.cmpi .slt c4_i32_13 c0_i32_17
  let v39 : BitVec 32 := Scalar.extui v38
  let v40 : BitVec 32 := Scalar.subi v37 v39
  let v41 : BitVec 1 := Scalar.cmpi .ne v35 v40
  let v42 : BitVec 32 := Scalar.remsi arg2 c4_i32_13
  let c0_i32_18 : BitVec 32 := 0#32
  let v43 : BitVec 1 := Scalar.cmpi .ne v42 c0_i32_18
  let v44 : BitVec 1 := Scalar.andi v41 v43
  let v30 : BitVec 32 := Scalar.divsi arg2 c4_i32_13
  let c1_i32_19 : BitVec 32 := 1#32
  let v45 : BitVec 32 := Scalar.subi v30 c1_i32_19
  let v46 : BitVec 32 := Scalar.select v44 v45 v30
  let c4_i32_20 : BitVec 32 := 4#32
  let v47 : BitVec 32 := Scalar.muli v46 c4_i32_20
  let c2_i32_23 : BitVec 32 := 2#32
  let v52 : BitVec 32 := Scalar.andi arg2 c2_i32_23
  let v53 : BitVec 32 := Scalar.addi v47 v52
  let c0_i32_593 : BitVec 32 := 0#32
  let v1361 : BitVec 32 := Scalar.addi v53 c0_i32_593
  let c512_i32_594 : BitVec 32 := 512#32
  let v1362 : BitVec 32 := Scalar.muli v1361 c512_i32_594
  let v1363 : BitVec 32 := v1362
  let v1868 : Index := Scalar.indexCast v1363
  let c0_852 : Index := 0#32
  ![4, v1868.toNat, 0]
def k0_off44 (i : grid0.Coords) : Fin 3 → Nat :=
  let c2_853 : Index := 2#32
  let arg2 : BitVec 32 := BitVec.ofNat 32 (i 2).val
  let c0_i32_14 : BitVec 32 := 0#32
  let v31 : BitVec 1 := Scalar.cmpi .sgt arg2 c0_i32_14
  let v32 : BitVec 32 := Scalar.extui v31
  let c0_i32_15 : BitVec 32 := 0#32
  let v33 : BitVec 1 := Scalar.cmpi .slt arg2 c0_i32_15
  let v34 : BitVec 32 := Scalar.extui v33
  let v35 : BitVec 32 := Scalar.subi v32 v34
  let c4_i32_13 : BitVec 32 := 4#32
  let c0_i32_16 : BitVec 32 := 0#32
  let v36 : BitVec 1 := Scalar.cmpi .sgt c4_i32_13 c0_i32_16
  let v37 : BitVec 32 := Scalar.extui v36
  let c0_i32_17 : BitVec 32 := 0#32
  let v38 : BitVec 1 := Scalar.cmpi .slt c4_i32_13 c0_i32_17
  let v39 : BitVec 32 := Scalar.extui v38
  let v40 : BitVec 32 := Scalar.subi v37 v39
  let v41 : BitVec 1 := Scalar.cmpi .ne v35 v40
  let v42 : BitVec 32 := Scalar.remsi arg2 c4_i32_13
  let c0_i32_18 : BitVec 32 := 0#32
  let v43 : BitVec 1 := Scalar.cmpi .ne v42 c0_i32_18
  let v44 : BitVec 1 := Scalar.andi v41 v43
  let v30 : BitVec 32 := Scalar.divsi arg2 c4_i32_13
  let c1_i32_19 : BitVec 32 := 1#32
  let v45 : BitVec 32 := Scalar.subi v30 c1_i32_19
  let v46 : BitVec 32 := Scalar.select v44 v45 v30
  let c4_i32_20 : BitVec 32 := 4#32
  let v47 : BitVec 32 := Scalar.muli v46 c4_i32_20
  let c2_i32_23 : BitVec 32 := 2#32
  let v52 : BitVec 32 := Scalar.andi arg2 c2_i32_23
  let v53 : BitVec 32 := Scalar.addi v47 v52
  let c0_i32_593 : BitVec 32 := 0#32
  let v1361 : BitVec 32 := Scalar.addi v53 c0_i32_593
  let c512_i32_594 : BitVec 32 := 512#32
  let v1362 : BitVec 32 := Scalar.muli v1361 c512_i32_594
  let v1363 : BitVec 32 := v1362
  let v1871 : Index := Scalar.indexCast v1363
  let c0_854 : Index := 0#32
  ![2, v1871.toNat, 0]
def k0_off45 (i : grid0.Coords) : Fin 3 → Nat :=
  let c5_915 : Index := 5#32
  let arg2 : BitVec 32 := BitVec.ofNat 32 (i 2).val
  let c0_i32_14 : BitVec 32 := 0#32
  let v31 : BitVec 1 := Scalar.cmpi .sgt arg2 c0_i32_14
  let v32 : BitVec 32 := Scalar.extui v31
  let c0_i32_15 : BitVec 32 := 0#32
  let v33 : BitVec 1 := Scalar.cmpi .slt arg2 c0_i32_15
  let v34 : BitVec 32 := Scalar.extui v33
  let v35 : BitVec 32 := Scalar.subi v32 v34
  let c4_i32_13 : BitVec 32 := 4#32
  let c0_i32_16 : BitVec 32 := 0#32
  let v36 : BitVec 1 := Scalar.cmpi .sgt c4_i32_13 c0_i32_16
  let v37 : BitVec 32 := Scalar.extui v36
  let c0_i32_17 : BitVec 32 := 0#32
  let v38 : BitVec 1 := Scalar.cmpi .slt c4_i32_13 c0_i32_17
  let v39 : BitVec 32 := Scalar.extui v38
  let v40 : BitVec 32 := Scalar.subi v37 v39
  let v41 : BitVec 1 := Scalar.cmpi .ne v35 v40
  let v42 : BitVec 32 := Scalar.remsi arg2 c4_i32_13
  let c0_i32_18 : BitVec 32 := 0#32
  let v43 : BitVec 1 := Scalar.cmpi .ne v42 c0_i32_18
  let v44 : BitVec 1 := Scalar.andi v41 v43
  let v30 : BitVec 32 := Scalar.divsi arg2 c4_i32_13
  let c1_i32_19 : BitVec 32 := 1#32
  let v45 : BitVec 32 := Scalar.subi v30 c1_i32_19
  let v46 : BitVec 32 := Scalar.select v44 v45 v30
  let c4_i32_20 : BitVec 32 := 4#32
  let v47 : BitVec 32 := Scalar.muli v46 c4_i32_20
  let c2_i32_23 : BitVec 32 := 2#32
  let v52 : BitVec 32 := Scalar.andi arg2 c2_i32_23
  let v53 : BitVec 32 := Scalar.addi v47 v52
  let c0_i32_593 : BitVec 32 := 0#32
  let v1361 : BitVec 32 := Scalar.addi v53 c0_i32_593
  let c512_i32_594 : BitVec 32 := 512#32
  let v1362 : BitVec 32 := Scalar.muli v1361 c512_i32_594
  let v1363 : BitVec 32 := v1362
  let v1994 : Index := Scalar.indexCast v1363
  let c0_916 : Index := 0#32
  ![5, v1994.toNat, 0]
def k0_off46 (i : grid0.Coords) : Fin 3 → Nat :=
  let c6_979 : Index := 6#32
  let arg2 : BitVec 32 := BitVec.ofNat 32 (i 2).val
  let c0_i32_14 : BitVec 32 := 0#32
  let v31 : BitVec 1 := Scalar.cmpi .sgt arg2 c0_i32_14
  let v32 : BitVec 32 := Scalar.extui v31
  let c0_i32_15 : BitVec 32 := 0#32
  let v33 : BitVec 1 := Scalar.cmpi .slt arg2 c0_i32_15
  let v34 : BitVec 32 := Scalar.extui v33
  let v35 : BitVec 32 := Scalar.subi v32 v34
  let c4_i32_13 : BitVec 32 := 4#32
  let c0_i32_16 : BitVec 32 := 0#32
  let v36 : BitVec 1 := Scalar.cmpi .sgt c4_i32_13 c0_i32_16
  let v37 : BitVec 32 := Scalar.extui v36
  let c0_i32_17 : BitVec 32 := 0#32
  let v38 : BitVec 1 := Scalar.cmpi .slt c4_i32_13 c0_i32_17
  let v39 : BitVec 32 := Scalar.extui v38
  let v40 : BitVec 32 := Scalar.subi v37 v39
  let v41 : BitVec 1 := Scalar.cmpi .ne v35 v40
  let v42 : BitVec 32 := Scalar.remsi arg2 c4_i32_13
  let c0_i32_18 : BitVec 32 := 0#32
  let v43 : BitVec 1 := Scalar.cmpi .ne v42 c0_i32_18
  let v44 : BitVec 1 := Scalar.andi v41 v43
  let v30 : BitVec 32 := Scalar.divsi arg2 c4_i32_13
  let c1_i32_19 : BitVec 32 := 1#32
  let v45 : BitVec 32 := Scalar.subi v30 c1_i32_19
  let v46 : BitVec 32 := Scalar.select v44 v45 v30
  let c4_i32_20 : BitVec 32 := 4#32
  let v47 : BitVec 32 := Scalar.muli v46 c4_i32_20
  let c2_i32_23 : BitVec 32 := 2#32
  let v52 : BitVec 32 := Scalar.andi arg2 c2_i32_23
  let v53 : BitVec 32 := Scalar.addi v47 v52
  let c0_i32_593 : BitVec 32 := 0#32
  let v1361 : BitVec 32 := Scalar.addi v53 c0_i32_593
  let c512_i32_594 : BitVec 32 := 512#32
  let v1362 : BitVec 32 := Scalar.muli v1361 c512_i32_594
  let v1363 : BitVec 32 := v1362
  let v2120 : Index := Scalar.indexCast v1363
  let c0_980 : Index := 0#32
  ![6, v2120.toNat, 0]
def k0_off47 (i : grid0.Coords) : Fin 3 → Nat :=
  let c3_981 : Index := 3#32
  let arg2 : BitVec 32 := BitVec.ofNat 32 (i 2).val
  let c0_i32_14 : BitVec 32 := 0#32
  let v31 : BitVec 1 := Scalar.cmpi .sgt arg2 c0_i32_14
  let v32 : BitVec 32 := Scalar.extui v31
  let c0_i32_15 : BitVec 32 := 0#32
  let v33 : BitVec 1 := Scalar.cmpi .slt arg2 c0_i32_15
  let v34 : BitVec 32 := Scalar.extui v33
  let v35 : BitVec 32 := Scalar.subi v32 v34
  let c4_i32_13 : BitVec 32 := 4#32
  let c0_i32_16 : BitVec 32 := 0#32
  let v36 : BitVec 1 := Scalar.cmpi .sgt c4_i32_13 c0_i32_16
  let v37 : BitVec 32 := Scalar.extui v36
  let c0_i32_17 : BitVec 32 := 0#32
  let v38 : BitVec 1 := Scalar.cmpi .slt c4_i32_13 c0_i32_17
  let v39 : BitVec 32 := Scalar.extui v38
  let v40 : BitVec 32 := Scalar.subi v37 v39
  let v41 : BitVec 1 := Scalar.cmpi .ne v35 v40
  let v42 : BitVec 32 := Scalar.remsi arg2 c4_i32_13
  let c0_i32_18 : BitVec 32 := 0#32
  let v43 : BitVec 1 := Scalar.cmpi .ne v42 c0_i32_18
  let v44 : BitVec 1 := Scalar.andi v41 v43
  let v30 : BitVec 32 := Scalar.divsi arg2 c4_i32_13
  let c1_i32_19 : BitVec 32 := 1#32
  let v45 : BitVec 32 := Scalar.subi v30 c1_i32_19
  let v46 : BitVec 32 := Scalar.select v44 v45 v30
  let c4_i32_20 : BitVec 32 := 4#32
  let v47 : BitVec 32 := Scalar.muli v46 c4_i32_20
  let c2_i32_23 : BitVec 32 := 2#32
  let v52 : BitVec 32 := Scalar.andi arg2 c2_i32_23
  let v53 : BitVec 32 := Scalar.addi v47 v52
  let c0_i32_593 : BitVec 32 := 0#32
  let v1361 : BitVec 32 := Scalar.addi v53 c0_i32_593
  let c512_i32_594 : BitVec 32 := 512#32
  let v1362 : BitVec 32 := Scalar.muli v1361 c512_i32_594
  let v1363 : BitVec 32 := v1362
  let v2123 : Index := Scalar.indexCast v1363
  let c0_982 : Index := 0#32
  ![3, v2123.toNat, 0]
def k0_off48 (i : grid0.Coords) : Fin 3 → Nat :=
  let c7_1043 : Index := 7#32
  let arg2 : BitVec 32 := BitVec.ofNat 32 (i 2).val
  let c0_i32_14 : BitVec 32 := 0#32
  let v31 : BitVec 1 := Scalar.cmpi .sgt arg2 c0_i32_14
  let v32 : BitVec 32 := Scalar.extui v31
  let c0_i32_15 : BitVec 32 := 0#32
  let v33 : BitVec 1 := Scalar.cmpi .slt arg2 c0_i32_15
  let v34 : BitVec 32 := Scalar.extui v33
  let v35 : BitVec 32 := Scalar.subi v32 v34
  let c4_i32_13 : BitVec 32 := 4#32
  let c0_i32_16 : BitVec 32 := 0#32
  let v36 : BitVec 1 := Scalar.cmpi .sgt c4_i32_13 c0_i32_16
  let v37 : BitVec 32 := Scalar.extui v36
  let c0_i32_17 : BitVec 32 := 0#32
  let v38 : BitVec 1 := Scalar.cmpi .slt c4_i32_13 c0_i32_17
  let v39 : BitVec 32 := Scalar.extui v38
  let v40 : BitVec 32 := Scalar.subi v37 v39
  let v41 : BitVec 1 := Scalar.cmpi .ne v35 v40
  let v42 : BitVec 32 := Scalar.remsi arg2 c4_i32_13
  let c0_i32_18 : BitVec 32 := 0#32
  let v43 : BitVec 1 := Scalar.cmpi .ne v42 c0_i32_18
  let v44 : BitVec 1 := Scalar.andi v41 v43
  let v30 : BitVec 32 := Scalar.divsi arg2 c4_i32_13
  let c1_i32_19 : BitVec 32 := 1#32
  let v45 : BitVec 32 := Scalar.subi v30 c1_i32_19
  let v46 : BitVec 32 := Scalar.select v44 v45 v30
  let c4_i32_20 : BitVec 32 := 4#32
  let v47 : BitVec 32 := Scalar.muli v46 c4_i32_20
  let c2_i32_23 : BitVec 32 := 2#32
  let v52 : BitVec 32 := Scalar.andi arg2 c2_i32_23
  let v53 : BitVec 32 := Scalar.addi v47 v52
  let c0_i32_593 : BitVec 32 := 0#32
  let v1361 : BitVec 32 := Scalar.addi v53 c0_i32_593
  let c512_i32_594 : BitVec 32 := 512#32
  let v1362 : BitVec 32 := Scalar.muli v1361 c512_i32_594
  let v1363 : BitVec 32 := v1362
  let v2246 : Index := Scalar.indexCast v1363
  let c0_1044 : Index := 0#32
  ![7, v2246.toNat, 0]
def k0_mult12 (i : grid0.Coords) : BitVec 32 :=
  let arg2 : BitVec 32 := BitVec.ofNat 32 (i 2).val
  let c512_i32 : BitVec 32 := 512#32
  let v58 : BitVec 32 := Scalar.muli arg2 c512_i32
  v58
def k0_off49 (i : grid0.Coords) : Fin 3 → Nat :=
  let c0_27 : Index := 0#32
  let arg2 : BitVec 32 := BitVec.ofNat 32 (i 2).val
  let c512_i32 : BitVec 32 := 512#32
  let v58 : BitVec 32 := Scalar.muli arg2 c512_i32
  let v59 : BitVec 32 := v58
  let v60 : Index := Scalar.indexCast v59
  let c0_28 : Index := 0#32
  ![0, v60.toNat, 0]
def k0_off50 (i : grid0.Coords) : Fin 3 → Nat :=
  let c0_29 : Index := 0#32
  let arg2 : BitVec 32 := BitVec.ofNat 32 (i 2).val
  let c512_i32 : BitVec 32 := 512#32
  let v58 : BitVec 32 := Scalar.muli arg2 c512_i32
  let v59 : BitVec 32 := v58
  let v63 : Index := Scalar.indexCast v59
  let c0_30 : Index := 0#32
  ![0, v63.toNat, 0]
def k0_off51 (i : grid0.Coords) : Fin 3 → Nat :=
  let c1 : Index := 1#32
  let arg2 : BitVec 32 := BitVec.ofNat 32 (i 2).val
  let c512_i32 : BitVec 32 := 512#32
  let v58 : BitVec 32 := Scalar.muli arg2 c512_i32
  let v59 : BitVec 32 := v58
  let v214 : Index := Scalar.indexCast v59
  let c0_93 : Index := 0#32
  ![1, v214.toNat, 0]
def k0_off52 (i : grid0.Coords) : Fin 3 → Nat :=
  let c2 : Index := 2#32
  let arg2 : BitVec 32 := BitVec.ofNat 32 (i 2).val
  let c512_i32 : BitVec 32 := 512#32
  let v58 : BitVec 32 := Scalar.muli arg2 c512_i32
  let v59 : BitVec 32 := v58
  let v368 : Index := Scalar.indexCast v59
  let c0_160 : Index := 0#32
  ![2, v368.toNat, 0]
def k0_off53 (i : grid0.Coords) : Fin 3 → Nat :=
  let c1_161 : Index := 1#32
  let arg2 : BitVec 32 := BitVec.ofNat 32 (i 2).val
  let c512_i32 : BitVec 32 := 512#32
  let v58 : BitVec 32 := Scalar.muli arg2 c512_i32
  let v59 : BitVec 32 := v58
  let v371 : Index := Scalar.indexCast v59
  let c0_162 : Index := 0#32
  ![1, v371.toNat, 0]
def k0_off54 (i : grid0.Coords) : Fin 3 → Nat :=
  let c3 : Index := 3#32
  let arg2 : BitVec 32 := BitVec.ofNat 32 (i 2).val
  let c512_i32 : BitVec 32 := 512#32
  let v58 : BitVec 32 := Scalar.muli arg2 c512_i32
  let v59 : BitVec 32 := v58
  let v522 : Index := Scalar.indexCast v59
  let c0_227 : Index := 0#32
  ![3, v522.toNat, 0]
def k0_off55 (i : grid0.Coords) : Fin 3 → Nat :=
  let c4 : Index := 4#32
  let arg2 : BitVec 32 := BitVec.ofNat 32 (i 2).val
  let c512_i32 : BitVec 32 := 512#32
  let v58 : BitVec 32 := Scalar.muli arg2 c512_i32
  let v59 : BitVec 32 := v58
  let v676 : Index := Scalar.indexCast v59
  let c0_294 : Index := 0#32
  ![4, v676.toNat, 0]
def k0_off56 (i : grid0.Coords) : Fin 3 → Nat :=
  let c2_295 : Index := 2#32
  let arg2 : BitVec 32 := BitVec.ofNat 32 (i 2).val
  let c512_i32 : BitVec 32 := 512#32
  let v58 : BitVec 32 := Scalar.muli arg2 c512_i32
  let v59 : BitVec 32 := v58
  let v679 : Index := Scalar.indexCast v59
  let c0_296 : Index := 0#32
  ![2, v679.toNat, 0]
def k0_off57 (i : grid0.Coords) : Fin 3 → Nat :=
  let c5 : Index := 5#32
  let arg2 : BitVec 32 := BitVec.ofNat 32 (i 2).val
  let c512_i32 : BitVec 32 := 512#32
  let v58 : BitVec 32 := Scalar.muli arg2 c512_i32
  let v59 : BitVec 32 := v58
  let v830 : Index := Scalar.indexCast v59
  let c0_361 : Index := 0#32
  ![5, v830.toNat, 0]
def k0_off58 (i : grid0.Coords) : Fin 3 → Nat :=
  let c6 : Index := 6#32
  let arg2 : BitVec 32 := BitVec.ofNat 32 (i 2).val
  let c512_i32 : BitVec 32 := 512#32
  let v58 : BitVec 32 := Scalar.muli arg2 c512_i32
  let v59 : BitVec 32 := v58
  let v984 : Index := Scalar.indexCast v59
  let c0_428 : Index := 0#32
  ![6, v984.toNat, 0]
def k0_off59 (i : grid0.Coords) : Fin 3 → Nat :=
  let c3_429 : Index := 3#32
  let arg2 : BitVec 32 := BitVec.ofNat 32 (i 2).val
  let c512_i32 : BitVec 32 := 512#32
  let v58 : BitVec 32 := Scalar.muli arg2 c512_i32
  let v59 : BitVec 32 := v58
  let v987 : Index := Scalar.indexCast v59
  let c0_430 : Index := 0#32
  ![3, v987.toNat, 0]
def k0_off60 (i : grid0.Coords) : Fin 3 → Nat :=
  let c7 : Index := 7#32
  let arg2 : BitVec 32 := BitVec.ofNat 32 (i 2).val
  let c512_i32 : BitVec 32 := 512#32
  let v58 : BitVec 32 := Scalar.muli arg2 c512_i32
  let v59 : BitVec 32 := v58
  let v1138 : Index := Scalar.indexCast v59
  let c0_495 : Index := 0#32
  ![7, v1138.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![arg1.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S8x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S8x8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false]

abbrev stage0_2 : Fin 1 → Memref sig .tc .vmem S4x8192x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "m_init" => some ⊥
  | "scale" => some (((Real.sqrt 96)⁻¹ * (Real.log 2)⁻¹ : ℝ) : EReal)
  | _ => none
-- ==== ReferenceIdeal.lean ====
abbrev S8x32768x128 : Shape := ⟨3, ![8, 32768, 128]⟩
abbrev S4x32768x128 : Shape := ⟨3, ![4, 32768, 128]⟩
abbrev S32768x512 : Shape := ⟨2, ![32768, 512]⟩
abbrev S8x4x8192x128 : Shape := ⟨4, ![8, 4, 8192, 128]⟩
abbrev S4x4x8192x2x64 : Shape := ⟨5, ![4, 4, 8192, 2, 64]⟩
abbrev S_ : Shape := ⟨0, ![]⟩
abbrev S8x4x8192x8192 : Shape := ⟨4, ![8, 4, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x1x8192x8192 : Shape := ⟨4, ![1, 1, 8192, 8192]⟩
abbrev S8x4x8192 : Shape := ⟨3, ![8, 4, 8192]⟩
abbrev S8x4x8192x1 : Shape := ⟨4, ![8, 4, 8192, 1]⟩
abbrev S4x2x4x8192x64 : Shape := ⟨5, ![4, 2, 4, 8192, 64]⟩
abbrev S8x4x8192x64 : Shape := ⟨4, ![8, 4, 8192, 64]⟩
abbrev S4x8x64x8192 : Shape := ⟨4, ![4, 8, 64, 8192]⟩
abbrev S4x8192x8x64 : Shape := ⟨4, ![4, 8192, 8, 64]⟩

abbrev nBuf : Space → Nat
  | .hbm => 64
  | .vmem => 0
  | .smem => 0
  | _ => 0

abbrev bufTy : (tb : Table) → Fin (tcTables nBuf tb) → BufTy
  | .hbm, ⟨0, _⟩ => ⟨S8x32768x128, .f32⟩
  | .hbm, ⟨1, _⟩ => ⟨S8x32768x128, .f32⟩
  | .hbm, ⟨2, _⟩ => ⟨S4x32768x128, .f32⟩
  | .hbm, ⟨3, _⟩ => ⟨S32768x512, .f32⟩
  | .hbm, ⟨4, _⟩ => ⟨S8x4x8192x128, .f32⟩
  | .hbm, ⟨5, _⟩ => ⟨S8x4x8192x128, .f32⟩
  | .hbm, ⟨6, _⟩ => ⟨S4x4x8192x2x64, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8x4x8192x8192, .f32⟩
  | .hbm, ⟨12, _⟩ => ⟨S8x4x8192x8192, .f32⟩
  | .hbm, ⟨13, _⟩ => ⟨S8x4x8192x8192, .f32⟩
  | .hbm, ⟨14, _⟩ => ⟨S8192, .i32⟩
  | .hbm, ⟨15, _⟩ => ⟨S1x8192, .i32⟩
  | .hbm, ⟨16, _⟩ => ⟨S8192x1, .i32⟩
  | .hbm, ⟨17, _⟩ => ⟨S8192x8192, .i32⟩
  | .hbm, ⟨18, _⟩ => ⟨S8192x8192, .i32⟩
  | .hbm, ⟨19, _⟩ => ⟨S8192x8192, .i1⟩
  | .hbm, ⟨20, _⟩ => ⟨S1x1x8192x8192, .i1⟩
  | .hbm, ⟨21, _⟩ => ⟨S_, .f32⟩
  | .hbm, ⟨22, _⟩ => ⟨S_, .f32⟩
  | .hbm, ⟨23, _⟩ => ⟨S8x4x8192x8192, .i1⟩
  | .hbm, ⟨24, _⟩ => ⟨S8x4x8192x8192, .f32⟩
  | .hbm, ⟨25, _⟩ => ⟨S8x4x8192x8192, .f32⟩
  | .hbm, ⟨26, _⟩ => ⟨S_, .f32⟩
  | .hbm, ⟨27, _⟩ => ⟨S8x4x8192, .f32⟩
  | .hbm, ⟨28, _⟩ => ⟨S8x4x8192x1, .f32⟩
  | .hbm, ⟨29, _⟩ => ⟨S8x4x8192x1, .f32⟩
  | .hbm, ⟨30, _⟩ => ⟨S_, .f32⟩
  | .hbm, ⟨31, _⟩ => ⟨S8x4x8192x1, .f32⟩
  | .hbm, ⟨32, _⟩ => ⟨S8x4x8192x1, .i1⟩
  | .hbm, ⟨33, _⟩ => ⟨S_, .f32⟩
  | .hbm, ⟨34, _⟩ => ⟨S_, .f32⟩
  | .hbm, ⟨35, _⟩ => ⟨S8x4x8192x1, .f32⟩
  | .hbm, ⟨36, _⟩ => ⟨S8x4x8192x1, .f32⟩
  | .hbm, ⟨37, _⟩ => ⟨S8x4x8192x8192, .f32⟩
  | .hbm, ⟨38, _⟩ => ⟨S8x4x8192x8192, .f32⟩
  | .hbm, ⟨39, _⟩ => ⟨S8x4x8192x8192, .f32⟩
  | .hbm, ⟨40, _⟩ => ⟨S_, .f32⟩
  | .hbm, ⟨41, _⟩ => ⟨S8x4x8192, .f32⟩
  | .hbm, ⟨42, _⟩ => ⟨S8x4x8192x1, .f32⟩
  | .hbm, ⟨43, _⟩ => ⟨S_, .f32⟩
  | .hbm, ⟨44, _⟩ => ⟨S8x4x8192x1, .f32⟩
  | .hbm, ⟨45, _⟩ => ⟨S8x4x8192x1, .f32⟩
  | .hbm, ⟨46, _⟩ => ⟨S8x4x8192x8192, .f32⟩
  | .hbm, ⟨47, _⟩ => ⟨S8x4x8192x8192, .f32⟩
  | .hbm, ⟨48, _⟩ => ⟨S4x2x4x8192x64, .f32⟩
  | .hbm, ⟨49, _⟩ => ⟨S8x4x8192x64, .f32⟩
  | .hbm, ⟨50, _⟩ => ⟨S4x8x64x8192, .f32⟩
  | .hbm, ⟨51, _⟩ => ⟨S4x8192x8x64, .f32⟩
  | .hbm, ⟨52, _⟩ => ⟨S32768x512, .f32⟩
  | .hbm, ⟨53, _⟩ => ⟨S32768x512, .f32⟩
  | .hbm, ⟨54, _⟩ => ⟨S32768x512, .f32⟩
  | .hbm, ⟨55, _⟩ => ⟨S_, .f32⟩
  | .hbm, ⟨56, _⟩ => ⟨S32768x512, .f32⟩
  | .hbm, ⟨57, _⟩ => ⟨S32768x512, .f32⟩
  | .hbm, ⟨58, _⟩ => ⟨S_, .f32⟩
  | .hbm, ⟨59, _⟩ => ⟨S32768x512, .f32⟩
  | .hbm, ⟨60, _⟩ => ⟨S32768x512, .f32⟩
  | .hbm, ⟨61, _⟩ => ⟨S32768x512, .f32⟩
  | .hbm, ⟨62, _⟩ => ⟨S32768x512, .f32⟩
  | .hbm, ⟨63, _⟩ => ⟨S32768x512, .bf16⟩
  | _, _ => ⟨S8x32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_call1_v0 : Ref sig .tc := ⟨.hbm, 34, rfl⟩
abbrev main_call1_v1 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_call2_v0 : Ref sig .tc := ⟨.hbm, 53, rfl⟩
abbrev main_call2_v1 : Ref sig .tc := ⟨.hbm, 54, rfl⟩
abbrev main_call2_cst : Ref sig .tc := ⟨.hbm, 55, rfl⟩
abbrev main_call2_v2 : Ref sig .tc := ⟨.hbm, 56, rfl⟩
abbrev main_call2_v3 : Ref sig .tc := ⟨.hbm, 57, rfl⟩
abbrev main_call2_cst_0 : Ref sig .tc := ⟨.hbm, 58, rfl⟩
abbrev main_call2_v4 : Ref sig .tc := ⟨.hbm, 59, rfl⟩
abbrev main_call2_v5 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩

abbrev nD : Nat := 1
abbrev τ : Topo := Topo.v7x

variable {F : FTy → Type} [FloatOps F]
-- ==== Kernel2.lean ====
abbrev S32768x1024 : Shape := ⟨2, ![32768, 1024]⟩
abbrev S32768x512 : Shape := ⟨2, ![32768, 512]⟩
abbrev S1024x1024 : Shape := ⟨2, ![1024, 1024]⟩
abbrev S1024 : Shape := ⟨1, ![1024]⟩
abbrev S1024x2944 : Shape := ⟨2, ![1024, 2944]⟩
abbrev S8192x128 : Shape := ⟨2, ![8192, 128]⟩
abbrev S8x128 : Shape := ⟨2, ![8, 128]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S256x128 : Shape := ⟨2, ![256, 128]⟩
abbrev S1x1024 : Shape := ⟨2, ![1, 1024]⟩
abbrev S8x32768x128 : Shape := ⟨3, ![8, 32768, 128]⟩
abbrev S32768x128 : Shape := ⟨2, ![32768, 128]⟩
abbrev S32768x256 : Shape := ⟨2, ![32768, 256]⟩
abbrev S512x1024 : Shape := ⟨2, ![512, 1024]⟩
abbrev S512x512 : Shape := ⟨2, ![512, 512]⟩
abbrev S512x128 : Shape := ⟨2, ![512, 128]⟩
abbrev S8x512x128 : Shape := ⟨3, ![8, 512, 128]⟩
abbrev S512x256 : Shape := ⟨2, ![512, 256]⟩
abbrev S512 : Shape := ⟨1, ![512]⟩
abbrev S512x1 : Shape := ⟨2, ![512, 1]⟩
abbrev S1024x512 : Shape := ⟨2, ![1024, 512]⟩
abbrev S1x512x128 : Shape := ⟨3, ![1, 512, 128]⟩
abbrev S1024x128 : Shape := ⟨2, ![1024, 128]⟩
abbrev S1024x256 : Shape := ⟨2, ![1024, 256]⟩

abbrev nBuf : Space → Nat
  | .hbm => 53
  | .vmem => 45
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S1024, .f32⟩
  | .hbm, ⟨5, _⟩ => ⟨S1024x2944, .f32⟩
  | .hbm, ⟨6, _⟩ => ⟨S8192x128, .f32⟩
  | .hbm, ⟨7, _⟩ => ⟨S8192x128, .f32⟩
  | .hbm, ⟨8, _⟩ => ⟨S8192x128, .f32⟩
  | .hbm, ⟨9, _⟩ => ⟨S8x128, .f32⟩
  | .hbm, ⟨10, _⟩ => ⟨S128, .i32⟩
  | .hbm, ⟨11, _⟩ => ⟨S_, .i32⟩
  | .hbm, ⟨12, _⟩ => ⟨S_, .i32⟩
  | .hbm, ⟨13, _⟩ => ⟨S128, .i32⟩
  | .hbm, ⟨14, _⟩ => ⟨S128, .i32⟩
  | .hbm, ⟨15, _⟩ => ⟨S128, .i32⟩
  | .hbm, ⟨16, _⟩ => ⟨S_, .i32⟩
  | .hbm, ⟨17, _⟩ => ⟨S128, .i32⟩
  | .hbm, ⟨18, _⟩ => ⟨S128, .i1⟩
  | .hbm, ⟨19, _⟩ => ⟨S128, .i32⟩
  | .hbm, ⟨20, _⟩ => ⟨S128, .i32⟩
  | .hbm, ⟨21, _⟩ => ⟨S_, .i32⟩
  | .hbm, ⟨22, _⟩ => ⟨S128, .i32⟩
  | .hbm, ⟨23, _⟩ => ⟨S128, .i1⟩
  | .hbm, ⟨24, _⟩ => ⟨S128, .i1⟩
  | .hbm, ⟨25, _⟩ => ⟨S_, .i32⟩
  | .hbm, ⟨26, _⟩ => ⟨S128, .i32⟩
  | .hbm, ⟨27, _⟩ => ⟨S128, .i32⟩
  | .hbm, ⟨28, _⟩ => ⟨S128, .i32⟩
  | .hbm, ⟨29, _⟩ => ⟨S128x1, .i32⟩
  | .hbm, ⟨30, _⟩ => ⟨S1x128, .i32⟩
  | .hbm, ⟨31, _⟩ => ⟨S128x128, .i32⟩
  | .hbm, ⟨32, _⟩ => ⟨S128x128, .i32⟩
  | .hbm, ⟨33, _⟩ => ⟨S128x128, .i1⟩
  | .hbm, ⟨34, _⟩ => ⟨S128x128, .bf16⟩
  | .hbm, ⟨35, _⟩ => ⟨S256x128, .bf16⟩
  | .hbm, ⟨36, _⟩ => ⟨S1024x1024, .bf16⟩
  | .hbm, ⟨37, _⟩ => ⟨S1x1024, .f32⟩
  | .hbm, ⟨38, _⟩ => ⟨S1024x2944, .bf16⟩
  | .hbm, ⟨39, _⟩ => ⟨S32768x1024, .f32⟩
  | .hbm, ⟨40, _⟩ => ⟨S8x32768x128, .bf16⟩
  | .hbm, ⟨41, _⟩ => ⟨S32768x128, .f32⟩
  | .hbm, ⟨42, _⟩ => ⟨S32768x128, .f32⟩
  | .hbm, ⟨43, _⟩ => ⟨S32768x128, .bf16⟩
  | .hbm, ⟨44, _⟩ => ⟨S32768x256, .bf16⟩
  | .hbm, ⟨45, _⟩ => ⟨S32768x128, .bf16⟩
  | .hbm, ⟨46, _⟩ => ⟨S32768x256, .bf16⟩
  | .hbm, ⟨47, _⟩ => ⟨S32768x128, .f32⟩
  | .hbm, ⟨48, _⟩ => ⟨S32768x512, .f32⟩
  | .hbm, ⟨49, _⟩ => ⟨S32768x256, .f32⟩
  | .hbm, ⟨50, _⟩ => ⟨S32768x128, .f32⟩
  | .hbm, ⟨51, _⟩ => ⟨S32768x128, .f32⟩
  | .hbm, ⟨52, _⟩ => ⟨S32768x512, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S1024x2944, .bf16⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S256x128, .bf16⟩
  | .local _ .vmem, ⟨16, _⟩ => ⟨S8x128, .f32⟩
  | .local _ .vmem, ⟨17, _⟩ => ⟨S512x1024, .f32⟩
  | .local _ .vmem, ⟨18, _⟩ => ⟨S512x1024, .f32⟩
  | .local _ .vmem, ⟨19, _⟩ => ⟨S8x512x128, .bf16⟩
  | .local _ .vmem, ⟨20, _⟩ => ⟨S8x512x128, .bf16⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S512x128, .bf16⟩
  | .local _ .vmem, ⟨26, _⟩ => ⟨S512x128, .bf16⟩
  | .local _ .vmem, ⟨27, _⟩ => ⟨S512x256, .bf16⟩
  | .local _ .vmem, ⟨28, _⟩ => ⟨S512x256, .bf16⟩
  | .local _ .vmem, ⟨29, _⟩ => ⟨S512x128, .bf16⟩
  | .local _ .vmem, ⟨30, _⟩ => ⟨S512x128, .bf16⟩
  | .local _ .vmem, ⟨31, _⟩ => ⟨S512x256, .bf16⟩
  | .local _ .vmem, ⟨32, _⟩ => ⟨S512x256, .bf16⟩
  | .local _ .vmem, ⟨33, _⟩ => ⟨S512x128, .f32⟩
  | .local _ .vmem, ⟨34, _⟩ => ⟨S512x128, .f32⟩
  | .local _ .vmem, ⟨35, _⟩ => ⟨S512x512, .f32⟩
  | .local _ .vmem, ⟨36, _⟩ => ⟨S512x512, .f32⟩
  | .local _ .vmem, ⟨37, _⟩ => ⟨S512x256, .f32⟩
  | .local _ .vmem, ⟨38, _⟩ => ⟨S512x256, .f32⟩
  | .local _ .vmem, ⟨39, _⟩ => ⟨S512x128, .f32⟩
  | .local _ .vmem, ⟨40, _⟩ => ⟨S512x128, .f32⟩
  | .local _ .vmem, ⟨41, _⟩ => ⟨S512x128, .f32⟩
  | .local _ .vmem, ⟨42, _⟩ => ⟨S512x128, .f32⟩
  | .local _ .vmem, ⟨43, _⟩ => ⟨S512x512, .f32⟩
  | .local _ .vmem, ⟨44, _⟩ => ⟨S512x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12_0 : Ref sig .tc := ⟨.hbm, 39, rfl⟩
abbrev main_v12_1 : Ref sig .tc := ⟨.hbm, 40, rfl⟩
abbrev main_v12_2 : Ref sig .tc := ⟨.hbm, 41, rfl⟩
abbrev main_v12_3 : Ref sig .tc := ⟨.hbm, 42, rfl⟩
abbrev main_v12_4 : Ref sig .tc := ⟨.hbm, 43, rfl⟩
abbrev main_v12_5 : Ref sig .tc := ⟨.hbm, 44, rfl⟩
abbrev main_v12_6 : Ref sig .tc := ⟨.hbm, 45, rfl⟩
abbrev main_v12_7 : Ref sig .tc := ⟨.hbm, 46, rfl⟩
abbrev main_v12_8 : Ref sig .tc := ⟨.hbm, 47, rfl⟩
abbrev main_v12_9 : Ref sig .tc := ⟨.hbm, 48, rfl⟩
abbrev main_v12_10 : Ref sig .tc := ⟨.hbm, 49, rfl⟩
abbrev main_v12_11 : Ref sig .tc := ⟨.hbm, 50, rfl⟩
abbrev main_v12_12 : Ref sig .tc := ⟨.hbm, 51, rfl⟩
abbrev main_v12_13 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_stg20_0 : Ref sig .tc := ⟨.vmem, 35, rfl⟩
abbrev cc0_stg20_1 : Ref sig .tc := ⟨.vmem, 36, rfl⟩
abbrev cc0_stg21_0 : Ref sig .tc := ⟨.vmem, 37, rfl⟩
abbrev cc0_stg21_1 : Ref sig .tc := ⟨.vmem, 38, rfl⟩
abbrev cc0_stg22_0 : Ref sig .tc := ⟨.vmem, 39, rfl⟩
abbrev cc0_stg22_1 : Ref sig .tc := ⟨.vmem, 40, rfl⟩
abbrev cc0_stg23_0 : Ref sig .tc := ⟨.vmem, 41, rfl⟩
abbrev cc0_stg23_1 : Ref sig .tc := ⟨.vmem, 42, rfl⟩
abbrev cc0_stg24_0 : Ref sig .tc := ⟨.vmem, 43, rfl⟩
abbrev cc0_stg24_1 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem20_1 : DmaSem sig := 36
abbrev cc0_sem21_0 : DmaSem sig := 37
abbrev cc0_sem21_1 : DmaSem sig := 38
abbrev cc0_sem22_0 : DmaSem sig := 39
abbrev cc0_sem22_1 : DmaSem sig := 40
abbrev cc0_sem23_0 : DmaSem sig := 41
abbrev cc0_sem23_1 : DmaSem sig := 42
abbrev cc0_sem24_0 : DmaSem sig := 43
abbrev cc0_sem24_1 : DmaSem sig := 44

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2944 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S256x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S512x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S512x512 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]
-- ==== Reference2Ideal.lean ====
abbrev S32768x1024 : Shape := ⟨2, ![32768, 1024]⟩
abbrev S32768x512 : Shape := ⟨2, ![32768, 512]⟩
abbrev S1024x1024 : Shape := ⟨2, ![1024, 1024]⟩
abbrev S1024 : Shape := ⟨1, ![1024]⟩
abbrev S1024x2944 : Shape := ⟨2, ![1024, 2944]⟩
abbrev S8192x128 : Shape := ⟨2, ![8192, 128]⟩
abbrev S8x128 : Shape := ⟨2, ![8, 128]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2944 : Shape := ⟨2, ![32768, 2944]⟩
abbrev S32768x128 : Shape := ⟨2, ![32768, 128]⟩
abbrev S32768x256 : Shape := ⟨2, ![32768, 256]⟩

abbrev nBuf : Space → Nat
  | .hbm => 56
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S1024, .f32⟩
  | .hbm, ⟨5, _⟩ => ⟨S1024x2944, .f32⟩
  | .hbm, ⟨6, _⟩ => ⟨S8192x128, .f32⟩
  | .hbm, ⟨7, _⟩ => ⟨S8192x128, .f32⟩
  | .hbm, ⟨8, _⟩ => ⟨S8192x128, .f32⟩
  | .hbm, ⟨9, _⟩ => ⟨S8x128, .f32⟩
  | .hbm, ⟨10, _⟩ => ⟨S32768x512, .f32⟩
  | .hbm, ⟨11, _⟩ => ⟨S32768x512, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S_, .f32⟩
  | .hbm, ⟨17, _⟩ => ⟨S32768, .f32⟩
  | .hbm, ⟨18, _⟩ => ⟨S32768x1, .f32⟩
  | .hbm, ⟨19, _⟩ => ⟨S_, .f32⟩
  | .hbm, ⟨20, _⟩ => ⟨S32768x1, .f32⟩
  | .hbm, ⟨21, _⟩ => ⟨S32768x1, .f32⟩
  | .hbm, ⟨22, _⟩ => ⟨S_, .f32⟩
  | .hbm, ⟨23, _⟩ => ⟨S32768x1, .f32⟩
  | .hbm, ⟨24, _⟩ => ⟨S32768x1, .f32⟩
  | .hbm, ⟨25, _⟩ => ⟨S32768x1, .f32⟩
  | .hbm, ⟨26, _⟩ => ⟨S32768x1024, .f32⟩
  | .hbm, ⟨27, _⟩ => ⟨S32768x1024, .f32⟩
  | .hbm, ⟨28, _⟩ => ⟨S1x1024, .f32⟩
  | .hbm, ⟨29, _⟩ => ⟨S32768x1024, .f32⟩
  | .hbm, ⟨30, _⟩ => ⟨S32768x1024, .f32⟩
  | .hbm, ⟨31, _⟩ => ⟨S32768x2944, .f32⟩
  | .hbm, ⟨32, _⟩ => ⟨S32768x128, .f32⟩
  | .hbm, ⟨33, _⟩ => ⟨S32768x128, .f32⟩
  | .hbm, ⟨34, _⟩ => ⟨S_, .f32⟩
  | .hbm, ⟨35, _⟩ => ⟨S32768x128, .f32⟩
  | .hbm, ⟨36, _⟩ => ⟨S32768x128, .f32⟩
  | .hbm, ⟨37, _⟩ => ⟨S32768x128, .f32⟩
  | .hbm, ⟨38, _⟩ => ⟨S32768x256, .f32⟩
  | .hbm, ⟨39, _⟩ => ⟨S32768x256, .bf16⟩
  | .hbm, ⟨40, _⟩ => ⟨S32768x256, .f32⟩
  | .hbm, ⟨41, _⟩ => ⟨S32768x256, .bf16⟩
  | .hbm, ⟨42, _⟩ => ⟨S32768x128, .f32⟩
  | .hbm, ⟨43, _⟩ => ⟨S32768x128, .f32⟩
  | .hbm, ⟨44, _⟩ => ⟨S32768x128, .f32⟩
  | .hbm, ⟨45, _⟩ => ⟨S_, .f32⟩
  | .hbm, ⟨46, _⟩ => ⟨S32768x128, .f32⟩
  | .hbm, ⟨47, _⟩ => ⟨S32768x128, .f32⟩
  | .hbm, ⟨48, _⟩ => ⟨S_, .f32⟩
  | .hbm, ⟨49, _⟩ => ⟨S32768x128, .f32⟩
  | .hbm, ⟨50, _⟩ => ⟨S32768x128, .f32⟩
  | .hbm, ⟨51, _⟩ => ⟨S32768x512, .f32⟩
  | .hbm, ⟨52, _⟩ => ⟨S32768x256, .f32⟩
  | .hbm, ⟨53, _⟩ => ⟨S32768x128, .f32⟩
  | .hbm, ⟨54, _⟩ => ⟨S32768x128, .f32⟩
  | .hbm, ⟨55, _⟩ => ⟨S32768x512, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]
-- ==== Kernel3.lean ====
abbrev S32768x1024 : Shape := ⟨2, ![32768, 1024]⟩
abbrev S32768x512 : Shape := ⟨2, ![32768, 512]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 6
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S1024x1024, .bf16⟩
  | .hbm, ⟨5, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1024x1024, .f32⟩
  | .local _ .vmem, ⟨8, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S32768x1024 : Shape := ⟨2, ![32768, 1024]⟩
abbrev S32768x512 : Shape := ⟨2, ![32768, 512]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S32768x512, .f32⟩
  | .hbm, ⟨5, _⟩ => ⟨S32768x512, .f32⟩
  | .hbm, ⟨6, _⟩ => ⟨S32768x1024, .f32⟩
  | .hbm, ⟨7, _⟩ => ⟨S32768x1024, .f32⟩
  | .hbm, ⟨8, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel4.lean ====
abbrev S32768x1024 : Shape := ⟨2, ![32768, 1024]⟩
abbrev S1024 : Shape := ⟨1, ![1024]⟩
abbrev S1024x2944 : Shape := ⟨2, ![1024, 2944]⟩
abbrev S8192x32 : Shape := ⟨2, ![8192, 32]⟩
abbrev S8x128 : Shape := ⟨2, ![8, 128]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S256x128 : Shape := ⟨2, ![256, 128]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S1x1024 : Shape := ⟨2, ![1, 1024]⟩
abbrev S8x32768x128 : Shape := ⟨3, ![8, 32768, 128]⟩
abbrev S32768x128 : Shape := ⟨2, ![32768, 128]⟩
abbrev S32768x256 : Shape := ⟨2, ![32768, 256]⟩
abbrev S4x32768x128 : Shape := ⟨3, ![4, 32768, 128]⟩
abbrev S32768x512 : Shape := ⟨2, ![32768, 512]⟩
abbrev S1024x1024 : Shape := ⟨2, ![1024, 1024]⟩
abbrev S1024x128 : Shape := ⟨2, ![1024, 128]⟩
abbrev S8x1024x128 : Shape := ⟨3, ![8, 1024, 128]⟩
abbrev S1024x256 : Shape := ⟨2, ![1024, 256]⟩
abbrev S4x1024x128 : Shape := ⟨3, ![4, 1024, 128]⟩
abbrev S1024x512 : Shape := ⟨2, ![1024, 512]⟩
abbrev S1024x1 : Shape := ⟨2, ![1024, 1]⟩
abbrev S1x1024x128 : Shape := ⟨3, ![1, 1024, 128]⟩

abbrev nBuf : Space → Nat
  | .hbm => 60
  | .vmem => 34
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2944, .f32⟩
  | .hbm, ⟨3, _⟩ => ⟨S8192x32, .f32⟩
  | .hbm, ⟨4, _⟩ => ⟨S8192x32, .f32⟩
  | .hbm, ⟨5, _⟩ => ⟨S8x128, .f32⟩
  | .hbm, ⟨6, _⟩ => ⟨S128, .i32⟩
  | .hbm, ⟨7, _⟩ => ⟨S_, .i32⟩
  | .hbm, ⟨8, _⟩ => ⟨S_, .i32⟩
  | .hbm, ⟨9, _⟩ => ⟨S128, .i32⟩
  | .hbm, ⟨10, _⟩ => ⟨S128, .i32⟩
  | .hbm, ⟨11, _⟩ => ⟨S128, .i32⟩
  | .hbm, ⟨12, _⟩ => ⟨S_, .i32⟩
  | .hbm, ⟨13, _⟩ => ⟨S128, .i32⟩
  | .hbm, ⟨14, _⟩ => ⟨S128, .i1⟩
  | .hbm, ⟨15, _⟩ => ⟨S128, .i32⟩
  | .hbm, ⟨16, _⟩ => ⟨S128, .i32⟩
  | .hbm, ⟨17, _⟩ => ⟨S_, .i32⟩
  | .hbm, ⟨18, _⟩ => ⟨S128, .i32⟩
  | .hbm, ⟨19, _⟩ => ⟨S128, .i1⟩
  | .hbm, ⟨20, _⟩ => ⟨S128, .i1⟩
  | .hbm, ⟨21, _⟩ => ⟨S_, .i32⟩
  | .hbm, ⟨22, _⟩ => ⟨S128, .i32⟩
  | .hbm, ⟨23, _⟩ => ⟨S128, .i32⟩
  | .hbm, ⟨24, _⟩ => ⟨S128, .i32⟩
  | .hbm, ⟨25, _⟩ => ⟨S128x1, .i32⟩
  | .hbm, ⟨26, _⟩ => ⟨S1x128, .i32⟩
  | .hbm, ⟨27, _⟩ => ⟨S128x128, .i32⟩
  | .hbm, ⟨28, _⟩ => ⟨S128x128, .i32⟩
  | .hbm, ⟨29, _⟩ => ⟨S128x128, .i1⟩
  | .hbm, ⟨30, _⟩ => ⟨S128x128, .bf16⟩
  | .hbm, ⟨31, _⟩ => ⟨S256x128, .bf16⟩
  | .hbm, ⟨32, _⟩ => ⟨S_, .f32⟩
  | .hbm, ⟨33, _⟩ => ⟨S8192x32, .f32⟩
  | .hbm, ⟨34, _⟩ => ⟨S8192x64, .f32⟩
  | .hbm, ⟨35, _⟩ => ⟨S1x8192x1x64, .f32⟩
  | .hbm, ⟨36, _⟩ => ⟨S1x8192x2x64, .f32⟩
  | .hbm, ⟨37, _⟩ => ⟨S8192x128, .f32⟩
  | .hbm, ⟨38, _⟩ => ⟨S8192x64, .f32⟩
  | .hbm, ⟨39, _⟩ => ⟨S1x8192x1x64, .f32⟩
  | .hbm, ⟨40, _⟩ => ⟨S1x8192x2x64, .f32⟩
  | .hbm, ⟨41, _⟩ => ⟨S8192x128, .f32⟩
  | .hbm, ⟨42, _⟩ => ⟨S8192x32, .f32⟩
  | .hbm, ⟨43, _⟩ => ⟨S8192x64, .f32⟩
  | .hbm, ⟨44, _⟩ => ⟨S1x8192x1x64, .f32⟩
  | .hbm, ⟨45, _⟩ => ⟨S1x8192x2x64, .f32⟩
  | .hbm, ⟨46, _⟩ => ⟨S8192x128, .f32⟩
  | .hbm, ⟨47, _⟩ => ⟨S1x1024, .f32⟩
  | .hbm, ⟨48, _⟩ => ⟨S1024x2944, .bf16⟩
  | .hbm, ⟨49, _⟩ => ⟨S8x32768x128, .bf16⟩
  | .hbm, ⟨50, _⟩ => ⟨S32768x128, .bf16⟩
  | .hbm, ⟨51, _⟩ => ⟨S32768x256, .bf16⟩
  | .hbm, ⟨52, _⟩ => ⟨S4x32768x128, .bf16⟩
  | .hbm, ⟨53, _⟩ => ⟨S32768x128, .bf16⟩
  | .hbm, ⟨54, _⟩ => ⟨S32768x128, .f32⟩
  | .hbm, ⟨55, _⟩ => ⟨S32768x512, .f32⟩
  | .hbm, ⟨56, _⟩ => ⟨S8x32768x128, .bf16⟩
  | .hbm, ⟨57, _⟩ => ⟨S32768x128, .bf16⟩
  | .hbm, ⟨58, _⟩ => ⟨S32768x256, .bf16⟩
  | .hbm, ⟨59, _⟩ => ⟨S32768x512, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2944, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S256x128, .bf16⟩
  | .local _ .vmem, ⟨11, _⟩ => ⟨S8x128, .f32⟩
  | .local _ .vmem, ⟨12, _⟩ => ⟨S8x1024x128, .bf16⟩
  | .local _ .vmem, ⟨13, _⟩ => ⟨S8x1024x128, .bf16⟩
  | .local _ .vmem, ⟨14, _⟩ => ⟨S1024x128, .bf16⟩
  | .local _ .vmem, ⟨15, _⟩ => ⟨S1024x128, .bf16⟩
  | .local _ .vmem, ⟨16, _⟩ => ⟨S1024x256, .bf16⟩
  | .local _ .vmem, ⟨17, _⟩ => ⟨S1024x256, .bf16⟩
  | .local _ .vmem, ⟨18, _⟩ => ⟨S4x1024x128, .bf16⟩
  | .local _ .vmem, ⟨19, _⟩ => ⟨S4x1024x128, .bf16⟩
  | .local _ .vmem, ⟨20, _⟩ => ⟨S1024x128, .bf16⟩
  | .local _ .vmem, ⟨21, _⟩ => ⟨S1024x128, .bf16⟩
  | .local _ .vmem, ⟨22, _⟩ => ⟨S1024x128, .f32⟩
  | .local _ .vmem, ⟨23, _⟩ => ⟨S1024x128, .f32⟩
  | .local _ .vmem, ⟨24, _⟩ => ⟨S1024x512, .f32⟩
  | .local _ .vmem, ⟨25, _⟩ => ⟨S1024x512, .f32⟩
  | .local _ .vmem, ⟨26, _⟩ => ⟨S8x1024x128, .bf16⟩
  | .local _ .vmem, ⟨27, _⟩ => ⟨S8x1024x128, .bf16⟩
  | .local _ .vmem, ⟨28, _⟩ => ⟨S1024x128, .bf16⟩
  | .local _ .vmem, ⟨29, _⟩ => ⟨S1024x128, .bf16⟩
  | .local _ .vmem, ⟨30, _⟩ => ⟨S1024x256, .bf16⟩
  | .local _ .vmem, ⟨31, _⟩ => ⟨S1024x256, .bf16⟩
  | .local _ .vmem, ⟨32, _⟩ => ⟨S1024x512, .f32⟩
  | .local _ .vmem, ⟨33, _⟩ => ⟨S1024x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_cst : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25_0 : Ref sig .tc := ⟨.hbm, 49, rfl⟩
abbrev main_v25_1 : Ref sig .tc := ⟨.hbm, 50, rfl⟩
abbrev main_v25_2 : Ref sig .tc := ⟨.hbm, 51, rfl⟩
abbrev main_v25_3 : Ref sig .tc := ⟨.hbm, 52, rfl⟩
abbrev main_v25_4 : Ref sig .tc := ⟨.hbm, 53, rfl⟩
abbrev main_v25_5 : Ref sig .tc := ⟨.hbm, 54, rfl⟩
abbrev main_v25_6 : Ref sig .tc := ⟨.hbm, 55, rfl⟩
abbrev main_v25_7 : Ref sig .tc := ⟨.hbm, 56, rfl⟩
abbrev main_v25_8 : Ref sig .tc := ⟨.hbm, 57, rfl⟩
abbrev main_v25_9 : Ref sig .tc := ⟨.hbm, 58, rfl⟩
abbrev main_v25_10 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2944 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8x1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x1024x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x1024x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1024x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1024x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference4Ideal.lean ====
abbrev S32768x1024 : Shape := ⟨2, ![32768, 1024]⟩
abbrev S1024 : Shape := ⟨1, ![1024]⟩
abbrev S1024x2944 : Shape := ⟨2, ![1024, 2944]⟩
abbrev S8192x32 : Shape := ⟨2, ![8192, 32]⟩
abbrev S8x128 : Shape := ⟨2, ![8, 128]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2944 : Shape := ⟨2, ![32768, 2944]⟩
abbrev S32768x128 : Shape := ⟨2, ![32768, 128]⟩
abbrev S32768x256 : Shape := ⟨2, ![32768, 256]⟩
abbrev S4x8192x4x64 : Shape := ⟨4, ![4, 8192, 4, 64]⟩
abbrev S4x8192x4x32 : Shape := ⟨4, ![4, 8192, 4, 32]⟩
abbrev S8192x1x32 : Shape := ⟨3, ![8192, 1, 32]⟩
abbrev S1x8192x1x32 : Shape := ⟨4, ![1, 8192, 1, 32]⟩
abbrev S32768x4x64 : Shape := ⟨3, ![32768, 4, 64]⟩
abbrev S4x32768x64 : Shape := ⟨3, ![4, 32768, 64]⟩
abbrev S4x32768x128 : Shape := ⟨3, ![4, 32768, 128]⟩
abbrev S32768x512 : Shape := ⟨2, ![32768, 512]⟩

abbrev nBuf : Space → Nat
  | .hbm => 61
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2944, .f32⟩
  | .hbm, ⟨3, _⟩ => ⟨S8192x32, .f32⟩
  | .hbm, ⟨4, _⟩ => ⟨S8192x32, .f32⟩
  | .hbm, ⟨5, _⟩ => ⟨S8x128, .f32⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S1x1024, .f32⟩
  | .hbm, ⟨20, _⟩ => ⟨S32768x1024, .f32⟩
  | .hbm, ⟨21, _⟩ => ⟨S32768x1024, .f32⟩
  | .hbm, ⟨22, _⟩ => ⟨S32768x2944, .f32⟩
  | .hbm, ⟨23, _⟩ => ⟨S32768x128, .f32⟩
  | .hbm, ⟨24, _⟩ => ⟨S32768x128, .f32⟩
  | .hbm, ⟨25, _⟩ => ⟨S32768x256, .f32⟩
  | .hbm, ⟨26, _⟩ => ⟨S4x8192x4x64, .f32⟩
  | .hbm, ⟨27, _⟩ => ⟨S4x8192x4x32, .f32⟩
  | .hbm, ⟨28, _⟩ => ⟨S4x8192x4x32, .f32⟩
  | .hbm, ⟨29, _⟩ => ⟨S8192x1x32, .f32⟩
  | .hbm, ⟨30, _⟩ => ⟨S8192x1x32, .f32⟩
  | .hbm, ⟨31, _⟩ => ⟨S1x8192x1x32, .f32⟩
  | .hbm, ⟨32, _⟩ => ⟨S4x8192x4x32, .f32⟩
  | .hbm, ⟨33, _⟩ => ⟨S4x8192x4x32, .f32⟩
  | .hbm, ⟨34, _⟩ => ⟨S1x8192x1x32, .f32⟩
  | .hbm, ⟨35, _⟩ => ⟨S4x8192x4x32, .f32⟩
  | .hbm, ⟨36, _⟩ => ⟨S4x8192x4x32, .f32⟩
  | .hbm, ⟨37, _⟩ => ⟨S4x8192x4x32, .f32⟩
  | .hbm, ⟨38, _⟩ => ⟨S1x8192x1x32, .f32⟩
  | .hbm, ⟨39, _⟩ => ⟨S4x8192x4x32, .f32⟩
  | .hbm, ⟨40, _⟩ => ⟨S4x8192x4x32, .f32⟩
  | .hbm, ⟨41, _⟩ => ⟨S1x8192x1x32, .f32⟩
  | .hbm, ⟨42, _⟩ => ⟨S4x8192x4x32, .f32⟩
  | .hbm, ⟨43, _⟩ => ⟨S4x8192x4x32, .f32⟩
  | .hbm, ⟨44, _⟩ => ⟨S4x8192x4x32, .f32⟩
  | .hbm, ⟨45, _⟩ => ⟨S4x8192x4x64, .f32⟩
  | .hbm, ⟨46, _⟩ => ⟨S32768x4x64, .f32⟩
  | .hbm, ⟨47, _⟩ => ⟨S4x32768x64, .f32⟩
  | .hbm, ⟨48, _⟩ => ⟨S_, .f32⟩
  | .hbm, ⟨49, _⟩ => ⟨S32768x128, .f32⟩
  | .hbm, ⟨50, _⟩ => ⟨S32768x256, .f32⟩
  | .hbm, ⟨51, _⟩ => ⟨S32768x256, .bf16⟩
  | .hbm, ⟨52, _⟩ => ⟨S_, .f32⟩
  | .hbm, ⟨53, _⟩ => ⟨S4x32768x64, .f32⟩
  | .hbm, ⟨54, _⟩ => ⟨S4x32768x128, .f32⟩
  | .hbm, ⟨55, _⟩ => ⟨S4x32768x128, .bf16⟩
  | .hbm, ⟨56, _⟩ => ⟨S32768x128, .f32⟩
  | .hbm, ⟨57, _⟩ => ⟨S32768x512, .f32⟩
  | .hbm, ⟨58, _⟩ => ⟨S32768x256, .f32⟩
  | .hbm, ⟨59, _⟩ => ⟨S32768x256, .bf16⟩
  | .hbm, ⟨60, _⟩ => ⟨S32768x512, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_2 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_3 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩

abbrev nD : Nat := 1
abbrev τ : Topo := Topo.v7x

variable {F : FTy → Type} [FloatOps F]
-- ==== Kernel5.lean ====
abbrev S32768x1024 : Shape := ⟨2, ![32768, 1024]⟩
abbrev S1024 : Shape := ⟨1, ![1024]⟩
abbrev S1024x2944 : Shape := ⟨2, ![1024, 2944]⟩
abbrev S8192x32 : Shape := ⟨2, ![8192, 32]⟩
abbrev S2x64 : Shape := ⟨2, ![2, 64]⟩
abbrev S64 : Shape := ⟨1, ![64]⟩
abbrev S1x64 : Shape := ⟨2, ![1, 64]⟩
abbrev S128 : Shape := ⟨1, ![128]⟩
abbrev S_ : Shape := ⟨0, ![]⟩
abbrev S1x128 : Shape := ⟨2, ![1, 128]⟩
abbrev S8x128 : Shape := ⟨2, ![8, 128]⟩
abbrev S128x1 : Shape := ⟨2, ![128, 1]⟩
abbrev S128x128 : Shape := ⟨2, ![128, 128]⟩
abbrev S256x128 : Shape := ⟨2, ![256, 128]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S1x1024 : Shape := ⟨2, ![1, 1024]⟩
abbrev S8x32768x128 : Shape := ⟨3, ![8, 32768, 128]⟩
abbrev S32768x128 : Shape := ⟨2, ![32768, 128]⟩
abbrev S32768x256 : Shape := ⟨2, ![32768, 256]⟩
abbrev S4x32768x128 : Shape := ⟨3, ![4, 32768, 128]⟩
abbrev S32768x512 : Shape := ⟨2, ![32768, 512]⟩
abbrev S1024x1024 : Shape := ⟨2, ![1024, 1024]⟩
abbrev S1024x128 : Shape := ⟨2, ![1024, 128]⟩
abbrev S8x1024x128 : Shape := ⟨3, ![8, 1024, 128]⟩
abbrev S1024x256 : Shape := ⟨2, ![1024, 256]⟩
abbrev S4x1024x128 : Shape := ⟨3, ![4, 1024, 128]⟩
abbrev S1024x512 : Shape := ⟨2, ![1024, 512]⟩
abbrev S1024x1 : Shape := ⟨2, ![1024, 1]⟩
abbrev S1x1024x128 : Shape := ⟨3, ![1, 1024, 128]⟩

abbrev nBuf : Space → Nat
  | .hbm => 96
  | .vmem => 34
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2944, .f32⟩
  | .hbm, ⟨3, _⟩ => ⟨S8192x32, .f32⟩
  | .hbm, ⟨4, _⟩ => ⟨S8192x32, .f32⟩
  | .hbm, ⟨5, _⟩ => ⟨S2x64, .f32⟩
  | .hbm, ⟨6, _⟩ => ⟨S64, .f32⟩
  | .hbm, ⟨7, _⟩ => ⟨S2x64, .f32⟩
  | .hbm, ⟨8, _⟩ => ⟨S1x64, .f32⟩
  | .hbm, ⟨9, _⟩ => ⟨S64, .f32⟩
  | .hbm, ⟨10, _⟩ => ⟨S1x64, .f32⟩
  | .hbm, ⟨11, _⟩ => ⟨S2x64, .f32⟩
  | .hbm, ⟨12, _⟩ => ⟨S128, .f32⟩
  | .hbm, ⟨13, _⟩ => ⟨S1x64, .f32⟩
  | .hbm, ⟨14, _⟩ => ⟨S64, .f32⟩
  | .hbm, ⟨15, _⟩ => ⟨S1x64, .f32⟩
  | .hbm, ⟨16, _⟩ => ⟨S2x64, .f32⟩
  | .hbm, ⟨17, _⟩ => ⟨S128, .f32⟩
  | .hbm, ⟨18, _⟩ => ⟨S_, .f32⟩
  | .hbm, ⟨19, _⟩ => ⟨S64, .f32⟩
  | .hbm, ⟨20, _⟩ => ⟨S128, .f32⟩
  | .hbm, ⟨21, _⟩ => ⟨S1x64, .f32⟩
  | .hbm, ⟨22, _⟩ => ⟨S64, .f32⟩
  | .hbm, ⟨23, _⟩ => ⟨S1x64, .f32⟩
  | .hbm, ⟨24, _⟩ => ⟨S2x64, .f32⟩
  | .hbm, ⟨25, _⟩ => ⟨S128, .f32⟩
  | .hbm, ⟨26, _⟩ => ⟨S1x64, .f32⟩
  | .hbm, ⟨27, _⟩ => ⟨S64, .f32⟩
  | .hbm, ⟨28, _⟩ => ⟨S1x64, .f32⟩
  | .hbm, ⟨29, _⟩ => ⟨S2x64, .f32⟩
  | .hbm, ⟨30, _⟩ => ⟨S128, .f32⟩
  | .hbm, ⟨31, _⟩ => ⟨S_, .f32⟩
  | .hbm, ⟨32, _⟩ => ⟨S128, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S1x128, .f32⟩
  | .hbm, ⟨41, _⟩ => ⟨S8x128, .f32⟩
  | .hbm, ⟨42, _⟩ => ⟨S128, .i32⟩
  | .hbm, ⟨43, _⟩ => ⟨S_, .i32⟩
  | .hbm, ⟨44, _⟩ => ⟨S_, .i32⟩
  | .hbm, ⟨45, _⟩ => ⟨S128, .i32⟩
  | .hbm, ⟨46, _⟩ => ⟨S128, .i32⟩
  | .hbm, ⟨47, _⟩ => ⟨S128, .i32⟩
  | .hbm, ⟨48, _⟩ => ⟨S_, .i32⟩
  | .hbm, ⟨49, _⟩ => ⟨S128, .i32⟩
  | .hbm, ⟨50, _⟩ => ⟨S128, .i1⟩
  | .hbm, ⟨51, _⟩ => ⟨S128, .i32⟩
  | .hbm, ⟨52, _⟩ => ⟨S128, .i32⟩
  | .hbm, ⟨53, _⟩ => ⟨S_, .i32⟩
  | .hbm, ⟨54, _⟩ => ⟨S128, .i32⟩
  | .hbm, ⟨55, _⟩ => ⟨S128, .i1⟩
  | .hbm, ⟨56, _⟩ => ⟨S128, .i1⟩
  | .hbm, ⟨57, _⟩ => ⟨S_, .i32⟩
  | .hbm, ⟨58, _⟩ => ⟨S128, .i32⟩
  | .hbm, ⟨59, _⟩ => ⟨S128, .i32⟩
  | .hbm, ⟨60, _⟩ => ⟨S128, .i32⟩
  | .hbm, ⟨61, _⟩ => ⟨S128x1, .i32⟩
  | .hbm, ⟨62, _⟩ => ⟨S1x128, .i32⟩
  | .hbm, ⟨63, _⟩ => ⟨S128x128, .i32⟩
  | .hbm, ⟨64, _⟩ => ⟨S128x128, .i32⟩
  | .hbm, ⟨65, _⟩ => ⟨S128x128, .i1⟩
  | .hbm, ⟨66, _⟩ => ⟨S128x128, .bf16⟩
  | .hbm, ⟨67, _⟩ => ⟨S256x128, .bf16⟩
  | .hbm, ⟨68, _⟩ => ⟨S_, .f32⟩
  | .hbm, ⟨69, _⟩ => ⟨S8192x32, .f32⟩
  | .hbm, ⟨70, _⟩ => ⟨S8192x64, .f32⟩
  | .hbm, ⟨71, _⟩ => ⟨S1x8192x1x64, .f32⟩
  | .hbm, ⟨72, _⟩ => ⟨S1x8192x2x64, .f32⟩
  | .hbm, ⟨73, _⟩ => ⟨S8192x128, .f32⟩
  | .hbm, ⟨74, _⟩ => ⟨S8192x64, .f32⟩
  | .hbm, ⟨75, _⟩ => ⟨S1x8192x1x64, .f32⟩
  | .hbm, ⟨76, _⟩ => ⟨S1x8192x2x64, .f32⟩
  | .hbm, ⟨77, _⟩ => ⟨S8192x128, .f32⟩
  | .hbm, ⟨78, _⟩ => ⟨S8192x32, .f32⟩
  | .hbm, ⟨79, _⟩ => ⟨S8192x64, .f32⟩
  | .hbm, ⟨80, _⟩ => ⟨S1x8192x1x64, .f32⟩
  | .hbm, ⟨81, _⟩ => ⟨S1x8192x2x64, .f32⟩
  | .hbm, ⟨82, _⟩ => ⟨S8192x128, .f32⟩
  | .hbm, ⟨83, _⟩ => ⟨S1x1024, .f32⟩
  | .hbm, ⟨84, _⟩ => ⟨S1024x2944, .bf16⟩
  | .hbm, ⟨85, _⟩ => ⟨S8x32768x128, .bf16⟩
  | .hbm, ⟨86, _⟩ => ⟨S32768x128, .bf16⟩
  | .hbm, ⟨87, _⟩ => ⟨S32768x256, .bf16⟩
  | .hbm, ⟨88, _⟩ => ⟨S4x32768x128, .bf16⟩
  | .hbm, ⟨89, _⟩ => ⟨S32768x128, .bf16⟩
  | .hbm, ⟨90, _⟩ => ⟨S32768x128, .f32⟩
  | .hbm, ⟨91, _⟩ => ⟨S32768x512, .f32⟩
  | .hbm, ⟨92, _⟩ => ⟨S8x32768x128, .bf16⟩
  | .hbm, ⟨93, _⟩ => ⟨S32768x128, .bf16⟩
  | .hbm, ⟨94, _⟩ => ⟨S32768x256, .bf16⟩
  | .hbm, ⟨95, _⟩ => ⟨S32768x512, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2944, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S256x128, .bf16⟩
  | .local _ .vmem, ⟨11, _⟩ => ⟨S8x128, .f32⟩
  | .local _ .vmem, ⟨12, _⟩ => ⟨S8x1024x128, .bf16⟩
  | .local _ .vmem, ⟨13, _⟩ => ⟨S8x1024x128, .bf16⟩
  | .local _ .vmem, ⟨14, _⟩ => ⟨S1024x128, .bf16⟩
  | .local _ .vmem, ⟨15, _⟩ => ⟨S1024x128, .bf16⟩
  | .local _ .vmem, ⟨16, _⟩ => ⟨S1024x256, .bf16⟩
  | .local _ .vmem, ⟨17, _⟩ => ⟨S1024x256, .bf16⟩
  | .local _ .vmem, ⟨18, _⟩ => ⟨S4x1024x128, .bf16⟩
  | .local _ .vmem, ⟨19, _⟩ => ⟨S4x1024x128, .bf16⟩
  | .local _ .vmem, ⟨20, _⟩ => ⟨S1024x128, .bf16⟩
  | .local _ .vmem, ⟨21, _⟩ => ⟨S1024x128, .bf16⟩
  | .local _ .vmem, ⟨22, _⟩ => ⟨S1024x128, .f32⟩
  | .local _ .vmem, ⟨23, _⟩ => ⟨S1024x128, .f32⟩
  | .local _ .vmem, ⟨24, _⟩ => ⟨S1024x512, .f32⟩
  | .local _ .vmem, ⟨25, _⟩ => ⟨S1024x512, .f32⟩
  | .local _ .vmem, ⟨26, _⟩ => ⟨S8x1024x128, .bf16⟩
  | .local _ .vmem, ⟨27, _⟩ => ⟨S8x1024x128, .bf16⟩
  | .local _ .vmem, ⟨28, _⟩ => ⟨S1024x128, .bf16⟩
  | .local _ .vmem, ⟨29, _⟩ => ⟨S1024x128, .bf16⟩
  | .local _ .vmem, ⟨30, _⟩ => ⟨S1024x256, .bf16⟩
  | .local _ .vmem, ⟨31, _⟩ => ⟨S1024x256, .bf16⟩
  | .local _ .vmem, ⟨32, _⟩ => ⟨S1024x512, .f32⟩
  | .local _ .vmem, ⟨33, _⟩ => ⟨S1024x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_0 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_v6 : Ref sig .tc := ⟨.hbm, 50, rfl⟩
abbrev main_call0_v7 : Ref sig .tc := ⟨.hbm, 51, rfl⟩
abbrev main_call0_v8 : Ref sig .tc := ⟨.hbm, 52, rfl⟩
abbrev main_call0_c : Ref sig .tc := ⟨.hbm, 53, rfl⟩
abbrev main_call0_v9 : Ref sig .tc := ⟨.hbm, 54, rfl⟩
abbrev main_call0_v10 : Ref sig .tc := ⟨.hbm, 55, rfl⟩
abbrev main_call0_v11 : Ref sig .tc := ⟨.hbm, 56, rfl⟩
abbrev main_call0_c_0 : Ref sig .tc := ⟨.hbm, 57, rfl⟩
abbrev main_call0_v12 : Ref sig .tc := ⟨.hbm, 58, rfl⟩
abbrev main_call0_v13 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_1 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57_0 : Ref sig .tc := ⟨.hbm, 85, rfl⟩
abbrev main_v57_1 : Ref sig .tc := ⟨.hbm, 86, rfl⟩
abbrev main_v57_2 : Ref sig .tc := ⟨.hbm, 87, rfl⟩
abbrev main_v57_3 : Ref sig .tc := ⟨.hbm, 88, rfl⟩
abbrev main_v57_4 : Ref sig .tc := ⟨.hbm, 89, rfl⟩
abbrev main_v57_5 : Ref sig .tc := ⟨.hbm, 90, rfl⟩
abbrev main_v57_6 : Ref sig .tc := ⟨.hbm, 91, rfl⟩
abbrev main_v57_7 : Ref sig .tc := ⟨.hbm, 92, rfl⟩
abbrev main_v57_8 : Ref sig .tc := ⟨.hbm, 93, rfl⟩
abbrev main_v57_9 : Ref sig .tc := ⟨.hbm, 94, rfl⟩
abbrev main_v57_10 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2944 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8x1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x1024x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x1024x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1024x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1024x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Kernel5Ideal.lean ====
variable {F : FTy → Type} [FloatOps F] [Named F]
def κ : String → Option EReal := fun
  | "q_scale" => some (((Real.sqrt 64)⁻¹ * (Real.log 2)⁻¹ : ℝ) : EReal)
  | _ => none
-- ==== Reference5Ideal.lean ====
abbrev S32768x1024 : Shape := ⟨2, ![32768, 1024]⟩
abbrev S1024 : Shape := ⟨1, ![1024]⟩
abbrev S1024x2944 : Shape := ⟨2, ![1024, 2944]⟩
abbrev S8192x32 : Shape := ⟨2, ![8192, 32]⟩
abbrev S2x64 : Shape := ⟨2, ![2, 64]⟩
abbrev S64 : Shape := ⟨1, ![64]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2944 : Shape := ⟨2, ![32768, 2944]⟩
abbrev S8192x1x32 : Shape := ⟨3, ![8192, 1, 32]⟩
abbrev S1x64 : Shape := ⟨2, ![1, 64]⟩
abbrev S32768x512 : Shape := ⟨2, ![32768, 512]⟩
abbrev S4x8192x8x64 : Shape := ⟨4, ![4, 8192, 8, 64]⟩
abbrev S4x8192x8 : Shape := ⟨3, ![4, 8192, 8]⟩
abbrev S4x8192x8x1 : Shape := ⟨4, ![4, 8192, 8, 1]⟩
abbrev S1x1x1x64 : Shape := ⟨4, ![1, 1, 1, 64]⟩
abbrev S4x8192x8x32 : Shape := ⟨4, ![4, 8192, 8, 32]⟩
abbrev S1x8192x1x32 : Shape := ⟨4, ![1, 8192, 1, 32]⟩
abbrev S32768x8x64 : Shape := ⟨3, ![32768, 8, 64]⟩
abbrev S8x32768x64 : Shape := ⟨3, ![8, 32768, 64]⟩
abbrev S4x32768x64 : Shape := ⟨3, ![4, 32768, 64]⟩
abbrev S4x32768x128 : Shape := ⟨3, ![4, 32768, 128]⟩
abbrev S8x32768x128 : Shape := ⟨3, ![8, 32768, 128]⟩
abbrev S32768x128 : Shape := ⟨2, ![32768, 128]⟩
abbrev S4x8192x2x64 : Shape := ⟨4, ![4, 8192, 2, 64]⟩
abbrev S4x8192x2 : Shape := ⟨3, ![4, 8192, 2]⟩
abbrev S4x8192x2x1 : Shape := ⟨4, ![4, 8192, 2, 1]⟩
abbrev S4x8192x2x32 : Shape := ⟨4, ![4, 8192, 2, 32]⟩
abbrev S32768x2x64 : Shape := ⟨3, ![32768, 2, 64]⟩
abbrev S32768x64 : Shape := ⟨2, ![32768, 64]⟩
abbrev S4x8192x1x64 : Shape := ⟨4, ![4, 8192, 1, 64]⟩
abbrev S4x8192x1 : Shape := ⟨3, ![4, 8192, 1]⟩
abbrev S4x8192x1x1 : Shape := ⟨4, ![4, 8192, 1, 1]⟩
abbrev S4x8192x1x32 : Shape := ⟨4, ![4, 8192, 1, 32]⟩
abbrev S32768x1x64 : Shape := ⟨3, ![32768, 1, 64]⟩

abbrev nBuf : Space → Nat
  | .hbm => 262
  | .vmem => 0
  | .smem => 0
  | _ => 0

abbrev hbmTy0_0 (i : Nat) : BufTy := match i % 128 with
  | 0 => ⟨S32768x1024, .f32⟩
  | 1 => ⟨S1024, .f32⟩
  | 2 => ⟨S1024x2944, .f32⟩
  | 3 => ⟨S8192x32, .f32⟩
  | 4 => ⟨S8192x32, .f32⟩
  | 5 => ⟨S2x64, .f32⟩
  | 6 => ⟨S64, .f32⟩
  | 7 => ⟨S2x64, .f32⟩
  | 8 => ⟨S32768x1024, .f32⟩
  | 9 => ⟨S_, .f32⟩
  | 10 => ⟨S32768, .f32⟩
  | 11 => ⟨S32768x1, .f32⟩
  | 12 => ⟨S_, .f32⟩
  | 13 => ⟨S32768x1, .f32⟩
  | 14 => ⟨S32768x1, .f32⟩
  | 15 => ⟨S_, .f32⟩
  | 16 => ⟨S32768x1, .f32⟩
  | 17 => ⟨S32768x1, .f32⟩
  | 18 => ⟨S32768x1, .f32⟩
  | 19 => ⟨S32768x1024, .f32⟩
  | 20 => ⟨S32768x1024, .f32⟩
  | 21 => ⟨S1x1024, .f32⟩
  | 22 => ⟨S32768x1024, .f32⟩
  | 23 => ⟨S32768x1024, .f32⟩
  | 24 => ⟨S32768x2944, .f32⟩
  | 25 => ⟨S8192x1x32, .f32⟩
  | 26 => ⟨S8192x1x32, .f32⟩
  | 27 => ⟨S1x64, .f32⟩
  | 28 => ⟨S64, .f32⟩
  | 29 => ⟨S32768x512, .f32⟩
  | 30 => ⟨S4x8192x8x64, .f32⟩
  | 31 => ⟨S4x8192x8x64, .f32⟩
  | 32 => ⟨S_, .f32⟩
  | 33 => ⟨S4x8192x8, .f32⟩
  | 34 => ⟨S4x8192x8x1, .f32⟩
  | 35 => ⟨S_, .f32⟩
  | 36 => ⟨S4x8192x8x1, .f32⟩
  | 37 => ⟨S4x8192x8x1, .f32⟩
  | 38 => ⟨S_, .f32⟩
  | 39 => ⟨S4x8192x8x1, .f32⟩
  | 40 => ⟨S4x8192x8x1, .f32⟩
  | 41 => ⟨S4x8192x8x1, .f32⟩
  | 42 => ⟨S4x8192x8x64, .f32⟩
  | 43 => ⟨S4x8192x8x64, .f32⟩
  | 44 => ⟨S1x1x1x64, .f32⟩
  | 45 => ⟨S4x8192x8x64, .f32⟩
  | 46 => ⟨S4x8192x8x64, .f32⟩
  | 47 => ⟨S4x8192x8x32, .f32⟩
  | 48 => ⟨S4x8192x8x32, .f32⟩
  | 49 => ⟨S1x8192x1x32, .f32⟩
  | 50 => ⟨S4x8192x8x32, .f32⟩
  | 51 => ⟨S4x8192x8x32, .f32⟩
  | 52 => ⟨S1x8192x1x32, .f32⟩
  | 53 => ⟨S4x8192x8x32, .f32⟩
  | 54 => ⟨S4x8192x8x32, .f32⟩
  | 55 => ⟨S4x8192x8x32, .f32⟩
  | 56 => ⟨S1x8192x1x32, .f32⟩
  | 57 => ⟨S4x8192x8x32, .f32⟩
  | 58 => ⟨S4x8192x8x32, .f32⟩
  | 59 => ⟨S1x8192x1x32, .f32⟩
  | 60 => ⟨S4x8192x8x32, .f32⟩
  | 61 => ⟨S4x8192x8x32, .f32⟩
  | 62 => ⟨S4x8192x8x32, .f32⟩
  | 63 => ⟨S4x8192x8x64, .f32⟩
  | 64 => ⟨S32768x8x64, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S32768x8x64, .f32⟩
  | 74 => ⟨S32768x8x64, .f32⟩
  | 75 => ⟨S8x32768x64, .f32⟩
  | 76 => ⟨S_, .f32⟩
  | 77 => ⟨S4x32768x64, .f32⟩
  | 78 => ⟨S4x32768x64, .f32⟩
  | 79 => ⟨S4x32768x128, .f32⟩
  | 80 => ⟨S4x32768x64, .f32⟩
  | 81 => ⟨S4x32768x128, .f32⟩
  | 82 => ⟨S8x32768x128, .f32⟩
  | 83 => ⟨S8x32768x128, .bf16⟩
  | 84 => ⟨S1x64, .f32⟩
  | 85 => ⟨S64, .f32⟩
  | 86 => ⟨S32768x128, .f32⟩
  | 87 => ⟨S4x8192x2x64, .f32⟩
  | 88 => ⟨S4x8192x2x64, .f32⟩
  | 89 => ⟨S_, .f32⟩
  | 90 => ⟨S4x8192x2, .f32⟩
  | 91 => ⟨S4x8192x2x1, .f32⟩
  | 92 => ⟨S_, .f32⟩
  | 93 => ⟨S4x8192x2x1, .f32⟩
  | 94 => ⟨S4x8192x2x1, .f32⟩
  | 95 => ⟨S_, .f32⟩
  | 96 => ⟨S4x8192x2x1, .f32⟩
  | 97 => ⟨S4x8192x2x1, .f32⟩
  | 98 => ⟨S4x8192x2x1, .f32⟩
  | 99 => ⟨S4x8192x2x64, .f32⟩
  | 100 => ⟨S4x8192x2x64, .f32⟩
  | 101 => ⟨S1x1x1x64, .f32⟩
  | 102 => ⟨S4x8192x2x64, .f32⟩
  | 103 => ⟨S4x8192x2x64, .f32⟩
  | 104 => ⟨S4x8192x2x32, .f32⟩
  | 105 => ⟨S4x8192x2x32, .f32⟩
  | 106 => ⟨S1x8192x1x32, .f32⟩
  | 107 => ⟨S4x8192x2x32, .f32⟩
  | 108 => ⟨S4x8192x2x32, .f32⟩
  | 109 => ⟨S1x8192x1x32, .f32⟩
  | 110 => ⟨S4x8192x2x32, .f32⟩
  | 111 => ⟨S4x8192x2x32, .f32⟩
  | 112 => ⟨S4x8192x2x32, .f32⟩
  | 113 => ⟨S1x8192x1x32, .f32⟩
  | 114 => ⟨S4x8192x2x32, .f32⟩
  | 115 => ⟨S4x8192x2x32, .f32⟩
  | 116 => ⟨S1x8192x1x32, .f32⟩
  | 117 => ⟨S4x8192x2x32, .f32⟩
  | 118 => ⟨S4x8192x2x32, .f32⟩
  | 119 => ⟨S4x8192x2x32, .f32⟩
  | 120 => ⟨S4x8192x2x64, .f32⟩
  | 121 => ⟨S32768x2x64, .f32⟩
  | 122 => ⟨S32768x128, .f32⟩
  | 123 => ⟨S32768x128, .bf16⟩
  | 124 => ⟨S32768x64, .f32⟩
  | 125 => ⟨S4x8192x1x64, .f32⟩
  | 126 => ⟨S4x8192x1x64, .f32⟩
  | 127 => ⟨S_, .f32⟩
  | _ => ⟨S32768x1024, .f32⟩

abbrev hbmTy0_1 (i : Nat) : BufTy := match i % 128 with
  | 0 => ⟨S4x8192x1, .f32⟩
  | 1 => ⟨S4x8192x1x1, .f32⟩
  | 2 => ⟨S_, .f32⟩
  | 3 => ⟨S4x8192x1x1, .f32⟩
  | 4 => ⟨S4x8192x1x1, .f32⟩
  | 5 => ⟨S_, .f32⟩
  | 6 => ⟨S4x8192x1x1, .f32⟩
  | 7 => ⟨S4x8192x1x1, .f32⟩
  | 8 => ⟨S4x8192x1x1, .f32⟩
  | 9 => ⟨S4x8192x1x64, .f32⟩
  | 10 => ⟨S4x8192x1x64, .f32⟩
  | 11 => ⟨S1x1x1x64, .f32⟩
  | 12 => ⟨S4x8192x1x64, .f32⟩
  | 13 => ⟨S4x8192x1x64, .f32⟩
  | 14 => ⟨S4x8192x1x32, .f32⟩
  | 15 => ⟨S4x8192x1x32, .f32⟩
  | 16 => ⟨S1x8192x1x32, .f32⟩
  | 17 => ⟨S4x8192x1x32, .f32⟩
  | 18 => ⟨S4x8192x1x32, .f32⟩
  | 19 => ⟨S1x8192x1x32, .f32⟩
  | 20 => ⟨S4x8192x1x32, .f32⟩
  | 21 => ⟨S4x8192x1x32, .f32⟩
  | 22 => ⟨S4x8192x1x32, .f32⟩
  | 23 => ⟨S1x8192x1x32, .f32⟩
  | 24 => ⟨S4x8192x1x32, .f32⟩
  | 25 => ⟨S4x8192x1x32, .f32⟩
  | 26 => ⟨S1x8192x1x32, .f32⟩
  | 27 => ⟨S4x8192x1x32, .f32⟩
  | 28 => ⟨S4x8192x1x32, .f32⟩
  | 29 => ⟨S4x8192x1x32, .f32⟩
  | 30 => ⟨S4x8192x1x64, .f32⟩
  | 31 => ⟨S32768x1x64, .f32⟩
  | 32 => ⟨S32768x64, .f32⟩
  | 33 => ⟨S_, .f32⟩
  | 34 => ⟨S32768x64, .f32⟩
  | 35 => ⟨S32768x128, .f32⟩
  | 36 => ⟨S32768x128, .bf16⟩
  | 37 => ⟨S1x64, .f32⟩
  | 38 => ⟨S64, .f32⟩
  | 39 => ⟨S32768x512, .f32⟩
  | 40 => ⟨S4x8192x8x64, .f32⟩
  | 41 => ⟨S4x8192x8x64, .f32⟩
  | 42 => ⟨S_, .f32⟩
  | 43 => ⟨S4x8192x8, .f32⟩
  | 44 => ⟨S4x8192x8x1, .f32⟩
  | 45 => ⟨S_, .f32⟩
  | 46 => ⟨S4x8192x8x1, .f32⟩
  | 47 => ⟨S4x8192x8x1, .f32⟩
  | 48 => ⟨S_, .f32⟩
  | 49 => ⟨S4x8192x8x1, .f32⟩
  | 50 => ⟨S4x8192x8x1, .f32⟩
  | 51 => ⟨S4x8192x8x1, .f32⟩
  | 52 => ⟨S4x8192x8x64, .f32⟩
  | 53 => ⟨S4x8192x8x64, .f32⟩
  | 54 => ⟨S1x1x1x64, .f32⟩
  | 55 => ⟨S4x8192x8x64, .f32⟩
  | 56 => ⟨S4x8192x8x64, .f32⟩
  | 57 => ⟨S4x8192x8x32, .f32⟩
  | 58 => ⟨S4x8192x8x32, .f32⟩
  | 59 => ⟨S1x8192x1x32, .f32⟩
  | 60 => ⟨S4x8192x8x32, .f32⟩
  | 61 => ⟨S4x8192x8x32, .f32⟩
  | 62 => ⟨S1x8192x1x32, .f32⟩
  | 63 => ⟨S4x8192x8x32, .f32⟩
  | 64 => ⟨S4x8192x8x32, .f32⟩
  | 65 => ⟨S4x8192x8x32, .f32⟩
  | 66 => ⟨S1x8192x1x32, .f32⟩
  | 67 => ⟨S4x8192x8x32, .f32⟩
  | 68 => ⟨S4x8192x8x32, .f32⟩
  | 69 => ⟨S1x8192x1x32, .f32⟩
  | 70 => ⟨S4x8192x8x32, .f32⟩
  | 71 => ⟨S4x8192x8x32, .f32⟩
  | 72 => ⟨S4x8192x8x32, .f32⟩
  | 73 => ⟨S4x8192x8x64, .f32⟩
  | 74 => ⟨S32768x8x64, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S32768x8x64, .f32⟩
  | 84 => ⟨S32768x8x64, .f32⟩
  | 85 => ⟨S8x32768x64, .f32⟩
  | 86 => ⟨S_, .f32⟩
  | 87 => ⟨S4x32768x64, .f32⟩
  | 88 => ⟨S4x32768x64, .f32⟩
  | 89 => ⟨S4x32768x128, .f32⟩
  | 90 => ⟨S4x32768x64, .f32⟩
  | 91 => ⟨S4x32768x128, .f32⟩
  | 92 => ⟨S8x32768x128, .f32⟩
  | 93 => ⟨S8x32768x128, .bf16⟩
  | 94 => ⟨S1x64, .f32⟩
  | 95 => ⟨S64, .f32⟩
  | 96 => ⟨S32768x128, .f32⟩
  | 97 => ⟨S4x8192x2x64, .f32⟩
  | 98 => ⟨S4x8192x2x64, .f32⟩
  | 99 => ⟨S_, .f32⟩
  | 100 => ⟨S4x8192x2, .f32⟩
  | 101 => ⟨S4x8192x2x1, .f32⟩
  | 102 => ⟨S_, .f32⟩
  | 103 => ⟨S4x8192x2x1, .f32⟩
  | 104 => ⟨S4x8192x2x1, .f32⟩
  | 105 => ⟨S_, .f32⟩
  | 106 => ⟨S4x8192x2x1, .f32⟩
  | 107 => ⟨S4x8192x2x1, .f32⟩
  | 108 => ⟨S4x8192x2x1, .f32⟩
  | 109 => ⟨S4x8192x2x64, .f32⟩
  | 110 => ⟨S4x8192x2x64, .f32⟩
  | 111 => ⟨S1x1x1x64, .f32⟩
  | 112 => ⟨S4x8192x2x64, .f32⟩
  | 113 => ⟨S4x8192x2x64, .f32⟩
  | 114 => ⟨S4x8192x2x32, .f32⟩
  | 115 => ⟨S4x8192x2x32, .f32⟩
  | 116 => ⟨S1x8192x1x32, .f32⟩
  | 117 => ⟨S4x8192x2x32, .f32⟩
  | 118 => ⟨S4x8192x2x32, .f32⟩
  | 119 => ⟨S1x8192x1x32, .f32⟩
  | 120 => ⟨S4x8192x2x32, .f32⟩
  | 121 => ⟨S4x8192x2x32, .f32⟩
  | 122 => ⟨S4x8192x2x32, .f32⟩
  | 123 => ⟨S1x8192x1x32, .f32⟩
  | 124 => ⟨S4x8192x2x32, .f32⟩
  | 125 => ⟨S4x8192x2x32, .f32⟩
  | 126 => ⟨S1x8192x1x32, .f32⟩
  | 127 => ⟨S4x8192x2x32, .f32⟩
  | _ => ⟨S32768x1024, .f32⟩

abbrev hbmTy0_2 (i : Nat) : BufTy := match i % 128 with
  | 0 => ⟨S4x8192x2x32, .f32⟩
  | 1 => ⟨S4x8192x2x32, .f32⟩
  | 2 => ⟨S4x8192x2x64, .f32⟩
  | 3 => ⟨S32768x2x64, .f32⟩
  | 4 => ⟨S32768x128, .f32⟩
  | 5 => ⟨S32768x128, .bf16⟩
  | _ => ⟨S32768x1024, .f32⟩

abbrev hbmTy (i : Nat) : BufTy := match i / 128 with
  | 0 => hbmTy0_0 i
  | 1 => hbmTy0_1 i
  | 2 => hbmTy0_2 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_5 : Ref sig .tc := ⟨.hbm, 65, rfl⟩
abbrev main_v51 : Ref sig .tc := ⟨.hbm, 66, rfl⟩
abbrev main_cst_6 : Ref sig .tc := ⟨.hbm, 67, rfl⟩
abbrev main_v52 : Ref sig .tc := ⟨.hbm, 68, rfl⟩
abbrev main_cst_7 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_8 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_9 : Ref sig .tc := ⟨.hbm, 89, rfl⟩
abbrev main_v71 : Ref sig .tc := ⟨.hbm, 90, rfl⟩
abbrev main_v72 : Ref sig .tc := ⟨.hbm, 91, rfl⟩
abbrev main_cst_10 : Ref sig .tc := ⟨.hbm, 92, rfl⟩
abbrev main_v73 : Ref sig .tc := ⟨.hbm, 93, rfl⟩
abbrev main_v74 : Ref sig .tc := ⟨.hbm, 94, rfl⟩
abbrev main_cst_11 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_cst_12 : Ref sig .tc := ⟨.hbm, 127, rfl⟩
abbrev main_v106 : Ref sig .tc := ⟨.hbm, 128, rfl⟩
abbrev main_v107 : Ref sig .tc := ⟨.hbm, 129, rfl⟩
abbrev main_cst_13 : Ref sig .tc := ⟨.hbm, 130, rfl⟩
abbrev main_v108 : Ref sig .tc := ⟨.hbm, 131, rfl⟩
abbrev main_v109 : Ref sig .tc := ⟨.hbm, 132, rfl⟩
abbrev main_cst_14 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_cst_15 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_cst_16 : Ref sig .tc := ⟨.hbm, 170, rfl⟩
abbrev main_v145 : Ref sig .tc := ⟨.hbm, 171, rfl⟩
abbrev main_v146 : Ref sig .tc := ⟨.hbm, 172, rfl⟩
abbrev main_cst_17 : Ref sig .tc := ⟨.hbm, 173, rfl⟩
abbrev main_v147 : Ref sig .tc := ⟨.hbm, 174, rfl⟩
abbrev main_v148 : Ref sig .tc := ⟨.hbm, 175, rfl⟩
abbrev main_cst_18 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_cst_19 : Ref sig .tc := ⟨.hbm, 203, rfl⟩
abbrev main_v175 : Ref sig .tc := ⟨.hbm, 204, rfl⟩
abbrev main_cst_20 : Ref sig .tc := ⟨.hbm, 205, rfl⟩
abbrev main_v176 : Ref sig .tc := ⟨.hbm, 206, rfl⟩
abbrev main_cst_21 : Ref sig .tc := ⟨.hbm, 207, rfl⟩
abbrev main_v177 : Ref sig .tc := ⟨.hbm, 208, rfl⟩
abbrev main_v178 : Ref sig .tc := ⟨.hbm, 209, rfl⟩
abbrev main_v179 : Ref sig .tc := ⟨.hbm, 210, rfl⟩
abbrev main_v180 : Ref sig .tc := ⟨.hbm, 211, rfl⟩
abbrev main_v181 : Ref sig .tc := ⟨.hbm, 212, rfl⟩
abbrev main_v182 : Ref sig .tc := ⟨.hbm, 213, rfl⟩
abbrev main_cst_22 : Ref sig .tc := ⟨.hbm, 214, rfl⟩
abbrev main_v183 : Ref sig .tc := ⟨.hbm, 215, rfl⟩
abbrev main_v184 : Ref sig .tc := ⟨.hbm, 216, rfl⟩
abbrev main_v185 : Ref sig .tc := ⟨.hbm, 217, rfl⟩
abbrev main_v186 : Ref sig .tc := ⟨.hbm, 218, rfl⟩
abbrev main_v187 : Ref sig .tc := ⟨.hbm, 219, rfl⟩
abbrev main_v188 : Ref sig .tc := ⟨.hbm, 220, rfl⟩
abbrev main_v189 : Ref sig .tc := ⟨.hbm, 221, rfl⟩
abbrev main_v190 : Ref sig .tc := ⟨.hbm, 222, rfl⟩
abbrev main_v191 : Ref sig .tc := ⟨.hbm, 223, rfl⟩
abbrev main_v192 : Ref sig .tc := ⟨.hbm, 224, rfl⟩
abbrev main_v193 : Ref sig .tc := ⟨.hbm, 225, rfl⟩
abbrev main_v194 : Ref sig .tc := ⟨.hbm, 226, rfl⟩
abbrev main_cst_23 : Ref sig .tc := ⟨.hbm, 227, rfl⟩
abbrev main_v195 : Ref sig .tc := ⟨.hbm, 228, rfl⟩
abbrev main_v196 : Ref sig .tc := ⟨.hbm, 229, rfl⟩
abbrev main_cst_24 : Ref sig .tc := ⟨.hbm, 230, rfl⟩
abbrev main_v197 : Ref sig .tc := ⟨.hbm, 231, rfl⟩
abbrev main_v198 : Ref sig .tc := ⟨.hbm, 232, rfl⟩
abbrev main_cst_25 : Ref sig .tc := ⟨.hbm, 233, rfl⟩
abbrev main_v199 : Ref sig .tc := ⟨.hbm, 234, rfl⟩
abbrev main_v200 : Ref sig .tc := ⟨.hbm, 235, rfl⟩
abbrev main_v201 : Ref sig .tc := ⟨.hbm, 236, rfl⟩
abbrev main_v202 : Ref sig .tc := ⟨.hbm, 237, rfl⟩
abbrev main_v203 : Ref sig .tc := ⟨.hbm, 238, rfl⟩
abbrev main_v204 : Ref sig .tc := ⟨.hbm, 239, rfl⟩
abbrev main_v205 : Ref sig .tc := ⟨.hbm, 240, rfl⟩
abbrev main_v206 : Ref sig .tc := ⟨.hbm, 241, rfl⟩
abbrev main_v207 : Ref sig .tc := ⟨.hbm, 242, rfl⟩
abbrev main_v208 : Ref sig .tc := ⟨.hbm, 243, rfl⟩
abbrev main_v209 : Ref sig .tc := ⟨.hbm, 244, rfl⟩
abbrev main_v210 : Ref sig .tc := ⟨.hbm, 245, rfl⟩
abbrev main_v211 : Ref sig .tc := ⟨.hbm, 246, rfl⟩
abbrev main_v212 : Ref sig .tc := ⟨.hbm, 247, rfl⟩
abbrev main_v213 : Ref sig .tc := ⟨.hbm, 248, rfl⟩
abbrev main_v214 : Ref sig .tc := ⟨.hbm, 249, rfl⟩
abbrev main_v215 : Ref sig .tc := ⟨.hbm, 250, rfl⟩
abbrev main_v216 : Ref sig .tc := ⟨.hbm, 251, rfl⟩
abbrev main_v217 : Ref sig .tc := ⟨.hbm, 252, rfl⟩
abbrev main_v218 : Ref sig .tc := ⟨.hbm, 253, rfl⟩
abbrev main_v219 : Ref sig .tc := ⟨.hbm, 254, rfl⟩
abbrev main_v220 : Ref sig .tc := ⟨.hbm, 255, rfl⟩
abbrev main_v221 : Ref sig .tc := ⟨.hbm, 256, rfl⟩
abbrev main_v222 : Ref sig .tc := ⟨.hbm, 257, rfl⟩
abbrev main_v223 : Ref sig .tc := ⟨.hbm, 258, rfl⟩
abbrev main_v224 : Ref sig .tc := ⟨.hbm, 259, rfl⟩
abbrev main_v225 : Ref sig .tc := ⟨.hbm, 260, rfl⟩
abbrev main_v226 : Ref sig .tc := ⟨.hbm, 261, rfl⟩

abbrev nD : Nat := 1
abbrev τ : Topo := Topo.v7x

variable {F : FTy → Type} [FloatOps F]
-- ==== Proof.Update.lean ====
module

public import proofs.«01_k».proof.Proof.Gen.KernelIdeal.Skeleton
public import Idealize.ShloMosaic.Lib.Pointwise
public import Idealize.ShloMosaic.Lib.WordCmp

/-! One step of the online softmax on a block of 128 rows and a chunk of 512 keys, as the kernel computes it, and
what it holds at each index. -/

@[expose] public section

set_option maxRecDepth 16384

noncomputable section

namespace Cert.Update

open Idealize.ShloMosaic Idealize.ShloMosaic.TcCoe
open Cert.KernelIdeal
open Cert.KernelIdeal.Facts₀ Cert.KernelIdeal.Facts

attribute [local instance] Cert.KernelIdeal.Gen.facts

/-- What the kernel scales its queries by: one over the root of the head width, and of the logarithm of two, since it
exponentiates with base two. -/
def scale : EReal := (((Real.sqrt 96)⁻¹ * (Real.log 2)⁻¹ : ℝ) : EReal)

/-- The scores of a block of 128 query rows against a chunk of 512 keys. -/
def scores (q : Vec Ideal S1x128x128 .f32) (k : Vec Ideal S1x512x128 .bf16) : FVec Ideal S128x512 .f32 :=
  matmul dot_S128x128_S512x128_S128x512_1_1_0_0_n_n none
    (truncf .bf16 (mulf (shapeCast S128x128 q shapeCasts_S1x128x128_S128x128 : FVec Ideal S128x128 .f32)
      (broadcast S128x128 (Named.named κ "scale" 0x3E16C740#32 : Ideal .f32))) bitsLt_bf16_f32)
    (shapeCast S512x128 k shapeCasts_S1x512x128_S512x128 : FVec Ideal S512x128 .bf16) (constant S128x512 .f32 0x00000000#32)

/-- The same scores, narrowed. -/
def plain (q : Vec Ideal S1x128x128 .f32) (k : Vec Ideal S1x512x128 .bf16) : FVec Ideal S128x512 .bf16 :=
  truncf .bf16 (scores q k) bitsLt_bf16_f32

/-- The scores of the diagonal chunk: a key past the query's own position holds −∞. -/
def masked (o : BitVec 32) (q : Vec Ideal S1x128x128 .f32) (k : Vec Ideal S1x512x128 .bf16) : FVec Ideal S128x512 .bf16 :=
  truncf .bf16 (select (cmpi .sle (iota .tc S128x512 32 [1] iota_S128x512_d1_w32)
      (addi (broadcast S128x512 o) (iota .tc S128x512 32 [0] iota_S128x512_d0_w32)))
    (scores q k) (broadcast S128x512 (Scalar.ofBits .f32 0xFF800000#32))) bitsLt_bf16_f32

/-- The running maximum after a chunk of scores. -/
def newMax (s : FVec Ideal S128x512 .bf16) (m : Vec Ideal S128x128 .f32) : FVec Ideal S128x128 .f32 :=
  maximumf m (broadcastTo S128x128 (extf .f32 (shapeCast S128x1
    (multiReduction .maximumf [1] S128 s 0xFF80#16 reduces_S128x512_S128 (.inr rfl) rfl) shapeCasts_S128_S128x1)
    bitsLt_bf16_f32) broadcasts_S128x1_S128x128)

/-- The running sums after a chunk of scores: the old ones rescaled to the new maximum, and the chunk's. -/
def newAcc (s : FVec Ideal S128x512 .bf16) (v : Vec Ideal S1x512x256 .bf16) (m : Vec Ideal S128x128 .f32)
    (a : Vec Ideal S128x256 .f32) : FVec Ideal S128x256 .f32 :=
  addf (mulf (concatenate S128x256 1 [⟨S128x128, exp2 (subf m (newMax s m))⟩, ⟨S128x128, exp2 (subf m (newMax s m))⟩]
      concatenates_S128x128_S128x128_S128x256_d1) a)
    (matmul dot_S128x512_S512x256_S128x256_1_0_0_1_n_n none
      (exp2 (subf s (concatenate S128x512 1 [⟨S128x128, truncf .bf16 (newMax s m) bitsLt_bf16_f32⟩,
        ⟨S128x128, truncf .bf16 (newMax s m) bitsLt_bf16_f32⟩, ⟨S128x128, truncf .bf16 (newMax s m) bitsLt_bf16_f32⟩,
        ⟨S128x128, truncf .bf16 (newMax s m) bitsLt_bf16_f32⟩] concatenates_S128x128_S128x128_S128x128_S128x128_S128x512_d1)))
      (shapeCast S512x256 v shapeCasts_S1x512x256_S512x256 : FVec Ideal S512x256 .bf16) (constant S128x256 .f32 0x00000000#32))

/-- The maximum as stored. -/
def storeMax (s : FVec Ideal S128x512 .bf16) (m : Vec Ideal S128x128 .f32) : FVec Ideal S128x128 .f32 :=
  shapeCast S128x128 (newMax s m) shapeCasts_S128x128_S128x128

/-- The sums as stored. -/
def storeAcc (s : FVec Ideal S128x512 .bf16) (v : Vec Ideal S1x512x256 .bf16) (m : Vec Ideal S128x128 .f32)
    (a : Vec Ideal S128x256 .f32) : FVec Ideal S128x256 .f32 :=
  shapeCast S128x256 (newAcc s v m a) shapeCasts_S128x256_S128x256

theorem scores_apply (q : Vec Ideal S1x128x128 .f32) (k : Vec Ideal S1x512x128 .bf16) (r : Fin 128) (j : Fin 512) :
    scores q k (ix2 r j) = ∑ d : Fin 128, q (ix3 0 r d) * scale * k (ix3 0 j d) := by
  pointwise [scores]
  rfl

theorem plain_apply (q : Vec Ideal S1x128x128 .f32) (k : Vec Ideal S1x512x128 .bf16) (r : Fin 128) (j : Fin 512) :
    plain q k (ix2 r j) = ∑ d : Fin 128, q (ix3 0 r d) * scale * k (ix3 0 j d) := by
  rw [← scores_apply]
  pointwise [plain]

theorem negInf_f32 : Ideal.ofBits .f32 0xFF800000#32 = ⊥ := by simp [Ideal.ofBits, Ideal.ieee]

theorem negInf_bf16 : Ideal.ofBits .bf16 0xFF80#16 = ⊥ := by simp [Ideal.ofBits, Ideal.ieee]

/-- The comparison of two small positions, as a choice. -/
theorem select_sle {α : Type} (a b c : ℕ) (hb : b ≤ 512) (ha : a ≤ 512) (hc : c ≤ 512) (x y : α) :
    Scalar.select (IntOp.cmpi CmpIPredicate.sle (BitVec.ofNat 32 a) (IntOp.addi (BitVec.ofNat 32 b) (BitVec.ofNat 32 c))) x y
      = if a ≤ b + c then x else y := by
  have e : IntOp.addi (BitVec.ofNat 32 b) (BitVec.ofNat 32 c) = BitVec.ofNat 32 (b + c) := (BitVec.ofNat_add b c).symm
  rw [e, WordCmp.cmpi_sle_ofNat (by omega) (by omega)]
  by_cases h : a ≤ b + c <;> simp [h, Scalar.select]

theorem masked_apply (o : ℕ) (ho : o ≤ 512) (q : Vec Ideal S1x128x128 .f32) (k : Vec Ideal S1x512x128 .bf16) (r : Fin 128) (j : Fin 512) :
    masked (BitVec.ofNat 32 o) q k (ix2 r j)
      = if j.val ≤ o + r.val then ∑ d : Fin 128, q (ix3 0 r d) * scale * k (ix3 0 j d) else ⊥ := by
  rw [← scores_apply, ← negInf_f32]
  pointwise [masked]
  exact select_sle _ _ _ ho (by omega) (by omega) _ _

theorem newMax_apply (s : FVec Ideal S128x512 .bf16) (m : Vec Ideal S128x128 .f32) (r l : Fin 128) :
    newMax s m (ix2 r l) = max (m (ix2 r l)) (Finset.univ.fold max ⊥ fun k : Fin 512 => (s (ix2 r k) : EReal)) := by
  rw [← negInf_bf16]
  pointwise [newMax]

/-- The sums read through any function that the maximum's lanes agree with. -/
theorem newAcc_apply (s : FVec Ideal S128x512 .bf16) (v : Vec Ideal S1x512x256 .bf16) (m : Vec Ideal S128x128 .f32)
    (a : Vec Ideal S128x256 .f32) (r : Fin 128) (l : Fin 256) (m₀ m₁ : EReal) (h₀ : ∀ l : Fin 128, m (ix2 r l) = m₀)
    (h₁ : ∀ l : Fin 128, newMax s m (ix2 r l) = m₁) :
    newAcc s v m a (ix2 r l)
      = Ideal.exp2 (m₀ - m₁) * a (ix2 r l) + ∑ k : Fin 512, Ideal.exp2 (s (ix2 r k) - m₁) * v (ix3 0 k l) := by
  pointwise [newAcc]
  simp only [h₀, h₁, dite_eq_ite, ite_self]
  rfl

theorem storeMax_apply (s : FVec Ideal S128x512 .bf16) (m : Vec Ideal S128x128 .f32) (r l : Fin 128) :
    storeMax s m (ix2 r l) = newMax s m (ix2 r l) := by
  pointwise [storeMax]

theorem storeAcc_apply (s : FVec Ideal S128x512 .bf16) (v : Vec Ideal S1x512x256 .bf16) (m : Vec Ideal S128x128 .f32)
    (a : Vec Ideal S128x256 .f32) (r : Fin 128) (l : Fin 256) :
    storeAcc s v m a (ix2 r l) = newAcc s v m a (ix2 r l) := by
  pointwise [storeAcc]

end Cert.Update

end
-- ==== Proof.Online.lean ====
/- Attention with a running maximum, over extended reals: the maximum and the weighted sum of a prefix of the keys, what
   one more block of keys does to them, and the quotient of two such sums as a softmax. No program is mentioned here. -/
module

public import Idealize.ShloMosaic.Lib.Pointwise
public import Mathlib.Analysis.SpecialFunctions.Log.Basic
public import Mathlib.Analysis.SpecialFunctions.Pow.Real

@[expose] public section

noncomputable section

namespace Cert.Online

open Idealize.ShloMosaic

/-! ## Products and finite sums -/

/-- A non-negative real factor goes into a finite sum. -/
theorem mul_sum_of_real {ι : Type*} (c : ℝ) (hc : 0 ≤ c) (t : Finset ι) (f : ι → EReal) :
    (c : EReal) * ∑ j ∈ t, f j = ∑ j ∈ t, (c : EReal) * f j := by
  classical
  induction t using Finset.induction_on with
  | empty => simp
  | insert a t ha ih =>
    rw [Finset.sum_insert ha, Finset.sum_insert ha, ← ih]
    exact EReal.left_distrib_of_nonneg_of_ne_top (by exact_mod_cast hc) (EReal.coe_ne_top c) _ _

/-- A finite sum times a non-negative real is the sum of the products. -/
theorem sum_mul_of_real {ι : Type*} (c : ℝ) (hc : 0 ≤ c) (t : Finset ι) (f : ι → EReal) :
    (∑ j ∈ t, f j) * (c : EReal) = ∑ j ∈ t, f j * (c : EReal) := by
  rw [mul_comm, mul_sum_of_real c hc]
  exact Finset.sum_congr rfl fun j _ => mul_comm _ _

/-! ## Powers of two below a maximum -/

/-- A power of two of a difference of two values, the smaller first, is a real in `[0, 1]`. -/
theorem exp2_sub_real {s M : EReal} (h : s ≤ M) : ∃ p : ℝ, 0 ≤ p ∧ p ≤ 1 ∧ Ideal.exp2 (s - M) = (p : EReal) := by
  induction M with
  | bot => exact ⟨0, le_rfl, zero_le_one, by rw [le_bot_iff.mp h]; rfl⟩
  | top =>
    refine ⟨0, le_rfl, zero_le_one, ?_⟩
    induction s with
    | bot => rfl
    | top => rfl
    | coe s => rfl
  | coe M =>
    induction s with
    | bot => exact ⟨0, le_rfl, zero_le_one, rfl⟩
    | top => exact absurd (top_le_iff.mp h) (EReal.coe_ne_top M)
    | coe s =>
      refine ⟨Real.rpow 2 (s - M), Real.rpow_nonneg (by norm_num) _, ?_, ?_⟩
      · exact Real.rpow_le_one_of_one_le_of_nonpos (by norm_num) (by have := EReal.coe_le_coe_iff.mp h; linarith)
      · rw [← EReal.coe_sub, Ideal.exp2_coe]

/-- Rescaling from one maximum to a later one: the two factors multiply to one power of two. -/
theorem exp2_mul {s M M' : EReal} (h : s ≤ M) (h' : M ≤ M') :
    Ideal.exp2 (M - M') * Ideal.exp2 (s - M) = Ideal.exp2 (s - M') := by
  induction s with
  | bot => simp
  | top =>
    obtain rfl := top_le_iff.mp h
    obtain rfl := top_le_iff.mp h'
    have : (⊤ : EReal) - ⊤ = ⊥ := rfl
    simp [this]
  | coe s =>
    induction M with
    | bot => exact absurd (le_bot_iff.mp h) (EReal.coe_ne_bot s)
    | top =>
      obtain rfl := top_le_iff.mp h'
      have : (⊤ : EReal) - ⊤ = ⊥ := rfl
      simp [this]
    | coe M =>
      induction M' with
      | bot => exact absurd (le_bot_iff.mp h') (EReal.coe_ne_bot M)
      | top => simp
      | coe M' =>
        rw [← EReal.coe_sub, ← EReal.coe_sub, ← EReal.coe_sub, Ideal.exp2_coe, Ideal.exp2_coe, Ideal.exp2_coe,
          ← EReal.coe_mul]
        refine congrArg _ ?_
        show (2 : ℝ) ^ (M - M') * (2 : ℝ) ^ (s - M) = (2 : ℝ) ^ (s - M')
        rw [← Real.rpow_add (by norm_num)]
        congr 1
        ring

/-! ## A prefix of the keys -/

variable (sc : ℕ → EReal) (v : ℕ → EReal)

/-- The greatest score among the first `n` keys (`⊥` of none). -/
def top (n : ℕ) : EReal := (Finset.range n).sup sc

/-- The sum of the first `n` values, each weighted by the power of two of its score below their greatest. -/
def acc (n : ℕ) : EReal := ∑ j ∈ Finset.range n, Ideal.exp2 (sc j - top sc n) * v j

theorem top_zero : top sc 0 = ⊥ := rfl

theorem acc_zero : acc sc v 0 = 0 := rfl

/-- The greatest of a block folded from `⊥` is the supremum over the block's positions. -/
theorem fold_max_eq_sup {b : ℕ} (f : Fin b → EReal) : Finset.univ.fold max ⊥ f = Finset.univ.sup f := rfl

/-- One more block of keys: the greatest is the greater of the two. -/
theorem top_add (n b : ℕ) :
    top sc (n + b) = max (top sc n) (Finset.univ.sup fun k : Fin b => sc (n + k.val)) := by
  apply le_antisymm
  · refine Finset.sup_le fun j hj => ?_
    rcases Nat.lt_or_ge j n with h | h
    · exact le_max_of_le_left (Finset.le_sup (f := sc) (Finset.mem_range.mpr h))
    · have hj' := Finset.mem_range.mp hj
      refine le_max_of_le_right ?_
      have := Finset.le_sup (f := fun k : Fin b => sc (n + k.val)) (Finset.mem_univ (⟨j - n, by omega⟩ : Fin b))
      simpa [Nat.add_sub_cancel' h] using this
  · refine max_le (Finset.sup_mono (by simp)) (Finset.sup_le fun k _ => ?_)
    exact Finset.le_sup (f := sc) (Finset.mem_range.mpr (by omega))

theorem top_mono {n n' : ℕ} (h : n ≤ n') : top sc n ≤ top sc n' :=
  Finset.sup_mono (by simpa using h)

theorem le_top {j n : ℕ} (h : j < n) : sc j ≤ top sc n := Finset.le_sup (f := sc) (Finset.mem_range.mpr h)

/-- One more block of keys: the sum so far is rescaled and the block's own terms are added. -/
theorem acc_add (n b : ℕ) :
    acc sc v (n + b) = Ideal.exp2 (top sc n - top sc (n + b)) * acc sc v n
      + ∑ k : Fin b, Ideal.exp2 (sc (n + k.val) - top sc (n + b)) * v (n + k.val) := by
  have hm : top sc n ≤ top sc (n + b) := top_mono sc (Nat.le_add_right n b)
  obtain ⟨p, hp, -, he⟩ := exp2_sub_real hm
  rw [acc, Finset.sum_range_add]
  congr 1
  · rw [acc, he, mul_sum_of_real p hp]
    refine Finset.sum_congr rfl fun j hj => ?_
    rw [← mul_assoc, ← he, exp2_mul (le_top sc (Finset.mem_range.mp hj)) hm]
  · exact Finset.sum_range fun k => Ideal.exp2 (sc (n + k) - top sc (n + b)) * v (n + k)

/-- Keys scored `⊥` beyond the first `n` change nothing: the greatest stays. -/
theorem top_of_bot {n n' : ℕ} (h : n ≤ n') (hb : ∀ j, n ≤ j → sc j = ⊥) : top sc n' = top sc n := by
  refine le_antisymm (Finset.sup_le fun j _ => ?_) (top_mono sc h)
  rcases Nat.lt_or_ge j n with hj | hj
  · exact le_top sc hj
  · rw [hb j hj]
    exact bot_le

/-- Keys scored `⊥` beyond the first `n` change nothing: the sum stays. -/
theorem acc_of_bot {n n' : ℕ} (h : n ≤ n') (hb : ∀ j, n ≤ j → sc j = ⊥) : acc sc v n' = acc sc v n := by
  unfold acc
  rw [top_of_bot sc h hb]
  symm
  refine Finset.sum_subset (by simpa using h) fun j _ hj => ?_
  rw [hb j (by simpa using hj)]
  simp

/-! ## The quotient is a softmax -/

/-- The reference's shift: the greatest score where it is a number, else nought. -/
def shift (m : EReal) : EReal := if m = ⊥ ∨ m = ⊤ then 0 else m

/-- A power of two of a score scaled by the binary logarithm of `e` is the exponential of the score. -/
theorem exp2_scaled {c : ℝ} (hc : c = (Real.log 2)⁻¹) (s : EReal) (m : ℝ) :
    Ideal.exp2 (s * (c : EReal) - (m : EReal) * (c : EReal)) = Ideal.exp (s - m) := by
  have hl : 0 < Real.log 2 := Real.log_pos (by norm_num)
  have hc0 : 0 < c := by rw [hc]; exact inv_pos.mpr hl
  induction s with
  | bot =>
    rw [EReal.bot_mul_coe_of_pos hc0]
    simp
  | top =>
    rw [EReal.top_mul_coe_of_pos hc0, ← EReal.coe_mul, EReal.top_sub_coe, EReal.top_sub_coe]
    rfl
  | coe s =>
    rw [← EReal.coe_mul, ← EReal.coe_mul, ← EReal.coe_sub, ← EReal.coe_sub, Ideal.exp2_coe, Ideal.exp_coe]
    refine congrArg _ ?_
    show (2 : ℝ) ^ (s * c - m * c) = Real.exp (s - m)
    rw [Real.rpow_def_of_pos (by norm_num)]
    congr 1
    rw [hc]
    field_simp

/-- Scaling by a positive real keeps the greatest. -/
theorem top_scaled {c : ℝ} (hc : 0 < c) (n : ℕ) : top (fun j => sc j * (c : EReal)) n = top sc n * (c : EReal) := by
  have hm : Monotone fun x : EReal => x * (c : EReal) := fun a b h =>
    mul_le_mul_of_nonneg_right h (by exact_mod_cast hc.le)
  induction n with
  | zero => exact (EReal.bot_mul_coe_of_pos hc).symm
  | succ n ih =>
    unfold top at ih ⊢
    rw [Finset.range_add_one, Finset.sup_insert, Finset.sup_insert, ih]
    exact (hm.map_sup _ _).symm

/-- The weights' sum is a real when every score is at most a real. -/
theorem sum_exp_real (n : ℕ) (m : ℝ) (h : ∀ j, j < n → sc j ≤ (m : EReal)) :
    ∃ L : ℝ, ∑ j ∈ Finset.range n, Ideal.exp (sc j - m) = (L : EReal) := by
  induction n with
  | zero => exact ⟨0, rfl⟩
  | succ n ih =>
    obtain ⟨L, hL⟩ := ih fun j hj => h j (by omega)
    rw [Finset.sum_range_succ, hL]
    have hn := h n (by omega)
    generalize sc n = s at hn
    induction s with
    | bot => exact ⟨L, by simp⟩
    | top => exact absurd (top_le_iff.mp hn) (EReal.coe_ne_top m)
    | coe s => exact ⟨L + Real.exp (s - m), by rw [← EReal.coe_sub, Ideal.exp_coe, EReal.coe_add]⟩

/-- THE SOFTMAX. Dividing the weighted sum by the sum of the weights, the scores taken to the base two, is summing the values
by the weights each divided by their sum, the scores taken to the base `e` — whatever the scores and the values are. -/
theorem quotient_eq_softmax {c ε : ℝ} (hc : c = (Real.log 2)⁻¹) (hε : 0 < ε) (n : ℕ) :
    Ideal.div (acc (fun j => sc j * (c : EReal)) v n) (max (acc (fun j => sc j * (c : EReal)) (fun _ => 1) n) (ε : EReal))
      = ∑ j ∈ Finset.range n,
          Ideal.div (Ideal.exp (sc j - shift (top sc n)))
            (max (∑ k ∈ Finset.range n, Ideal.exp (sc k - shift (top sc n))) (ε : EReal)) * v j := by
  have hl : 0 < Real.log 2 := Real.log_pos (by norm_num)
  have hc0 : 0 < c := by rw [hc]; exact inv_pos.mpr hl
  have hε0 : (ε : EReal) ≠ 0 := by exact_mod_cast hε.ne'
  unfold acc
  rw [top_scaled sc hc0 n]
  rcases eq_or_ne (top sc n) ⊥ with hb | hb
  · -- no key has a score: every weight is nought on both sides
    have hs : ∀ j, j ∈ Finset.range n → sc j = ⊥ := fun j hj =>
      le_bot_iff.mp (hb ▸ le_top sc (Finset.mem_range.mp hj))
    have h1 : ∀ w : ℕ → EReal, ∑ j ∈ Finset.range n, Ideal.exp2 (sc j * (c : EReal) - top sc n * (c : EReal)) * w j = 0 :=
      fun w => Finset.sum_eq_zero fun j hj => by
        rw [hs j hj, EReal.bot_mul_coe_of_pos hc0]
        simp
    have h2 : ∑ j ∈ Finset.range n, Ideal.exp (sc j - shift (top sc n)) = 0 := Finset.sum_eq_zero fun j hj => by
      rw [hs j hj]
      simp
    rw [h1, h1, h2]
    have hd : Ideal.div 0 (max 0 (ε : EReal)) = 0 := by
      rw [max_eq_right (by exact_mod_cast hε.le), Ideal.div, if_neg hε0, zero_mul]
    rw [hd]
    refine (Finset.sum_eq_zero fun j hj => ?_).symm
    rw [hs j hj]
    simp [hd]
  rcases eq_or_ne (top sc n) ⊤ with ht | ht
  · -- some score is infinite: the power-of-two weights are nought, the sum of the exponentials is infinite
    have h1 : ∀ w : ℕ → EReal, ∑ j ∈ Finset.range n, Ideal.exp2 (sc j * (c : EReal) - top sc n * (c : EReal)) * w j = 0 :=
      fun w => Finset.sum_eq_zero fun j _ => by
        rw [ht, EReal.top_mul_coe_of_pos hc0]
        generalize sc j * (c : EReal) = x
        have : (Ideal.exp2 (x - ⊤)) = 0 := by
          induction x with
          | bot => rfl
          | top => rfl
          | coe x => rfl
        rw [this, zero_mul]
    have hsh : shift (top sc n) = 0 := if_pos (Or.inr ht)
    have hex : ∃ j ∈ Finset.range n, sc j = ⊤ := by
      by_contra hno
      push Not at hno
      have : top sc n < ⊤ := (Finset.sup_lt_iff (by simp)).mpr fun j hj => lt_top_iff_ne_top.mpr (hno j hj)
      exact this.ne ht
    have hnn : ∀ x : EReal, 0 ≤ Ideal.exp x := fun x => by
      induction x with
      | bot => simp
      | top => simp
      | coe x => rw [Ideal.exp_coe]; exact_mod_cast (Real.exp_pos x).le
    have h2 : ∑ j ∈ Finset.range n, Ideal.exp (sc j - shift (top sc n)) = ⊤ := by
      obtain ⟨j, hj, hjt⟩ := hex
      refine top_le_iff.mp ?_
      have := Finset.single_le_sum (f := fun j => Ideal.exp (sc j - shift (top sc n))) (fun k _ => hnn _) hj
      simpa [hsh, hjt] using this
    rw [h1, h1, h2, max_eq_left (_root_.le_top : (ε : EReal) ≤ ⊤)]
    have hd : ∀ x : EReal, Ideal.div x ⊤ = 0 := fun x => by
      rw [Ideal.div, if_neg EReal.top_ne_zero, EReal.inv_top, mul_zero]
    rw [max_eq_right (by exact_mod_cast hε.le), Ideal.div, if_neg hε0, zero_mul]
    refine (Finset.sum_eq_zero fun j _ => ?_).symm
    rw [hd, zero_mul]
  · -- the greatest score is a number
    have hsh : shift (top sc n) = top sc n := if_neg (by tauto)
    rw [hsh]
    have hle : ∀ j, j < n → sc j ≤ top sc n := fun j hj => le_top sc hj
    generalize top sc n = m at hb ht hle
    induction m with
    | bot => exact absurd rfl hb
    | top => exact absurd rfl ht
    | coe m =>
      simp only [exp2_scaled hc, mul_one]
      obtain ⟨L, hL⟩ := sum_exp_real sc n m hle
      rw [hL]
      have hD : max (L : EReal) (ε : EReal) = ((max L ε : ℝ) : EReal) := (EReal.coe_strictMono.monotone.map_max).symm
      have hpos : 0 < max L ε := lt_max_of_lt_right hε
      rw [hD]
      have hdiv : ∀ x : EReal, Ideal.div x ((max L ε : ℝ) : EReal) = x * (((max L ε)⁻¹ : ℝ) : EReal) := fun x => by
        rw [Ideal.div, if_neg (by exact_mod_cast hpos.ne'), EReal.coe_inv]
      simp only [hdiv]
      rw [sum_mul_of_real _ (inv_nonneg.mpr hpos.le)]
      refine Finset.sum_congr rfl fun j _ => ?_
      rw [mul_assoc, mul_comm (v j), ← mul_assoc]

end Cert.Online
-- ==== Proof.Steps.lean ====
module

public import proofs.«01_k».proof.Proof.Update
public import proofs.«01_k».proof.Proof.Online
public import Idealize.ShloMosaic.Lib.WritesUnit
public import Idealize.ShloMosaic.Lib.Exec.Geometry

/-! What the two scratch buffers hold while the kernel goes over the keys: for each of the 4096 rows (eight heads of
512 query positions) the maximum of the scores met so far and the sums weighted by them. One update of a block of 128
rows carries that state from `c` keys to `c + 512`. -/

@[expose] public section

set_option maxRecDepth 16384

noncomputable section

namespace Cert.Steps

open Idealize.ShloMosaic Idealize.ShloMosaic.TcCoe
open Cert.KernelIdeal Cert.Update

/-- The score of row `R` (head `R / 512`, position `512 t + R % 512`) against key `j`: −∞ past the position. -/
def score (t : ℕ) (x0 : Vec Ideal S8x512x128 .f32) (x1 : Vec Ideal S8x8192x128 .bf16) (R j : ℕ) : EReal :=
  if h : R < 4096 ∧ j < 8192 then
    if j ≤ 512 * t + R % 512 then
      ∑ d : Fin 128, x0 (ix3 ⟨R / 512, by omega⟩ ⟨R % 512, by omega⟩ d) * scale * x1 (ix3 ⟨R / 512, by omega⟩ ⟨j, h.2⟩ d)
    else ⊥
  else ⊥

/-- The value lane `l` of key `j` that row `R` sums: the rows of two heads share a value block. -/
def value (x2 : Vec Ideal S4x8192x256 .bf16) (R l j : ℕ) : EReal :=
  if h : R < 4096 ∧ l < 256 ∧ j < 8192 then x2 (ix3 ⟨R / 1024, by omega⟩ ⟨j, h.2.2⟩ ⟨l, h.2.1⟩) else 0

/-- A load of a rank-3 window one block deep and of whole rows, at an index. -/
theorem readAt_rows {sig : RefSig} {κ : Kind} {sp : Space} {A B b C : ℕ} {e : EltTy} (v : View sig κ sp ⟨3, ![A, B, C]⟩ e)
    (X : v.ty.Contents (Elt Ideal)) (x : Vec Ideal ⟨3, ![A, B, C]⟩ e) (hX : v.read (Elt Ideal) X = x)
    {off : Fin 3 → ℕ} (inb : ∀ a : Fin 3, off a + (⟨3, ![1, b, C]⟩ : Shape).size a ≤ (⟨3, ![A, B, C]⟩ : Shape).size a)
    (p o : ℕ) (hoff : off = ![p, o, 0]) (r : Fin b) (d : Fin C) (hp : p < A) (hr : o + r.val < B) :
    v.readAt (Elt Ideal) (Rect.unit (s := ⟨3, ![A, B, C]⟩) off (⟨3, ![1, b, C]⟩ : Shape).size inb).toLoadRect X (ix3 0 r d)
      = x (ix3 ⟨p, hp⟩ ⟨o + r.val, hr⟩ d) := by
  subst hX hoff
  refine congrArg (v.read (Elt Ideal) X) ?_
  funext a
  apply Fin.ext
  match a with
  | ⟨0, _⟩ => rfl
  | ⟨1, _⟩ => show o + 1 * r.val = o + r.val; omega
  | ⟨2, _⟩ => show 0 + 1 * d.val = d.val; omega

/-- A load of whole rows of a rank-2 buffer, at an index. -/
theorem readAt_block {sig : RefSig} {κ : Kind} {sp : Space} {B b C : ℕ} {e : EltTy} (v : View sig κ sp ⟨2, ![B, C]⟩ e)
    (X : v.ty.Contents (Elt Ideal))
    {off : Fin 2 → ℕ} (inb : ∀ a : Fin 2, off a + (⟨2, ![b, C]⟩ : Shape).size a ≤ (⟨2, ![B, C]⟩ : Shape).size a)
    (o : ℕ) (hoff : off = ![o, 0]) (r : Fin b) (d : Fin C) (hr : o + r.val < B) :
    v.readAt (Elt Ideal) (Rect.unit (s := ⟨2, ![B, C]⟩) off (⟨2, ![b, C]⟩ : Shape).size inb).toLoadRect X (ix2 r d)
      = v.read (Elt Ideal) X (ix2 ⟨o + r.val, hr⟩ d) := by
  subst hoff
  refine congrArg (v.read (Elt Ideal) X) ?_
  funext a
  apply Fin.ext
  match a with
  | ⟨0, _⟩ => show o + 1 * r.val = o + r.val; omega
  | ⟨1, _⟩ => show 0 + 1 * d.val = d.val; omega

variable (arg8 : Memref sig .tc .vmem S4096x128 .f32) (arg9 : Memref sig .tc .vmem S4096x256 .f32)
variable (sc : ℕ → ℕ → EReal) (vv : ℕ → ℕ → ℕ → EReal)

/-- The two buffers hold, on the rows `K`, the maximum and the sums of the first `cnt R` keys. -/
def Holds (g8 : BufTy.Contents (Elt Ideal) arg8.view.ty) (g9 : BufTy.Contents (Elt Ideal) arg9.view.ty)
    (K : ℕ → Prop) (cnt : ℕ → ℕ) : Prop :=
  (∀ (R : Fin 4096) (l : Fin 128), K R.val →
    arg8.view.read (Elt Ideal) g8 (ix2 R l) = Online.top (sc R.val) (cnt R.val)) ∧
  (∀ (R : Fin 4096) (l : Fin 256), K R.val →
    arg9.view.read (Elt Ideal) g9 (ix2 R l) = Online.acc (sc R.val) (vv R.val l.val) (cnt R.val))

variable {arg8 arg9 sc vv}

/-- The state with its rows and counts said another way. -/
theorem Holds.congr {g8 : BufTy.Contents (Elt Ideal) arg8.view.ty} {g9 : BufTy.Contents (Elt Ideal) arg9.view.ty}
    {K K' : ℕ → Prop} {cnt cnt' : ℕ → ℕ} (h : Holds arg8 arg9 sc vv g8 g9 K cnt)
    (hK : ∀ R, R < 4096 → K' R → K R) (hc : ∀ R, R < 4096 → cnt' R = cnt R) : Holds arg8 arg9 sc vv g8 g9 K' cnt' :=
  ⟨fun R l hR => by rw [hc R.val R.isLt]; exact h.1 R l (hK _ R.isLt hR),
   fun R l hR => by rw [hc R.val R.isLt]; exact h.2 R l (hK _ R.isLt hR)⟩

/-- One update of block `n`: the block's rows go on by 512 keys, the other rows keep what they held. -/
theorem Holds.update {f8 : BufTy.Contents (Elt Ideal) arg8.view.ty} {f9 : BufTy.Contents (Elt Ideal) arg9.view.ty}
    {L8 : List (View.Piece (Elt Ideal) S4096x128 .f32)} {L9 : List (View.Piece (Elt Ideal) S4096x256 .f32)}
    {K : ℕ → Prop} {cnt : ℕ → ℕ}
    (h : Holds arg8 arg9 sc vv (arg8.view.writes (Elt Ideal) f8 L8) (arg9.view.writes (Elt Ideal) f9 L9) K cnt)
    (n c : ℕ) {off8 off9 : Fin 2 → ℕ} (h8 : off8 = ![128 * n, 0]) (h9 : off9 = ![128 * n, 0])
    (inb8 : ∀ a : Fin 2, off8 a + S128x128.size a ≤ S4096x128.size a) (inb9 : ∀ a : Fin 2, off9 a + S128x256.size a ≤ S4096x256.size a)
    (s : FVec Ideal S128x512 .bf16) (v : Vec Ideal S1x512x256 .bf16) (m : Vec Ideal S128x128 .f32) (a : Vec Ideal S128x256 .f32)
    (hm : ∀ r l : Fin 128, m (ix2 r l) = Online.top (sc (128 * n + r.val)) c)
    (ha : ∀ (r : Fin 128) (l : Fin 256), a (ix2 r l) = Online.acc (sc (128 * n + r.val)) (vv (128 * n + r.val) l.val) c)
    (hs : ∀ (r : Fin 128) (k : Fin 512), s (ix2 r k) = sc (128 * n + r.val) (c + k.val))
    (hv : ∀ (r : Fin 128) (k : Fin 512) (l : Fin 256), v (ix3 0 k l) = vv (128 * n + r.val) l.val (c + k.val)) :
    Holds arg8 arg9 sc vv
      (arg8.view.writes (Elt Ideal) f8 ((⟨Rect.unit (s := S4096x128) off8 S128x128.size inb8, storeMax s m⟩ : View.Piece (Elt Ideal) S4096x128 .f32) :: L8))
      (arg9.view.writes (Elt Ideal) f9 ((⟨Rect.unit (s := S4096x256) off9 S128x256.size inb9, storeAcc s v m a⟩ : View.Piece (Elt Ideal) S4096x256 .f32) :: L9))
      (fun R => K R ∨ R / 128 = n) (fun R => if R / 128 = n then c + 512 else cnt R) := by
  have hmax : ∀ r l : Fin 128, newMax s m (ix2 r l) = Online.top (sc (128 * n + r.val)) (c + 512) := fun r l => by
    rw [newMax_apply, hm, Online.top_add, Online.fold_max_eq_sup]
    simp only [hs]
  refine ⟨fun R l hR => ?_, fun R l hR => ?_⟩ <;> beta_reduce
  · by_cases hn : R.val / 128 = n
    · rw [if_pos hn]
      have hr : R.val - 128 * n < 128 := by omega
      refine (View.read_writes_cons_rows_of_mem arg8.view f8 inb8 _ L8 (ix2 R l) (ix2 ⟨R.val - 128 * n, hr⟩ l) h8 ?_ rfl).trans ?_
      · show R.val = 128 * n + (R.val - 128 * n); omega
      · rw [storeMax_apply, hmax]
        congr 2; show 128 * n + (R.val - 128 * n) = R.val; omega
    · rw [if_neg hn]
      refine (View.read_writes_cons_rows_of_not_mem arg8.view f8 inb8 _ L8 (ix2 R l) h8 rfl ?_).trans ?_
      · show R.val < 128 * n ∨ 128 * n + 128 ≤ R.val; omega
      · exact h.1 R l (hR.resolve_right hn)
  · by_cases hn : R.val / 128 = n
    · rw [if_pos hn]
      have hr : R.val - 128 * n < 128 := by omega
      have hR' : 128 * n + (R.val - 128 * n) = R.val := by omega
      refine (View.read_writes_cons_rows_of_mem arg9.view f9 inb9 _ L9 (ix2 R l) (ix2 ⟨R.val - 128 * n, hr⟩ l) h9 hR'.symm rfl).trans ?_
      rw [storeAcc_apply, newAcc_apply _ _ _ _ _ _ _ _ (hm ⟨R.val - 128 * n, hr⟩) (hmax ⟨R.val - 128 * n, hr⟩), ha,
        Online.acc_add]
      simp only [hs, hv ⟨R.val - 128 * n, hr⟩, hR']
    · rw [if_neg hn]
      refine (View.read_writes_cons_rows_of_not_mem arg9.view f9 inb9 _ L9 (ix2 R l) h9 rfl ?_).trans ?_
      · show R.val < 128 * n ∨ 128 * n + 128 ≤ R.val; omega
      · exact h.2 R l (hR.resolve_right hn)

/-- The counts in the middle of a chunk: the blocks before `n` have met `c + 512` keys, the others `c`. -/
def count (c n R : ℕ) : ℕ := if R / 128 < n then c + 512 else c

variable (arg8 arg9 sc vv)

/-- The state while a chunk is gone over, of the lists of pieces written since the buffers held `f8`, `f9`: over those
contents every row is known, over unknown contents those the pieces cover (all of them where `b`). -/
def State (b : Prop) (c n : ℕ) (f8 : BufTy.Contents (Elt Ideal) arg8.view.ty) (f9 : BufTy.Contents (Elt Ideal) arg9.view.ty)
    (L8 : List (View.Piece (Elt Ideal) S4096x128 .f32)) (L9 : List (View.Piece (Elt Ideal) S4096x256 .f32)) : Prop :=
  Holds arg8 arg9 sc vv (arg8.view.writes (Elt Ideal) f8 L8) (arg9.view.writes (Elt Ideal) f9 L9) (fun _ => True) (count c n) ∧
  Holds arg8 arg9 sc vv (arg8.view.writes (Elt Ideal) arg8.view.junk L8) (arg9.view.writes (Elt Ideal) arg9.view.junk L9)
    (fun R => b ∨ R / 128 < n) (count c n)

variable {arg8 arg9 sc vv}

/-- After its 32 blocks a chunk is done: every row is covered and has met 512 keys more. -/
theorem State.next {b : Prop} {c : ℕ} {f8 : BufTy.Contents (Elt Ideal) arg8.view.ty} {f9 : BufTy.Contents (Elt Ideal) arg9.view.ty}
    {L8 : List (View.Piece (Elt Ideal) S4096x128 .f32)} {L9 : List (View.Piece (Elt Ideal) S4096x256 .f32)}
    (h : State arg8 arg9 sc vv b c 32 f8 f9 L8 L9) : State arg8 arg9 sc vv True (c + 512) 0 f8 f9 L8 L9 := by
  have hc : ∀ R, R < 4096 → count (c + 512) 0 R = count c 32 R := fun R hR => by
    unfold count
    rw [if_neg (Nat.not_lt_zero _), if_pos (by omega)]
  exact ⟨h.1.congr (fun _ _ => id) hc, h.2.congr (fun R hR _ => Or.inr (by omega)) hc⟩

/-- One update of block `n` inside a chunk. -/
theorem State.update {b : Prop} {f8 : BufTy.Contents (Elt Ideal) arg8.view.ty} {f9 : BufTy.Contents (Elt Ideal) arg9.view.ty}
    {L8 : List (View.Piece (Elt Ideal) S4096x128 .f32)} {L9 : List (View.Piece (Elt Ideal) S4096x256 .f32)} {n c : ℕ}
    (h : State arg8 arg9 sc vv b c n f8 f9 L8 L9)
    {off8 off9 : Fin 2 → ℕ} (h8 : off8 = ![128 * n, 0]) (h9 : off9 = ![128 * n, 0])
    (inb8 : ∀ a : Fin 2, off8 a + S128x128.size a ≤ S4096x128.size a) (inb9 : ∀ a : Fin 2, off9 a + S128x256.size a ≤ S4096x256.size a)
    (s : FVec Ideal S128x512 .bf16) (v : Vec Ideal S1x512x256 .bf16) (m : Vec Ideal S128x128 .f32) (a : Vec Ideal S128x256 .f32)
    (hm : ∀ r l : Fin 128, m (ix2 r l) = Online.top (sc (128 * n + r.val)) c)
    (ha : ∀ (r : Fin 128) (l : Fin 256), a (ix2 r l) = Online.acc (sc (128 * n + r.val)) (vv (128 * n + r.val) l.val) c)
    (hs : ∀ (r : Fin 128) (k : Fin 512), s (ix2 r k) = sc (128 * n + r.val) (c + k.val))
    (hv : ∀ (r : Fin 128) (k : Fin 512) (l : Fin 256), v (ix3 0 k l) = vv (128 * n + r.val) l.val (c + k.val)) :
    State arg8 arg9 sc vv b c (n + 1) f8 f9
      ((⟨Rect.unit (s := S4096x128) off8 S128x128.size inb8, storeMax s m⟩ : View.Piece (Elt Ideal) S4096x128 .f32) :: L8)
      ((⟨Rect.unit (s := S4096x256) off9 S128x256.size inb9, storeAcc s v m a⟩ : View.Piece (Elt Ideal) S4096x256 .f32) :: L9) := by
  have hc : ∀ R, R < 4096 → count c (n + 1) R = if R / 128 = n then c + 512 else count c n R := fun R _ => by
    unfold count
    split_ifs <;> first | rfl | omega
  exact ⟨(h.1.update n c h8 h9 inb8 inb9 s v m a hm ha hs hv).congr (fun _ _ _ => Or.inl trivial) hc,
    (h.2.update n c h8 h9 inb8 inb9 s v m a hm ha hs hv).congr (fun R _ hR => by
      rcases hR with hb | hR
      · exact Or.inl (Or.inl hb)
      · by_cases e : R / 128 = n
        · exact Or.inr e
        · exact Or.inl (Or.inr (by omega))) hc⟩

variable {t : ℕ} {x0 : Vec Ideal S8x512x128 .f32} {x1 : Vec Ideal S8x8192x128 .bf16} {x2 : Vec Ideal S4x8192x256 .bf16}
variable {arg3 : Memref sig .tc .vmem S8x512x128 .f32} {arg4 : Memref sig .tc .vmem S8x8192x128 .bf16} {arg5 : Memref sig .tc .vmem S4x8192x256 .bf16}
variable {X3 : BufTy.Contents (Elt Ideal) arg3.view.ty} {X4 : BufTy.Contents (Elt Ideal) arg4.view.ty} {X5 : BufTy.Contents (Elt Ideal) arg5.view.ty}

/-- The products of the loaded queries and keys are the scores' sums. -/
theorem sum_loads (hX3 : arg3.view.read (Elt Ideal) X3 = x0) (hX4 : arg4.view.read (Elt Ideal) X4 = x1)
    {n c : ℕ} (hn : n < 32) (hc : c + 512 ≤ 8192) {offq offk : Fin 3 → ℕ}
    (inbq : ∀ a : Fin 3, offq a + S1x128x128.size a ≤ S8x512x128.size a) (inbk : ∀ a : Fin 3, offk a + S1x512x128.size a ≤ S8x8192x128.size a)
    (hq : offq = ![n / 4, 128 * (n % 4), 0]) (hk : offk = ![n / 4, c, 0]) (r : Fin 128) (k : Fin 512) :
    (if c + k.val ≤ 512 * t + (128 * (n % 4) + r.val) then
      ∑ d : Fin 128, arg3.view.readAt (Elt Ideal) (Rect.unit (s := S8x512x128) offq S1x128x128.size inbq).toLoadRect X3 (ix3 0 r d) * scale
        * arg4.view.readAt (Elt Ideal) (Rect.unit (s := S8x8192x128) offk S1x512x128.size inbk).toLoadRect X4 (ix3 0 k d) else (⊥ : EReal))
      = score t x0 x1 (128 * n + r.val) (c + k.val) := by
  have hR : 128 * n + r.val < 4096 ∧ c + k.val < 8192 := by omega
  unfold score
  rw [dif_pos hR]
  have e1 : (128 * n + r.val) % 512 = 128 * (n % 4) + r.val := by omega
  have e2 : (128 * n + r.val) / 512 = n / 4 := by omega
  simp only [e1, e2]
  split_ifs
  · refine Finset.sum_congr rfl fun d _ => ?_
    rw [readAt_rows arg3.view X3 x0 hX3 inbq _ _ hq r d (by omega) (by omega),
      readAt_rows arg4.view X4 x1 hX4 inbk _ _ hk k d (by omega) (by omega)]
  · rfl

/-- The loaded values are the value lanes the rows sum. -/
theorem value_load (hX5 : arg5.view.read (Elt Ideal) X5 = x2)
    {n c : ℕ} (hn : n < 32) (hc : c + 512 ≤ 8192) {offv : Fin 3 → ℕ}
    (inbv : ∀ a : Fin 3, offv a + S1x512x256.size a ≤ S4x8192x256.size a)
    (hv : offv = ![n / 8, c, 0]) (r : Fin 128) (k : Fin 512) (l : Fin 256) :
    arg5.view.readAt (Elt Ideal) (Rect.unit (s := S4x8192x256) offv S1x512x256.size inbv).toLoadRect X5 (ix3 0 k l)
      = value x2 (128 * n + r.val) l.val (c + k.val) := by
  unfold value
  rw [dif_pos (by omega), readAt_rows arg5.view X5 x2 hX5 inbv _ _ hv k l (by omega) (by omega)]
  have e : (128 * n + r.val) / 1024 = n / 8 := by omega
  simp only [e]

/-- The state over contents that hold `c` keys, read by a load of block `n` that no piece meets. -/
theorem load_old {f8 : BufTy.Contents (Elt Ideal) arg8.view.ty} {f9 : BufTy.Contents (Elt Ideal) arg9.view.ty} {n c : ℕ} (hn : n < 32)
    (h : Holds arg8 arg9 sc vv f8 f9 (fun _ => True) (fun _ => c)) {off8 off9 : Fin 2 → ℕ} (h8 : off8 = ![128 * n, 0]) (h9 : off9 = ![128 * n, 0])
    (inb8 : ∀ a : Fin 2, off8 a + S128x128.size a ≤ S4096x128.size a) (inb9 : ∀ a : Fin 2, off9 a + S128x256.size a ≤ S4096x256.size a) :
    (∀ r l : Fin 128, arg8.view.readAt (Elt Ideal) (Rect.unit (s := S4096x128) off8 S128x128.size inb8).toLoadRect f8 (ix2 r l)
      = Online.top (sc (128 * n + r.val)) c) ∧
    (∀ (r : Fin 128) (l : Fin 256), arg9.view.readAt (Elt Ideal) (Rect.unit (s := S4096x256) off9 S128x256.size inb9).toLoadRect f9 (ix2 r l)
      = Online.acc (sc (128 * n + r.val)) (vv (128 * n + r.val) l.val) c) :=
  ⟨fun r l => (readAt_block arg8.view f8 inb8 _ h8 r l (by omega)).trans (h.1 _ l trivial),
   fun r l => (readAt_block arg9.view f9 inb9 _ h9 r l (by omega)).trans (h.2 _ l trivial)⟩

/-- The same of a load the pieces cover. -/
theorem load_new {f8 : BufTy.Contents (Elt Ideal) arg8.view.ty} {f9 : BufTy.Contents (Elt Ideal) arg9.view.ty} {n c : ℕ} (hn : n < 32)
    {L8 : List (View.Piece (Elt Ideal) S4096x128 .f32)} {L9 : List (View.Piece (Elt Ideal) S4096x256 .f32)}
    (h : State arg8 arg9 sc vv True c n f8 f9 L8 L9) {off8 off9 : Fin 2 → ℕ} (h8 : off8 = ![128 * n, 0]) (h9 : off9 = ![128 * n, 0])
    (inb8 : ∀ a : Fin 2, off8 a + S128x128.size a ≤ S4096x128.size a) (inb9 : ∀ a : Fin 2, off9 a + S128x256.size a ≤ S4096x256.size a) :
    (∀ r l : Fin 128, arg8.view.readCov L8 (Rect.unit (s := S4096x128) off8 S128x128.size inb8).toLoadRect (ix2 r l)
      = Online.top (sc (128 * n + r.val)) c) ∧
    (∀ (r : Fin 128) (l : Fin 256), arg9.view.readCov L9 (Rect.unit (s := S4096x256) off9 S128x256.size inb9).toLoadRect (ix2 r l)
      = Online.acc (sc (128 * n + r.val)) (vv (128 * n + r.val) l.val) c) := by
  have hc : ∀ r : Fin 128, count c n (128 * n + r.val) = c := fun r => if_neg (by omega)
  refine ⟨fun r l => (readAt_block arg8.view _ inb8 _ h8 r l (by omega)).trans ((h.2.1 _ l (Or.inl trivial)).trans ?_),
    fun r l => (readAt_block arg9.view _ inb9 _ h9 r l (by omega)).trans ((h.2.2 _ l (Or.inl trivial)).trans ?_)⟩
  · show Online.top _ (count c n (128 * n + r.val)) = _; rw [hc]
  · show Online.acc _ _ (count c n (128 * n + r.val)) = _; rw [hc]

end Cert.Steps

end
-- ==== Proof.Kinds.lean ====
module

public import proofs.«01_k».proof.Proof.Steps

/-! The three kinds of update the kernel makes, each carrying the state over one block of 128 rows: in a loop trip's
first chunk (the loads reach the contents before the trip), in the later chunks (the loads are covered by the stores
before them), and in the diagonal chunk (the scores masked). -/

@[expose] public section

set_option maxRecDepth 16384

noncomputable section

namespace Cert.Steps

open Idealize.ShloMosaic Idealize.ShloMosaic.TcCoe
open Cert.KernelIdeal Cert.Update

variable {t : ℕ} {x0 : Vec Ideal S8x512x128 .f32} {x1 : Vec Ideal S8x8192x128 .bf16} {x2 : Vec Ideal S4x8192x256 .bf16}
variable {arg3 : Memref sig .tc .vmem S8x512x128 .f32} {arg4 : Memref sig .tc .vmem S8x8192x128 .bf16} {arg5 : Memref sig .tc .vmem S4x8192x256 .bf16}
variable {arg8 : Memref sig .tc .vmem S4096x128 .f32} {arg9 : Memref sig .tc .vmem S4096x256 .f32}
variable {X3 : BufTy.Contents (Elt Ideal) arg3.view.ty} {X4 : BufTy.Contents (Elt Ideal) arg4.view.ty} {X5 : BufTy.Contents (Elt Ideal) arg5.view.ty}
variable {f8 : BufTy.Contents (Elt Ideal) arg8.view.ty} {f9 : BufTy.Contents (Elt Ideal) arg9.view.ty}
variable {L8 : List (View.Piece (Elt Ideal) S4096x128 .f32)} {L9 : List (View.Piece (Elt Ideal) S4096x256 .f32)}

/-- The loads and stores a block makes lie inside the arrays. -/
theorem inbQ {n : ℕ} (hn : n < 32) {off : Fin 3 → ℕ} (h : off = ![n / 4, 128 * (n % 4), 0]) : ∀ a : Fin 3, off a + S1x128x128.size a ≤ S8x512x128.size a := by
  subst h
  intro a
  match a with
  | ⟨0, _⟩ => show n / 4 + 1 ≤ 8; omega
  | ⟨1, _⟩ => show 128 * (n % 4) + 128 ≤ 512; omega
  | ⟨2, _⟩ => show 0 + 128 ≤ 128; omega

@[inherit_doc inbQ] theorem inbK {n c : ℕ} (hn : n < 32) (hc : c + 512 ≤ 8192) {off : Fin 3 → ℕ} (h : off = ![n / 4, c, 0]) : ∀ a : Fin 3, off a + S1x512x128.size a ≤ S8x8192x128.size a := by
  subst h
  intro a
  match a with
  | ⟨0, _⟩ => show n / 4 + 1 ≤ 8; omega
  | ⟨1, _⟩ => show c + 512 ≤ 8192; omega
  | ⟨2, _⟩ => show 0 + 128 ≤ 128; omega

@[inherit_doc inbQ] theorem inbV {n c : ℕ} (hn : n < 32) (hc : c + 512 ≤ 8192) {off : Fin 3 → ℕ} (h : off = ![n / 8, c, 0]) : ∀ a : Fin 3, off a + S1x512x256.size a ≤ S4x8192x256.size a := by
  subst h
  intro a
  match a with
  | ⟨0, _⟩ => show n / 8 + 1 ≤ 4; omega
  | ⟨1, _⟩ => show c + 512 ≤ 8192; omega
  | ⟨2, _⟩ => show 0 + 256 ≤ 256; omega

@[inherit_doc inbQ] theorem inbM {n : ℕ} (hn : n < 32) {off : Fin 2 → ℕ} (h : off = ![128 * n, 0]) : ∀ a : Fin 2, off a + S128x128.size a ≤ S4096x128.size a := by
  subst h
  intro a
  match a with
  | ⟨0, _⟩ => show 128 * n + 128 ≤ 4096; omega
  | ⟨1, _⟩ => show 0 + 128 ≤ 128; omega

@[inherit_doc inbQ] theorem inbA {n : ℕ} (hn : n < 32) {off : Fin 2 → ℕ} (h : off = ![128 * n, 0]) : ∀ a : Fin 2, off a + S128x256.size a ≤ S4096x256.size a := by
  subst h
  intro a
  match a with
  | ⟨0, _⟩ => show 128 * n + 128 ≤ 4096; omega
  | ⟨1, _⟩ => show 0 + 256 ≤ 256; omega

/-- An update of a trip's first chunk. -/
theorem step_old {b : Prop} {n c : ℕ} (hn : n < 32) (ht : t < 16) (hc : c + 512 ≤ 512 * t)
    (hX3 : arg3.view.read (Elt Ideal) X3 = x0) (hX4 : arg4.view.read (Elt Ideal) X4 = x1) (hX5 : arg5.view.read (Elt Ideal) X5 = x2)
    (h0 : Holds arg8 arg9 (score t x0 x1) (value x2) f8 f9 (fun _ => True) (fun _ => c))
    {offq offk offv : Fin 3 → ℕ} {off8 off9 : Fin 2 → ℕ}
    (h : State arg8 arg9 (score t x0 x1) (value x2) b c n f8 f9 L8 L9)
    (hq : offq = ![n / 4, 128 * (n % 4), 0]) (hk : offk = ![n / 4, c, 0]) (hv : offv = ![n / 8, c, 0])
    (h8 : off8 = ![128 * n, 0]) (h9 : off9 = ![128 * n, 0])
    {P8 : View.Piece (Elt Ideal) S4096x128 .f32} {P9 : View.Piece (Elt Ideal) S4096x256 .f32}
    (e8 : P8 = ⟨Rect.unit (s := S4096x128) off8 S128x128.size (inbM hn h8), storeMax
        (plain (arg3.view.readAt (Elt Ideal) (Rect.unit (s := S8x512x128) offq S1x128x128.size (inbQ hn hq)).toLoadRect X3)
        (arg4.view.readAt (Elt Ideal) (Rect.unit (s := S8x8192x128) offk S1x512x128.size (inbK hn (by omega) hk)).toLoadRect X4))
        (arg8.view.readAt (Elt Ideal) (Rect.unit (s := S4096x128) off8 S128x128.size (inbM hn h8)).toLoadRect f8)⟩)
    (e9 : P9 = ⟨Rect.unit (s := S4096x256) off9 S128x256.size (inbA hn h9), storeAcc
        (plain (arg3.view.readAt (Elt Ideal) (Rect.unit (s := S8x512x128) offq S1x128x128.size (inbQ hn hq)).toLoadRect X3)
        (arg4.view.readAt (Elt Ideal) (Rect.unit (s := S8x8192x128) offk S1x512x128.size (inbK hn (by omega) hk)).toLoadRect X4))
        (arg5.view.readAt (Elt Ideal) (Rect.unit (s := S4x8192x256) offv S1x512x256.size (inbV hn (by omega) hv)).toLoadRect X5)
        (arg8.view.readAt (Elt Ideal) (Rect.unit (s := S4096x128) off8 S128x128.size (inbM hn h8)).toLoadRect f8)
        (arg9.view.readAt (Elt Ideal) (Rect.unit (s := S4096x256) off9 S128x256.size (inbA hn h9)).toLoadRect f9)⟩) :
    State arg8 arg9 (score t x0 x1) (value x2) b c (n + 1) f8 f9
      (P8 :: L8)
      (P9 :: L9) := by
  subst e8 e9
  have hl := load_old hn h0 h8 h9 (inbM hn h8) (inbA hn h9)
  exact h.update h8 h9 (inbM hn h8) (inbA hn h9) _ _ _ _ hl.1 hl.2
    (fun r k => by
      rw [plain_apply, ← sum_loads (t := t) hX3 hX4 hn (by omega) (inbQ hn hq) (inbK hn (by omega) hk) hq hk r k, if_pos (by omega)])
    (fun r k l => value_load hX5 hn (by omega) (inbV hn (by omega) hv) hv r k l)

/-- An update of a later chunk below the diagonal. -/
theorem step_new {n c : ℕ} (hn : n < 32) (ht : t < 16) (hc : c + 512 ≤ 512 * t)
    (hX3 : arg3.view.read (Elt Ideal) X3 = x0) (hX4 : arg4.view.read (Elt Ideal) X4 = x1) (hX5 : arg5.view.read (Elt Ideal) X5 = x2)
    {offq offk offv : Fin 3 → ℕ} {off8 off9 : Fin 2 → ℕ}
    (h : State arg8 arg9 (score t x0 x1) (value x2) True c n f8 f9 L8 L9)
    (hq : offq = ![n / 4, 128 * (n % 4), 0]) (hk : offk = ![n / 4, c, 0]) (hv : offv = ![n / 8, c, 0])
    (h8 : off8 = ![128 * n, 0]) (h9 : off9 = ![128 * n, 0])
    {P8 : View.Piece (Elt Ideal) S4096x128 .f32} {P9 : View.Piece (Elt Ideal) S4096x256 .f32}
    (e8 : P8 = ⟨Rect.unit (s := S4096x128) off8 S128x128.size (inbM hn h8), storeMax
        (plain (arg3.view.readAt (Elt Ideal) (Rect.unit (s := S8x512x128) offq S1x128x128.size (inbQ hn hq)).toLoadRect X3)
        (arg4.view.readAt (Elt Ideal) (Rect.unit (s := S8x8192x128) offk S1x512x128.size (inbK hn (by omega) hk)).toLoadRect X4))
        (arg8.view.readCov L8 (Rect.unit (s := S4096x128) off8 S128x128.size (inbM hn h8)).toLoadRect)⟩)
    (e9 : P9 = ⟨Rect.unit (s := S4096x256) off9 S128x256.size (inbA hn h9), storeAcc
        (plain (arg3.view.readAt (Elt Ideal) (Rect.unit (s := S8x512x128) offq S1x128x128.size (inbQ hn hq)).toLoadRect X3)
        (arg4.view.readAt (Elt Ideal) (Rect.unit (s := S8x8192x128) offk S1x512x128.size (inbK hn (by omega) hk)).toLoadRect X4))
        (arg5.view.readAt (Elt Ideal) (Rect.unit (s := S4x8192x256) offv S1x512x256.size (inbV hn (by omega) hv)).toLoadRect X5)
        (arg8.view.readCov L8 (Rect.unit (s := S4096x128) off8 S128x128.size (inbM hn h8)).toLoadRect)
        (arg9.view.readCov L9 (Rect.unit (s := S4096x256) off9 S128x256.size (inbA hn h9)).toLoadRect)⟩) :
    State arg8 arg9 (score t x0 x1) (value x2) True c (n + 1) f8 f9
      (P8 :: L8)
      (P9 :: L9) := by
  subst e8 e9
  have hl := load_new hn h h8 h9 (inbM hn h8) (inbA hn h9)
  exact h.update h8 h9 (inbM hn h8) (inbA hn h9) _ _ _ _ hl.1 hl.2
    (fun r k => by
      rw [plain_apply, ← sum_loads (t := t) hX3 hX4 hn (by omega) (inbQ hn hq) (inbK hn (by omega) hk) hq hk r k, if_pos (by omega)])
    (fun r k l => value_load hX5 hn (by omega) (inbV hn (by omega) hv) hv r k l)

/-- An update of the diagonal chunk. -/
theorem step_mask {n c : ℕ} (hn : n < 32) (ht : t < 16) (hc : c = 512 * t)
    (hX3 : arg3.view.read (Elt Ideal) X3 = x0) (hX4 : arg4.view.read (Elt Ideal) X4 = x1) (hX5 : arg5.view.read (Elt Ideal) X5 = x2)
    {offq offk offv : Fin 3 → ℕ} {off8 off9 : Fin 2 → ℕ}
    (h : State arg8 arg9 (score t x0 x1) (value x2) True c n f8 f9 L8 L9)
    (hq : offq = ![n / 4, 128 * (n % 4), 0]) (hk : offk = ![n / 4, c, 0]) (hv : offv = ![n / 8, c, 0])
    (h8 : off8 = ![128 * n, 0]) (h9 : off9 = ![128 * n, 0])
    {P8 : View.Piece (Elt Ideal) S4096x128 .f32} {P9 : View.Piece (Elt Ideal) S4096x256 .f32}
    (e8 : P8 = ⟨Rect.unit (s := S4096x128) off8 S128x128.size (inbM hn h8), storeMax
        (masked (BitVec.ofNat 32 (128 * (n % 4))) (arg3.view.readAt (Elt Ideal) (Rect.unit (s := S8x512x128) offq S1x128x128.size (inbQ hn hq)).toLoadRect X3)
        (arg4.view.readAt (Elt Ideal) (Rect.unit (s := S8x8192x128) offk S1x512x128.size (inbK hn (by omega) hk)).toLoadRect X4))
        (arg8.view.readCov L8 (Rect.unit (s := S4096x128) off8 S128x128.size (inbM hn h8)).toLoadRect)⟩)
    (e9 : P9 = ⟨Rect.unit (s := S4096x256) off9 S128x256.size (inbA hn h9), storeAcc
        (masked (BitVec.ofNat 32 (128 * (n % 4))) (arg3.view.readAt (Elt Ideal) (Rect.unit (s := S8x512x128) offq S1x128x128.size (inbQ hn hq)).toLoadRect X3)
        (arg4.view.readAt (Elt Ideal) (Rect.unit (s := S8x8192x128) offk S1x512x128.size (inbK hn (by omega) hk)).toLoadRect X4))
        (arg5.view.readAt (Elt Ideal) (Rect.unit (s := S4x8192x256) offv S1x512x256.size (inbV hn (by omega) hv)).toLoadRect X5)
        (arg8.view.readCov L8 (Rect.unit (s := S4096x128) off8 S128x128.size (inbM hn h8)).toLoadRect)
        (arg9.view.readCov L9 (Rect.unit (s := S4096x256) off9 S128x256.size (inbA hn h9)).toLoadRect)⟩) :
    State arg8 arg9 (score t x0 x1) (value x2) True c (n + 1) f8 f9
      (P8 :: L8)
      (P9 :: L9) := by
  subst e8 e9
  have hl := load_new hn h h8 h9 (inbM hn h8) (inbA hn h9)
  exact h.update h8 h9 (inbM hn h8) (inbA hn h9) _ _ _ _ hl.1 hl.2
    (fun r k => by
      rw [masked_apply _ (by omega), ← sum_loads (t := t) hX3 hX4 hn (by omega) (inbQ hn hq) (inbK hn (by omega) hk) hq hk r k]
      refine if_congr ?_ rfl rfl
      omega)
    (fun r k l => value_load hX5 hn (by omega) (inbV hn (by omega) hv) hv r k l)

end Cert.Steps

end
-- ==== Proof.Offsets.lean ====
module

public import proofs.«01_k».proof.Proof.Gen.KernelIdeal

/-! Where the key and value loads of each chunk stand: head (or pair of heads), then the chunk's first key. -/

@[expose] public section

set_option maxRecDepth 16384

namespace Cert.Offsets

open Idealize.ShloMosaic Idealize.ShloMosaic.TcCoe
open Cert.KernelIdeal

/-! Inside the loop: chunk `r` of trip `k` starts at key `512 (4 k + r)`. -/

theorem loop_k0 : ∀ (i : grid0.Coords) (k : Fin (k0_t1_loop i).trips) (r : Fin 4), k0_off1 i k (BitVec.ofNat 32 r.val) = ![0, 512 * (4 * k.val + r.val), 0] := by decide +kernel
theorem loop_k1 : ∀ (i : grid0.Coords) (k : Fin (k0_t1_loop i).trips) (r : Fin 4), k0_off3 i k (BitVec.ofNat 32 r.val) = ![1, 512 * (4 * k.val + r.val), 0] := by decide +kernel
theorem loop_k2 : ∀ (i : grid0.Coords) (k : Fin (k0_t1_loop i).trips) (r : Fin 4), k0_off4 i k (BitVec.ofNat 32 r.val) = ![2, 512 * (4 * k.val + r.val), 0] := by decide +kernel
theorem loop_k3 : ∀ (i : grid0.Coords) (k : Fin (k0_t1_loop i).trips) (r : Fin 4), k0_off6 i k (BitVec.ofNat 32 r.val) = ![3, 512 * (4 * k.val + r.val), 0] := by decide +kernel
theorem loop_k4 : ∀ (i : grid0.Coords) (k : Fin (k0_t1_loop i).trips) (r : Fin 4), k0_off7 i k (BitVec.ofNat 32 r.val) = ![4, 512 * (4 * k.val + r.val), 0] := by decide +kernel
theorem loop_k5 : ∀ (i : grid0.Coords) (k : Fin (k0_t1_loop i).trips) (r : Fin 4), k0_off9 i k (BitVec.ofNat 32 r.val) = ![5, 512 * (4 * k.val + r.val), 0] := by decide +kernel
theorem loop_k6 : ∀ (i : grid0.Coords) (k : Fin (k0_t1_loop i).trips) (r : Fin 4), k0_off10 i k (BitVec.ofNat 32 r.val) = ![6, 512 * (4 * k.val + r.val), 0] := by decide +kernel
theorem loop_k7 : ∀ (i : grid0.Coords) (k : Fin (k0_t1_loop i).trips) (r : Fin 4), k0_off12 i k (BitVec.ofNat 32 r.val) = ![7, 512 * (4 * k.val + r.val), 0] := by decide +kernel
theorem loop_v0 : ∀ (i : grid0.Coords) (k : Fin (k0_t1_loop i).trips) (r : Fin 4), k0_off2 i k (BitVec.ofNat 32 r.val) = ![0, 512 * (4 * k.val + r.val), 0] := by decide +kernel
theorem loop_v1 : ∀ (i : grid0.Coords) (k : Fin (k0_t1_loop i).trips) (r : Fin 4), k0_off5 i k (BitVec.ofNat 32 r.val) = ![1, 512 * (4 * k.val + r.val), 0] := by decide +kernel
theorem loop_v2 : ∀ (i : grid0.Coords) (k : Fin (k0_t1_loop i).trips) (r : Fin 4), k0_off8 i k (BitVec.ofNat 32 r.val) = ![2, 512 * (4 * k.val + r.val), 0] := by decide +kernel
theorem loop_v3 : ∀ (i : grid0.Coords) (k : Fin (k0_t1_loop i).trips) (r : Fin 4), k0_off11 i k (BitVec.ofNat 32 r.val) = ![3, 512 * (4 * k.val + r.val), 0] := by decide +kernel

/-- The loop takes a quarter of the chunks below the diagonal, four a trip. -/
theorem trips : ∀ i : grid0.Coords, (k0_t1_loop i).trips = (i 2).val / 4 := by decide +kernel

/-- The second loop, the remainder of the first, has no trip. -/
theorem trips_rest : ∀ i : grid0.Coords, (k0_t2_loop i).trips = 0 := by decide +kernel

/-! The tail of two chunks starts where the loop ends. -/

theorem two_k0 : ∀ (i : grid0.Coords) (r : Fin 2), k0_off25 i (BitVec.ofNat 32 r.val) = ![0, 512 * (4 * ((i 2).val / 4) + r.val), 0] := by decide +kernel
theorem two_v0 : ∀ (i : grid0.Coords) (r : Fin 2), k0_off26 i (BitVec.ofNat 32 r.val) = ![0, 512 * (4 * ((i 2).val / 4) + r.val), 0] := by decide +kernel
theorem two_k1 : ∀ (i : grid0.Coords) (r : Fin 2), k0_off27 i (BitVec.ofNat 32 r.val) = ![1, 512 * (4 * ((i 2).val / 4) + r.val), 0] := by decide +kernel
theorem two_k2 : ∀ (i : grid0.Coords) (r : Fin 2), k0_off28 i (BitVec.ofNat 32 r.val) = ![2, 512 * (4 * ((i 2).val / 4) + r.val), 0] := by decide +kernel
theorem two_v1 : ∀ (i : grid0.Coords) (r : Fin 2), k0_off29 i (BitVec.ofNat 32 r.val) = ![1, 512 * (4 * ((i 2).val / 4) + r.val), 0] := by decide +kernel
theorem two_k3 : ∀ (i : grid0.Coords) (r : Fin 2), k0_off30 i (BitVec.ofNat 32 r.val) = ![3, 512 * (4 * ((i 2).val / 4) + r.val), 0] := by decide +kernel
theorem two_k4 : ∀ (i : grid0.Coords) (r : Fin 2), k0_off31 i (BitVec.ofNat 32 r.val) = ![4, 512 * (4 * ((i 2).val / 4) + r.val), 0] := by decide +kernel
theorem two_v2 : ∀ (i : grid0.Coords) (r : Fin 2), k0_off32 i (BitVec.ofNat 32 r.val) = ![2, 512 * (4 * ((i 2).val / 4) + r.val), 0] := by decide +kernel
theorem two_k5 : ∀ (i : grid0.Coords) (r : Fin 2), k0_off33 i (BitVec.ofNat 32 r.val) = ![5, 512 * (4 * ((i 2).val / 4) + r.val), 0] := by decide +kernel
theorem two_k6 : ∀ (i : grid0.Coords) (r : Fin 2), k0_off34 i (BitVec.ofNat 32 r.val) = ![6, 512 * (4 * ((i 2).val / 4) + r.val), 0] := by decide +kernel
theorem two_v3 : ∀ (i : grid0.Coords) (r : Fin 2), k0_off35 i (BitVec.ofNat 32 r.val) = ![3, 512 * (4 * ((i 2).val / 4) + r.val), 0] := by decide +kernel
theorem two_k7 : ∀ (i : grid0.Coords) (r : Fin 2), k0_off36 i (BitVec.ofNat 32 r.val) = ![7, 512 * (4 * ((i 2).val / 4) + r.val), 0] := by decide +kernel

/-! The tail of one chunk starts at the last even chunk. -/

theorem one_k0 : ∀ i : grid0.Coords, k0_off37 i = ![0, 512 * (2 * ((i 2).val / 2)), 0] := by decide +kernel
theorem one_v0 : ∀ i : grid0.Coords, k0_off38 i = ![0, 512 * (2 * ((i 2).val / 2)), 0] := by decide +kernel
theorem one_k1 : ∀ i : grid0.Coords, k0_off39 i = ![1, 512 * (2 * ((i 2).val / 2)), 0] := by decide +kernel
theorem one_k2 : ∀ i : grid0.Coords, k0_off40 i = ![2, 512 * (2 * ((i 2).val / 2)), 0] := by decide +kernel
theorem one_v1 : ∀ i : grid0.Coords, k0_off41 i = ![1, 512 * (2 * ((i 2).val / 2)), 0] := by decide +kernel
theorem one_k3 : ∀ i : grid0.Coords, k0_off42 i = ![3, 512 * (2 * ((i 2).val / 2)), 0] := by decide +kernel
theorem one_k4 : ∀ i : grid0.Coords, k0_off43 i = ![4, 512 * (2 * ((i 2).val / 2)), 0] := by decide +kernel
theorem one_v2 : ∀ i : grid0.Coords, k0_off44 i = ![2, 512 * (2 * ((i 2).val / 2)), 0] := by decide +kernel
theorem one_k5 : ∀ i : grid0.Coords, k0_off45 i = ![5, 512 * (2 * ((i 2).val / 2)), 0] := by decide +kernel
theorem one_k6 : ∀ i : grid0.Coords, k0_off46 i = ![6, 512 * (2 * ((i 2).val / 2)), 0] := by decide +kernel
theorem one_v3 : ∀ i : grid0.Coords, k0_off47 i = ![3, 512 * (2 * ((i 2).val / 2)), 0] := by decide +kernel
theorem one_k7 : ∀ i : grid0.Coords, k0_off48 i = ![7, 512 * (2 * ((i 2).val / 2)), 0] := by decide +kernel

end Cert.Offsets
-- ==== Proof.Trip.lean ====
module

public import proofs.«01_k».proof.Proof.Kinds
public import proofs.«01_k».proof.Proof.Offsets
public import proofs.«01_k».proof.Proof.Gen.KernelIdeal.Loops

/-! One trip of the loop over the keys: four chunks of 512, each over the 32 blocks of rows. -/

@[expose] public section

set_option maxRecDepth 16384

noncomputable section

namespace Cert.Trip

open Idealize.ShloMosaic Idealize.ShloMosaic.TcCoe
open Cert.KernelIdeal Cert.KernelIdeal.Gen Cert.Update Cert.Steps

variable (c : Dev nD) (i : grid0.Coords) (arg3 : Memref sig .tc .vmem S8x512x128 .f32) (harg3 : arg3.IsWhole) (arg4 : Memref sig .tc .vmem S8x8192x128 .bf16) (harg4 : arg4.IsWhole) (arg5 : Memref sig .tc .vmem S4x8192x256 .bf16) (harg5 : arg5.IsWhole) (arg6 : Memref sig .tc .vmem S512x512 .f32) (harg6 : arg6.IsWhole) (arg7 : Memref sig .tc .vmem S512x512 .bf16) (harg7 : arg7.IsWhole) (arg8 : Memref sig .tc .vmem S4096x128 .f32) (harg8 : arg8.IsWhole) (arg9 : Memref sig .tc .vmem S4096x256 .f32) (harg9 : arg9.IsWhole)
variable {x0 : Vec Ideal S8x512x128 .f32} {x1 : Vec Ideal S8x8192x128 .bf16} {x2 : Vec Ideal S4x8192x256 .bf16}
variable {X3 : BufTy.Contents (Elt Ideal) arg3.view.ty} {X4 : BufTy.Contents (Elt Ideal) arg4.view.ty} {X5 : BufTy.Contents (Elt Ideal) arg5.view.ty}
variable (k : Fin (k0_t1_loop i).trips)
variable {f8 : BufTy.Contents (Elt Ideal) arg8.view.ty} {f9 : BufTy.Contents (Elt Ideal) arg9.view.ty}

/-- The state on the scores of query tile `i 2`. -/
abbrev TState (b : Prop) (n m : ℕ) (x0 : Vec Ideal S8x512x128 .f32) (x1 : Vec Ideal S8x8192x128 .bf16) (x2 : Vec Ideal S4x8192x256 .bf16)
    (f8 : BufTy.Contents (Elt Ideal) arg8.view.ty) (f9 : BufTy.Contents (Elt Ideal) arg9.view.ty)
    (L8 : List (View.Piece (Elt Ideal) S4096x128 .f32)) (L9 : List (View.Piece (Elt Ideal) S4096x256 .f32)) : Prop :=
  State arg8 arg9 (score (i 2).val x0 x1) (value x2) b n m f8 f9 L8 L9

/-- The first chunk of a trip. -/
theorem chunk0 (hX3 : arg3.view.read (Elt Ideal) X3 = x0) (hX4 : arg4.view.read (Elt Ideal) X4 = x1) (hX5 : arg5.view.read (Elt Ideal) X5 = x2)
    (h0 : Holds arg8 arg9 (score (i 2).val x0 x1) (value x2) f8 f9 (fun _ => True) (fun _ => 512 * (4 * k.val + 0))) :
    TState i arg8 arg9 False (512 * (4 * k.val + 0)) 32 x0 x1 x2 f8 f9
      (trip_k0_t1.sl.HW_arg8_32 i arg3 arg4 arg8 X3 X4 k f8) (trip_k0_t1.sl.HW_arg9_32 i arg3 arg4 arg5 arg8 arg9 X3 X4 X5 k f8 f9) := by
  have ht : (i 2).val < 16 := (i 2).isLt
  have hk : k.val < (i 2).val / 4 := Offsets.trips i ▸ k.isLt
  have hs : TState i arg8 arg9 False (512 * (4 * k.val + 0)) 0 x0 x1 x2 f8 f9 [] [] :=
    ⟨h0.congr (fun _ _ => id) fun R _ => by unfold Steps.count; rw [if_neg (Nat.not_lt_zero _)],
     fun R l hR => absurd (hR.resolve_left id) (Nat.not_lt_zero _), fun R l hR => absurd (hR.resolve_left id) (Nat.not_lt_zero _)⟩
  iterate 32
    refine step_old (by decide) ht (by omega) hX3 hX4 hX5 h0 ?_ rfl (by first | exact Offsets.loop_k0 i k 0 | exact Offsets.loop_k1 i k 0 | exact Offsets.loop_k2 i k 0 | exact Offsets.loop_k3 i k 0 | exact Offsets.loop_k4 i k 0 | exact Offsets.loop_k5 i k 0 | exact Offsets.loop_k6 i k 0 | exact Offsets.loop_k7 i k 0) (by first | exact Offsets.loop_v0 i k 0 | exact Offsets.loop_v1 i k 0 | exact Offsets.loop_v2 i k 0 | exact Offsets.loop_v3 i k 0) rfl rfl (by rfl) (by rfl)
  exact hs

/-- Chunk 1 of a trip. -/
theorem chunk1 (hX3 : arg3.view.read (Elt Ideal) X3 = x0) (hX4 : arg4.view.read (Elt Ideal) X4 = x1) (hX5 : arg5.view.read (Elt Ideal) X5 = x2)
    (h : TState i arg8 arg9 True (512 * (4 * k.val + 1)) 0 x0 x1 x2 f8 f9
      (trip_k0_t1.sl.HW_arg8_32 i arg3 arg4 arg8 X3 X4 k f8) (trip_k0_t1.sl.HW_arg9_32 i arg3 arg4 arg5 arg8 arg9 X3 X4 X5 k f8 f9)) :
    TState i arg8 arg9 True (512 * (4 * k.val + 1)) 32 x0 x1 x2 f8 f9
      (trip_k0_t1.sl.HW_arg8_64 i arg3 arg4 arg8 X3 X4 k f8) (trip_k0_t1.sl.HW_arg9_64 i arg3 arg4 arg5 arg8 arg9 X3 X4 X5 k f8 f9) := by
  have ht : (i 2).val < 16 := (i 2).isLt
  have hk : k.val < (i 2).val / 4 := Offsets.trips i ▸ k.isLt
  iterate 32
    refine step_new (by decide) ht (by omega) hX3 hX4 hX5 ?_ rfl (by first | exact Offsets.loop_k0 i k 1 | exact Offsets.loop_k1 i k 1 | exact Offsets.loop_k2 i k 1 | exact Offsets.loop_k3 i k 1 | exact Offsets.loop_k4 i k 1 | exact Offsets.loop_k5 i k 1 | exact Offsets.loop_k6 i k 1 | exact Offsets.loop_k7 i k 1) (by first | exact Offsets.loop_v0 i k 1 | exact Offsets.loop_v1 i k 1 | exact Offsets.loop_v2 i k 1 | exact Offsets.loop_v3 i k 1) rfl rfl (by rfl) (by rfl)
  exact h

/-- Chunk 2 of a trip. -/
theorem chunk2 (hX3 : arg3.view.read (Elt Ideal) X3 = x0) (hX4 : arg4.view.read (Elt Ideal) X4 = x1) (hX5 : arg5.view.read (Elt Ideal) X5 = x2)
    (h : TState i arg8 arg9 True (512 * (4 * k.val + 2)) 0 x0 x1 x2 f8 f9
      (trip_k0_t1.sl.HW_arg8_64 i arg3 arg4 arg8 X3 X4 k f8) (trip_k0_t1.sl.HW_arg9_64 i arg3 arg4 arg5 arg8 arg9 X3 X4 X5 k f8 f9)) :
    TState i arg8 arg9 True (512 * (4 * k.val + 2)) 32 x0 x1 x2 f8 f9
      (trip_k0_t1.sl.HW_arg8_96 i arg3 arg4 arg8 X3 X4 k f8) (trip_k0_t1.sl.HW_arg9_96 i arg3 arg4 arg5 arg8 arg9 X3 X4 X5 k f8 f9) := by
  have ht : (i 2).val < 16 := (i 2).isLt
  have hk : k.val < (i 2).val / 4 := Offsets.trips i ▸ k.isLt
  iterate 32
    refine step_new (by decide) ht (by omega) hX3 hX4 hX5 ?_ rfl (by first | exact Offsets.loop_k0 i k 2 | exact Offsets.loop_k1 i k 2 | exact Offsets.loop_k2 i k 2 | exact Offsets.loop_k3 i k 2 | exact Offsets.loop_k4 i k 2 | exact Offsets.loop_k5 i k 2 | exact Offsets.loop_k6 i k 2 | exact Offsets.loop_k7 i k 2) (by first | exact Offsets.loop_v0 i k 2 | exact Offsets.loop_v1 i k 2 | exact Offsets.loop_v2 i k 2 | exact Offsets.loop_v3 i k 2) rfl rfl (by rfl) (by rfl)
  exact h

/-- Chunk 3 of a trip. -/
theorem chunk3 (hX3 : arg3.view.read (Elt Ideal) X3 = x0) (hX4 : arg4.view.read (Elt Ideal) X4 = x1) (hX5 : arg5.view.read (Elt Ideal) X5 = x2)
    (h : TState i arg8 arg9 True (512 * (4 * k.val + 3)) 0 x0 x1 x2 f8 f9
      (trip_k0_t1.sl.HW_arg8_96 i arg3 arg4 arg8 X3 X4 k f8) (trip_k0_t1.sl.HW_arg9_96 i arg3 arg4 arg5 arg8 arg9 X3 X4 X5 k f8 f9)) :
    TState i arg8 arg9 True (512 * (4 * k.val + 3)) 32 x0 x1 x2 f8 f9
      ((trip_k0_t1 Variants.none c none i arg3 harg3 arg4 harg4 arg5 harg5 arg6 harg6 arg7 harg7 arg8 harg8 arg9 harg9 X3 X4 X5 k).1 f8 f9)
      ((trip_k0_t1 Variants.none c none i arg3 harg3 arg4 harg4 arg5 harg5 arg6 harg6 arg7 harg7 arg8 harg8 arg9 harg9 X3 X4 X5 k).2.1 f8 f9) := by
  have ht : (i 2).val < 16 := (i 2).isLt
  have hk : k.val < (i 2).val / 4 := Offsets.trips i ▸ k.isLt
  unfold trip_k0_t1
  iterate 32
    refine step_new (by decide) ht (by omega) hX3 hX4 hX5 ?_ rfl (by first | exact Offsets.loop_k0 i k 3 | exact Offsets.loop_k1 i k 3 | exact Offsets.loop_k2 i k 3 | exact Offsets.loop_k3 i k 3 | exact Offsets.loop_k4 i k 3 | exact Offsets.loop_k5 i k 3 | exact Offsets.loop_k6 i k 3 | exact Offsets.loop_k7 i k 3) (by first | exact Offsets.loop_v0 i k 3 | exact Offsets.loop_v1 i k 3 | exact Offsets.loop_v2 i k 3 | exact Offsets.loop_v3 i k 3) rfl rfl (by rfl) (by rfl)
  exact h

/-- A trip over the buffers' contents takes each row 2048 keys further. -/
theorem trip (hX3 : arg3.view.read (Elt Ideal) X3 = x0) (hX4 : arg4.view.read (Elt Ideal) X4 = x1) (hX5 : arg5.view.read (Elt Ideal) X5 = x2)
    (h0 : Holds arg8 arg9 (score (i 2).val x0 x1) (value x2) f8 f9 (fun _ => True) (fun _ => 2048 * k.val)) :
    Holds arg8 arg9 (score (i 2).val x0 x1) (value x2)
      (arg8.view.writes (Elt Ideal) f8 ((trip_k0_t1 Variants.none c none i arg3 harg3 arg4 harg4 arg5 harg5 arg6 harg6 arg7 harg7 arg8 harg8 arg9 harg9 X3 X4 X5 k).1 f8 f9))
      (arg9.view.writes (Elt Ideal) f9 ((trip_k0_t1 Variants.none c none i arg3 harg3 arg4 harg4 arg5 harg5 arg6 harg6 arg7 harg7 arg8 harg8 arg9 harg9 X3 X4 X5 k).2.1 f8 f9))
      (fun _ => True) (fun _ => 2048 * (k.val + 1)) := by
  have h1 := chunk0 i arg3 arg4 arg5 arg8 arg9 k hX3 hX4 hX5 (h0.congr (fun _ _ => id) fun _ _ => by omega)
  have h2 := chunk1 i arg3 arg4 arg5 arg8 arg9 k hX3 hX4 hX5 h1.next
  have h3 := chunk2 i arg3 arg4 arg5 arg8 arg9 k hX3 hX4 hX5 h2.next
  have h4 := chunk3 c i arg3 harg3 arg4 harg4 arg5 harg5 arg6 harg6 arg7 harg7 arg8 harg8 arg9 harg9 k hX3 hX4 hX5 h3.next
  refine h4.next.1.congr (fun _ _ => id) fun R _ => ?_
  unfold Steps.count
  rw [if_neg (Nat.not_lt_zero _)]
  omega

/-- The loop over the whole chunks, trip by trip. -/
theorem loop (hX3 : arg3.view.read (Elt Ideal) X3 = x0) (hX4 : arg4.view.read (Elt Ideal) X4 = x1) (hX5 : arg5.view.read (Elt Ideal) X5 = x2)
    (h0 : Holds arg8 arg9 (score (i 2).val x0 x1) (value x2) f8 f9 (fun _ => True) (fun _ => 0)) :
    ∀ n, n ≤ (k0_t1_loop i).trips → Holds arg8 arg9 (score (i 2).val x0 x1) (value x2)
      (arg8.view.writes (Elt Ideal) f8 (pb_k0_t1 Variants.none c none i arg3 harg3 arg4 harg4 arg5 harg5 arg6 harg6 arg7 harg7 arg8 harg8 arg9 harg9 X3 X4 X5 f8 f9 n).1)
      (arg9.view.writes (Elt Ideal) f9 (pb_k0_t1 Variants.none c none i arg3 harg3 arg4 harg4 arg5 harg5 arg6 harg6 arg7 harg7 arg8 harg8 arg9 harg9 X3 X4 X5 f8 f9 n).2)
      (fun _ => True) (fun _ => 2048 * n) := by
  intro n
  induction n with
  | zero => exact fun _ => h0
  | succ n ih =>
    intro hn
    have hs := pb_k0_t1_succ (F := Ideal) Variants.none c none i arg3 harg3 arg4 harg4 arg5 harg5 arg6 harg6 arg7 harg7 arg8 harg8 arg9 harg9 X3 X4 X5 f8 f9 ⟨n, hn⟩
    rw [hs, View.writes_append, View.writes_append]
    exact trip c i arg3 harg3 arg4 harg4 arg5 harg5 arg6 harg6 arg7 harg7 arg8 harg8 arg9 harg9 ⟨n, hn⟩ hX3 hX4 hX5 (ih (Nat.le_of_succ_le hn))

end Cert.Trip

end
-- ==== Proof.Cases.lean ====
module

public import proofs.«01_k».proof.Proof.Trip
public import proofs.«01_k».proof.Proof.Gen.KernelIdeal.Value

/-! A grid point's whole run over the keys: the loop, the tails of two and of one chunk where the point has them, and
the chunk the diagonal passes through. -/

@[expose] public section

set_option maxRecDepth 16384

noncomputable section

namespace Cert.Cases

open Idealize.ShloMosaic Idealize.ShloMosaic.TcCoe
open Cert.KernelIdeal Cert.KernelIdeal.Gen Cert.Update Cert.Steps

attribute [local instance] Cert.KernelIdeal.Gen.facts

variable (c : Dev nD) (i : grid0.Coords) (arg3 : Memref sig .tc .vmem S8x512x128 .f32) (harg3 : arg3.IsWhole) (arg4 : Memref sig .tc .vmem S8x8192x128 .bf16) (harg4 : arg4.IsWhole) (arg5 : Memref sig .tc .vmem S4x8192x256 .bf16) (harg5 : arg5.IsWhole) (arg6 : Memref sig .tc .vmem S512x512 .f32) (harg6 : arg6.IsWhole) (arg7 : Memref sig .tc .vmem S512x512 .bf16) (harg7 : arg7.IsWhole) (arg8 : Memref sig .tc .vmem S4096x128 .f32) (harg8 : arg8.IsWhole) (arg9 : Memref sig .tc .vmem S4096x256 .f32) (harg9 : arg9.IsWhole)
variable {x0 : Vec Ideal S8x512x128 .f32} {x1 : Vec Ideal S8x8192x128 .bf16} {x2 : Vec Ideal S4x8192x256 .bf16}
variable {X3 : BufTy.Contents (Elt Ideal) arg3.view.ty} {X4 : BufTy.Contents (Elt Ideal) arg4.view.ty} {X5 : BufTy.Contents (Elt Ideal) arg5.view.ty}

/-- The tail of two chunks runs where two or three chunks are left. -/
theorem tail_two : ∀ i : grid0.Coords, cond0_0 i ↔ 2 ≤ (i 2).val % 4 := by decide +kernel

/-- The tail of one chunk runs where an odd number is left. -/
theorem tail_one : ∀ i : grid0.Coords, cond0_1 i ↔ (i 2).val % 2 = 1 := by decide +kernel

/-- The stored starting values: no maximum yet and empty sums. -/
theorem init (sc : ℕ → ℕ → EReal) (vv : ℕ → ℕ → ℕ → EReal) :
    Holds arg8 arg9 sc vv (arg8.view.writes (Elt Ideal) arg8.view.junk kernelRun0_A.sl.HS0_1) (arg9.view.writes (Elt Ideal) arg9.view.junk kernelRun0_A.sl.HS1_1)
      (fun _ => True) (fun _ => 0) := by
  refine ⟨fun R l _ => ?_, fun R l _ => ?_⟩
  · refine (View.read_writes_cons_rows_of_mem arg8.view _ _ _ _ (ix2 R l) (ix2 R l) (o := 0) rfl ?_ rfl).trans ?_
    · show R.val = 0 + R.val; omega
    · rw [Online.top_zero]; rfl
  · refine (View.read_writes_cons_rows_of_mem arg9.view _ _ _ _ (ix2 R l) (ix2 R l) (o := 0) rfl ?_ rfl).trans ?_
    · show R.val = 0 + R.val; omega
    · rw [Online.acc_zero]; exact Ideal.ofBits_zero_f32

/-- After the loops every row has met all the keys of the trips. -/
theorem start {L8 : List (View.Piece (Elt Ideal) S4096x128 .f32)} {L9 : List (View.Piece (Elt Ideal) S4096x256 .f32)} (w : BitVec 32)
    (G8 : BufTy.Contents (Elt Ideal) arg8.view.ty) (G9 : BufTy.Contents (Elt Ideal) arg9.view.ty)
    {m : ℕ} (hm : m = 512 * (4 * ((i 2).val / 4)))
    (hX3 : arg3.view.read (Elt Ideal) X3 = x0) (hX4 : arg4.view.read (Elt Ideal) X4 = x1) (hX5 : arg5.view.read (Elt Ideal) X5 = x2)
    (h0 : Holds arg8 arg9 (score (i 2).val x0 x1) (value x2) (arg8.view.writes (Elt Ideal) arg8.view.junk L8) (arg9.view.writes (Elt Ideal) arg9.view.junk L9)
      (fun _ => True) (fun _ => 0)) :
    State arg8 arg9 (score (i 2).val x0 x1) (value x2) True m 0 arg8.view.junk arg9.view.junk
      ((pb_k0_t2 Variants.none c none i arg3 harg3 arg4 harg4 arg5 harg5 arg6 harg6 arg7 harg7 arg8 harg8 arg9 harg9 w X3 X4 X5 G8 G9 (Scf.trips (k0_t2_loop i).lb (k0_t2_loop i).ub (k0_t2_loop i).st)).1 ++ ((pb_k0_t1 Variants.none c none i arg3 harg3 arg4 harg4 arg5 harg5 arg6 harg6 arg7 harg7 arg8 harg8 arg9 harg9 X3 X4 X5 (arg8.view.writes (Elt Ideal) arg8.view.junk L8) (arg9.view.writes (Elt Ideal) arg9.view.junk L9) (Scf.trips (k0_t1_loop i).lb (k0_t1_loop i).ub (k0_t1_loop i).st)).1 ++ L8))
      ((pb_k0_t2 Variants.none c none i arg3 harg3 arg4 harg4 arg5 harg5 arg6 harg6 arg7 harg7 arg8 harg8 arg9 harg9 w X3 X4 X5 G8 G9 (Scf.trips (k0_t2_loop i).lb (k0_t2_loop i).ub (k0_t2_loop i).st)).2 ++ ((pb_k0_t1 Variants.none c none i arg3 harg3 arg4 harg4 arg5 harg5 arg6 harg6 arg7 harg7 arg8 harg8 arg9 harg9 X3 X4 X5 (arg8.view.writes (Elt Ideal) arg8.view.junk L8) (arg9.view.writes (Elt Ideal) arg9.view.junk L9) (Scf.trips (k0_t1_loop i).lb (k0_t1_loop i).ub (k0_t1_loop i).st)).2 ++ L9)) := by
  have e2 : Scf.trips (k0_t2_loop i).lb (k0_t2_loop i).ub (k0_t2_loop i).st = 0 := Offsets.trips_rest i
  have e1 : Scf.trips (k0_t1_loop i).lb (k0_t1_loop i).ub (k0_t1_loop i).st = (i 2).val / 4 := Offsets.trips i
  have h := Trip.loop c i arg3 harg3 arg4 harg4 arg5 harg5 arg6 harg6 arg7 harg7 arg8 harg8 arg9 harg9 hX3 hX4 hX5 h0 ((i 2).val / 4) (Offsets.trips i).ge
  rw [e1, e2]
  unfold State
  rw [show pb_k0_t2 Variants.none c none i arg3 harg3 arg4 harg4 arg5 harg5 arg6 harg6 arg7 harg7 arg8 harg8 arg9 harg9 w X3 X4 X5 G8 G9 0 = ([], []) from rfl, List.nil_append, List.nil_append,
    View.writes_append, View.writes_append]
  refine ⟨h.congr (fun _ _ => id) fun R _ => ?_, h.congr (fun _ _ _ => trivial) fun R _ => ?_⟩ <;>
  · unfold Steps.count
    rw [if_neg (Nat.not_lt_zero _)]
    omega

/-- With no tail: after the chunk on the diagonal. -/
theorem A_end (hc0 : ¬cond0_0 i) (hc1 : ¬cond0_1 i) : ∃ L8,
    State arg8 arg9 (score (i 2).val x0 x1) (value x2) True (512 * (i 2).val) 32 arg8.view.junk arg9.view.junk L8 (kernelRun0_A.sl.HS1_32 c i arg3 harg3 arg4 harg4 arg5 harg5 arg6 harg6 arg7 harg7 arg8 harg8 arg9 harg9 x0 x1 x2) := by
  have ht : (i 2).val < 16 := (i 2).isLt
  have h2 : ¬2 ≤ (i 2).val % 4 := fun h => hc0 ((tail_two i).mpr h)
  have h1 : ¬(i 2).val % 2 = 1 := fun h => hc1 ((tail_one i).mpr h)
  have hs := fun G8 G9 => start (m := 512 * (i 2).val) c i arg3 harg3 arg4 harg4 arg5 harg5 arg6 harg6 arg7 harg7 arg8 harg8 arg9 harg9 (kernelRun0_A.sl.v29 i) G8 G9 (by omega) (harg3.read_unread x0) (harg4.read_unread x1) (harg5.read_unread x2) (init arg8 arg9 (score (i 2).val x0 x1) (value x2))
  refine ⟨_, step_mask (n := 31) (by decide) ht rfl (harg3.read_unread x0) (harg4.read_unread x1) (harg5.read_unread x2) ?_ rfl (Gen.k0_off60_eq i) (Gen.k0_off59_eq i) rfl rfl rfl (by rfl)⟩
  iterate 31
    refine step_mask (by decide) ht rfl (harg3.read_unread x0) (harg4.read_unread x1) (harg5.read_unread x2) ?_ rfl (by first | exact Gen.k0_off49_eq i | exact Gen.k0_off51_eq i | exact Gen.k0_off52_eq i | exact Gen.k0_off54_eq i | exact Gen.k0_off55_eq i | exact Gen.k0_off57_eq i | exact Gen.k0_off58_eq i | exact Gen.k0_off60_eq i) (by first | exact Gen.k0_off50_eq i | exact Gen.k0_off53_eq i | exact Gen.k0_off56_eq i | exact Gen.k0_off59_eq i) rfl rfl (by rfl) (by rfl)
  exact hs _ _

/-- With a tail of one chunk: after chunk 1 of the tails. -/
theorem B_1 (hc0 : ¬cond0_0 i) (hc1 : cond0_1 i) :
    State arg8 arg9 (score (i 2).val x0 x1) (value x2) True (512 * (2 * ((i 2).val / 2))) 32 arg8.view.junk arg9.view.junk (kernelRun0_B.sl.HS0_32 c i arg3 harg3 arg4 harg4 arg5 harg5 arg6 harg6 arg7 harg7 arg8 harg8 arg9 harg9 hc1 x0 x1 x2) (kernelRun0_B.sl.HS1_32 c i arg3 harg3 arg4 harg4 arg5 harg5 arg6 harg6 arg7 harg7 arg8 harg8 arg9 harg9 hc1 x0 x1 x2) := by
  have ht : (i 2).val < 16 := (i 2).isLt
  have h2 : ¬2 ≤ (i 2).val % 4 := fun h => hc0 ((tail_two i).mpr h)
  have h1 := (tail_one i).mp hc1
  have hs := fun G8 G9 => start (m := 512 * (2 * ((i 2).val / 2))) c i arg3 harg3 arg4 harg4 arg5 harg5 arg6 harg6 arg7 harg7 arg8 harg8 arg9 harg9 (kernelRun0_B.sl.v29 i) G8 G9 (by omega) (harg3.read_unread x0) (harg4.read_unread x1) (harg5.read_unread x2) (init arg8 arg9 (score (i 2).val x0 x1) (value x2))
  iterate 32
    refine step_new (by decide) ht (by omega) (harg3.read_unread x0) (harg4.read_unread x1) (harg5.read_unread x2) ?_ rfl (by first | exact Offsets.one_k0 i | exact Offsets.one_k1 i | exact Offsets.one_k2 i | exact Offsets.one_k3 i | exact Offsets.one_k4 i | exact Offsets.one_k5 i | exact Offsets.one_k6 i | exact Offsets.one_k7 i) (by first | exact Offsets.one_v0 i | exact Offsets.one_v1 i | exact Offsets.one_v2 i | exact Offsets.one_v3 i) rfl rfl (by rfl) (by rfl)
  exact hs _ _

/-- With a tail of one chunk: after the chunk on the diagonal. -/
theorem B_end (hc0 : ¬cond0_0 i) (hc1 : cond0_1 i) : ∃ L8,
    State arg8 arg9 (score (i 2).val x0 x1) (value x2) True (512 * (i 2).val) 32 arg8.view.junk arg9.view.junk L8 (kernelRun0_B.sl.HS1_64 c i arg3 harg3 arg4 harg4 arg5 harg5 arg6 harg6 arg7 harg7 arg8 harg8 arg9 harg9 hc1 x0 x1 x2) := by
  have ht : (i 2).val < 16 := (i 2).isLt
  have h2 : ¬2 ≤ (i 2).val % 4 := fun h => hc0 ((tail_two i).mpr h)
  have h1 := (tail_one i).mp hc1
  have hs := (B_1 c i arg3 harg3 arg4 harg4 arg5 harg5 arg6 harg6 arg7 harg7 arg8 harg8 arg9 harg9 (x0 := x0) (x1 := x1) (x2 := x2) hc0 hc1).next
  rw [show 512 * (2 * ((i 2).val / 2)) + 512 = 512 * (i 2).val by omega] at hs
  refine ⟨_, step_mask (n := 31) (by decide) ht rfl (harg3.read_unread x0) (harg4.read_unread x1) (harg5.read_unread x2) ?_ rfl (Gen.k0_off60_eq i) (Gen.k0_off59_eq i) rfl rfl rfl (by rfl)⟩
  iterate 31
    refine step_mask (by decide) ht rfl (harg3.read_unread x0) (harg4.read_unread x1) (harg5.read_unread x2) ?_ rfl (by first | exact Gen.k0_off49_eq i | exact Gen.k0_off51_eq i | exact Gen.k0_off52_eq i | exact Gen.k0_off54_eq i | exact Gen.k0_off55_eq i | exact Gen.k0_off57_eq i | exact Gen.k0_off58_eq i | exact Gen.k0_off60_eq i) (by first | exact Gen.k0_off50_eq i | exact Gen.k0_off53_eq i | exact Gen.k0_off56_eq i | exact Gen.k0_off59_eq i) rfl rfl (by rfl) (by rfl)
  exact hs

/-- With a tail of two chunks: after chunk 1 of the tails. -/
theorem C_1 (hc0 : cond0_0 i) (hc1 : ¬cond0_1 i) :
    State arg8 arg9 (score (i 2).val x0 x1) (value x2) True (512 * (4 * ((i 2).val / 4) + 0)) 32 arg8.view.junk arg9.view.junk (kernelRun0_C.sl.HS0_32 c i arg3 harg3 arg4 harg4 arg5 harg5 arg6 harg6 arg7 harg7 arg8 harg8 arg9 harg9 hc0 x0 x1 x2) (kernelRun0_C.sl.HS1_32 c i arg3 harg3 arg4 harg4 arg5 harg5 arg6 harg6 arg7 harg7 arg8 harg8 arg9 harg9 hc0 x0 x1 x2) := by
  have ht : (i 2).val < 16 := (i 2).isLt
  have h2 := (tail_two i).mp hc0
  have h1 : ¬(i 2).val % 2 = 1 := fun h => hc1 ((tail_one i).mpr h)
  have hs := fun G8 G9 => start (m := 512 * (4 * ((i 2).val / 4) + 0)) c i arg3 harg3 arg4 harg4 arg5 harg5 arg6 harg6 arg7 harg7 arg8 harg8 arg9 harg9 (kernelRun0_C.sl.v29 i) G8 G9 (by omega) (harg3.read_unread x0) (harg4.read_unread x1) (harg5.read_unread x2) (init arg8 arg9 (score (i 2).val x0 x1) (value x2))
  iterate 32
    refine step_new (by decide) ht (by omega) (harg3.read_unread x0) (harg4.read_unread x1) (harg5.read_unread x2) ?_ rfl (by first | exact Offsets.two_k0 i 0 | exact Offsets.two_k1 i 0 | exact Offsets.two_k2 i 0 | exact Offsets.two_k3 i 0 | exact Offsets.two_k4 i 0 | exact Offsets.two_k5 i 0 | exact Offsets.two_k6 i 0 | exact Offsets.two_k7 i 0) (by first | exact Offsets.two_v0 i 0 | exact Offsets.two_v1 i 0 | exact Offsets.two_v2 i 0 | exact Offsets.two_v3 i 0) rfl rfl (by rfl) (by rfl)
  exact hs _ _

/-- With a tail of two chunks: after chunk 2 of the tails. -/
theorem C_2 (hc0 : cond0_0 i) (hc1 : ¬cond0_1 i) :
    State arg8 arg9 (score (i 2).val x0 x1) (value x2) True (512 * (4 * ((i 2).val / 4) + 1)) 32 arg8.view.junk arg9.view.junk (kernelRun0_C.sl.HS0_64 c i arg3 harg3 arg4 harg4 arg5 harg5 arg6 harg6 arg7 harg7 arg8 harg8 arg9 harg9 hc0 x0 x1 x2) (kernelRun0_C.sl.HS1_64 c i arg3 harg3 arg4 harg4 arg5 harg5 arg6 harg6 arg7 harg7 arg8 harg8 arg9 harg9 hc0 x0 x1 x2) := by
  have ht : (i 2).val < 16 := (i 2).isLt
  have h2 := (tail_two i).mp hc0
  have h1 : ¬(i 2).val % 2 = 1 := fun h => hc1 ((tail_one i).mpr h)
  have hs := (C_1 c i arg3 harg3 arg4 harg4 arg5 harg5 arg6 harg6 arg7 harg7 arg8 harg8 arg9 harg9 (x0 := x0) (x1 := x1) (x2 := x2) hc0 hc1).next
  rw [show 512 * (4 * ((i 2).val / 4) + 0) + 512 = 512 * (4 * ((i 2).val / 4) + 1) by omega] at hs
  iterate 32
    refine step_new (by decide) ht (by omega) (harg3.read_unread x0) (harg4.read_unread x1) (harg5.read_unread x2) ?_ rfl (by first | exact Offsets.two_k0 i 1 | exact Offsets.two_k1 i 1 | exact Offsets.two_k2 i 1 | exact Offsets.two_k3 i 1 | exact Offsets.two_k4 i 1 | exact Offsets.two_k5 i 1 | exact Offsets.two_k6 i 1 | exact Offsets.two_k7 i 1) (by first | exact Offsets.two_v0 i 1 | exact Offsets.two_v1 i 1 | exact Offsets.two_v2 i 1 | exact Offsets.two_v3 i 1) rfl rfl (by rfl) (by rfl)
  exact hs

/-- With a tail of two chunks: after the chunk on the diagonal. -/
theorem C_end (hc0 : cond0_0 i) (hc1 : ¬cond0_1 i) : ∃ L8,
    State arg8 arg9 (score (i 2).val x0 x1) (value x2) True (512 * (i 2).val) 32 arg8.view.junk arg9.view.junk L8 (kernelRun0_C.sl.HS1_96 c i arg3 harg3 arg4 harg4 arg5 harg5 arg6 harg6 arg7 harg7 arg8 harg8 arg9 harg9 hc0 x0 x1 x2) := by
  have ht : (i 2).val < 16 := (i 2).isLt
  have h2 := (tail_two i).mp hc0
  have h1 : ¬(i 2).val % 2 = 1 := fun h => hc1 ((tail_one i).mpr h)
  have hs := (C_2 c i arg3 harg3 arg4 harg4 arg5 harg5 arg6 harg6 arg7 harg7 arg8 harg8 arg9 harg9 (x0 := x0) (x1 := x1) (x2 := x2) hc0 hc1).next
  rw [show 512 * (4 * ((i 2).val / 4) + 1) + 512 = 512 * (i 2).val by omega] at hs
  refine ⟨_, step_mask (n := 31) (by decide) ht rfl (harg3.read_unread x0) (harg4.read_unread x1) (harg5.read_unread x2) ?_ rfl (Gen.k0_off60_eq i) (Gen.k0_off59_eq i) rfl rfl rfl (by rfl)⟩
  iterate 31
    refine step_mask (by decide) ht rfl (harg3.read_unread x0) (harg4.read_unread x1) (harg5.read_unread x2) ?_ rfl (by first | exact Gen.k0_off49_eq i | exact Gen.k0_off51_eq i | exact Gen.k0_off52_eq i | exact Gen.k0_off54_eq i | exact Gen.k0_off55_eq i | exact Gen.k0_off57_eq i | exact Gen.k0_off58_eq i | exact Gen.k0_off60_eq i) (by first | exact Gen.k0_off50_eq i | exact Gen.k0_off53_eq i | exact Gen.k0_off56_eq i | exact Gen.k0_off59_eq i) rfl rfl (by rfl) (by rfl)
  exact hs

/-- With tails of two chunks and of one: after chunk 1 of the tails. -/
theorem D_1 (hc0 : cond0_0 i) (hc1 : cond0_1 i) :
    State arg8 arg9 (score (i 2).val x0 x1) (value x2) True (512 * (4 * ((i 2).val / 4) + 0)) 32 arg8.view.junk arg9.view.junk (kernelRun0_D.sl.HS0_32 c i arg3 harg3 arg4 harg4 arg5 harg5 arg6 harg6 arg7 harg7 arg8 harg8 arg9 harg9 hc0 x0 x1 x2) (kernelRun0_D.sl.HS1_32 c i arg3 harg3 arg4 harg4 arg5 harg5 arg6 harg6 arg7 harg7 arg8 harg8 arg9 harg9 hc0 x0 x1 x2) := by
  have ht : (i 2).val < 16 := (i 2).isLt
  have h2 := (tail_two i).mp hc0
  have h1 := (tail_one i).mp hc1
  have hs := fun G8 G9 => start (m := 512 * (4 * ((i 2).val / 4) + 0)) c i arg3 harg3 arg4 harg4 arg5 harg5 arg6 harg6 arg7 harg7 arg8 harg8 arg9 harg9 (kernelRun0_D.sl.v29 i) G8 G9 (by omega) (harg3.read_unread x0) (harg4.read_unread x1) (harg5.read_unread x2) (init arg8 arg9 (score (i 2).val x0 x1) (value x2))
  iterate 32
    refine step_new (by decide) ht (by omega) (harg3.read_unread x0) (harg4.read_unread x1) (harg5.read_unread x2) ?_ rfl (by first | exact Offsets.two_k0 i 0 | exact Offsets.two_k1 i 0 | exact Offsets.two_k2 i 0 | exact Offsets.two_k3 i 0 | exact Offsets.two_k4 i 0 | exact Offsets.two_k5 i 0 | exact Offsets.two_k6 i 0 | exact Offsets.two_k7 i 0) (by first | exact Offsets.two_v0 i 0 | exact Offsets.two_v1 i 0 | exact Offsets.two_v2 i 0 | exact Offsets.two_v3 i 0) rfl rfl (by rfl) (by rfl)
  exact hs _ _

/-- With tails of two chunks and of one: after chunk 2 of the tails. -/
theorem D_2 (hc0 : cond0_0 i) (hc1 : cond0_1 i) :
    State arg8 arg9 (score (i 2).val x0 x1) (value x2) True (512 * (4 * ((i 2).val / 4) + 1)) 32 arg8.view.junk arg9.view.junk (kernelRun0_D.sl.HS0_64 c i arg3 harg3 arg4 harg4 arg5 harg5 arg6 harg6 arg7 harg7 arg8 harg8 arg9 harg9 hc0 x0 x1 x2) (kernelRun0_D.sl.HS1_64 c i arg3 harg3 arg4 harg4 arg5 harg5 arg6 harg6 arg7 harg7 arg8 harg8 arg9 harg9 hc0 x0 x1 x2) := by
  have ht : (i 2).val < 16 := (i 2).isLt
  have h2 := (tail_two i).mp hc0
  have h1 := (tail_one i).mp hc1
  have hs := (D_1 c i arg3 harg3 arg4 harg4 arg5 harg5 arg6 harg6 arg7 harg7 arg8 harg8 arg9 harg9 (x0 := x0) (x1 := x1) (x2 := x2) hc0 hc1).next
  rw [show 512 * (4 * ((i 2).val / 4) + 0) + 512 = 512 * (4 * ((i 2).val / 4) + 1) by omega] at hs
  iterate 32
    refine step_new (by decide) ht (by omega) (harg3.read_unread x0) (harg4.read_unread x1) (harg5.read_unread x2) ?_ rfl (by first | exact Offsets.two_k0 i 1 | exact Offsets.two_k1 i 1 | exact Offsets.two_k2 i 1 | exact Offsets.two_k3 i 1 | exact Offsets.two_k4 i 1 | exact Offsets.two_k5 i 1 | exact Offsets.two_k6 i 1 | exact Offsets.two_k7 i 1) (by first | exact Offsets.two_v0 i 1 | exact Offsets.two_v1 i 1 | exact Offsets.two_v2 i 1 | exact Offsets.two_v3 i 1) rfl rfl (by rfl) (by rfl)
  exact hs

/-- With tails of two chunks and of one: after chunk 3 of the tails. -/
theorem D_3 (hc0 : cond0_0 i) (hc1 : cond0_1 i) :
    State arg8 arg9 (score (i 2).val x0 x1) (value x2) True (512 * (2 * ((i 2).val / 2))) 32 arg8.view.junk arg9.view.junk (kernelRun0_D.sl.HS0_96 c i arg3 harg3 arg4 harg4 arg5 harg5 arg6 harg6 arg7 harg7 arg8 harg8 arg9 harg9 hc0 hc1 x0 x1 x2) (kernelRun0_D.sl.HS1_96 c i arg3 harg3 arg4 harg4 arg5 harg5 arg6 harg6 arg7 harg7 arg8 harg8 arg9 harg9 hc0 hc1 x0 x1 x2) := by
  have ht : (i 2).val < 16 := (i 2).isLt
  have h2 := (tail_two i).mp hc0
  have h1 := (tail_one i).mp hc1
  have hs := (D_2 c i arg3 harg3 arg4 harg4 arg5 harg5 arg6 harg6 arg7 harg7 arg8 harg8 arg9 harg9 (x0 := x0) (x1 := x1) (x2 := x2) hc0 hc1).next
  rw [show 512 * (4 * ((i 2).val / 4) + 1) + 512 = 512 * (2 * ((i 2).val / 2)) by omega] at hs
  iterate 32
    refine step_new (by decide) ht (by omega) (harg3.read_unread x0) (harg4.read_unread x1) (harg5.read_unread x2) ?_ rfl (by first | exact Offsets.one_k0 i | exact Offsets.one_k1 i | exact Offsets.one_k2 i | exact Offsets.one_k3 i | exact Offsets.one_k4 i | exact Offsets.one_k5 i | exact Offsets.one_k6 i | exact Offsets.one_k7 i) (by first | exact Offsets.one_v0 i | exact Offsets.one_v1 i | exact Offsets.one_v2 i | exact Offsets.one_v3 i) rfl rfl (by rfl) (by rfl)
  exact hs

/-- With tails of two chunks and of one: after the chunk on the diagonal. -/
theorem D_end (hc0 : cond0_0 i) (hc1 : cond0_1 i) : ∃ L8,
    State arg8 arg9 (score (i 2).val x0 x1) (value x2) True (512 * (i 2).val) 32 arg8.view.junk arg9.view.junk L8 (kernelRun0_D.sl.HS1_128 c i arg3 harg3 arg4 harg4 arg5 harg5 arg6 harg6 arg7 harg7 arg8 harg8 arg9 harg9 hc0 hc1 x0 x1 x2) := by
  have ht : (i 2).val < 16 := (i 2).isLt
  have h2 := (tail_two i).mp hc0
  have h1 := (tail_one i).mp hc1
  have hs := (D_3 c i arg3 harg3 arg4 harg4 arg5 harg5 arg6 harg6 arg7 harg7 arg8 harg8 arg9 harg9 (x0 := x0) (x1 := x1) (x2 := x2) hc0 hc1).next
  rw [show 512 * (2 * ((i 2).val / 2)) + 512 = 512 * (i 2).val by omega] at hs
  refine ⟨_, step_mask (n := 31) (by decide) ht rfl (harg3.read_unread x0) (harg4.read_unread x1) (harg5.read_unread x2) ?_ rfl (Gen.k0_off60_eq i) (Gen.k0_off59_eq i) rfl rfl rfl (by rfl)⟩
  iterate 31
    refine step_mask (by decide) ht rfl (harg3.read_unread x0) (harg4.read_unread x1) (harg5.read_unread x2) ?_ rfl (by first | exact Gen.k0_off49_eq i | exact Gen.k0_off51_eq i | exact Gen.k0_off52_eq i | exact Gen.k0_off54_eq i | exact Gen.k0_off55_eq i | exact Gen.k0_off57_eq i | exact Gen.k0_off58_eq i | exact Gen.k0_off60_eq i) (by first | exact Gen.k0_off50_eq i | exact Gen.k0_off53_eq i | exact Gen.k0_off56_eq i | exact Gen.k0_off59_eq i) rfl rfl (by rfl) (by rfl)
  exact hs

end Cert.Cases

end
-- ==== Proof.Output.lean ====
module

public import proofs.«01_k».proof.Proof.Cases

/-! What a grid point stores: the quotient of the sums by the denominators, times the gate. -/

@[expose] public section

set_option maxRecDepth 16384

noncomputable section

namespace Cert.Output

open Idealize.ShloMosaic Idealize.ShloMosaic.TcCoe
open Cert.KernelIdeal Cert.KernelIdeal.Gen Cert.Steps

attribute [local instance] Cert.KernelIdeal.Gen.facts

/-- The quotients of the sums by their denominators. -/
def ratio (a : Vec Ideal S4096x256 .f32) : FVec Ideal S4096x128 .f32 :=
  divf (extractStridedSlice S4096x128 ![0, 0] a slices_S4096x256_o0_0_S4096x128)
    (maximumf (extractStridedSlice S4096x128 ![0, 128] a slices_S4096x256_o0_128_S4096x128)
      (broadcast S4096x128 (Scalar.ofBits .f32 0x0DA24260#32)))

/-- The gate's factor. -/
def gate (x : Vec Ideal S512x128 .f32) : FVec Ideal S512x128 .f32 :=
  mulf x (divf (broadcast S512x128 (Scalar.ofBits .f32 0x3F800000#32))
    (addf (broadcast S512x128 (Scalar.ofBits .f32 0x3F800000#32)) (exp (subf (broadcast S512x128 (Scalar.ofBits .f32 0x00000000#32)) x))))

/-- A pair of heads side by side, gated: the first half of the lanes from the one, the second from the other. -/
def pair (o o' : ℕ) (h : S4096x128.Slices ![o, 0] S512x128) (h' : S4096x128.Slices ![o', 0] S512x128)
    (a : Vec Ideal S4096x256 .f32) (x : Vec Ideal S512x128 .f32) : FVec Ideal S512x128 .bf16 :=
  truncf .bf16 (mulf (select (cmpi .slt (iota .tc S512x128 32 [1] iota_S512x128_d1_w32) (broadcast S512x128 64#32))
    (extractStridedSlice S512x128 ![o, 0] (ratio a) h) (extractStridedSlice S512x128 ![o', 0] (ratio a) h')) (gate x)) bitsLt_bf16_f32

/-- The quotient at row `R`, lane `l`. -/
def cell (a : Vec Ideal S4096x256 .f32) (R : Fin 4096) (l : Fin 128) : EReal :=
  Ideal.div (a (ix2 R ⟨l.val, by omega⟩)) (max (a (ix2 R ⟨128 + l.val, by omega⟩)) (Ideal.ofBits .f32 0x0DA24260#32))

/-- The gate's factor of one number. -/
def silu (x : EReal) : EReal := x * Ideal.div (Ideal.ofBits .f32 0x3F800000#32) (Ideal.ofBits .f32 0x3F800000#32 + Ideal.exp (0 - x))

theorem ratio_apply (a : Vec Ideal S4096x256 .f32) (R : Fin 4096) (l : Fin 128) : ratio a (ix2 R l) = cell a R l := by
  pointwise [ratio, cell]

theorem gate_apply (x : Vec Ideal S512x128 .f32) (r : Fin 512) (l : Fin 128) : gate x (ix2 r l) = silu (x (ix2 r l)) := by
  pointwise [gate, silu]

theorem select_slt {α : Type} (a : ℕ) (ha : a < 128) (x y : α) :
    Scalar.select (IntOp.cmpi CmpIPredicate.slt (BitVec.ofNat 32 a) 64#32) x y = if a < 64 then x else y := by
  rw [WordCmp.cmpi_slt_ofNat (by omega) (by omega)]
  by_cases h : a < 64 <;> simp [h, Scalar.select]

theorem pair_apply (o o' : ℕ) (h : S4096x128.Slices ![o, 0] S512x128) (h' : S4096x128.Slices ![o', 0] S512x128)
    (a : Vec Ideal S4096x256 .f32) (x : Vec Ideal S512x128 .f32) (r : Fin 512) (l : Fin 128) (ho : o + 512 ≤ 4096) (ho' : o' = o + 512) (ho'' : o' + 512 ≤ 4096) :
    pair o o' h h' a x (ix2 r l)
      = cell a ⟨o + 512 * (l.val / 64) + r.val, by omega⟩ l * silu (x (ix2 r l)) := by
  have e : pair o o' h h' a x (ix2 r l) = Scalar.select (IntOp.cmpi CmpIPredicate.slt (BitVec.ofNat 32 l.val) 64#32)
      (ratio a (ix2 ⟨o + r.val, by omega⟩ l)) (ratio a (ix2 ⟨o' + r.val, by omega⟩ l)) * gate x (ix2 r l) := by
    pointwise [pair]
  rw [e, select_slt _ l.isLt, ratio_apply, ratio_apply, gate_apply]
  congr 1
  by_cases hl : l.val < 64
  · rw [if_pos hl]; congr 2; omega
  · rw [if_neg hl]; congr 2; omega

variable (c : Dev nD) (i : grid0.Coords) (arg3 : Memref sig .tc .vmem S8x512x128 .f32) (harg3 : arg3.IsWhole) (arg4 : Memref sig .tc .vmem S8x8192x128 .bf16) (harg4 : arg4.IsWhole) (arg5 : Memref sig .tc .vmem S4x8192x256 .bf16) (harg5 : arg5.IsWhole) (arg6 : Memref sig .tc .vmem S512x512 .f32) (harg6 : arg6.IsWhole) (arg7 : Memref sig .tc .vmem S512x512 .bf16) (harg7 : arg7.IsWhole) (arg8 : Memref sig .tc .vmem S4096x128 .f32) (harg8 : arg8.IsWhole) (arg9 : Memref sig .tc .vmem S4096x256 .f32) (harg9 : arg9.IsWhole)
variable {x0 : Vec Ideal S8x512x128 .f32} {x1 : Vec Ideal S8x8192x128 .bf16} {x2 : Vec Ideal S4x8192x256 .bf16} {x3 : Vec Ideal S512x512 .f32}

/-- A loaded group of 128 columns. -/
theorem gate_load {X6 : BufTy.Contents (Elt Ideal) arg6.view.ty} (h6 : arg6.view.read (Elt Ideal) X6 = x3) (o : ℕ)
    (inb : ∀ a : Fin 2, (![0, o] : Fin 2 → ℕ) a + S512x128.size a ≤ S512x512.size a) (r : Fin 512) (l : Fin 128) (ho : o + 128 ≤ 512) :
    arg6.view.readAt (Elt Ideal) (Rect.unit (s := S512x512) ![0, o] S512x128.size inb).toLoadRect X6 (ix2 r l) = x3 (ix2 r ⟨o + l.val, by omega⟩) := by
  subst h6
  refine congrArg (arg6.view.read (Elt Ideal) X6) ?_
  funext a
  apply Fin.ext
  match a with
  | ⟨0, _⟩ => show 0 + 1 * r.val = r.val; omega
  | ⟨1, _⟩ => show o + 1 * l.val = o + l.val; omega

/-- A stored group of 128 columns read back. -/
theorem store_hit {sig : RefSig} {κ : Kind} {sp : Space} (v : View sig κ sp S512x512 .bf16) (f : v.ty.Contents (Elt Ideal)) (o : ℕ)
    (inb : ∀ a : Fin 2, (![0, o] : Fin 2 → ℕ) a + S512x128.size a ≤ S512x512.size a) (w : FVec Ideal S512x128 .bf16)
    (L : List (View.Piece (Elt Ideal) S512x512 .bf16)) (r l : Fin 512) (l' : Fin 128) (hl : l.val = o + l'.val) :
    v.read (Elt Ideal) (v.writes (Elt Ideal) f ((⟨Rect.unit (s := S512x512) ![0, o] S512x128.size inb, w⟩ : View.Piece (Elt Ideal) S512x512 .bf16) :: L)) (ix2 r l) = w (ix2 r l') := by
  refine View.read_writes_cons_unit_of_mem v f inb w L (ix2 r l) (ix2 r l') rfl fun a => ?_
  match a with
  | ⟨0, _⟩ => show r.val = 0 + r.val; omega
  | ⟨1, _⟩ => exact hl

/-- Columns outside a stored group. -/
theorem store_miss {sig : RefSig} {κ : Kind} {sp : Space} (v : View sig κ sp S512x512 .bf16) (f : v.ty.Contents (Elt Ideal)) (o : ℕ)
    (inb : ∀ a : Fin 2, (![0, o] : Fin 2 → ℕ) a + S512x128.size a ≤ S512x512.size a) (w : FVec Ideal S512x128 .bf16)
    (L : List (View.Piece (Elt Ideal) S512x512 .bf16)) (r l : Fin 512) (hl : l.val < o ∨ o + 128 ≤ l.val) :
    v.read (Elt Ideal) (v.writes (Elt Ideal) f ((⟨Rect.unit (s := S512x512) ![0, o] S512x128.size inb, w⟩ : View.Piece (Elt Ideal) S512x512 .bf16) :: L)) (ix2 r l)
      = v.read (Elt Ideal) (v.writes (Elt Ideal) f L) (ix2 r l) :=
  View.read_writes_cons_unit_of_not_mem v f inb w L (ix2 r l) rfl 1 hl

/-- The four stored groups of two heads each, read back. -/
theorem block {sig' : RefSig} {κ : Kind} {sp : Space} (v : View sig' κ sp S512x512 .bf16) (f : v.ty.Contents (Elt Ideal))
    {X6 : BufTy.Contents (Elt Ideal) arg6.view.ty} (h6 : arg6.view.read (Elt Ideal) X6 = x3) (a : Vec Ideal S4096x256 .f32) (r l : Fin 512) :
    v.read (Elt Ideal) (v.writes (Elt Ideal) f
      [(⟨Rect.unit (s := S512x512) ![0, 384] S512x128.size inb_S512x512_S512x128_0_384, pair 3072 3584 slices_S4096x128_o3072_0_S512x128 slices_S4096x128_o3584_0_S512x128 a (arg6.view.readAt (Elt Ideal) (Rect.unit (s := S512x512) ![0, 384] S512x128.size inb_S512x512_S512x128_0_384).toLoadRect X6)⟩ : View.Piece (Elt Ideal) S512x512 .bf16),
       (⟨Rect.unit (s := S512x512) ![0, 256] S512x128.size inb_S512x512_S512x128_0_256, pair 2048 2560 slices_S4096x128_o2048_0_S512x128 slices_S4096x128_o2560_0_S512x128 a (arg6.view.readAt (Elt Ideal) (Rect.unit (s := S512x512) ![0, 256] S512x128.size inb_S512x512_S512x128_0_256).toLoadRect X6)⟩ : View.Piece (Elt Ideal) S512x512 .bf16),
       (⟨Rect.unit (s := S512x512) ![0, 128] S512x128.size inb_S512x512_S512x128_0_128, pair 1024 1536 slices_S4096x128_o1024_0_S512x128 slices_S4096x128_o1536_0_S512x128 a (arg6.view.readAt (Elt Ideal) (Rect.unit (s := S512x512) ![0, 128] S512x128.size inb_S512x512_S512x128_0_128).toLoadRect X6)⟩ : View.Piece (Elt Ideal) S512x512 .bf16),
       (⟨Rect.unit (s := S512x512) ![0, 0] S512x128.size inb_S512x512_S512x128_0_0, pair 0 512 slices_S4096x128_o0_0_S512x128 slices_S4096x128_o512_0_S512x128 a (arg6.view.readAt (Elt Ideal) (Rect.unit (s := S512x512) ![0, 0] S512x128.size inb_S512x512_S512x128_0_0).toLoadRect X6)⟩ : View.Piece (Elt Ideal) S512x512 .bf16)]) (ix2 r l)
      = cell a ⟨512 * (l.val / 64) + r.val, by omega⟩ ⟨l.val % 128, by omega⟩ * silu (x3 (ix2 r l)) := by
  have key : ∀ (p : ℕ) (hp : p < 4) (h : S4096x128.Slices ![1024 * p, 0] S512x128) (h' : S4096x128.Slices ![1024 * p + 512, 0] S512x128)
      (inb : ∀ a : Fin 2, (![0, 128 * p] : Fin 2 → ℕ) a + S512x128.size a ≤ S512x512.size a), l.val / 128 = p →
      pair (1024 * p) (1024 * p + 512) h h' a (arg6.view.readAt (Elt Ideal) (Rect.unit (s := S512x512) ![0, 128 * p] S512x128.size inb).toLoadRect X6)
        (ix2 r ⟨l.val % 128, by omega⟩) = cell a ⟨512 * (l.val / 64) + r.val, by omega⟩ ⟨l.val % 128, by omega⟩ * silu (x3 (ix2 r l)) := by
    intro p hp h h' inb hl
    rw [pair_apply _ _ _ _ _ _ _ _ (by omega) rfl (by omega), gate_load arg6 h6 _ _ _ _ (by omega)]
    congr 3
    · show 1024 * p + 512 * (l.val % 128 / 64) + r.val = 512 * (l.val / 64) + r.val
      omega
    · congr 1; apply Fin.ext; show 128 * p + l.val % 128 = l.val; omega
  by_cases h3 : l.val / 128 = 3
  · exact (store_hit v f _ _ _ _ r l ⟨l.val % 128, by omega⟩ (by show l.val = 384 + l.val % 128; omega)).trans (key 3 (by omega) _ _ _ h3)
  refine (store_miss v f _ _ _ _ r l (by omega)).trans ?_
  by_cases h2 : l.val / 128 = 2
  · exact (store_hit v f _ _ _ _ r l ⟨l.val % 128, by omega⟩ (by show l.val = 256 + l.val % 128; omega)).trans (key 2 (by omega) _ _ _ h2)
  refine (store_miss v f _ _ _ _ r l (by omega)).trans ?_
  by_cases h1 : l.val / 128 = 1
  · exact (store_hit v f _ _ _ _ r l ⟨l.val % 128, by omega⟩ (by show l.val = 128 + l.val % 128; omega)).trans (key 1 (by omega) _ _ _ h1)
  refine (store_miss v f _ _ _ _ r l (by omega)).trans ?_
  exact (store_hit v f _ _ _ _ r l ⟨l.val % 128, by omega⟩ (by show l.val = 0 + l.val % 128; omega)).trans (key 0 (by omega) _ _ _ (by omega))

/-- The result of a grid point at query tile `t`, at row `r` and column `l`. -/
def result (t : ℕ) (x0 : Vec Ideal S8x512x128 .f32) (x1 : Vec Ideal S8x8192x128 .bf16) (x2 : Vec Ideal S4x8192x256 .bf16) (x3 : Vec Ideal S512x512 .f32)
    (r l : Fin 512) : EReal :=
  Ideal.div (Online.acc (score t x0 x1 (512 * (l.val / 64) + r.val)) (value x2 (512 * (l.val / 64) + r.val) (l.val % 128)) (512 * t + 512))
    (max (Online.acc (score t x0 x1 (512 * (l.val / 64) + r.val)) (value x2 (512 * (l.val / 64) + r.val) (128 + l.val % 128)) (512 * t + 512))
      (Ideal.ofBits .f32 0x0DA24260#32)) * silu (x3 (ix2 r l))

/-- The quotient of the final sums. -/
theorem cell_end {t : ℕ} {L8 : List (View.Piece (Elt Ideal) S4096x128 .f32)} {L9 : List (View.Piece (Elt Ideal) S4096x256 .f32)}
    (h : State arg8 arg9 (score t x0 x1) (value x2) True (512 * t) 32 arg8.view.junk arg9.view.junk L8 L9) (r l : Fin 512) :
    cell (arg9.view.readCov L9 (Rect.unit (s := S4096x256) ![0, 0] S4096x256.size inb_S4096x256_S4096x256_0_0).toLoadRect)
      ⟨512 * (l.val / 64) + r.val, by omega⟩ ⟨l.val % 128, by omega⟩ * silu (x3 (ix2 r l)) = result t x0 x1 x2 x3 r l := by
  have e : ∀ (R : Fin 4096) (j : Fin 256), arg9.view.readCov L9 (Rect.unit (s := S4096x256) ![0, 0] S4096x256.size inb_S4096x256_S4096x256_0_0).toLoadRect (ix2 R j)
      = Online.acc (score t x0 x1 R.val) (value x2 R.val j.val) (512 * t + 512) := fun R j => by
    refine (readAt_block arg9.view _ inb_S4096x256_S4096x256_0_0 0 rfl R j (by omega)).trans ?_
    rw [show (⟨0 + R.val, by omega⟩ : Fin 4096) = R from Fin.ext (Nat.zero_add _), h.1.2 R j trivial]
    unfold Steps.count
    rw [if_pos (by omega)]
  unfold cell result
  rw [e, e]

theorem out_A (hc0 : ¬cond0_0 i) (hc1 : ¬cond0_1 i) (r l : Fin 512) :
    out0_A_4 c i arg3 harg3 arg4 harg4 arg5 harg5 arg6 harg6 arg7 harg7 arg8 harg8 arg9 harg9 hc0 hc1 x0 x1 x2 x3 (ix2 r l) = result (i 2).val x0 x1 x2 x3 r l := by
  obtain ⟨L8, h⟩ := Cases.A_end c i arg3 harg3 arg4 harg4 arg5 harg5 arg6 harg6 arg7 harg7 arg8 harg8 arg9 harg9 (x0 := x0) (x1 := x1) (x2 := x2) hc0 hc1
  have e := (block arg6 VO0_4 VO0_4.junk (harg6.read_unread x3) _ r l).trans (cell_end (x3 := x3) arg8 arg9 h r l)
  exact e

theorem out_B (hc0 : ¬cond0_0 i) (hc1 : cond0_1 i) (r l : Fin 512) :
    out0_B_4 c i arg3 harg3 arg4 harg4 arg5 harg5 arg6 harg6 arg7 harg7 arg8 harg8 arg9 harg9 hc0 hc1 x0 x1 x2 x3 (ix2 r l) = result (i 2).val x0 x1 x2 x3 r l := by
  obtain ⟨L8, h⟩ := Cases.B_end c i arg3 harg3 arg4 harg4 arg5 harg5 arg6 harg6 arg7 harg7 arg8 harg8 arg9 harg9 (x0 := x0) (x1 := x1) (x2 := x2) hc0 hc1
  have e := (block arg6 VO0_4 VO0_4.junk (harg6.read_unread x3) _ r l).trans (cell_end (x3 := x3) arg8 arg9 h r l)
  exact e

theorem out_C (hc0 : cond0_0 i) (hc1 : ¬cond0_1 i) (r l : Fin 512) :
    out0_C_4 c i arg3 harg3 arg4 harg4 arg5 harg5 arg6 harg6 arg7 harg7 arg8 harg8 arg9 harg9 hc0 hc1 x0 x1 x2 x3 (ix2 r l) = result (i 2).val x0 x1 x2 x3 r l := by
  obtain ⟨L8, h⟩ := Cases.C_end c i arg3 harg3 arg4 harg4 arg5 harg5 arg6 harg6 arg7 harg7 arg8 harg8 arg9 harg9 (x0 := x0) (x1 := x1) (x2 := x2) hc0 hc1
  have e := (block arg6 VO0_4 VO0_4.junk (harg6.read_unread x3) _ r l).trans (cell_end (x3 := x3) arg8 arg9 h r l)
  exact e

theorem out_D (hc0 : cond0_0 i) (hc1 : cond0_1 i) (r l : Fin 512) :
    out0_D_4 c i arg3 harg3 arg4 harg4 arg5 harg5 arg6 harg6 arg7 harg7 arg8 harg8 arg9 harg9 hc0 hc1 x0 x1 x2 x3 (ix2 r l) = result (i 2).val x0 x1 x2 x3 r l := by
  obtain ⟨L8, h⟩ := Cases.D_end c i arg3 harg3 arg4 harg4 arg5 harg5 arg6 harg6 arg7 harg7 arg8 harg8 arg9 harg9 (x0 := x0) (x1 := x1) (x2 := x2) hc0 hc1
  have e := (block arg6 VO0_4 VO0_4.junk (harg6.read_unread x3) _ r l).trans (cell_end (x3 := x3) arg8 arg9 h r l)
  exact e

end Cert.Output

end
-- ==== Proof.Blocks.lean ====
module

public import proofs.«01_k».proof.Proof.Output
public import Idealize.ShloMosaic.Lib.Pipeline.ValueKit

/-! The blocks a grid point reads, at the launch's arguments. -/

@[expose] public section

set_option maxRecDepth 16384

noncomputable section

namespace Cert.Blocks

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- Where every window stands at a grid point, and the point's query tile. -/
theorem idx : ∀ t : Fin cfg0.N, win0_0.index t = ![0, t.val, 0] ∧ win0_1.index t = ![0, t.val / 16, 0] ∧ win0_2.index t = ![0, t.val / 16, 0]
    ∧ win0_3.index t = ![t.val, 0] ∧ win0_4.index t = ![t.val, 0] ∧ ((grid0.coords t) 2).val = t.val % 16 :=
  (by decide +kernel : ∀ t : Fin grid0.N, _)

/-- The launch's queries, keys, values and gate inputs. -/
abbrev argQ (c : Dev nD) : S8x32768x128.Idx → EReal := m ((c : Thread nD τ).loc main_arg0)
@[inherit_doc argQ] abbrev argK (c : Dev nD) : S8x32768x128.Idx → EReal := m ((c : Thread nD τ).loc main_arg1)
@[inherit_doc argQ] abbrev argV (c : Dev nD) : S4x32768x128.Idx → EReal := m ((c : Thread nD τ).loc main_arg2)
@[inherit_doc argQ] abbrev argZ (c : Dev nD) : S32768x512.Idx → EReal := m ((c : Thread nD τ).loc main_arg3)

theorem queries (c : Dev nD) (t : Fin cfg0.N) (h : Fin 8) (r : Fin 512) (d : Fin 128) (hr : 512 * t.val + r.val < 32768) :
    iblk m c 0 t (ix3 h r d) = argQ m c (ix3 h ⟨512 * t.val + r.val, hr⟩ d) := by
  blk_ext [iblk, V_main_arg0, idx t]

theorem keys (c : Dev nD) (t : Fin cfg0.N) (h : Fin 8) (s : Fin 8192) (d : Fin 128) (hr : 8192 * (t.val / 16) + s.val < 32768) :
    iblk m c 1 t (ix3 h s d) = argK m c (ix3 h ⟨8192 * (t.val / 16) + s.val, hr⟩ d) := by
  have e : ((cfg0.win 1).blk t).view.emb (ix3 h s d) = ix3 h ⟨8192 * (t.val / 16) + s.val, hr⟩ d := by blk_ext [idx t]
  unfold iblk View.read
  rw [e]
  entry_read
  pointwise
  rfl

theorem values (c : Dev nD) (t : Fin cfg0.N) (h : Fin 4) (s : Fin 8192) (d : Fin 256) (hr : 8192 * (t.val / 16) + s.val < 32768) :
    iblk m c 2 t (ix3 h s d) = if hd : d.val < 128 then argV m c (ix3 h ⟨8192 * (t.val / 16) + s.val, hr⟩ ⟨d.val, hd⟩) else 1 := by
  have e : ((cfg0.win 2).blk t).view.emb (ix3 h s d) = ix3 h ⟨8192 * (t.val / 16) + s.val, hr⟩ d := by blk_ext [idx t]
  unfold iblk View.read
  rw [e]
  entry_read
  pointwise
  rfl

theorem gates (c : Dev nD) (t : Fin cfg0.N) (r l : Fin 512) (hr : 512 * t.val + r.val < 32768) :
    iblk m c 3 t (ix2 r l) = m ((c : Thread nD τ).loc main_arg3) (ix2 ⟨512 * t.val + r.val, hr⟩ l) := by
  blk_ext [iblk, V_main_arg3, idx t]

end Cert.Blocks

end
-- ==== Proof.RefValue.lean ====
module

public import proofs.«01_k».proof.Proof.Gen.ReferenceIdeal.Run
public import proofs.«01_k».proof.Proof.Online
public import Idealize.ShloMosaic.Lib.Pointwise
public import Idealize.ShloMosaic.Lib.WordCmp

/-! The reference's result at an index: a plain softmax of the scaled scores, and the gate. -/

@[expose] public section

set_option maxRecDepth 16384

noncomputable section

namespace Cert.RefValue

open Idealize.ShloMosaic Idealize.ShloMosaic.TcCoe
open Cert.ReferenceIdeal Cert.ReferenceIdeal.Gen

/-- The scaled scores, −∞ past the query's position. -/
def scores (Q K : FVec Ideal S8x32768x128 .f32) : FVec Ideal S8x4x8192x8192 .f32 :=
  select (broadcastInDim S8x4x8192x8192 ![0, 1, 2, 3] bcast_S1x1x8192x8192_S8x4x8192x8192_0_1_2_3 (broadcastInDim S1x1x8192x8192 ![2, 3] bcast_S8192x8192_S1x1x8192x8192_2_3
      (cmpi .sle (broadcastInDim S8192x8192 ![0, 1] bcast_S1x8192_S8192x8192_0_1 (broadcastInDim S1x8192 ![1] bcast_S8192_S1x8192_1 (iotaInDim S8192 32 0)))
        (broadcastInDim S8192x8192 ![0, 1] bcast_S8192x1_S8192x8192_0_1 (broadcastInDim S8192x1 ![0] bcast_S8192_S8192x1_0 (iotaInDim S8192 32 0))))))
    (mulf (Host.dotGeneral dot_S8x4x8192x128_S8x4x8192x128_S8x4x8192x8192_3_3_2_2_01_01 none (shapeCast _ Q shapeCasts_S8x32768x128_S8x4x8192x128) (shapeCast _ K shapeCasts_S8x32768x128_S8x4x8192x128))
      (broadcastInDim S8x4x8192x8192 ![] bcast_S_S8x4x8192x8192 (Host.divf (constant S_ .f32 0x3F800000#32) (Host.sqrt (constant S_ .f32 0x42C00000#32)))))
    (broadcastInDim S8x4x8192x8192 ![] bcast_S_S8x4x8192x8192 (id (constant S_ .f32 0xFF800000#32)))

/-- Each row's greatest score. -/
def tops (S : FVec Ideal S8x4x8192x8192 .f32) : FVec Ideal S8x4x8192x1 .f32 :=
  broadcastInDim S8x4x8192x1 ![0, 1, 2] bcast_S8x4x8192_S8x4x8192x1_0_1_2
    (Host.reduce FloatOps.maximumf S (constant S_ .f32 0xFF800000#32) reducesTo_S8x4x8192x8192_S8x4x8192_d3 h_S_)

/-- The greatest score where it is finite, else zero. -/
def shifts (T : FVec Ideal S8x4x8192x1 .f32) : FVec Ideal S8x4x8192x1 .f32 :=
  select (cmpf .olt (Host.absf T) (broadcastInDim S8x4x8192x1 ![] bcast_S_S8x4x8192x1 (constant S_ .f32 0x7F800000#32))) T
    (broadcastInDim S8x4x8192x1 ![] bcast_S_S8x4x8192x1 (id (constant S_ .f32 0x00000000#32)))

/-- The exponentials of the scores less the shift. -/
def exps (S : FVec Ideal S8x4x8192x8192 .f32) (H : FVec Ideal S8x4x8192x1 .f32) : FVec Ideal S8x4x8192x8192 .f32 :=
  Host.exp (subf S (broadcastInDim S8x4x8192x8192 ![0, 1, 2, 3] bcast_S8x4x8192x1_S8x4x8192x8192_0_1_2_3 H))

/-- The exponentials over their row's sum. -/
def probs (E : FVec Ideal S8x4x8192x8192 .f32) : FVec Ideal S8x4x8192x8192 .f32 :=
  Host.divf E (broadcastInDim S8x4x8192x8192 ![0, 1, 2, 3] bcast_S8x4x8192x1_S8x4x8192x8192_0_1_2_3
    (maximumf (broadcastInDim S8x4x8192x1 ![0, 1, 2] bcast_S8x4x8192_S8x4x8192x1_0_1_2
        (Host.reduceAdd E (constant S_ .f32 0x00000000#32) reducesTo_S8x4x8192x8192_S8x4x8192_d3 h_S_))
      (broadcastInDim S8x4x8192x1 ![] bcast_S_S8x4x8192x1 (constant S_ .f32 0x0DA24260#32))))

/-- The values by head. -/
def heads (V : FVec Ideal S4x32768x128 .f32) : FVec Ideal S8x4x8192x64 .f32 :=
  shapeCast _ (transpose S4x2x4x8192x64 [0, 3, 1, 2, 4] (shapeCast _ V shapeCasts_S4x32768x128_S4x4x8192x2x64)
    transposes_S4x4x8192x2x64_S4x2x4x8192x64_0_3_1_2_4) shapeCasts_S4x2x4x8192x64_S8x4x8192x64

/-- The weighted sums of the values. -/
def mix (W : FVec Ideal S8x4x8192x64 .f32) (D : FVec Ideal S8x4x8192x8192 .f32) : FVec Ideal S32768x512 .f32 :=
  shapeCast _ (transpose S4x8192x8x64 [0, 3, 1, 2] (Host.dotGeneral dot_S8x4x8192x64_S8x4x8192x8192_S4x8x64x8192_2_3_3_2_10_10 none W D)
    transposes_S4x8x64x8192_S4x8192x8x64_0_3_1_2) shapeCasts_S4x8192x8x64_S32768x512

/-- The gate. -/
def gate (Z : FVec Ideal S32768x512 .f32) : FVec Ideal S32768x512 .f32 :=
  mulf Z (Host.divf (broadcastInDim S32768x512 ![] bcast_S_S32768x512 (constant S_ .f32 0x3F800000#32))
    (addf (broadcastInDim S32768x512 ![] bcast_S_S32768x512 (constant S_ .f32 0x3F800000#32)) (Host.exp (Host.negf Z))))

theorem res_eq (m : (ℓ : Loc nD τ sig) → Buf (Elt Ideal) ℓ) (c : Dev nD) (S : FVec Ideal S8x4x8192x8192 .f32)
    (hS : S = scores (m ((c.tc : Thread nD τ).loc main_arg0)) (m ((c.tc : Thread nD τ).loc main_arg1))) :
    Value.res_out0 (F := Ideal) m c = truncf .bf16 (mulf (mix (heads (m ((c.tc : Thread nD τ).loc main_arg2))) (probs (exps S (shifts (tops S)))))
      (gate (m ((c.tc : Thread nD τ).loc main_arg3)))) bitsLt_bf16_f32 := by
  subst hS
  rfl

/-- The reference divides by the root of the head width. -/
theorem scale_eq : Ideal.div 1 (Ideal.sqrt (Ideal.ofBits .f32 0x42C00000#32)) = (((Real.sqrt 96)⁻¹ : ℝ) : EReal) := by
  have e : Ideal.ofBits .f32 0x42C00000#32 = ((96 : ℝ) : EReal) := by
    simp [Ideal.ofBits, Ideal.ieee, -EReal.coe_mul]; norm_num
  have h : Real.sqrt 96 ≠ 0 := (Real.sqrt_pos.mpr (by norm_num)).ne'
  rw [e]
  rw [Ideal.sqrt_coe, if_neg (by norm_num), Ideal.div, if_neg (by exact_mod_cast h), one_mul, EReal.coe_inv]

theorem inf_eq : Ideal.ofBits .f32 0x7F800000#32 = ⊤ := by simp [Ideal.ofBits, Ideal.ieee]

theorem negInf_eq : Ideal.ofBits .f32 0xFF800000#32 = ⊥ := by simp [Ideal.ofBits, Ideal.ieee]

/-- A value less in size than infinity is a real. -/
theorem shift_eq (x : EReal) : (if max x (-x) < ⊤ then x else 0) = Online.shift x := by
  unfold Online.shift
  induction x using EReal.rec with
  | bot => simp
  | top => simp
  | coe r =>
    rw [if_pos (max_lt (EReal.coe_lt_top r) (by rw [← EReal.coe_neg]; exact EReal.coe_lt_top _)), if_neg (by simp)]

/-- The floor of the sums is a positive real. -/
theorem floor_eq : ∃ ε : ℝ, 0 < ε ∧ Ideal.ofBits .f32 0x0DA24260#32 = (ε : EReal) := by
  refine ⟨_, ?_, by simp [Ideal.ofBits, Ideal.ieee, -EReal.coe_mul]; rfl⟩
  positivity

theorem scores_apply (Q K : FVec Ideal S8x32768x128 .f32) (h : Fin 8) (b : Fin 4) (q s : Fin 8192) :
    scores Q K (ix4 h b q s) = if s.val ≤ q.val then
      (∑ d, Q (ix3 h ⟨b.val * 8192 + q.val, by omega⟩ d) * K (ix3 h ⟨b.val * 8192 + s.val, by omega⟩ d)) * (((Real.sqrt 96)⁻¹ : ℝ) : EReal)
      else ⊥ := by
  pointwise [scores]
  rw [WordCmp.cmpi_sle_ofNat (by omega) (by omega), scale_eq,
    show (id (constant (F := Ideal) S_ .f32 0xFF800000#32) ix0 : EReal) = ⊥ from negInf_eq]
  by_cases hs : s.val ≤ q.val <;> simp [hs, Scalar.select]

theorem tops_apply (S : FVec Ideal S8x4x8192x8192 .f32) (h : Fin 8) (b : Fin 4) (q : Fin 8192) (u : Fin 1) :
    tops S (ix4 h b q u) = (Finset.univ.sup fun s => (S (ix4 h b q s) : EReal)) := by
  rw [← Online.fold_max_eq_sup, ← negInf_eq]
  pointwise [tops]

theorem shifts_apply (T : FVec Ideal S8x4x8192x1 .f32) (h : Fin 8) (b : Fin 4) (q : Fin 8192) (u : Fin 1) :
    shifts T (ix4 h b q u) = Online.shift (T (ix4 h b q u)) := by
  pointwise [shifts]
  rw [inf_eq, show (id (constant (F := Ideal) S_ .f32 0x00000000#32) ix0 : EReal) = 0 from Ideal.ofBits_zero_f32]
  generalize (T (ix4 h b q u) : EReal) = x
  show (if max x (-x) < ⊤ then x else 0) = _
  exact shift_eq x

theorem exps_apply (S : FVec Ideal S8x4x8192x8192 .f32) (H : FVec Ideal S8x4x8192x1 .f32) (h : Fin 8) (b : Fin 4) (q s : Fin 8192) :
    exps S H (ix4 h b q s) = Ideal.exp (S (ix4 h b q s) - H (ix4 h b q 0)) := by
  pointwise [exps]

theorem probs_apply (E : FVec Ideal S8x4x8192x8192 .f32) (h : Fin 8) (b : Fin 4) (q s : Fin 8192) :
    probs E (ix4 h b q s) = Ideal.div (E (ix4 h b q s)) (max (∑ k, E (ix4 h b q k)) (Ideal.ofBits .f32 0x0DA24260#32)) := by
  pointwise [probs]

theorem heads_apply (V : FVec Ideal S4x32768x128 .f32) (h : Fin 8) (b : Fin 4) (s : Fin 8192) (d : Fin 64) :
    heads V (ix4 h b s d) = V (ix3 ⟨h.val / 2, by omega⟩ ⟨b.val * 8192 + s.val, by omega⟩ ⟨h.val % 2 * 64 + d.val, by omega⟩) := by
  pointwise [heads]

theorem mix_apply (W : FVec Ideal S8x4x8192x64 .f32) (D : FVec Ideal S8x4x8192x8192 .f32) (n : Fin 32768) (l : Fin 512) :
    mix W D (ix2 n l) = (∑ s, W (ix4 ⟨l.val / 64, by omega⟩ ⟨n.val / 8192, by omega⟩ s ⟨l.val % 64, by omega⟩)
      * D (ix4 ⟨l.val / 64, by omega⟩ ⟨n.val / 8192, by omega⟩ ⟨n.val % 8192, by omega⟩ s) : EReal) := by
  pointwise [mix]

theorem gate_apply (Z : FVec Ideal S32768x512 .f32) (n : Fin 32768) (l : Fin 512) :
    gate Z (ix2 n l) = Z (ix2 n l) * Ideal.div 1 (1 + Ideal.exp (-Z (ix2 n l))) := by
  pointwise [gate]

/-- The score of a query against key `j`. -/
def score (Q K : FVec Ideal S8x32768x128 .f32) (h : Fin 8) (b : Fin 4) (q : Fin 8192) (j : ℕ) : EReal :=
  if hj : j < 8192 then scores Q K (ix4 h b q ⟨j, hj⟩) else ⊥

/-- The value of key `j` in a head's lane. -/
def value (V : FVec Ideal S4x32768x128 .f32) (h : Fin 8) (b : Fin 4) (d : Fin 64) (j : ℕ) : EReal :=
  if hj : j < 8192 then V (ix3 ⟨h.val / 2, by omega⟩ ⟨b.val * 8192 + j, by omega⟩ ⟨h.val % 2 * 64 + d.val, by omega⟩) else 0

/-- A softmax of the scores `sc` of 8192 keys, against their values. -/
def softmax (sc v : ℕ → EReal) : EReal :=
  ∑ j ∈ Finset.range 8192,
    Ideal.div (Ideal.exp (sc j - Online.shift (Online.top sc 8192)))
      (max (∑ k ∈ Finset.range 8192, Ideal.exp (sc k - Online.shift (Online.top sc 8192))) (Ideal.ofBits .f32 0x0DA24260#32)) * v j

/-- The reference's result at an index, of its arguments. -/
def result (Q K : FVec Ideal S8x32768x128 .f32) (V : FVec Ideal S4x32768x128 .f32) (Z : FVec Ideal S32768x512 .f32) (n : Fin 32768) (l : Fin 512) : EReal :=
  softmax (score Q K ⟨l.val / 64, by omega⟩ ⟨n.val / 8192, by omega⟩ ⟨n.val % 8192, by omega⟩)
    (value V ⟨l.val / 64, by omega⟩ ⟨n.val / 8192, by omega⟩ ⟨l.val % 64, by omega⟩)
    * (Z (ix2 n l) * Ideal.div 1 (1 + Ideal.exp (-Z (ix2 n l))))

theorem res_apply (m : (ℓ : Loc nD τ sig) → Buf (Elt Ideal) ℓ) (c : Dev nD) (n : Fin 32768) (l : Fin 512) :
    Value.res_out0 (F := Ideal) m c (ix2 n l)
      = result (m ((c.tc : Thread nD τ).loc main_arg0)) (m ((c.tc : Thread nD τ).loc main_arg1)) (m ((c.tc : Thread nD τ).loc main_arg2)) (m ((c.tc : Thread nD τ).loc main_arg3)) n l := by
  rw [res_eq m c _ rfl]
  generalize hS : scores (m ((c.tc : Thread nD τ).loc main_arg0)) (m ((c.tc : Thread nD τ).loc main_arg1)) = S
  show mix _ _ (ix2 n l) * gate _ (ix2 n l) = _
  rw [mix_apply, gate_apply]
  unfold result
  refine congrArg (· * _) ?_
  unfold softmax
  generalize (⟨l.val / 64, by omega⟩ : Fin 8) = h
  generalize (⟨n.val / 8192, by omega⟩ : Fin 4) = b
  generalize (⟨n.val % 8192, by omega⟩ : Fin 8192) = q
  have hs : ∀ k : Fin 8192, score (m ((c.tc : Thread nD τ).loc main_arg0)) (m ((c.tc : Thread nD τ).loc main_arg1)) h b q k.val = S (ix4 h b q k) := fun k => by
    unfold score
    rw [dif_pos k.isLt, hS]
  have ht : Online.top (score (m ((c.tc : Thread nD τ).loc main_arg0)) (m ((c.tc : Thread nD τ).loc main_arg1)) h b q) 8192 = tops S (ix4 h b q 0) := by
    rw [tops_apply]
    refine (Online.top_add _ 0 8192).trans ?_
    rw [Online.top_zero, max_eq_right bot_le]
    simp only [Nat.zero_add, hs]
  rw [ht, Finset.sum_range, Finset.sum_range]
  refine Finset.sum_congr rfl fun s _ => ?_
  rw [heads_apply, probs_apply, exps_apply, shifts_apply, mul_comm]
  simp only [exps_apply, shifts_apply, hs]
  unfold value
  rw [dif_pos s.isLt]

end Cert.RefValue

end
-- ==== Proof.Equal.lean ====
module

public import proofs.«01_k».proof.Proof.Blocks
public import proofs.«01_k».proof.Proof.RefValue

/-! What a grid point stores is the reference's result at the same position. -/

@[expose] public section

set_option maxRecDepth 16384

noncomputable section

namespace Cert.Equal

open Idealize.ShloMosaic Idealize.ShloMosaic.TcCoe Idealize.SL.Sem
open Idealize.ShloMosaic.Pipeline (Dat)
open Cert.KernelIdeal Cert.KernelIdeal.Gen

attribute [local instance] Cert.KernelIdeal.Gen.facts

section Point

variable {t : ℕ} (ht : t < 64) {x0 : Vec Ideal S8x512x128 .f32} {x1 : Vec Ideal S8x8192x128 .bf16} {x2 : Vec Ideal S4x8192x256 .bf16} {x3 : Vec Ideal S512x512 .f32}
variable {Q K : S8x32768x128.Idx → EReal} {V : S4x32768x128.Idx → EReal} {Z : S32768x512.Idx → EReal}
variable (hQ : ∀ (h : Fin 8) (r : Fin 512) (d : Fin 128), x0 (ix3 h r d) = Q (ix3 h ⟨512 * t + r.val, by omega⟩ d))
variable (hK : ∀ (h : Fin 8) (s : Fin 8192) (d : Fin 128), x1 (ix3 h s d) = K (ix3 h ⟨8192 * (t / 16) + s.val, by omega⟩ d))
variable (hV : ∀ (h : Fin 4) (s : Fin 8192) (d : Fin 256), x2 (ix3 h s d) = if hd : d.val < 128 then V (ix3 h ⟨8192 * (t / 16) + s.val, by omega⟩ ⟨d.val, hd⟩) else 1)
variable (hZ : ∀ r l : Fin 512, x3 (ix2 r l) = Z (ix2 ⟨512 * t + r.val, by omega⟩ l))

include hQ hK in
/-- The kernel's scores are the reference's, taken to the base two. -/
theorem score_eq (h : Fin 8) (r : Fin 512) (j : ℕ) :
    Steps.score (t % 16) x0 x1 (512 * h.val + r.val) j
      = RefValue.score Q K h ⟨t / 16, by omega⟩ ⟨512 * (t % 16) + r.val, by omega⟩ j * (((Real.log 2)⁻¹ : ℝ) : EReal) := by
  have hl : 0 < (Real.log 2)⁻¹ := inv_pos.mpr (Real.log_pos (by norm_num))
  unfold Steps.score RefValue.score
  by_cases hj : j < 8192
  · rw [dif_pos ⟨by omega, hj⟩, dif_pos hj, RefValue.scores_apply]
    by_cases hd : j ≤ 512 * (t % 16) + r.val
    · rw [if_pos (by omega), if_pos hd, mul_assoc, ← EReal.coe_mul, Online.sum_mul_of_real _ (by positivity)]
      refine Finset.sum_congr rfl fun d _ => ?_
      rw [hQ, hK, mul_right_comm]
      refine congrArg₂ (· * ·) (congrArg₂ (· * ·) (congrArg Q ?_) (congrArg K ?_)) rfl
      · congr 1
        · apply Fin.ext; show (512 * h.val + r.val) / 512 = h.val; omega
        · apply Fin.ext; show 512 * t + (512 * h.val + r.val) % 512 = t / 16 * 8192 + (512 * (t % 16) + r.val); omega
      · congr 1
        · apply Fin.ext; show (512 * h.val + r.val) / 512 = h.val; omega
        · apply Fin.ext; show 8192 * (t / 16) + j = t / 16 * 8192 + j; omega
    · rw [if_neg (by omega), if_neg hd, EReal.bot_mul_coe_of_pos hl]
  · rw [dif_neg (by omega), dif_neg hj, EReal.bot_mul_coe_of_pos hl]

include hV in
/-- The values a row sums are the reference's. -/
theorem value_eq (l r : Fin 512) (j : ℕ) :
    Steps.value x2 (512 * (l.val / 64) + r.val) (l.val % 128) j
      = RefValue.value V ⟨l.val / 64, by omega⟩ ⟨t / 16, by omega⟩ ⟨l.val % 64, by omega⟩ j := by
  unfold Steps.value RefValue.value
  by_cases hj : j < 8192
  · rw [dif_pos ⟨by omega, by omega, hj⟩, dif_pos hj, hV, dif_pos (by show l.val % 128 < 128; omega)]
    refine congrArg V ?_
    congr 1
    · apply Fin.ext; show (512 * (l.val / 64) + r.val) / 1024 = l.val / 64 / 2; omega
    · apply Fin.ext; show 8192 * (t / 16) + j = t / 16 * 8192 + j; omega
    · apply Fin.ext; show l.val % 128 = l.val / 64 % 2 * 64 + l.val % 64; omega
  · rw [dif_neg (by omega), dif_neg hj]

include hV in
/-- The lanes past the values are ones. -/
theorem value_one (l r : Fin 512) (j : ℕ) (hj : j < 8192) : Steps.value x2 (512 * (l.val / 64) + r.val) (128 + l.val % 128) j = 1 := by
  unfold Steps.value
  rw [dif_pos ⟨by omega, by omega, hj⟩, hV, dif_neg (by show ¬128 + l.val % 128 < 128; omega)]

theorem one_eq : Ideal.ofBits .f32 0x3F800000#32 = 1 := by
  simp [Ideal.ofBits, Ideal.ieee]
  rw [← EReal.coe_mul]
  norm_num

include hQ hK hV hZ in
/-- A grid point's result is the reference's. -/
theorem result_eq (r l : Fin 512) :
    Output.result (t % 16) x0 x1 x2 x3 r l = RefValue.result Q K V Z ⟨512 * t + r.val, by omega⟩ l := by
  have hsc : ∀ j, Steps.score (t % 16) x0 x1 (512 * (l.val / 64) + r.val) j
      = RefValue.score Q K ⟨l.val / 64, by omega⟩ ⟨t / 16, by omega⟩ ⟨512 * (t % 16) + r.val, by omega⟩ j * (((Real.log 2)⁻¹ : ℝ) : EReal) :=
    fun j => score_eq ht hQ hK ⟨l.val / 64, by omega⟩ r j
  have hb : ∀ j, 512 * (t % 16) + 512 ≤ j → Steps.score (t % 16) x0 x1 (512 * (l.val / 64) + r.val) j = ⊥ := fun j hj => by
    unfold Steps.score
    by_cases h : 512 * (l.val / 64) + r.val < 4096 ∧ j < 8192
    · rw [dif_pos h, if_neg (by omega)]
    · rw [dif_neg h]
  obtain ⟨ε, hε, eε⟩ := RefValue.floor_eq
  unfold Output.result RefValue.result
  refine congrArg₂ (· * ·) ?_ ?_
  · rw [← Online.acc_of_bot _ _ (show 512 * (t % 16) + 512 ≤ 8192 by omega) hb, ← Online.acc_of_bot _ _ (show 512 * (t % 16) + 512 ≤ 8192 by omega) hb]
    have h1 : Online.acc (Steps.score (t % 16) x0 x1 (512 * (l.val / 64) + r.val)) (Steps.value x2 (512 * (l.val / 64) + r.val) (128 + l.val % 128)) 8192
        = Online.acc (Steps.score (t % 16) x0 x1 (512 * (l.val / 64) + r.val)) (fun _ => 1) 8192 :=
      Finset.sum_congr rfl fun j hj => by rw [value_one ht hV l r j (Finset.mem_range.mp hj)]
    rw [h1, funext hsc, funext (value_eq ht hV l r), eε, Online.quotient_eq_softmax _ _ rfl hε]
    unfold RefValue.softmax
    rw [eε]
    have e1 : (⟨(512 * t + r.val) / 8192, by omega⟩ : Fin 4) = ⟨t / 16, by omega⟩ := Fin.ext (by show (512 * t + r.val) / 8192 = t / 16; omega)
    have e2 : (⟨(512 * t + r.val) % 8192, by omega⟩ : Fin 8192) = ⟨512 * (t % 16) + r.val, by omega⟩ := Fin.ext (by show (512 * t + r.val) % 8192 = 512 * (t % 16) + r.val; omega)
    rw [e1, e2]
  · unfold Output.silu
    rw [hZ, one_eq, zero_sub]

end Point

variable (m : (ℓ : Loc nD τ sig) → Buf (Elt Ideal) ℓ)

/-- What a grid point leaves in its output block. -/
theorem outs_apply (c : Dev nD) (t : Fin cfg0.N) (r l : Fin 512) :
    outsAt0 m c t.val t.isLt (ix2 r l)
      = Output.result ((grid0.coords t) 2).val (iblk m c 0 t) (iblk m c 1 t) (iblk m c 2 t) (iblk m c 3 t) r l := by
  by_cases h0 : t.val % 4 = 2 ∨ t.val % 4 = 3 <;> by_cases h1 : t.val % 2 = 1
  · rw [outsAt0_D m c t h0 h1]; exact Output.out_D ..
  · rw [outsAt0_C m c t h0 h1]; exact Output.out_C ..
  · rw [outsAt0_B m c t h0 h1]; exact Output.out_B ..
  · rw [outsAt0_A m c t h0 h1]; exact Output.out_A ..

/-- The reference's result, of the launch's arguments. -/
def whole (c : Dev nD) : S32768x512.Idx → EReal := fun j =>
  RefValue.result (Blocks.argQ m c) (Blocks.argK m c) (Blocks.argV m c) (Blocks.argZ m c) (j 0) (j 1)

/-- The kernel's output array is the reference's result. -/
theorem final (c : Dev nD) : (dats m 0 c).arrAt 4 cfg0.N = whole m c := by
  refine (dats m 0 c).arrAt_eq_of_covers 4 _ (by decide +kernel) fun t _ y => ?_
  have ht : t.val < 64 := lt_of_lt_of_eq t.isLt N_0
  blk_simp
  rw [after0_4]
  obtain ⟨r, l, rfl⟩ : ∃ r l : Fin 512, y = ix2 r l := ⟨y 0, y 1, by funext a; match a with | ⟨0, _⟩ => rfl | ⟨1, _⟩ => rfl⟩
  have e : (win0_4.blk t).view.emb (ix2 r l) = ix2 ⟨512 * t.val + r.val, by omega⟩ l := by blk_ext [Blocks.idx t]
  rw [e]
  refine (outs_apply m c t r l).trans ?_
  rw [(Blocks.idx t).2.2.2.2.2]
  exact result_eq ht (fun h r d => Blocks.queries m c t h r d (by omega)) (fun h s d => Blocks.keys m c t h s d (by omega))
    (fun h s d => Blocks.values m c t h s d (by omega)) (fun r l => Blocks.gates m c t r l (by omega)) r l

end Cert.Equal

end
-- ==== Proof.Claims.lean ====
module

public import proofs.«01_k».proof.Defs
public import proofs.«01_k».proof.Proof.Equal
public import proofs.«01_k».proof.Proof.Gen.Kernel.Frame
public import proofs.«01_k».proof.Proof.Gen.KernelIdeal.Value
public import proofs.«01_k».proof.Proof.Gen.ReferenceIdeal.Run
public import Idealize.ShloMosaic.Lib.Quiescent

/-! The five claims: the three programs leave their arguments alone, the named constants stand for the printed ones, and
the idealized kernel computes the reference. -/

@[expose] public section

set_option maxRecDepth 16384

noncomputable section

namespace Cert.Claims

open Idealize.ShloMosaic Idealize.ShloMosaic.TcCoe Idealize.SL.Sem

attribute [local instance] Cert.Kernel.Gen.facts Cert.KernelIdeal.Gen.facts Cert.ReferenceIdeal.Gen.facts

theorem frame_p : Cert.quiescent_Kernel := fun m ρ _ => Cert.Kernel.Gen.frame m ρ

theorem frame_pi : Cert.quiescent_KernelIdeal := fun m ρ _ => Cert.KernelIdeal.Gen.frame m ρ

theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem preserves : Cert.preserves_Kernel_KernelIdeal :=
  ⟨IdealRules.named_const.statement Cert.KernelIdeal.κ "m_init" .f32 0xF149F2CA#32 ⊥ rfl,
   IdealRules.named_const.statement Cert.KernelIdeal.κ "scale" .f32 0x3E16C740#32 (((Real.sqrt 96)⁻¹ * (Real.log 2)⁻¹ : ℝ) : EReal) rfl⟩

/-- Of arguments that agree the reference's result is the kernel's. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Value.res_out0 (F := Ideal) m' c = (Cert.KernelIdeal.Gen.dats m 0 c).arrAt 4 Cert.KernelIdeal.cfg0.N := by
  refine Eq.trans ?_ (Equal.final m c).symm
  funext j
  obtain ⟨n, l, rfl⟩ : ∃ (n : Fin 32768) (l : Fin 512), j = ix2 n l := ⟨j 0, j 1, by funext a; match a with | ⟨0, _⟩ => rfl | ⟨1, _⟩ => rfl⟩
  refine (RefValue.res_apply m' c n l).trans ?_
  rw [h0, h1, h2, h3]
  rfl

theorem algebraic : Cert.algebraic_KernelIdeal_ReferenceIdeal := by
  intro m ρ m' ρ' _ hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  exact result_eq m m' c (hagree c).1 (hagree c).2.1 (hagree c).2.2.1 (hagree c).2.2.2

end Cert.Claims

end
-- ==== Proof.FuseIdealFrame.lean ====
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1500000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel2Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 6).trans (((dats 0 c).arrAt_in 6 rfl _).trans ((hA c 6).trans (V_main_arg6 m c))),
      ((h c).1 7).trans (((dats 0 c).arrAt_in 7 rfl _).trans ((hA c 7).trans (V_main_arg7 m c))),
      ((h c).1 8).trans (((dats 0 c).arrAt_in 8 rfl _).trans ((hA c 8).trans (V_main_arg8 m c))),
      ((h c).1 10).trans (((dats 0 c).arrAt_in 10 rfl _).trans ((hA c 10).trans (V_main_arg9 m c)))⟩) h

/-! ## The body's accesses -/

abbrev r0_0 : Rect S512x1024 := Rect.unit (s := S512x1024) ![0, 0] S512x1024.size inb_S512x1024_S512x1024_0_0
abbrev r0_1 : Rect S512x512 := Rect.unit (s := S512x512) ![0, 0] S512x512.size inb_S512x512_S512x512_0_0
abbrev r0_2 : Rect S1024x1024 := Rect.unit (s := S1024x1024) ![0, 0] S512x1024.size inb_S1024x1024_S512x1024_0_0
abbrev r0_3 : Rect S1024x1024 := Rect.unit (s := S1024x1024) ![512, 0] S512x1024.size inb_S1024x1024_S512x1024_512_0
abbrev r0_4 : Rect S1x1024 := Rect.unit (s := S1x1024) ![0, 0] S1x1024.size inb_S1x1024_S1x1024_0_0
abbrev r0_5 : Rect S512x128 := Rect.unit (s := S512x128) ![0, 0] S512x128.size inb_S512x128_S512x128_0_0
abbrev r0_6 : Rect S256x128 := Rect.unit (s := S256x128) ![0, 0] S256x128.size inb_S256x128_S256x128_0_0
abbrev r0_7 : Rect S1024x2944 := Rect.unit (s := S1024x2944) ![0, 0] S1024x512.size inb_S1024x2944_S1024x512_0_0
abbrev r0_8 : Rect S8x128 := Rect.unit (s := S8x128) ![0, 0] S1x128.size inb_S8x128_S1x128_0_0
abbrev r0_9 : Rect S8x512x128 := Rect.unit (s := S8x512x128) ![0, 0, 0] S1x512x128.size inb_S8x512x128_S1x512x128_0_0_0
abbrev r0_10 : Rect S8x512x128 := Rect.unit (s := S8x512x128) ![1, 0, 0] S1x512x128.size inb_S8x512x128_S1x512x128_1_0_0
abbrev r0_11 : Rect S8x512x128 := Rect.unit (s := S8x512x128) ![2, 0, 0] S1x512x128.size inb_S8x512x128_S1x512x128_2_0_0
abbrev r0_12 : Rect S8x512x128 := Rect.unit (s := S8x512x128) ![3, 0, 0] S1x512x128.size inb_S8x512x128_S1x512x128_3_0_0
abbrev r0_13 : Rect S8x512x128 := Rect.unit (s := S8x512x128) ![4, 0, 0] S1x512x128.size inb_S8x512x128_S1x512x128_4_0_0
abbrev r0_14 : Rect S8x512x128 := Rect.unit (s := S8x512x128) ![5, 0, 0] S1x512x128.size inb_S8x512x128_S1x512x128_5_0_0
abbrev r0_15 : Rect S8x512x128 := Rect.unit (s := S8x512x128) ![6, 0, 0] S1x512x128.size inb_S8x512x128_S1x512x128_6_0_0
abbrev r0_16 : Rect S8x512x128 := Rect.unit (s := S8x512x128) ![7, 0, 0] S1x512x128.size inb_S8x512x128_S1x512x128_7_0_0
abbrev r0_17 : Rect S1024x2944 := Rect.unit (s := S1024x2944) ![0, 512] S1024x128.size inb_S1024x2944_S1024x128_0_512
abbrev r0_18 : Rect S1024x2944 := Rect.unit (s := S1024x2944) ![0, 640] S1024x128.size inb_S1024x2944_S1024x128_0_640
abbrev r0_19 : Rect S8x128 := Rect.unit (s := S8x128) ![1, 0] S1x128.size inb_S8x128_S1x128_1_0
abbrev r0_20 : Rect S1024x2944 := Rect.unit (s := S1024x2944) ![0, 768] S1024x128.size inb_S1024x2944_S1024x128_0_768
abbrev r0_21 : Rect S1024x2944 := Rect.unit (s := S1024x2944) ![0, 896] S1024x128.size inb_S1024x2944_S1024x128_0_896
abbrev r0_22 : Rect S512x256 := Rect.unit (s := S512x256) ![0, 0] S512x256.size inb_S512x256_S512x256_0_0
abbrev r0_23 : Rect S8x128 := Rect.unit (s := S8x128) ![2, 0] S1x128.size inb_S8x128_S1x128_2_0
abbrev r0_24 : Rect S1024x2944 := Rect.unit (s := S1024x2944) ![0, 1024] S1024x128.size inb_S1024x2944_S1024x128_0_1024
abbrev r0_25 : Rect S1024x2944 := Rect.unit (s := S1024x2944) ![0, 1152] S1024x128.size inb_S1024x2944_S1024x128_0_1152
abbrev r0_26 : Rect S1024x2944 := Rect.unit (s := S1024x2944) ![0, 1280] S1024x128.size inb_S1024x2944_S1024x128_0_1280
abbrev r0_27 : Rect S1024x2944 := Rect.unit (s := S1024x2944) ![0, 1408] S1024x512.size inb_S1024x2944_S1024x512_0_1408
abbrev r0_28 : Rect S1024x2944 := Rect.unit (s := S1024x2944) ![0, 1920] S1024x256.size inb_S1024x2944_S1024x256_0_1920
abbrev r0_29 : Rect S1024x2944 := Rect.unit (s := S1024x2944) ![0, 2176] S1024x128.size inb_S1024x2944_S1024x128_0_2176
abbrev r0_30 : Rect S1024x2944 := Rect.unit (s := S1024x2944) ![0, 2304] S1024x128.size inb_S1024x2944_S1024x128_0_2304
abbrev r0_31 : Rect S1024x2944 := Rect.unit (s := S1024x2944) ![0, 2432] S1024x512.size inb_S1024x2944_S1024x512_0_2432

/-! ## What the body leaves in each output window's buffer -/

/-! ### Values of the body that the stores' payloads, spelt out, would write more than once

    Each is a vector the body binds (often a part call's result), stated over the input windows' blocks and
    numbered on from the skeleton's payload functions (`k0_pay35` …, after `k0_pay34`), so that
    `out0_W` and the values after it name it instead of spelling it out. -/

def k0_pay35 (x0 : Vec F S512x1024 .f32) (x1 : Vec F S512x512 .bf16) (x2 : Vec F S512x512 .bf16) (x3 : Vec F S1024x1024 .bf16) (x4 : Vec F S1x1024 .f32) (x5 : Vec F S1024x2944 .bf16) (x6 : Vec F S512x128 .f32) (x7 : Vec F S512x128 .f32) (x8 : Vec F S512x128 .f32) (x9 : Vec F S256x128 .bf16) (x10 : Vec F S8x128 .f32) : FVec F S512x1024 .bf16 :=
  k0_pay3 (View.ld x0 r0_0) (View.ld x1 r0_1) (View.ld x3 r0_2) (View.ld x2 r0_1) (View.ld x3 r0_3) (View.ld x4 r0_4)
def k0_pay36 (x0 : Vec F S512x1024 .f32) (x1 : Vec F S512x512 .bf16) (x2 : Vec F S512x512 .bf16) (x3 : Vec F S1024x1024 .bf16) (x4 : Vec F S1x1024 .f32) (x5 : Vec F S1024x2944 .bf16) (x6 : Vec F S512x128 .f32) (x7 : Vec F S512x128 .f32) (x8 : Vec F S512x128 .f32) (x9 : Vec F S256x128 .bf16) (x10 : Vec F S8x128 .f32) : FVec F S256x128 .bf16 :=
  k0_pay4 (View.ld x9 r0_6)
def k0_pay37 (x0 : Vec F S512x1024 .f32) (x1 : Vec F S512x512 .bf16) (x2 : Vec F S512x512 .bf16) (x3 : Vec F S1024x1024 .bf16) (x4 : Vec F S1x1024 .f32) (x5 : Vec F S1024x2944 .bf16) (x6 : Vec F S512x128 .f32) (x7 : Vec F S512x128 .f32) (x8 : Vec F S512x128 .f32) (x9 : Vec F S256x128 .bf16) (x10 : Vec F S8x128 .f32) : FVec F S512x512 .f32 :=
  k0_pay5 (k0_pay35 x0 x1 x2 x3 x4 x5 x6 x7 x8 x9 x10) (View.ld x5 r0_7)
def k0_pay38 (x0 : Vec F S512x1024 .f32) (x1 : Vec F S512x512 .bf16) (x2 : Vec F S512x512 .bf16) (x3 : Vec F S1024x1024 .bf16) (x4 : Vec F S1x1024 .f32) (x5 : Vec F S1024x2944 .bf16) (x6 : Vec F S512x128 .f32) (x7 : Vec F S512x128 .f32) (x8 : Vec F S512x128 .f32) (x9 : Vec F S256x128 .bf16) (x10 : Vec F S8x128 .f32) : IVec S512x128 1 :=
  k0_pay6
def k0_pay39 (x0 : Vec F S512x1024 .f32) (x1 : Vec F S512x512 .bf16) (x2 : Vec F S512x512 .bf16) (x3 : Vec F S1024x1024 .bf16) (x4 : Vec F S1x1024 .f32) (x5 : Vec F S1024x2944 .bf16) (x6 : Vec F S512x128 .f32) (x7 : Vec F S512x128 .f32) (x8 : Vec F S512x128 .f32) (x9 : Vec F S256x128 .bf16) (x10 : Vec F S8x128 .f32) : FVec F S512x128 .f32 :=
  k0_pay19 (k0_pay37 x0 x1 x2 x3 x4 x5 x6 x7 x8 x9 x10)

/-- Window 11's staging buffer after the body, from the input windows' blocks: its 1 store as pieces, LAST
    FIRST (Lib/Pipeline/FrameBody.lean `View.canon`; the payloads are the skeleton's and the values stated above). -/
def out0_11 (x0 : Vec F S512x1024 .f32) (x1 : Vec F S512x512 .bf16) (x2 : Vec F S512x512 .bf16) (x3 : Vec F S1024x1024 .bf16) (x4 : Vec F S1x1024 .f32) (x5 : Vec F S1024x2944 .bf16) (x6 : Vec F S512x128 .f32) (x7 : Vec F S512x128 .f32) (x8 : Vec F S512x128 .f32) (x9 : Vec F S256x128 .bf16) (x10 : Vec F S8x128 .f32) : Vec F S512x1024 .f32 :=
  View.canon [⟨r0_0, k0_pay2 (View.ld x0 r0_0) (View.ld x1 r0_1) (View.ld x3 r0_2) (View.ld x2 r0_1) (View.ld x3 r0_3)⟩]

/-- Its stores tile the buffer (checked by evaluation), so they cover it. -/
theorem cover0_11 (p0 : Vec F S512x1024 .f32) (y : S512x1024.Idx) :
    ∃ pc ∈ ([⟨r0_0, p0⟩] : List (View.Piece (Elt F) S512x1024 .f32)), y ∈ pc.1.set :=
  View.cover_of_tiled [⟨r0_0, p0⟩] S512x1024.size (by rfl) y

/-- Window 12's staging buffer after the body, from the input windows' blocks: its 8 stores as pieces, LAST
    FIRST (Lib/Pipeline/FrameBody.lean `View.canon`; the payloads are the skeleton's and the values stated above). -/
def out0_12 (x0 : Vec F S512x1024 .f32) (x1 : Vec F S512x512 .bf16) (x2 : Vec F S512x512 .bf16) (x3 : Vec F S1024x1024 .bf16) (x4 : Vec F S1x1024 .f32) (x5 : Vec F S1024x2944 .bf16) (x6 : Vec F S512x128 .f32) (x7 : Vec F S512x128 .f32) (x8 : Vec F S512x128 .f32) (x9 : Vec F S256x128 .bf16) (x10 : Vec F S8x128 .f32) : Vec F S8x512x128 .bf16 :=
  View.canon [⟨r0_16, k0_pay22 (View.ld x6 r0_5) (View.ld x7 r0_5) (View.ld x8 r0_5) (k0_pay36 x0 x1 x2 x3 x4 x5 x6 x7 x8 x9 x10) (View.ld x10 r0_8) (k0_pay38 x0 x1 x2 x3 x4 x5 x6 x7 x8 x9 x10) (k0_pay39 x0 x1 x2 x3 x4 x5 x6 x7 x8 x9 x10)⟩,
    ⟨r0_15, k0_pay21 (View.ld x6 r0_5) (View.ld x7 r0_5) (View.ld x8 r0_5) (k0_pay36 x0 x1 x2 x3 x4 x5 x6 x7 x8 x9 x10) (View.ld x10 r0_8) (k0_pay38 x0 x1 x2 x3 x4 x5 x6 x7 x8 x9 x10) (k0_pay39 x0 x1 x2 x3 x4 x5 x6 x7 x8 x9 x10)⟩,
    ⟨r0_14, k0_pay18 (View.ld x6 r0_5) (View.ld x7 r0_5) (View.ld x8 r0_5) (k0_pay36 x0 x1 x2 x3 x4 x5 x6 x7 x8 x9 x10) (k0_pay37 x0 x1 x2 x3 x4 x5 x6 x7 x8 x9 x10) (View.ld x10 r0_8) (k0_pay38 x0 x1 x2 x3 x4 x5 x6 x7 x8 x9 x10)⟩,
    ⟨r0_13, k0_pay17 (View.ld x6 r0_5) (View.ld x7 r0_5) (View.ld x8 r0_5) (k0_pay36 x0 x1 x2 x3 x4 x5 x6 x7 x8 x9 x10) (k0_pay37 x0 x1 x2 x3 x4 x5 x6 x7 x8 x9 x10) (View.ld x10 r0_8) (k0_pay38 x0 x1 x2 x3 x4 x5 x6 x7 x8 x9 x10)⟩,
    ⟨r0_12, k0_pay15 (k0_pay14 (View.ld x6 r0_5) (View.ld x7 r0_5) (View.ld x8 r0_5) (k0_pay36 x0 x1 x2 x3 x4 x5 x6 x7 x8 x9 x10) (k0_pay37 x0 x1 x2 x3 x4 x5 x6 x7 x8 x9 x10) (View.ld x10 r0_8) (k0_pay38 x0 x1 x2 x3 x4 x5 x6 x7 x8 x9 x10))⟩,
    ⟨r0_11, k0_pay13 (View.ld x6 r0_5) (View.ld x7 r0_5) (View.ld x8 r0_5) (k0_pay36 x0 x1 x2 x3 x4 x5 x6 x7 x8 x9 x10) (k0_pay37 x0 x1 x2 x3 x4 x5 x6 x7 x8 x9 x10) (View.ld x10 r0_8) (k0_pay38 x0 x1 x2 x3 x4 x5 x6 x7 x8 x9 x10)⟩,
    ⟨r0_10, k0_pay11 (k0_pay38 x0 x1 x2 x3 x4 x5 x6 x7 x8 x9 x10) (k0_pay8 (k0_pay35 x0 x1 x2 x3 x4 x5 x6 x7 x8 x9 x10) (View.ld x6 r0_5) (View.ld x7 r0_5) (View.ld x8 r0_5) (View.ld x9 r0_6) (View.ld x5 r0_7) (View.ld x10 r0_8)) (k0_pay10 (F := F))⟩,
    ⟨r0_9, k0_pay9 (k0_pay35 x0 x1 x2 x3 x4 x5 x6 x7 x8 x9 x10) (View.ld x6 r0_5) (View.ld x7 r0_5) (View.ld x8 r0_5) (View.ld x9 r0_6) (View.ld x5 r0_7) (View.ld x10 r0_8)⟩]

/-- Its stores tile the buffer (checked by evaluation), so they cover it. -/
theorem cover0_12 (p0 : Vec F S1x512x128 .bf16) (p1 : Vec F S1x512x128 .bf16) (p2 : Vec F S1x512x128 .bf16) (p3 : Vec F S1x512x128 .bf16) (p4 : Vec F S1x512x128 .bf16) (p5 : Vec F S1x512x128 .bf16) (p6 : Vec F S1x512x128 .bf16) (p7 : Vec F S1x512x128 .bf16) (y : S8x512x128.Idx) :
    ∃ pc ∈ ([⟨r0_16, p0⟩, ⟨r0_15, p1⟩, ⟨r0_14, p2⟩, ⟨r0_13, p3⟩, ⟨r0_12, p4⟩, ⟨r0_11, p5⟩, ⟨r0_10, p6⟩, ⟨r0_9, p7⟩] : List (View.Piece (Elt F) S8x512x128 .bf16)), y ∈ pc.1.set :=
  View.cover_of_tiled [⟨r0_16, p0⟩, ⟨r0_15, p1⟩, ⟨r0_14, p2⟩, ⟨r0_13, p3⟩, ⟨r0_12, p4⟩, ⟨r0_11, p5⟩, ⟨r0_10, p6⟩, ⟨r0_9, p7⟩] S1x512x128.size (by rfl) y

/-- Window 13's staging buffer after the body, from the input windows' blocks: its 1 store as pieces, LAST
    FIRST (Lib/Pipeline/FrameBody.lean `View.canon`; the payloads are the skeleton's and the values stated above). -/
def out0_13 (x0 : Vec F S512x1024 .f32) (x1 : Vec F S512x512 .bf16) (x2 : Vec F S512x512 .bf16) (x3 : Vec F S1024x1024 .bf16) (x4 : Vec F S1x1024 .f32) (x5 : Vec F S1024x2944 .bf16) (x6 : Vec F S512x128 .f32) (x7 : Vec F S512x128 .f32) (x8 : Vec F S512x128 .f32) (x9 : Vec F S256x128 .bf16) (x10 : Vec F S8x128 .f32) : Vec F S512x128 .f32 :=
  View.canon [⟨r0_5, k0_pay23 (k0_pay35 x0 x1 x2 x3 x4 x5 x6 x7 x8 x9 x10) (View.ld x5 r0_17)⟩]

/-- Its stores tile the buffer (checked by evaluation), so they cover it. -/
theorem cover0_13 (p0 : Vec F S512x128 .f32) (y : S512x128.Idx) :
    ∃ pc ∈ ([⟨r0_5, p0⟩] : List (View.Piece (Elt F) S512x128 .f32)), y ∈ pc.1.set :=
  View.cover_of_tiled [⟨r0_5, p0⟩] S512x128.size (by rfl) y

/-- Window 14's staging buffer after the body, from the input windows' blocks: its 1 store as pieces, LAST
    FIRST (Lib/Pipeline/FrameBody.lean `View.canon`; the payloads are the skeleton's and the values stated above). -/
def out0_14 (x0 : Vec F S512x1024 .f32) (x1 : Vec F S512x512 .bf16) (x2 : Vec F S512x512 .bf16) (x3 : Vec F S1024x1024 .bf16) (x4 : Vec F S1x1024 .f32) (x5 : Vec F S1024x2944 .bf16) (x6 : Vec F S512x128 .f32) (x7 : Vec F S512x128 .f32) (x8 : Vec F S512x128 .f32) (x9 : Vec F S256x128 .bf16) (x10 : Vec F S8x128 .f32) : Vec F S512x128 .f32 :=
  View.canon [⟨r0_5, k0_pay24 (k0_pay35 x0 x1 x2 x3 x4 x5 x6 x7 x8 x9 x10) (View.ld x5 r0_18)⟩]

/-- Its stores tile the buffer (checked by evaluation), so they cover it. -/
theorem cover0_14 (p0 : Vec F S512x128 .f32) (y : S512x128.Idx) :
    ∃ pc ∈ ([⟨r0_5, p0⟩] : List (View.Piece (Elt F) S512x128 .f32)), y ∈ pc.1.set :=
  View.cover_of_tiled [⟨r0_5, p0⟩] S512x128.size (by rfl) y

/-- Window 15's staging buffer after the body, from the input windows' blocks: its 1 store as pieces, LAST
    FIRST (Lib/Pipeline/FrameBody.lean `View.canon`; the payloads are the skeleton's and the values stated above). -/
def out0_15 (x0 : Vec F S512x1024 .f32) (x1 : Vec F S512x512 .bf16) (x2 : Vec F S512x512 .bf16) (x3 : Vec F S1024x1024 .bf16) (x4 : Vec F S1x1024 .f32) (x5 : Vec F S1024x2944 .bf16) (x6 : Vec F S512x128 .f32) (x7 : Vec F S512x128 .f32) (x8 : Vec F S512x128 .f32) (x9 : Vec F S256x128 .bf16) (x10 : Vec F S8x128 .f32) : Vec F S512x128 .bf16 :=
  View.canon [⟨r0_5, k0_pay25 (k0_pay35 x0 x1 x2 x3 x4 x5 x6 x7 x8 x9 x10) (View.ld x6 r0_5) (View.ld x7 r0_5) (View.ld x8 r0_5) (k0_pay36 x0 x1 x2 x3 x4 x5 x6 x7 x8 x9 x10) (View.ld x10 r0_19) (View.ld x5 r0_20)⟩]

/-- Its stores tile the buffer (checked by evaluation), so they cover it. -/
theorem cover0_15 (p0 : Vec F S512x128 .bf16) (y : S512x128.Idx) :
    ∃ pc ∈ ([⟨r0_5, p0⟩] : List (View.Piece (Elt F) S512x128 .bf16)), y ∈ pc.1.set :=
  View.cover_of_tiled [⟨r0_5, p0⟩] S512x128.size (by rfl) y

/-- Window 16's staging buffer after the body, from the input windows' blocks: its 1 store as pieces, LAST
    FIRST (Lib/Pipeline/FrameBody.lean `View.canon`; the payloads are the skeleton's and the values stated above). -/
def out0_16 (x0 : Vec F S512x1024 .f32) (x1 : Vec F S512x512 .bf16) (x2 : Vec F S512x512 .bf16) (x3 : Vec F S1024x1024 .bf16) (x4 : Vec F S1x1024 .f32) (x5 : Vec F S1024x2944 .bf16) (x6 : Vec F S512x128 .f32) (x7 : Vec F S512x128 .f32) (x8 : Vec F S512x128 .f32) (x9 : Vec F S256x128 .bf16) (x10 : Vec F S8x128 .f32) : Vec F S512x256 .bf16 :=
  View.canon [⟨r0_22, k0_pay27 (k0_pay35 x0 x1 x2 x3 x4 x5 x6 x7 x8 x9 x10) (k0_pay26 (View.ld x5 r0_21)) (constant S512x128 .f32 0x00000000#32)⟩]

/-- Its stores tile the buffer (checked by evaluation), so they cover it. -/
theorem cover0_16 (p0 : Vec F S512x256 .bf16) (y : S512x256.Idx) :
    ∃ pc ∈ ([⟨r0_22, p0⟩] : List (View.Piece (Elt F) S512x256 .bf16)), y ∈ pc.1.set :=
  View.cover_of_tiled [⟨r0_22, p0⟩] S512x256.size (by rfl) y

/-- Window 17's staging buffer after the body, from the input windows' blocks: its 1 store as pieces, LAST
    FIRST (Lib/Pipeline/FrameBody.lean `View.canon`; the payloads are the skeleton's and the values stated above). -/
def out0_17 (x0 : Vec F S512x1024 .f32) (x1 : Vec F S512x512 .bf16) (x2 : Vec F S512x512 .bf16) (x3 : Vec F S1024x1024 .bf16) (x4 : Vec F S1x1024 .f32) (x5 : Vec F S1024x2944 .bf16) (x6 : Vec F S512x128 .f32) (x7 : Vec F S512x128 .f32) (x8 : Vec F S512x128 .f32) (x9 : Vec F S256x128 .bf16) (x10 : Vec F S8x128 .f32) : Vec F S512x128 .bf16 :=
  View.canon [⟨r0_5, k0_pay28 (k0_pay35 x0 x1 x2 x3 x4 x5 x6 x7 x8 x9 x10) (View.ld x6 r0_5) (View.ld x7 r0_5) (View.ld x8 r0_5) (k0_pay36 x0 x1 x2 x3 x4 x5 x6 x7 x8 x9 x10) (View.ld x10 r0_23) (View.ld x5 r0_24)⟩]

/-- Its stores tile the buffer (checked by evaluation), so they cover it. -/
theorem cover0_17 (p0 : Vec F S512x128 .bf16) (y : S512x128.Idx) :
    ∃ pc ∈ ([⟨r0_5, p0⟩] : List (View.Piece (Elt F) S512x128 .bf16)), y ∈ pc.1.set :=
  View.cover_of_tiled [⟨r0_5, p0⟩] S512x128.size (by rfl) y

/-- Window 18's staging buffer after the body, from the input windows' blocks: its 1 store as pieces, LAST
    FIRST (Lib/Pipeline/FrameBody.lean `View.canon`; the payloads are the skeleton's and the values stated above). -/
def out0_18 (x0 : Vec F S512x1024 .f32) (x1 : Vec F S512x512 .bf16) (x2 : Vec F S512x512 .bf16) (x3 : Vec F S1024x1024 .bf16) (x4 : Vec F S1x1024 .f32) (x5 : Vec F S1024x2944 .bf16) (x6 : Vec F S512x128 .f32) (x7 : Vec F S512x128 .f32) (x8 : Vec F S512x128 .f32) (x9 : Vec F S256x128 .bf16) (x10 : Vec F S8x128 .f32) : Vec F S512x256 .bf16 :=
  View.canon [⟨r0_22, k0_pay29 (k0_pay35 x0 x1 x2 x3 x4 x5 x6 x7 x8 x9 x10) (View.ld x5 r0_25)⟩]

/-- Its stores tile the buffer (checked by evaluation), so they cover it. -/
theorem cover0_18 (p0 : Vec F S512x256 .bf16) (y : S512x256.Idx) :
    ∃ pc ∈ ([⟨r0_22, p0⟩] : List (View.Piece (Elt F) S512x256 .bf16)), y ∈ pc.1.set :=
  View.cover_of_tiled [⟨r0_22, p0⟩] S512x256.size (by rfl) y

/-- Window 19's staging buffer after the body, from the input windows' blocks: its 1 store as pieces, LAST
    FIRST (Lib/Pipeline/FrameBody.lean `View.canon`; the payloads are the skeleton's and the values stated above). -/
def out0_19 (x0 : Vec F S512x1024 .f32) (x1 : Vec F S512x512 .bf16) (x2 : Vec F S512x512 .bf16) (x3 : Vec F S1024x1024 .bf16) (x4 : Vec F S1x1024 .f32) (x5 : Vec F S1024x2944 .bf16) (x6 : Vec F S512x128 .f32) (x7 : Vec F S512x128 .f32) (x8 : Vec F S512x128 .f32) (x9 : Vec F S256x128 .bf16) (x10 : Vec F S8x128 .f32) : Vec F S512x128 .f32 :=
  View.canon [⟨r0_5, k0_pay30 (k0_pay35 x0 x1 x2 x3 x4 x5 x6 x7 x8 x9 x10) (View.ld x5 r0_26)⟩]

/-- Its stores tile the buffer (checked by evaluation), so they cover it. -/
theorem cover0_19 (p0 : Vec F S512x128 .f32) (y : S512x128.Idx) :
    ∃ pc ∈ ([⟨r0_5, p0⟩] : List (View.Piece (Elt F) S512x128 .f32)), y ∈ pc.1.set :=
  View.cover_of_tiled [⟨r0_5, p0⟩] S512x128.size (by rfl) y

/-- Window 20's staging buffer after the body, from the input windows' blocks: its 1 store as pieces, LAST
    FIRST (Lib/Pipeline/FrameBody.lean `View.canon`; the payloads are the skeleton's and the values stated above). -/
def out0_20 (x0 : Vec F S512x1024 .f32) (x1 : Vec F S512x512 .bf16) (x2 : Vec F S512x512 .bf16) (x3 : Vec F S1024x1024 .bf16) (x4 : Vec F S1x1024 .f32) (x5 : Vec F S1024x2944 .bf16) (x6 : Vec F S512x128 .f32) (x7 : Vec F S512x128 .f32) (x8 : Vec F S512x128 .f32) (x9 : Vec F S256x128 .bf16) (x10 : Vec F S8x128 .f32) : Vec F S512x512 .f32 :=
  View.canon [⟨r0_1, k0_pay31 (k0_pay35 x0 x1 x2 x3 x4 x5 x6 x7 x8 x9 x10) (View.ld x5 r0_27)⟩]

/-- Its stores tile the buffer (checked by evaluation), so they cover it. -/
theorem cover0_20 (p0 : Vec F S512x512 .f32) (y : S512x512.Idx) :
    ∃ pc ∈ ([⟨r0_1, p0⟩] : List (View.Piece (Elt F) S512x512 .f32)), y ∈ pc.1.set :=
  View.cover_of_tiled [⟨r0_1, p0⟩] S512x512.size (by rfl) y

/-- Window 21's staging buffer after the body, from the input windows' blocks: its 1 store as pieces, LAST
    FIRST (Lib/Pipeline/FrameBody.lean `View.canon`; the payloads are the skeleton's and the values stated above). -/
def out0_21 (x0 : Vec F S512x1024 .f32) (x1 : Vec F S512x512 .bf16) (x2 : Vec F S512x512 .bf16) (x3 : Vec F S1024x1024 .bf16) (x4 : Vec F S1x1024 .f32) (x5 : Vec F S1024x2944 .bf16) (x6 : Vec F S512x128 .f32) (x7 : Vec F S512x128 .f32) (x8 : Vec F S512x128 .f32) (x9 : Vec F S256x128 .bf16) (x10 : Vec F S8x128 .f32) : Vec F S512x256 .f32 :=
  View.canon [⟨r0_22, k0_pay32 (k0_pay35 x0 x1 x2 x3 x4 x5 x6 x7 x8 x9 x10) (View.ld x5 r0_28)⟩]

/-- Its stores tile the buffer (checked by evaluation), so they cover it. -/
theorem cover0_21 (p0 : Vec F S512x256 .f32) (y : S512x256.Idx) :
    ∃ pc ∈ ([⟨r0_22, p0⟩] : List (View.Piece (Elt F) S512x256 .f32)), y ∈ pc.1.set :=
  View.cover_of_tiled [⟨r0_22, p0⟩] S512x256.size (by rfl) y

/-- Window 22's staging buffer after the body, from the input windows' blocks: its 1 store as pieces, LAST
    FIRST (Lib/Pipeline/FrameBody.lean `View.canon`; the payloads are the skeleton's and the values stated above). -/
def out0_22 (x0 : Vec F S512x1024 .f32) (x1 : Vec F S512x512 .bf16) (x2 : Vec F S512x512 .bf16) (x3 : Vec F S1024x1024 .bf16) (x4 : Vec F S1x1024 .f32) (x5 : Vec F S1024x2944 .bf16) (x6 : Vec F S512x128 .f32) (x7 : Vec F S512x128 .f32) (x8 : Vec F S512x128 .f32) (x9 : Vec F S256x128 .bf16) (x10 : Vec F S8x128 .f32) : Vec F S512x128 .f32 :=
  View.canon [⟨r0_5, k0_pay33 (k0_pay35 x0 x1 x2 x3 x4 x5 x6 x7 x8 x9 x10) (View.ld x5 r0_29)⟩]

/-- Its stores tile the buffer (checked by evaluation), so they cover it. -/
theorem cover0_22 (p0 : Vec F S512x128 .f32) (y : S512x128.Idx) :
    ∃ pc ∈ ([⟨r0_5, p0⟩] : List (View.Piece (Elt F) S512x128 .f32)), y ∈ pc.1.set :=
  View.cover_of_tiled [⟨r0_5, p0⟩] S512x128.size (by rfl) y

/-- Window 23's staging buffer after the body, from the input windows' blocks: its 1 store as pieces, LAST
    FIRST (Lib/Pipeline/FrameBody.lean `View.canon`; the payloads are the skeleton's and the values stated above). -/
def out0_23 (x0 : Vec F S512x1024 .f32) (x1 : Vec F S512x512 .bf16) (x2 : Vec F S512x512 .bf16) (x3 : Vec F S1024x1024 .bf16) (x4 : Vec F S1x1024 .f32) (x5 : Vec F S1024x2944 .bf16) (x6 : Vec F S512x128 .f32) (x7 : Vec F S512x128 .f32) (x8 : Vec F S512x128 .f32) (x9 : Vec F S256x128 .bf16) (x10 : Vec F S8x128 .f32) : Vec F S512x128 .f32 :=
  View.canon [⟨r0_5, k0_pay34 (k0_pay35 x0 x1 x2 x3 x4 x5 x6 x7 x8 x9 x10) (View.ld x5 r0_30)⟩]

/-- Its stores tile the buffer (checked by evaluation), so they cover it. -/
theorem cover0_23 (p0 : Vec F S512x128 .f32) (y : S512x128.Idx) :
    ∃ pc ∈ ([⟨r0_5, p0⟩] : List (View.Piece (Elt F) S512x128 .f32)), y ∈ pc.1.set :=
  View.cover_of_tiled [⟨r0_5, p0⟩] S512x128.size (by rfl) y

/-- Window 24's staging buffer after the body, from the input windows' blocks: its 1 store as pieces, LAST
    FIRST (Lib/Pipeline/FrameBody.lean `View.canon`; the payloads are the skeleton's and the values stated above). -/
def out0_24 (x0 : Vec F S512x1024 .f32) (x1 : Vec F S512x512 .bf16) (x2 : Vec F S512x512 .bf16) (x3 : Vec F S1024x1024 .bf16) (x4 : Vec F S1x1024 .f32) (x5 : Vec F S1024x2944 .bf16) (x6 : Vec F S512x128 .f32) (x7 : Vec F S512x128 .f32) (x8 : Vec F S512x128 .f32) (x9 : Vec F S256x128 .bf16) (x10 : Vec F S8x128 .f32) : Vec F S512x512 .f32 :=
  View.canon [⟨r0_1, k0_pay1 (k0_pay35 x0 x1 x2 x3 x4 x5 x6 x7 x8 x9 x10) (View.ld x5 r0_31)⟩]

/-- Its stores tile the buffer (checked by evaluation), so they cover it. -/
theorem cover0_24 (p0 : Vec F S512x512 .f32) (y : S512x512.Idx) :
    ∃ pc ∈ ([⟨r0_1, p0⟩] : List (View.Piece (Elt F) S512x512 .f32)), y ∈ pc.1.set :=
  View.cover_of_tiled [⟨r0_1, p0⟩] S512x512.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x2944 .bf16) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S256x128 .bf16) (harg10 : arg10.IsWhole) (arg11 : Memref sig .tc .vmem S8x128 .f32) (harg11 : arg11.IsWhole) (arg12 : Memref sig .tc .vmem S512x1024 .f32) (harg12 : arg12.IsWhole) (arg13 : Memref sig .tc .vmem S8x512x128 .bf16) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .bf16) (harg16 : arg16.IsWhole) (arg17 : Memref sig .tc .vmem S512x256 .bf16) (harg17 : arg17.IsWhole) (arg18 : Memref sig .tc .vmem S512x128 .bf16) (harg18 : arg18.IsWhole) (arg19 : Memref sig .tc .vmem S512x256 .bf16) (harg19 : arg19.IsWhole) (arg20 : Memref sig .tc .vmem S512x128 .f32) (harg20 : arg20.IsWhole) (arg21 : Memref sig .tc .vmem S512x512 .f32) (harg21 : arg21.IsWhole) (arg22 : Memref sig .tc .vmem S512x256 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x512 .f32) (harg25 : arg25.IsWhole)
    (x0 : Vec F S512x1024 .f32) (x1 : Vec F S512x512 .bf16) (x2 : Vec F S512x512 .bf16) (x3 : Vec F S1024x1024 .bf16) (x4 : Vec F S1x1024 .f32) (x5 : Vec F S1024x2944 .bf16) (x6 : Vec F S512x128 .f32) (x7 : Vec F S512x128 .f32) (x8 : Vec F S512x128 .f32) (x9 : Vec F S256x128 .bf16) (x10 : Vec F S8x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out0_11 x0 x1 x2 x3 x4 x5 x6 x7 x8 x9 x10) ∗ owns (c : Thread nD τ) arg13 fullShare (out0_12 x0 x1 x2 x3 x4 x5 x6 x7 x8 x9 x10) ∗ owns (c : Thread nD τ) arg14 fullShare (out0_13 x0 x1 x2 x3 x4 x5 x6 x7 x8 x9 x10) ∗ owns (c : Thread nD τ) arg15 fullShare (out0_14 x0 x1 x2 x3 x4 x5 x6 x7 x8 x9 x10) ∗ owns (c : Thread nD τ) arg16 fullShare (out0_15 x0 x1 x2 x3 x4 x5 x6 x7 x8 x9 x10) ∗ owns (c : Thread nD τ) arg17 fullShare (out0_16 x0 x1 x2 x3 x4 x5 x6 x7 x8 x9 x10) ∗ owns (c : Thread nD τ) arg18 fullShare (out0_17 x0 x1 x2 x3 x4 x5 x6 x7 x8 x9 x10) ∗ owns (c : Thread nD τ) arg19 fullShare (out0_18 x0 x1 x2 x3 x4 x5 x6 x7 x8 x9 x10) ∗ owns (c : Thread nD τ) arg20 fullShare (out0_19 x0 x1 x2 x3 x4 x5 x6 x7 x8 x9 x10) ∗ owns (c : Thread nD τ) arg21 fullShare (out0_20 x0 x1 x2 x3 x4 x5 x6 x7 x8 x9 x10) ∗ owns (c : Thread nD τ) arg22 fullShare (out0_21 x0 x1 x2 x3 x4 x5 x6 x7 x8 x9 x10) ∗ owns (c : Thread nD τ) arg23 fullShare (out0_22 x0 x1 x2 x3 x4 x5 x6 x7 x8 x9 x10) ∗ owns (c : Thread nD τ) arg24 fullShare (out0_23 x0 x1 x2 x3 x4 x5 x6 x7 x8 x9 x10) ∗ owns (c : Thread nD τ) arg25 fullShare (out0_24 x0 x1 x2 x3 x4 x5 x6 x7 x8 x9 x10)) -∗ K ⟨⟩))
      ⊢ wp frame (wpE (defs₀ (F := F)) Variants.none c none) E (cc0__proj_cd_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0__proj_cd_kernel_eq_skeleton]; unfold cc0__proj_cd_kernel_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    refine (View.read_writes_eq_canon _ _ _ (cover0_11 _)).trans ?_
    rfl
  isplitl [H12]
  · iexists _; isplitr
    swap; · iexact H12
    ipureintro
    refine (View.read_writes_eq_canon _ _ _ (cover0_12 _ _ _ _ _ _ _ _)).trans ?_
    rfl
  isplitl [H13]
  · iexists _; isplitr
    swap; · iexact H13
    ipureintro
    refine (View.read_writes_eq_canon _ _ _ (cover0_13 _)).trans ?_
    rfl
  isplitl [H14]
  · iexists _; isplitr
    swap; · iexact H14
    ipureintro
    refine (View.read_writes_eq_canon _ _ _ (cover0_14 _)).trans ?_
    rfl
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _)).trans ?_
    rfl
  isplitl [H23]
  · iexists _; isplitr
    swap; · iexact H23
    ipureintro
    refine (View.read_writes_eq_canon _ _ _ (cover0_23 _)).trans ?_
    rfl
  iexists _; isplitr
  swap; · iexact H24
  ipureintro
  refine (View.read_writes_eq_canon _ _ _ (cover0_24 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨12, _⟩ => out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨_ + 25, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  iintro ⟨H0, H1, H2, H3, H4, H5, H6, H7, H8, H9, H10, H11, H12, H13, H14, H15, H16, H17, H18, H19, H20, H21, H22, H23, H24⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iexact H24

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The body's obligation at every point: its triple, restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- THE FRAME: `Cert.quiescent_Kernel2Ideal`'s statement (Defs.lean) at any `F` — Proof.lean cites it at `Bits`:
    `theorem Cert.Proof.claim : Cert.Claim := ⟨Cert.Kernel2Ideal.Gen.facts, fun m ρ _ => Cert.Kernel2Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Kernel2Ideal.Gen

end
-- ==== Proof.FuseValue.lean ====
module

public import proofs.«01_k».proof.Proof.FuseIdealFrame
public import Idealize.ShloMosaic.Lib.Pipeline.Value

@[expose] public section

noncomputable section

namespace Cert.Kernel2Ideal.Value

open Cert.Kernel2Ideal Cert.Kernel2Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 11's array: the body's result for that window (`Gen.out0_11`: its stores
    as pieces over the input windows' blocks), read through the window's block. -/
theorem flushed11 (c : Dev nD) (t : Fin cfg0.N) :
    (dats m 0 c).flushed 11 t = (cfg0.win 11).cut (grid0.coords t) (out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  show (cfg0.win 11).cut (grid0.coords t) ((dats m 0 c).after 11 t) = _
  rw [after0_11]

/-- The index map sends distinct grid points to distinct block indices (decided over the 64 points). -/
theorem idx_inj11 : ∀ t t' : Fin cfg0.N, win0_11.index t = win0_11.index t' → t = t' :=
  (by decide +kernel : ∀ t t' : Fin grid0.N, win0_11.index t = win0_11.index t' → t = t')

/-- So two flushing points' blocks share no array index (Lib/Pipeline/Cells.lean `Window.disjoint_blk`). -/
theorem disjoint11 : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne (idx_inj11 t t' h)

/-- BLOCK `t` OF THE FINAL ARRAY, read back through the window, is what point `t` wrote back (`flushed11`), for every
    point that writes back: no other point's block meets it. -/
theorem blocks11 (c : Dev nD) (t : Fin cfg0.N) (hf : (cfg0.win 11).flush t = true) :
    ((cfg0.win 11).blk t).view.read (Elt F) ((dats m 0 c).arrAt 11 cfg0.N) = (dats m 0 c).flushed 11 t :=
  (dats m 0 c).read_blk_arrAt_eq_flushed 11 disjoint11 cfg0.N t t.isLt hf

/-- An index that no flushing point's block covers keeps output window 11's array contents at region entry. -/
theorem entry11 (c : Dev nD) (i : S32768x1024.Idx) (h : ∀ t : Fin cfg0.N, (cfg0.win 11).flush t = true → i ∉ ((cfg0.win 11).blk t).view.set) :
    (dats m 0 c).arrAt 11 cfg0.N i = V m c (Pipeline.arrRef spec0 11) i := by
  rw [(dats m 0 c).arrAt_apply_of_forall_not_mem 11 cfg0.N i (fun t _ hf => h t hf), A_eq]

/-- WHAT POINT `t` WRITES BACK to output window 12's array: the body's result for that window (`Gen.out0_12`: its stores
    as pieces over the input windows' blocks), read through the window's block. -/
theorem flushed12 (c : Dev nD) (t : Fin cfg0.N) :
    (dats m 0 c).flushed 12 t = (cfg0.win 12).cut (grid0.coords t) (out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  show (cfg0.win 12).cut (grid0.coords t) ((dats m 0 c).after 12 t) = _
  rw [after0_12]

/-- The index map sends distinct grid points to distinct block indices (decided over the 64 points). -/
theorem idx_inj12 : ∀ t t' : Fin cfg0.N, win0_12.index t = win0_12.index t' → t = t' :=
  (by decide +kernel : ∀ t t' : Fin grid0.N, win0_12.index t = win0_12.index t' → t = t')

/-- So two flushing points' blocks share no array index (Lib/Pipeline/Cells.lean `Window.disjoint_blk`). -/
theorem disjoint12 : ∀ t t' : Fin cfg0.N, (cfg0.win 12).flush t = true → (cfg0.win 12).flush t' = true → t ≠ t' →
    Disjoint ((cfg0.win 12).blk t).view.set ((cfg0.win 12).blk t').view.set :=
  fun t t' _ _ hne => (cfg0.win 12).disjoint_blk fun h => hne (idx_inj12 t t' h)

/-- BLOCK `t` OF THE FINAL ARRAY, read back through the window, is what point `t` wrote back (`flushed12`), for every
    point that writes back: no other point's block meets it. -/
theorem blocks12 (c : Dev nD) (t : Fin cfg0.N) (hf : (cfg0.win 12).flush t = true) :
    ((cfg0.win 12).blk t).view.read (Elt F) ((dats m 0 c).arrAt 12 cfg0.N) = (dats m 0 c).flushed 12 t :=
  (dats m 0 c).read_blk_arrAt_eq_flushed 12 disjoint12 cfg0.N t t.isLt hf

/-- An index that no flushing point's block covers keeps output window 12's array contents at region entry. -/
theorem entry12 (c : Dev nD) (i : S8x32768x128.Idx) (h : ∀ t : Fin cfg0.N, (cfg0.win 12).flush t = true → i ∉ ((cfg0.win 12).blk t).view.set) :
    (dats m 0 c).arrAt 12 cfg0.N i = V m c (Pipeline.arrRef spec0 12) i := by
  rw [(dats m 0 c).arrAt_apply_of_forall_not_mem 12 cfg0.N i (fun t _ hf => h t hf), A_eq]

/-- WHAT POINT `t` WRITES BACK to output window 13's array: the body's result for that window (`Gen.out0_13`: its stores
    as pieces over the input windows' blocks), read through the window's block. -/
theorem flushed13 (c : Dev nD) (t : Fin cfg0.N) :
    (dats m 0 c).flushed 13 t = (cfg0.win 13).cut (grid0.coords t) (out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  show (cfg0.win 13).cut (grid0.coords t) ((dats m 0 c).after 13 t) = _
  rw [after0_13]

/-- The index map sends distinct grid points to distinct block indices (decided over the 64 points). -/
theorem idx_inj13 : ∀ t t' : Fin cfg0.N, win0_13.index t = win0_13.index t' → t = t' :=
  (by decide +kernel : ∀ t t' : Fin grid0.N, win0_13.index t = win0_13.index t' → t = t')

/-- So two flushing points' blocks share no array index (Lib/Pipeline/Cells.lean `Window.disjoint_blk`). -/
theorem disjoint13 : ∀ t t' : Fin cfg0.N, (cfg0.win 13).flush t = true → (cfg0.win 13).flush t' = true → t ≠ t' →
    Disjoint ((cfg0.win 13).blk t).view.set ((cfg0.win 13).blk t').view.set :=
  fun t t' _ _ hne => (cfg0.win 13).disjoint_blk fun h => hne (idx_inj13 t t' h)

/-- BLOCK `t` OF THE FINAL ARRAY, read back through the window, is what point `t` wrote back (`flushed13`), for every
    point that writes back: no other point's block meets it. -/
theorem blocks13 (c : Dev nD) (t : Fin cfg0.N) (hf : (cfg0.win 13).flush t = true) :
    ((cfg0.win 13).blk t).view.read (Elt F) ((dats m 0 c).arrAt 13 cfg0.N) = (dats m 0 c).flushed 13 t :=
  (dats m 0 c).read_blk_arrAt_eq_flushed 13 disjoint13 cfg0.N t t.isLt hf

/-- An index that no flushing point's block covers keeps output window 13's array contents at region entry. -/
theorem entry13 (c : Dev nD) (i : S32768x128.Idx) (h : ∀ t : Fin cfg0.N, (cfg0.win 13).flush t = true → i ∉ ((cfg0.win 13).blk t).view.set) :
    (dats m 0 c).arrAt 13 cfg0.N i = V m c (Pipeline.arrRef spec0 13) i := by
  rw [(dats m 0 c).arrAt_apply_of_forall_not_mem 13 cfg0.N i (fun t _ hf => h t hf), A_eq]

/-- WHAT POINT `t` WRITES BACK to output window 14's array: the body's result for that window (`Gen.out0_14`: its stores
    as pieces over the input windows' blocks), read through the window's block. -/
theorem flushed14 (c : Dev nD) (t : Fin cfg0.N) :
    (dats m 0 c).flushed 14 t = (cfg0.win 14).cut (grid0.coords t) (out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  show (cfg0.win 14).cut (grid0.coords t) ((dats m 0 c).after 14 t) = _
  rw [after0_14]

/-- The index map sends distinct grid points to distinct block indices (decided over the 64 points). -/
theorem idx_inj14 : ∀ t t' : Fin cfg0.N, win0_14.index t = win0_14.index t' → t = t' :=
  (by decide +kernel : ∀ t t' : Fin grid0.N, win0_14.index t = win0_14.index t' → t = t')

/-- So two flushing points' blocks share no array index (Lib/Pipeline/Cells.lean `Window.disjoint_blk`). -/
theorem disjoint14 : ∀ t t' : Fin cfg0.N, (cfg0.win 14).flush t = true → (cfg0.win 14).flush t' = true → t ≠ t' →
    Disjoint ((cfg0.win 14).blk t).view.set ((cfg0.win 14).blk t').view.set :=
  fun t t' _ _ hne => (cfg0.win 14).disjoint_blk fun h => hne (idx_inj14 t t' h)

/-- BLOCK `t` OF THE FINAL ARRAY, read back through the window, is what point `t` wrote back (`flushed14`), for every
    point that writes back: no other point's block meets it. -/
theorem blocks14 (c : Dev nD) (t : Fin cfg0.N) (hf : (cfg0.win 14).flush t = true) :
    ((cfg0.win 14).blk t).view.read (Elt F) ((dats m 0 c).arrAt 14 cfg0.N) = (dats m 0 c).flushed 14 t :=
  (dats m 0 c).read_blk_arrAt_eq_flushed 14 disjoint14 cfg0.N t t.isLt hf

/-- An index that no flushing point's block covers keeps output window 14's array contents at region entry. -/
theorem entry14 (c : Dev nD) (i : S32768x128.Idx) (h : ∀ t : Fin cfg0.N, (cfg0.win 14).flush t = true → i ∉ ((cfg0.win 14).blk t).view.set) :
    (dats m 0 c).arrAt 14 cfg0.N i = V m c (Pipeline.arrRef spec0 14) i := by
  rw [(dats m 0 c).arrAt_apply_of_forall_not_mem 14 cfg0.N i (fun t _ hf => h t hf), A_eq]

/-- WHAT POINT `t` WRITES BACK to output window 15's array: the body's result for that window (`Gen.out0_15`: its stores
    as pieces over the input windows' blocks), read through the window's block. -/
theorem flushed15 (c : Dev nD) (t : Fin cfg0.N) :
    (dats m 0 c).flushed 15 t = (cfg0.win 15).cut (grid0.coords t) (out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  show (cfg0.win 15).cut (grid0.coords t) ((dats m 0 c).after 15 t) = _
  rw [after0_15]

/-- The index map sends distinct grid points to distinct block indices (decided over the 64 points). -/
theorem idx_inj15 : ∀ t t' : Fin cfg0.N, win0_15.index t = win0_15.index t' → t = t' :=
  (by decide +kernel : ∀ t t' : Fin grid0.N, win0_15.index t = win0_15.index t' → t = t')

/-- So two flushing points' blocks share no array index (Lib/Pipeline/Cells.lean `Window.disjoint_blk`). -/
theorem disjoint15 : ∀ t t' : Fin cfg0.N, (cfg0.win 15).flush t = true → (cfg0.win 15).flush t' = true → t ≠ t' →
    Disjoint ((cfg0.win 15).blk t).view.set ((cfg0.win 15).blk t').view.set :=
  fun t t' _ _ hne => (cfg0.win 15).disjoint_blk fun h => hne (idx_inj15 t t' h)

/-- BLOCK `t` OF THE FINAL ARRAY, read back through the window, is what point `t` wrote back (`flushed15`), for every
    point that writes back: no other point's block meets it. -/
theorem blocks15 (c : Dev nD) (t : Fin cfg0.N) (hf : (cfg0.win 15).flush t = true) :
    ((cfg0.win 15).blk t).view.read (Elt F) ((dats m 0 c).arrAt 15 cfg0.N) = (dats m 0 c).flushed 15 t :=
  (dats m 0 c).read_blk_arrAt_eq_flushed 15 disjoint15 cfg0.N t t.isLt hf

/-- An index that no flushing point's block covers keeps output window 15's array contents at region entry. -/
theorem entry15 (c : Dev nD) (i : S32768x128.Idx) (h : ∀ t : Fin cfg0.N, (cfg0.win 15).flush t = true → i ∉ ((cfg0.win 15).blk t).view.set) :
    (dats m 0 c).arrAt 15 cfg0.N i = V m c (Pipeline.arrRef spec0 15) i := by
  rw [(dats m 0 c).arrAt_apply_of_forall_not_mem 15 cfg0.N i (fun t _ hf => h t hf), A_eq]

/-- WHAT POINT `t` WRITES BACK to output window 16's array: the body's result for that window (`Gen.out0_16`: its stores
    as pieces over the input windows' blocks), read through the window's block. -/
theorem flushed16 (c : Dev nD) (t : Fin cfg0.N) :
    (dats m 0 c).flushed 16 t = (cfg0.win 16).cut (grid0.coords t) (out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  show (cfg0.win 16).cut (grid0.coords t) ((dats m 0 c).after 16 t) = _
  rw [after0_16]

/-- The index map sends distinct grid points to distinct block indices (decided over the 64 points). -/
theorem idx_inj16 : ∀ t t' : Fin cfg0.N, win0_16.index t = win0_16.index t' → t = t' :=
  (by decide +kernel : ∀ t t' : Fin grid0.N, win0_16.index t = win0_16.index t' → t = t')

/-- So two flushing points' blocks share no array index (Lib/Pipeline/Cells.lean `Window.disjoint_blk`). -/
theorem disjoint16 : ∀ t t' : Fin cfg0.N, (cfg0.win 16).flush t = true → (cfg0.win 16).flush t' = true → t ≠ t' →
    Disjoint ((cfg0.win 16).blk t).view.set ((cfg0.win 16).blk t').view.set :=
  fun t t' _ _ hne => (cfg0.win 16).disjoint_blk fun h => hne (idx_inj16 t t' h)

/-- BLOCK `t` OF THE FINAL ARRAY, read back through the window, is what point `t` wrote back (`flushed16`), for every
    point that writes back: no other point's block meets it. -/
theorem blocks16 (c : Dev nD) (t : Fin cfg0.N) (hf : (cfg0.win 16).flush t = true) :
    ((cfg0.win 16).blk t).view.read (Elt F) ((dats m 0 c).arrAt 16 cfg0.N) = (dats m 0 c).flushed 16 t :=
  (dats m 0 c).read_blk_arrAt_eq_flushed 16 disjoint16 cfg0.N t t.isLt hf

/-- An index that no flushing point's block covers keeps output window 16's array contents at region entry. -/
theorem entry16 (c : Dev nD) (i : S32768x256.Idx) (h : ∀ t : Fin cfg0.N, (cfg0.win 16).flush t = true → i ∉ ((cfg0.win 16).blk t).view.set) :
    (dats m 0 c).arrAt 16 cfg0.N i = V m c (Pipeline.arrRef spec0 16) i := by
  rw [(dats m 0 c).arrAt_apply_of_forall_not_mem 16 cfg0.N i (fun t _ hf => h t hf), A_eq]

/-- WHAT POINT `t` WRITES BACK to output window 17's array: the body's result for that window (`Gen.out0_17`: its stores
    as pieces over the input windows' blocks), read through the window's block. -/
theorem flushed17 (c : Dev nD) (t : Fin cfg0.N) :
    (dats m 0 c).flushed 17 t = (cfg0.win 17).cut (grid0.coords t) (out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  show (cfg0.win 17).cut (grid0.coords t) ((dats m 0 c).after 17 t) = _
  rw [after0_17]

/-- The index map sends distinct grid points to distinct block indices (decided over the 64 points). -/
theorem idx_inj17 : ∀ t t' : Fin cfg0.N, win0_17.index t = win0_17.index t' → t = t' :=
  (by decide +kernel : ∀ t t' : Fin grid0.N, win0_17.index t = win0_17.index t' → t = t')

/-- So two flushing points' blocks share no array index (Lib/Pipeline/Cells.lean `Window.disjoint_blk`). -/
theorem disjoint17 : ∀ t t' : Fin cfg0.N, (cfg0.win 17).flush t = true → (cfg0.win 17).flush t' = true → t ≠ t' →
    Disjoint ((cfg0.win 17).blk t).view.set ((cfg0.win 17).blk t').view.set :=
  fun t t' _ _ hne => (cfg0.win 17).disjoint_blk fun h => hne (idx_inj17 t t' h)

/-- BLOCK `t` OF THE FINAL ARRAY, read back through the window, is what point `t` wrote back (`flushed17`), for every
    point that writes back: no other point's block meets it. -/
theorem blocks17 (c : Dev nD) (t : Fin cfg0.N) (hf : (cfg0.win 17).flush t = true) :
    ((cfg0.win 17).blk t).view.read (Elt F) ((dats m 0 c).arrAt 17 cfg0.N) = (dats m 0 c).flushed 17 t :=
  (dats m 0 c).read_blk_arrAt_eq_flushed 17 disjoint17 cfg0.N t t.isLt hf

/-- An index that no flushing point's block covers keeps output window 17's array contents at region entry. -/
theorem entry17 (c : Dev nD) (i : S32768x128.Idx) (h : ∀ t : Fin cfg0.N, (cfg0.win 17).flush t = true → i ∉ ((cfg0.win 17).blk t).view.set) :
    (dats m 0 c).arrAt 17 cfg0.N i = V m c (Pipeline.arrRef spec0 17) i := by
  rw [(dats m 0 c).arrAt_apply_of_forall_not_mem 17 cfg0.N i (fun t _ hf => h t hf), A_eq]

/-- WHAT POINT `t` WRITES BACK to output window 18's array: the body's result for that window (`Gen.out0_18`: its stores
    as pieces over the input windows' blocks), read through the window's block. -/
theorem flushed18 (c : Dev nD) (t : Fin cfg0.N) :
    (dats m 0 c).flushed 18 t = (cfg0.win 18).cut (grid0.coords t) (out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  show (cfg0.win 18).cut (grid0.coords t) ((dats m 0 c).after 18 t) = _
  rw [after0_18]

/-- The index map sends distinct grid points to distinct block indices (decided over the 64 points). -/
theorem idx_inj18 : ∀ t t' : Fin cfg0.N, win0_18.index t = win0_18.index t' → t = t' :=
  (by decide +kernel : ∀ t t' : Fin grid0.N, win0_18.index t = win0_18.index t' → t = t')

/-- So two flushing points' blocks share no array index (Lib/Pipeline/Cells.lean `Window.disjoint_blk`). -/
theorem disjoint18 : ∀ t t' : Fin cfg0.N, (cfg0.win 18).flush t = true → (cfg0.win 18).flush t' = true → t ≠ t' →
    Disjoint ((cfg0.win 18).blk t).view.set ((cfg0.win 18).blk t').view.set :=
  fun t t' _ _ hne => (cfg0.win 18).disjoint_blk fun h => hne (idx_inj18 t t' h)

/-- BLOCK `t` OF THE FINAL ARRAY, read back through the window, is what point `t` wrote back (`flushed18`), for every
    point that writes back: no other point's block meets it. -/
theorem blocks18 (c : Dev nD) (t : Fin cfg0.N) (hf : (cfg0.win 18).flush t = true) :
    ((cfg0.win 18).blk t).view.read (Elt F) ((dats m 0 c).arrAt 18 cfg0.N) = (dats m 0 c).flushed 18 t :=
  (dats m 0 c).read_blk_arrAt_eq_flushed 18 disjoint18 cfg0.N t t.isLt hf

/-- An index that no flushing point's block covers keeps output window 18's array contents at region entry. -/
theorem entry18 (c : Dev nD) (i : S32768x256.Idx) (h : ∀ t : Fin cfg0.N, (cfg0.win 18).flush t = true → i ∉ ((cfg0.win 18).blk t).view.set) :
    (dats m 0 c).arrAt 18 cfg0.N i = V m c (Pipeline.arrRef spec0 18) i := by
  rw [(dats m 0 c).arrAt_apply_of_forall_not_mem 18 cfg0.N i (fun t _ hf => h t hf), A_eq]

/-- WHAT POINT `t` WRITES BACK to output window 19's array: the body's result for that window (`Gen.out0_19`: its stores
    as pieces over the input windows' blocks), read through the window's block. -/
theorem flushed19 (c : Dev nD) (t : Fin cfg0.N) :
    (dats m 0 c).flushed 19 t = (cfg0.win 19).cut (grid0.coords t) (out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  show (cfg0.win 19).cut (grid0.coords t) ((dats m 0 c).after 19 t) = _
  rw [after0_19]

/-- The index map sends distinct grid points to distinct block indices (decided over the 64 points). -/
theorem idx_inj19 : ∀ t t' : Fin cfg0.N, win0_19.index t = win0_19.index t' → t = t' :=
  (by decide +kernel : ∀ t t' : Fin grid0.N, win0_19.index t = win0_19.index t' → t = t')

/-- So two flushing points' blocks share no array index (Lib/Pipeline/Cells.lean `Window.disjoint_blk`). -/
theorem disjoint19 : ∀ t t' : Fin cfg0.N, (cfg0.win 19).flush t = true → (cfg0.win 19).flush t' = true → t ≠ t' →
    Disjoint ((cfg0.win 19).blk t).view.set ((cfg0.win 19).blk t').view.set :=
  fun t t' _ _ hne => (cfg0.win 19).disjoint_blk fun h => hne (idx_inj19 t t' h)

/-- BLOCK `t` OF THE FINAL ARRAY, read back through the window, is what point `t` wrote back (`flushed19`), for every
    point that writes back: no other point's block meets it. -/
theorem blocks19 (c : Dev nD) (t : Fin cfg0.N) (hf : (cfg0.win 19).flush t = true) :
    ((cfg0.win 19).blk t).view.read (Elt F) ((dats m 0 c).arrAt 19 cfg0.N) = (dats m 0 c).flushed 19 t :=
  (dats m 0 c).read_blk_arrAt_eq_flushed 19 disjoint19 cfg0.N t t.isLt hf

/-- An index that no flushing point's block covers keeps output window 19's array contents at region entry. -/
theorem entry19 (c : Dev nD) (i : S32768x128.Idx) (h : ∀ t : Fin cfg0.N, (cfg0.win 19).flush t = true → i ∉ ((cfg0.win 19).blk t).view.set) :
    (dats m 0 c).arrAt 19 cfg0.N i = V m c (Pipeline.arrRef spec0 19) i := by
  rw [(dats m 0 c).arrAt_apply_of_forall_not_mem 19 cfg0.N i (fun t _ hf => h t hf), A_eq]

/-- WHAT POINT `t` WRITES BACK to output window 20's array: the body's result for that window (`Gen.out0_20`: its stores
    as pieces over the input windows' blocks), read through the window's block. -/
theorem flushed20 (c : Dev nD) (t : Fin cfg0.N) :
    (dats m 0 c).flushed 20 t = (cfg0.win 20).cut (grid0.coords t) (out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  show (cfg0.win 20).cut (grid0.coords t) ((dats m 0 c).after 20 t) = _
  rw [after0_20]

/-- The index map sends distinct grid points to distinct block indices (decided over the 64 points). -/
theorem idx_inj20 : ∀ t t' : Fin cfg0.N, win0_20.index t = win0_20.index t' → t = t' :=
  (by decide +kernel : ∀ t t' : Fin grid0.N, win0_20.index t = win0_20.index t' → t = t')

/-- So two flushing points' blocks share no array index (Lib/Pipeline/Cells.lean `Window.disjoint_blk`). -/
theorem disjoint20 : ∀ t t' : Fin cfg0.N, (cfg0.win 20).flush t = true → (cfg0.win 20).flush t' = true → t ≠ t' →
    Disjoint ((cfg0.win 20).blk t).view.set ((cfg0.win 20).blk t').view.set :=
  fun t t' _ _ hne => (cfg0.win 20).disjoint_blk fun h => hne (idx_inj20 t t' h)

/-- BLOCK `t` OF THE FINAL ARRAY, read back through the window, is what point `t` wrote back (`flushed20`), for every
    point that writes back: no other point's block meets it. -/
theorem blocks20 (c : Dev nD) (t : Fin cfg0.N) (hf : (cfg0.win 20).flush t = true) :
    ((cfg0.win 20).blk t).view.read (Elt F) ((dats m 0 c).arrAt 20 cfg0.N) = (dats m 0 c).flushed 20 t :=
  (dats m 0 c).read_blk_arrAt_eq_flushed 20 disjoint20 cfg0.N t t.isLt hf

/-- An index that no flushing point's block covers keeps output window 20's array contents at region entry. -/
theorem entry20 (c : Dev nD) (i : S32768x512.Idx) (h : ∀ t : Fin cfg0.N, (cfg0.win 20).flush t = true → i ∉ ((cfg0.win 20).blk t).view.set) :
    (dats m 0 c).arrAt 20 cfg0.N i = V m c (Pipeline.arrRef spec0 20) i := by
  rw [(dats m 0 c).arrAt_apply_of_forall_not_mem 20 cfg0.N i (fun t _ hf => h t hf), A_eq]

/-- WHAT POINT `t` WRITES BACK to output window 21's array: the body's result for that window (`Gen.out0_21`: its stores
    as pieces over the input windows' blocks), read through the window's block. -/
theorem flushed21 (c : Dev nD) (t : Fin cfg0.N) :
    (dats m 0 c).flushed 21 t = (cfg0.win 21).cut (grid0.coords t) (out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  show (cfg0.win 21).cut (grid0.coords t) ((dats m 0 c).after 21 t) = _
  rw [after0_21]

/-- The index map sends distinct grid points to distinct block indices (decided over the 64 points). -/
theorem idx_inj21 : ∀ t t' : Fin cfg0.N, win0_21.index t = win0_21.index t' → t = t' :=
  (by decide +kernel : ∀ t t' : Fin grid0.N, win0_21.index t = win0_21.index t' → t = t')

/-- So two flushing points' blocks share no array index (Lib/Pipeline/Cells.lean `Window.disjoint_blk`). -/
theorem disjoint21 : ∀ t t' : Fin cfg0.N, (cfg0.win 21).flush t = true → (cfg0.win 21).flush t' = true → t ≠ t' →
    Disjoint ((cfg0.win 21).blk t).view.set ((cfg0.win 21).blk t').view.set :=
  fun t t' _ _ hne => (cfg0.win 21).disjoint_blk fun h => hne (idx_inj21 t t' h)

/-- BLOCK `t` OF THE FINAL ARRAY, read back through the window, is what point `t` wrote back (`flushed21`), for every
    point that writes back: no other point's block meets it. -/
theorem blocks21 (c : Dev nD) (t : Fin cfg0.N) (hf : (cfg0.win 21).flush t = true) :
    ((cfg0.win 21).blk t).view.read (Elt F) ((dats m 0 c).arrAt 21 cfg0.N) = (dats m 0 c).flushed 21 t :=
  (dats m 0 c).read_blk_arrAt_eq_flushed 21 disjoint21 cfg0.N t t.isLt hf

/-- An index that no flushing point's block covers keeps output window 21's array contents at region entry. -/
theorem entry21 (c : Dev nD) (i : S32768x256.Idx) (h : ∀ t : Fin cfg0.N, (cfg0.win 21).flush t = true → i ∉ ((cfg0.win 21).blk t).view.set) :
    (dats m 0 c).arrAt 21 cfg0.N i = V m c (Pipeline.arrRef spec0 21) i := by
  rw [(dats m 0 c).arrAt_apply_of_forall_not_mem 21 cfg0.N i (fun t _ hf => h t hf), A_eq]

/-- WHAT POINT `t` WRITES BACK to output window 22's array: the body's result for that window (`Gen.out0_22`: its stores
    as pieces over the input windows' blocks), read through the window's block. -/
theorem flushed22 (c : Dev nD) (t : Fin cfg0.N) :
    (dats m 0 c).flushed 22 t = (cfg0.win 22).cut (grid0.coords t) (out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  show (cfg0.win 22).cut (grid0.coords t) ((dats m 0 c).after 22 t) = _
  rw [after0_22]

/-- The index map sends distinct grid points to distinct block indices (decided over the 64 points). -/
theorem idx_inj22 : ∀ t t' : Fin cfg0.N, win0_22.index t = win0_22.index t' → t = t' :=
  (by decide +kernel : ∀ t t' : Fin grid0.N, win0_22.index t = win0_22.index t' → t = t')

/-- So two flushing points' blocks share no array index (Lib/Pipeline/Cells.lean `Window.disjoint_blk`). -/
theorem disjoint22 : ∀ t t' : Fin cfg0.N, (cfg0.win 22).flush t = true → (cfg0.win 22).flush t' = true → t ≠ t' →
    Disjoint ((cfg0.win 22).blk t).view.set ((cfg0.win 22).blk t').view.set :=
  fun t t' _ _ hne => (cfg0.win 22).disjoint_blk fun h => hne (idx_inj22 t t' h)

/-- BLOCK `t` OF THE FINAL ARRAY, read back through the window, is what point `t` wrote back (`flushed22`), for every
    point that writes back: no other point's block meets it. -/
theorem blocks22 (c : Dev nD) (t : Fin cfg0.N) (hf : (cfg0.win 22).flush t = true) :
    ((cfg0.win 22).blk t).view.read (Elt F) ((dats m 0 c).arrAt 22 cfg0.N) = (dats m 0 c).flushed 22 t :=
  (dats m 0 c).read_blk_arrAt_eq_flushed 22 disjoint22 cfg0.N t t.isLt hf

/-- An index that no flushing point's block covers keeps output window 22's array contents at region entry. -/
theorem entry22 (c : Dev nD) (i : S32768x128.Idx) (h : ∀ t : Fin cfg0.N, (cfg0.win 22).flush t = true → i ∉ ((cfg0.win 22).blk t).view.set) :
    (dats m 0 c).arrAt 22 cfg0.N i = V m c (Pipeline.arrRef spec0 22) i := by
  rw [(dats m 0 c).arrAt_apply_of_forall_not_mem 22 cfg0.N i (fun t _ hf => h t hf), A_eq]

/-- WHAT POINT `t` WRITES BACK to output window 23's array: the body's result for that window (`Gen.out0_23`: its stores
    as pieces over the input windows' blocks), read through the window's block. -/
theorem flushed23 (c : Dev nD) (t : Fin cfg0.N) :
    (dats m 0 c).flushed 23 t = (cfg0.win 23).cut (grid0.coords t) (out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  show (cfg0.win 23).cut (grid0.coords t) ((dats m 0 c).after 23 t) = _
  rw [after0_23]

/-- The index map sends distinct grid points to distinct block indices (decided over the 64 points). -/
theorem idx_inj23 : ∀ t t' : Fin cfg0.N, win0_23.index t = win0_23.index t' → t = t' :=
  (by decide +kernel : ∀ t t' : Fin grid0.N, win0_23.index t = win0_23.index t' → t = t')

/-- So two flushing points' blocks share no array index (Lib/Pipeline/Cells.lean `Window.disjoint_blk`). -/
theorem disjoint23 : ∀ t t' : Fin cfg0.N, (cfg0.win 23).flush t = true → (cfg0.win 23).flush t' = true → t ≠ t' →
    Disjoint ((cfg0.win 23).blk t).view.set ((cfg0.win 23).blk t').view.set :=
  fun t t' _ _ hne => (cfg0.win 23).disjoint_blk fun h => hne (idx_inj23 t t' h)

/-- BLOCK `t` OF THE FINAL ARRAY, read back through the window, is what point `t` wrote back (`flushed23`), for every
    point that writes back: no other point's block meets it. -/
theorem blocks23 (c : Dev nD) (t : Fin cfg0.N) (hf : (cfg0.win 23).flush t = true) :
    ((cfg0.win 23).blk t).view.read (Elt F) ((dats m 0 c).arrAt 23 cfg0.N) = (dats m 0 c).flushed 23 t :=
  (dats m 0 c).read_blk_arrAt_eq_flushed 23 disjoint23 cfg0.N t t.isLt hf

/-- An index that no flushing point's block covers keeps output window 23's array contents at region entry. -/
theorem entry23 (c : Dev nD) (i : S32768x128.Idx) (h : ∀ t : Fin cfg0.N, (cfg0.win 23).flush t = true → i ∉ ((cfg0.win 23).blk t).view.set) :
    (dats m 0 c).arrAt 23 cfg0.N i = V m c (Pipeline.arrRef spec0 23) i := by
  rw [(dats m 0 c).arrAt_apply_of_forall_not_mem 23 cfg0.N i (fun t _ hf => h t hf), A_eq]

/-- WHAT POINT `t` WRITES BACK to output window 24's array: the body's result for that window (`Gen.out0_24`: its stores
    as pieces over the input windows' blocks), read through the window's block. -/
theorem flushed24 (c : Dev nD) (t : Fin cfg0.N) :
    (dats m 0 c).flushed 24 t = (cfg0.win 24).cut (grid0.coords t) (out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  show (cfg0.win 24).cut (grid0.coords t) ((dats m 0 c).after 24 t) = _
  rw [after0_24]

/-- The index map sends distinct grid points to distinct block indices (decided over the 64 points). -/
theorem idx_inj24 : ∀ t t' : Fin cfg0.N, win0_24.index t = win0_24.index t' → t = t' :=
  (by decide +kernel : ∀ t t' : Fin grid0.N, win0_24.index t = win0_24.index t' → t = t')

/-- So two flushing points' blocks share no array index (Lib/Pipeline/Cells.lean `Window.disjoint_blk`). -/
theorem disjoint24 : ∀ t t' : Fin cfg0.N, (cfg0.win 24).flush t = true → (cfg0.win 24).flush t' = true → t ≠ t' →
    Disjoint ((cfg0.win 24).blk t).view.set ((cfg0.win 24).blk t').view.set :=
  fun t t' _ _ hne => (cfg0.win 24).disjoint_blk fun h => hne (idx_inj24 t t' h)

/-- BLOCK `t` OF THE FINAL ARRAY, read back through the window, is what point `t` wrote back (`flushed24`), for every
    point that writes back: no other point's block meets it. -/
theorem blocks24 (c : Dev nD) (t : Fin cfg0.N) (hf : (cfg0.win 24).flush t = true) :
    ((cfg0.win 24).blk t).view.read (Elt F) ((dats m 0 c).arrAt 24 cfg0.N) = (dats m 0 c).flushed 24 t :=
  (dats m 0 c).read_blk_arrAt_eq_flushed 24 disjoint24 cfg0.N t t.isLt hf

/-- An index that no flushing point's block covers keeps output window 24's array contents at region entry. -/
theorem entry24 (c : Dev nD) (i : S32768x512.Idx) (h : ∀ t : Fin cfg0.N, (cfg0.win 24).flush t = true → i ∉ ((cfg0.win 24).blk t).view.set) :
    (dats m 0 c).arrAt 24 cfg0.N i = V m c (Pipeline.arrRef spec0 24) i := by
  rw [(dats m 0 c).arrAt_apply_of_forall_not_mem 24 cfg0.N i (fun t _ hf => h t hf), A_eq]

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v12_0) = (dats m 0 c).arrAt 11 cfg0.N :=
  (h c).1 11

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v12_1) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v12_2) = (dats m 0 c).arrAt 13 cfg0.N :=
  (h c).1 13

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v12_3) = (dats m 0 c).arrAt 14 cfg0.N :=
  (h c).1 14

/-- After the frame run, output window 15's array is `(dats m 0 c).arrAt 15 N`. -/
theorem post15 (r : PUnit × MemSt nD τ sig (Elt F)) (h : Pipeline.FramePost cfgs (dats m) 0 (V m) r) (c : Dev nD) :
    r.2.mem ((c : Thread nD τ).loc main_v12_4) = (dats m 0 c).arrAt 15 cfg0.N :=
  (h c).1 15

/-- After the frame run, output window 16's array is `(dats m 0 c).arrAt 16 N`. -/
theorem post16 (r : PUnit × MemSt nD τ sig (Elt F)) (h : Pipeline.FramePost cfgs (dats m) 0 (V m) r) (c : Dev nD) :
    r.2.mem ((c : Thread nD τ).loc main_v12_5) = (dats m 0 c).arrAt 16 cfg0.N :=
  (h c).1 16

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v12_6) = (dats m 0 c).arrAt 17 cfg0.N :=
  (h c).1 17

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v12_7) = (dats m 0 c).arrAt 18 cfg0.N :=
  (h c).1 18

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v12_8) = (dats m 0 c).arrAt 19 cfg0.N :=
  (h c).1 19

/-- After the frame run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v12_9) = (dats m 0 c).arrAt 20 cfg0.N :=
  (h c).1 20

/-- After the frame run, output window 21's array is `(dats m 0 c).arrAt 21 N`. -/
theorem post21 (r : PUnit × MemSt nD τ sig (Elt F)) (h : Pipeline.FramePost cfgs (dats m) 0 (V m) r) (c : Dev nD) :
    r.2.mem ((c : Thread nD τ).loc main_v12_10) = (dats m 0 c).arrAt 21 cfg0.N :=
  (h c).1 21

/-- After the frame run, output window 22's array is `(dats m 0 c).arrAt 22 N`. -/
theorem post22 (r : PUnit × MemSt nD τ sig (Elt F)) (h : Pipeline.FramePost cfgs (dats m) 0 (V m) r) (c : Dev nD) :
    r.2.mem ((c : Thread nD τ).loc main_v12_11) = (dats m 0 c).arrAt 22 cfg0.N :=
  (h c).1 22

/-- After the frame run, output window 23's array is `(dats m 0 c).arrAt 23 N`. -/
theorem post23 (r : PUnit × MemSt nD τ sig (Elt F)) (h : Pipeline.FramePost cfgs (dats m) 0 (V m) r) (c : Dev nD) :
    r.2.mem ((c : Thread nD τ).loc main_v12_12) = (dats m 0 c).arrAt 23 cfg0.N :=
  (h c).1 23

/-- After the frame run, output window 24's array is `(dats m 0 c).arrAt 24 N`. -/
theorem post24 (r : PUnit × MemSt nD τ sig (Elt F)) (h : Pipeline.FramePost cfgs (dats m) 0 (V m) r) (c : Dev nD) :
    r.2.mem ((c : Thread nD τ).loc main_v12_13) = (dats m 0 c).arrAt 24 cfg0.N :=
  (h c).1 24

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- After the frame run, argument `main_arg7` is as launched: input window 7 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

/-- After the frame run, argument `main_arg8` is as launched: input window 8 stages it and never writes it back. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 8).trans (((dats m 0 c).arrAt_in 8 rfl _).trans ((A_eq m c 8).trans (V_main_arg8 m c)))

/-- After the frame run, argument `main_arg9` is as launched: input window 10 stages it and never writes it back. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).1 10).trans (((dats m 0 c).arrAt_in 10 rfl _).trans ((A_eq m c 10).trans (V_main_arg9 m c)))

set_option maxHeartbeats 261920 in
/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v12_0) = (dats m 0 c).arrAt 11 cfg0.N
      ∧ r.2.mem ((c : Thread nD τ).loc main_v12_1) = (dats m 0 c).arrAt 12 cfg0.N
      ∧ r.2.mem ((c : Thread nD τ).loc main_v12_2) = (dats m 0 c).arrAt 13 cfg0.N
      ∧ r.2.mem ((c : Thread nD τ).loc main_v12_3) = (dats m 0 c).arrAt 14 cfg0.N
      ∧ r.2.mem ((c : Thread nD τ).loc main_v12_4) = (dats m 0 c).arrAt 15 cfg0.N
      ∧ r.2.mem ((c : Thread nD τ).loc main_v12_5) = (dats m 0 c).arrAt 16 cfg0.N
      ∧ r.2.mem ((c : Thread nD τ).loc main_v12_6) = (dats m 0 c).arrAt 17 cfg0.N
      ∧ r.2.mem ((c : Thread nD τ).loc main_v12_7) = (dats m 0 c).arrAt 18 cfg0.N
      ∧ r.2.mem ((c : Thread nD τ).loc main_v12_8) = (dats m 0 c).arrAt 19 cfg0.N
      ∧ r.2.mem ((c : Thread nD τ).loc main_v12_9) = (dats m 0 c).arrAt 20 cfg0.N
      ∧ r.2.mem ((c : Thread nD τ).loc main_v12_10) = (dats m 0 c).arrAt 21 cfg0.N
      ∧ r.2.mem ((c : Thread nD τ).loc main_v12_11) = (dats m 0 c).arrAt 22 cfg0.N
      ∧ r.2.mem ((c : Thread nD τ).loc main_v12_12) = (dats m 0 c).arrAt 23 cfg0.N
      ∧ r.2.mem ((c : Thread nD τ).loc main_v12_13) = (dats m 0 c).arrAt 24 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨post11 m r h c,
      post12 m r h c,
      post13 m r h c,
      post14 m r h c,
      post15 m r h c,
      post16 m r h c,
      post17 m r h c,
      post18 m r h c,
      post19 m r h c,
      post20 m r h c,
      post21 m r h c,
      post22 m r h c,
      post23 m r h c,
      post24 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c⟩)
    (run_main m ρ)

/-! ## No closed form for the canon of this window's pieces: output window 11's piece 0: its whole payload is an operation the value generator does not open (`matmul` is not a pointwise vector operation of loaded blocks and constants). Prove the window's value by hand over `Value.run_blocks`. -/

/-! ## No closed form for the canon of this window's pieces: output window 12's piece 4: its whole payload is an operation the value generator does not open (`dynamicRotate` is not a pointwise vector operation of loaded blocks and constants). Prove the window's value by hand over `Value.run_blocks`. -/

/-! ## No closed form for the canon of this window's pieces: output window 13's piece 0: its whole payload is an operation the value generator does not open (`matmul` is not a pointwise vector operation of loaded blocks and constants). Prove the window's value by hand over `Value.run_blocks`. -/

/-! ## No closed form for the canon of this window's pieces: output window 14's piece 0: its whole payload is an operation the value generator does not open (`matmul` is not a pointwise vector operation of loaded blocks and constants). Prove the window's value by hand over `Value.run_blocks`. -/

/-! ## No closed form for the canon of this window's pieces: output window 15's piece 0: its whole payload is an operation the value generator does not open (`matmul` is not a pointwise vector operation of loaded blocks and constants). Prove the window's value by hand over `Value.run_blocks`. -/

/-! ## No closed form for the canon of this window's pieces: output window 16's piece 0: its whole payload is an operation the value generator does not open (`matmul` is not a pointwise vector operation of loaded blocks and constants). Prove the window's value by hand over `Value.run_blocks`. -/

/-! ## No closed form for the canon of this window's pieces: output window 17's piece 0: its whole payload is an operation the value generator does not open (`matmul` is not a pointwise vector operation of loaded blocks and constants). Prove the window's value by hand over `Value.run_blocks`. -/

/-! ## No closed form for the canon of this window's pieces: output window 18's piece 0: its whole payload is an operation the value generator does not open (`matmul` is not a pointwise vector operation of loaded blocks and constants). Prove the window's value by hand over `Value.run_blocks`. -/

/-! ## No closed form for the canon of this window's pieces: output window 19's piece 0: its whole payload is an operation the value generator does not open (`matmul` is not a pointwise vector operation of loaded blocks and constants). Prove the window's value by hand over `Value.run_blocks`. -/

/-! ## No closed form for the canon of this window's pieces: output window 20's piece 0: its whole payload is an operation the value generator does not open (`matmul` is not a pointwise vector operation of loaded blocks and constants). Prove the window's value by hand over `Value.run_blocks`. -/

/-! ## No closed form for the canon of this window's pieces: output window 21's piece 0: its whole payload is an operation the value generator does not open (`matmul` is not a pointwise vector operation of loaded blocks and constants). Prove the window's value by hand over `Value.run_blocks`. -/

/-! ## No closed form for the canon of this window's pieces: output window 22's piece 0: its whole payload is an operation the value generator does not open (`matmul` is not a pointwise vector operation of loaded blocks and constants). Prove the window's value by hand over `Value.run_blocks`. -/

/-! ## No closed form for the canon of this window's pieces: output window 23's piece 0: its whole payload is an operation the value generator does not open (`matmul` is not a pointwise vector operation of loaded blocks and constants). Prove the window's value by hand over `Value.run_blocks`. -/

/-! ## No closed form for the canon of this window's pieces: output window 24's piece 0: its whole payload is an operation the value generator does not open (`matmul` is not a pointwise vector operation of loaded blocks and constants). Prove the window's value by hand over `Value.run_blocks`. -/

end Cert.Kernel2Ideal.Value

end
-- ==== Proof.RowNorm.lean ====
module

public import Idealize.ShloMosaic.PureOps.Ideal
public import Idealize.ShloMosaic.Lib.Pointwise

/-! A row divided by its root mean square, times a gain, and a column of its product with a matrix. -/

@[expose] public section

noncomputable section

namespace Cert.RowNorm

open Idealize.ShloMosaic

/-- Entry `k` of the row `x` over its root mean square (1024 entries, with the printed floor), times the gain. -/
def normed (x g : Fin 1024 → EReal) (k : Fin 1024) : EReal :=
  x k * Ideal.rsqrt (Ideal.div (∑ i, x i * x i) (Ideal.ofBits FTy.f32 0x44800000#32) + Ideal.ofBits FTy.f32 0x358637BD#32) * g k

/-- The normed row times a column. -/
def col (x g w : Fin 1024 → EReal) : EReal := ∑ k, normed x g k * w k

/-- A 128-lane piece followed by ones. -/
def ones (f : Fin 128 → EReal) (l : Fin 256) : EReal := if h : l.val < 128 then f ⟨l.val, h⟩ else 1

/-- Columns `off …` of an array given by row and column, as an array of their own. -/
def cut (N W off : Nat) (h : off + W ≤ 2944) (f : Fin N → Fin 2944 → EReal) : (⟨2, ![N, W]⟩ : Shape).Idx → EReal := fun j =>
  f (j 0) ⟨off + (j 1).val, by have : (j 1).val < W := (j 1).isLt; omega⟩

/-- 128 such columns, followed by as many ones. -/
def cutOnes (N off : Nat) (h : off + 128 ≤ 2944) (f : Fin N → Fin 2944 → EReal) : (⟨2, ![N, 256]⟩ : Shape).Idx → EReal := fun j =>
  ones (fun l => f (j 0) ⟨off + l.val, by omega⟩) (j 1)

/-- Lane `l` of a row of 128 lanes times one table, plus its neighbours 32 lanes below and above (around the end) times two others. -/
def turned (y C A B : Fin 128 → EReal) (l : Fin 128) : EReal :=
  y l * C l + y ⟨(l.val + 128 - 32) % 128, by omega⟩ * A l + y ⟨(l.val + 128 - 96) % 128, by omega⟩ * B l

end Cert.RowNorm

end
-- ==== Proof.Fuse.lean ====
module

public import proofs.«01_k».proof.Proof.FuseValue
public import proofs.«01_k».proof.Proof.RowNorm
public import Idealize.ShloMosaic.Lib.Pipeline.ValueKit
public import Idealize.ShloMosaic.Lib.Pointwise

/-! The fused call (the first layer's output projection, then the second layer's norm and projection): what it leaves in
    the new residual and in the arrays that are columns of the product. -/

@[expose] public section

set_option maxRecDepth 16384

noncomputable section

namespace Cert.Fuse

open Idealize.ShloMosaic Idealize.ShloMosaic.TcCoe Idealize.SL.Sem
open Idealize.ShloMosaic.Pipeline (Dat)
open Cert.Kernel2Ideal Cert.Kernel2Ideal.Gen Cert.RowNorm

/-- A row of the residual: the old row plus the two halves of the mix times the two halves of the weights. -/
def mixed (x : Fin 1024 → EReal) (a b : Fin 512 → EReal) (w : S1024x1024.Idx → EReal) (l : Fin 1024) : EReal :=
  x l + (∑ k : Fin 512, a k * w (ix2 ⟨k.val, by omega⟩ l)) + ∑ k : Fin 512, b k * w (ix2 ⟨512 + k.val, by omega⟩ l)

/-- The logistic function. -/
def gate (v : EReal) : EReal := Ideal.div 1 (1 + Ideal.exp (-v))

/-! ## One block -/

section block

variable (x0 : Vec Ideal S512x1024 .f32) (x1 x2 : Vec Ideal S512x512 .bf16) (x3 : Vec Ideal S1024x1024 .bf16) (x4 : Vec Ideal S1x1024 .f32)
  (x5 : Vec Ideal S1024x2944 .bf16) (x6 x7 x8 : Vec Ideal S512x128 .f32) (x9 : Vec Ideal S256x128 .bf16) (x10 : Vec Ideal S8x128 .f32) (r : Fin 512)

/-- A row of the block's residual. -/
def bmix : Fin 1024 → EReal := mixed (fun l => x0 (ix2 r l)) (fun k => x1 (ix2 r k)) (fun k => x2 (ix2 r k)) x3

/-- The block's residual. -/
theorem rows_mixed (l : Fin 1024) :
    k0_pay2 (View.ld x0 r0_0) (View.ld x1 r0_1) (View.ld x3 r0_2) (View.ld x2 r0_1) (View.ld x3 r0_3) (ix2 r l) = bmix x0 x1 x2 x3 r l := by
  have e0 : View.ld x0 r0_0 = x0 := View.ld_unit_zero (by funext a; fin_cases a <;> rfl) _ _
  have e1 : View.ld x1 r0_1 = x1 := View.ld_unit_zero (by funext a; fin_cases a <;> rfl) _ _
  have e2 : View.ld x2 r0_1 = x2 := View.ld_unit_zero (by funext a; fin_cases a <;> rfl) _ _
  rw [e0, e1, e2]
  pointwise [k0_pay2]
  rfl

/-- The block's rows, normed. -/
theorem rows_normed (k : Fin 1024) :
    k0_pay35 x0 x1 x2 x3 x4 x5 x6 x7 x8 x9 x10 (ix2 r k) = normed (bmix x0 x1 x2 x3 r) (fun k => x4 (ix2 0 k)) k := by
  have e4 : View.ld x4 r0_4 = x4 := View.ld_unit_zero (by funext a; fin_cases a <;> rfl) _ _
  unfold k0_pay35
  rw [e4]
  pointwise [k0_pay3]
  simp only [rows_mixed]
  rfl

/-- Column `l` of the product of the block's normed rows. -/
def bcol (l : Fin 2944) : EReal := col (bmix x0 x1 x2 x3 r) (fun k => x4 (ix2 0 k)) (fun k => x5 (ix2 k l))

theorem block11 (l : Fin 1024) : out0_11 x0 x1 x2 x3 x4 x5 x6 x7 x8 x9 x10 (ix2 r l) = bmix x0 x1 x2 x3 r l := by
  unfold out0_11
  rw [View.canon_unit_zero (by funext a; fin_cases a <;> rfl)]
  exact rows_mixed x0 x1 x2 x3 r l

/-- What the body leaves in the windows that hold columns of the product. -/
theorem blocks :
    (∀ l : Fin 128, out0_13 x0 x1 x2 x3 x4 x5 x6 x7 x8 x9 x10 (ix2 r l) = bcol x0 x1 x2 x3 x4 x5 r ⟨512 + l.val, by omega⟩)
    ∧ (∀ l : Fin 128, out0_14 x0 x1 x2 x3 x4 x5 x6 x7 x8 x9 x10 (ix2 r l) = bcol x0 x1 x2 x3 x4 x5 r ⟨640 + l.val, by omega⟩)
    ∧ (∀ l : Fin 256, out0_16 x0 x1 x2 x3 x4 x5 x6 x7 x8 x9 x10 (ix2 r l) = ones (fun l => bcol x0 x1 x2 x3 x4 x5 r ⟨896 + l.val, by omega⟩) l)
    ∧ (∀ l : Fin 256, out0_18 x0 x1 x2 x3 x4 x5 x6 x7 x8 x9 x10 (ix2 r l) = ones (fun l => bcol x0 x1 x2 x3 x4 x5 r ⟨1152 + l.val, by omega⟩) l)
    ∧ (∀ l : Fin 128, out0_19 x0 x1 x2 x3 x4 x5 x6 x7 x8 x9 x10 (ix2 r l) = gate (bcol x0 x1 x2 x3 x4 x5 r ⟨1280 + l.val, by omega⟩))
    ∧ (∀ l : Fin 512, out0_20 x0 x1 x2 x3 x4 x5 x6 x7 x8 x9 x10 (ix2 r l) = bcol x0 x1 x2 x3 x4 x5 r ⟨1408 + l.val, by omega⟩)
    ∧ (∀ l : Fin 256, out0_21 x0 x1 x2 x3 x4 x5 x6 x7 x8 x9 x10 (ix2 r l) = bcol x0 x1 x2 x3 x4 x5 r ⟨1920 + l.val, by omega⟩)
    ∧ (∀ l : Fin 128, out0_22 x0 x1 x2 x3 x4 x5 x6 x7 x8 x9 x10 (ix2 r l) = bcol x0 x1 x2 x3 x4 x5 r ⟨2176 + l.val, by omega⟩)
    ∧ (∀ l : Fin 128, out0_23 x0 x1 x2 x3 x4 x5 x6 x7 x8 x9 x10 (ix2 r l) = bcol x0 x1 x2 x3 x4 x5 r ⟨2304 + l.val, by omega⟩)
    ∧ ∀ l : Fin 512, out0_24 x0 x1 x2 x3 x4 x5 x6 x7 x8 x9 x10 (ix2 r l) = bcol x0 x1 x2 x3 x4 x5 r ⟨2432 + l.val, by omega⟩ := by
  refine ⟨?_, ?_, ?_, ?_, ?_, ?_, ?_, ?_, ?_, ?_⟩
  all_goals
    intro l
    simp only [out0_13, out0_14, out0_16, out0_18, out0_19, out0_20, out0_21, out0_22, out0_23, out0_24]
    rw [View.canon_unit_zero (by funext a; fin_cases a <;> rfl)]
    pointwise [k0_pay23, k0_pay24, k0_pay27, k0_pay26, k0_pay29, k0_pay30, k0_pay31, k0_pay32, k0_pay33, k0_pay34, k0_pay1]
    simp only [rows_normed, zero_sub]
    rfl

end block

/-! ## The arrays -/

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0]
    ∧ win0_11.index t = ![t.val, 0]
    ∧ win0_13.index t = ![t.val, 0]
    ∧ win0_14.index t = ![t.val, 0]
    ∧ win0_16.index t = ![t.val, 0]
    ∧ win0_18.index t = ![t.val, 0]
    ∧ win0_19.index t = ![t.val, 0]
    ∧ win0_20.index t = ![t.val, 0]
    ∧ win0_21.index t = ![t.val, 0]
    ∧ win0_22.index t = ![t.val, 0]
    ∧ win0_23.index t = ![t.val, 0]
    ∧ win0_24.index t = ![t.val, 0] :=
  (by decide +kernel : ∀ t : Fin grid0.N, _)

theorem out_weights (c : Dev nD) (t : Fin cfg0.N) (k l : Fin 1024) :
    iblk m c 3 t (ix2 k l) = m ((c : Thread nD τ).loc main_arg3) (ix2 k l) := by
  have e : ((cfg0.win 3).blk t).view.emb (ix2 k l) = ix2 k l := by blk_ext [idx t]
  unfold iblk View.read
  rw [e]
  entry_read
  pointwise
  rfl

theorem gain (c : Dev nD) (t : Fin cfg0.N) (k : Fin 1024) :
    iblk m c 4 t (ix2 0 k) = m ((c : Thread nD τ).loc main_arg4) (ix1 k) := by
  have e : ((cfg0.win 4).blk t).view.emb (ix2 0 k) = ix2 0 k := by blk_ext [idx t]
  unfold iblk View.read
  rw [e]
  show V m c main_v10 (ix2 0 k) = _
  have h : V m c main_v10 = broadcastInDim S1x1024 ![1] bcast_S1024_S1x1024_1
      (m ((c : Thread nD τ).loc main_arg4)) := rfl
  rw [h]
  pointwise

theorem weights (c : Dev nD) (t : Fin cfg0.N) (k : Fin 1024) (l : Fin 2944) :
    iblk m c 5 t (ix2 k l) = m ((c : Thread nD τ).loc main_arg5) (ix2 k l) := by
  have e : ((cfg0.win 5).blk t).view.emb (ix2 k l) = ix2 k l := by blk_ext [idx t]
  unfold iblk View.read
  rw [e]
  entry_read
  pointwise
  rfl

theorem rows (c : Dev nD) (t : Fin cfg0.N) (r : Fin 512) (k : Fin 1024) (hr : 512 * t.val + r.val < 32768) :
    iblk m c 0 t (ix2 r k) = m ((c : Thread nD τ).loc main_arg0) (ix2 ⟨512 * t.val + r.val, hr⟩ k) := by
  blk_ext [iblk, V_main_arg0, idx t]

theorem left (c : Dev nD) (t : Fin cfg0.N) (r k : Fin 512) (hr : 512 * t.val + r.val < 32768) :
    iblk m c 1 t (ix2 r k) = m ((c : Thread nD τ).loc main_arg1) (ix2 ⟨512 * t.val + r.val, hr⟩ k) := by
  blk_ext [iblk, V_main_arg1, idx t]

theorem right (c : Dev nD) (t : Fin cfg0.N) (r k : Fin 512) (hr : 512 * t.val + r.val < 32768) :
    iblk m c 2 t (ix2 r k) = m ((c : Thread nD τ).loc main_arg2) (ix2 ⟨512 * t.val + r.val, hr⟩ k) := by
  blk_ext [iblk, V_main_arg2, idx t]

/-- A row of the new residual. -/
def mix (x : S32768x1024.Idx → EReal) (a b : S32768x512.Idx → EReal) (wo : S1024x1024.Idx → EReal) (n : Fin 32768) : Fin 1024 → EReal :=
  mixed (fun l => x (ix2 n l)) (fun k => a (ix2 n k)) (fun k => b (ix2 n k)) wo

/-- The same at the launch's arguments. -/
abbrev mixAt (c : Dev nD) : Fin 32768 → Fin 1024 → EReal :=
  mix (m ((c : Thread nD τ).loc main_arg0)) (m ((c : Thread nD τ).loc main_arg1)) (m ((c : Thread nD τ).loc main_arg2)) (m ((c : Thread nD τ).loc main_arg3))

/-- The new residual as an array. -/
def residual (f : Fin 32768 → Fin 1024 → EReal) : S32768x1024.Idx → EReal := fun j => f (j 0) (j 1)

/-- The product of the normed rows with the weights. -/
def whole (f : Fin 32768 → Fin 1024 → EReal) (g : S1024.Idx → EReal) (w : S1024x2944.Idx → EReal) (n : Fin 32768) (l : Fin 2944) : EReal :=
  col (f n) (fun k => g (ix1 k)) (fun k => w (ix2 k l))

/-- The same at the launch's arguments. -/
abbrev wholeAt (c : Dev nD) : Fin 32768 → Fin 2944 → EReal :=
  whole (mixAt m c) (m ((c : Thread nD τ).loc main_arg4)) (m ((c : Thread nD τ).loc main_arg5))

theorem bmix_eq (c : Dev nD) (t : Fin cfg0.N) (r : Fin 512) (hr : 512 * t.val + r.val < 32768) :
    bmix (iblk m c 0 t) (iblk m c 1 t) (iblk m c 2 t) (iblk m c 3 t) r = mixAt m c ⟨512 * t.val + r.val, hr⟩ := by
  have h0 := fun l => rows m c t r l hr
  have h1 := fun k => left m c t r k hr
  have h2 := fun k => right m c t r k hr
  have h3 : (iblk m c 3 t : S1024x1024.Idx → EReal) = m ((c : Thread nD τ).loc main_arg3) := by
    funext j
    obtain ⟨k, l, rfl⟩ : ∃ k l : Fin 1024, j = ix2 k l := ⟨j 0, j 1, by funext a; match a with | ⟨0, _⟩ => rfl | ⟨1, _⟩ => rfl⟩
    exact out_weights m c t k l
  unfold bmix mixAt mix
  simp only [h0, h1, h2]
  rw [h3]

theorem bcol_eq (c : Dev nD) (t : Fin cfg0.N) (r : Fin 512) (hr : 512 * t.val + r.val < 32768) (l : Fin 2944) :
    bcol (iblk m c 0 t) (iblk m c 1 t) (iblk m c 2 t) (iblk m c 3 t) (iblk m c 4 t) (iblk m c 5 t) r l = wholeAt m c ⟨512 * t.val + r.val, hr⟩ l := by
  have h1 : (fun k => iblk m c 4 t (ix2 0 k)) = fun k => m ((c : Thread nD τ).loc main_arg4) (ix1 k) := funext fun k => gain m c t k
  have h2 : (fun k => iblk m c 5 t (ix2 k l)) = fun k => m ((c : Thread nD τ).loc main_arg5) (ix2 k l) := funext fun k => weights m c t k l
  unfold bcol
  rw [bmix_eq m c t r hr]
  exact congrArg₂ (col _) h1 h2

theorem final11 (c : Dev nD) : (dats m 0 c).arrAt 11 cfg0.N = residual (mixAt m c) :=
  (dats m 0 c).arrAt_eq_of_covers 11 _ (by decide +kernel) fun t _ y => by
    have ht : t.val < 64 := lt_of_lt_of_eq t.isLt N_0
    blk_simp
    rw [after0_11]
    obtain ⟨r, l, rfl⟩ : ∃ (r : Fin 512) (l : Fin 1024), y = ix2 r l := ⟨y 0, y 1, by funext a; match a with | ⟨0, _⟩ => rfl | ⟨1, _⟩ => rfl⟩
    have e : (win0_11.blk t).view.emb (ix2 r l) = ix2 ⟨512 * t.val + r.val, by omega⟩ l := by blk_ext [idx t]
    rw [e]
    refine (block11 _ _ _ _ _ _ _ _ _ _ _ r l).trans ?_
    exact congrFun (bmix_eq m c t r _) l

set_option maxHeartbeats 4000000 in
/-- What the call leaves in those windows' arrays. -/
theorem finals (c : Dev nD) :
    (dats m 0 c).arrAt 13 cfg0.N = cut 32768 128 512 (by omega) (wholeAt m c)
    ∧ (dats m 0 c).arrAt 14 cfg0.N = cut 32768 128 640 (by omega) (wholeAt m c)
    ∧ (dats m 0 c).arrAt 16 cfg0.N = cutOnes 32768 896 (by omega) (wholeAt m c)
    ∧ (dats m 0 c).arrAt 18 cfg0.N = cutOnes 32768 1152 (by omega) (wholeAt m c)
    ∧ (dats m 0 c).arrAt 19 cfg0.N = cut 32768 128 1280 (by omega) (fun n l => gate (wholeAt m c n l))
    ∧ (dats m 0 c).arrAt 20 cfg0.N = cut 32768 512 1408 (by omega) (wholeAt m c)
    ∧ (dats m 0 c).arrAt 21 cfg0.N = cut 32768 256 1920 (by omega) (wholeAt m c)
    ∧ (dats m 0 c).arrAt 22 cfg0.N = cut 32768 128 2176 (by omega) (wholeAt m c)
    ∧ (dats m 0 c).arrAt 23 cfg0.N = cut 32768 128 2304 (by omega) (wholeAt m c)
    ∧ (dats m 0 c).arrAt 24 cfg0.N = cut 32768 512 2432 (by omega) (wholeAt m c) := by
  refine ⟨(dats m 0 c).arrAt_eq_of_covers 13 _ (by decide +kernel) ?_,
    (dats m 0 c).arrAt_eq_of_covers 14 _ (by decide +kernel) ?_,
    (dats m 0 c).arrAt_eq_of_covers 16 _ (by decide +kernel) ?_,
    (dats m 0 c).arrAt_eq_of_covers 18 _ (by decide +kernel) ?_,
    (dats m 0 c).arrAt_eq_of_covers 19 _ (by decide +kernel) ?_,
    (dats m 0 c).arrAt_eq_of_covers 20 _ (by decide +kernel) ?_,
    (dats m 0 c).arrAt_eq_of_covers 21 _ (by decide +kernel) ?_,
    (dats m 0 c).arrAt_eq_of_covers 22 _ (by decide +kernel) ?_,
    (dats m 0 c).arrAt_eq_of_covers 23 _ (by decide +kernel) ?_,
    (dats m 0 c).arrAt_eq_of_covers 24 _ (by decide +kernel) ?_⟩
  all_goals
    intro t _ y
    have ht : t.val < 64 := lt_of_lt_of_eq t.isLt N_0
    have hb := fun r => blocks (iblk m c 0 t) (iblk m c 1 t) (iblk m c 2 t) (iblk m c 3 t) (iblk m c 4 t) (iblk m c 5 t) (iblk m c 6 t) (iblk m c 7 t)
      (iblk m c 8 t) (iblk m c 9 t) (iblk m c 10 t) r
    have hc := fun (r : Fin 512) l => bcol_eq m c t r (by omega) l
    blk_simp
    simp only [after0_13, after0_14, after0_16, after0_18, after0_19, after0_20, after0_21, after0_22, after0_23, after0_24]
    obtain ⟨r, l, rfl⟩ : ∃ r l, y = ix2 r l := ⟨y 0, y 1, by funext a; match a with | ⟨0, _⟩ => rfl | ⟨1, _⟩ => rfl⟩
    rw [show View.emb _ (ix2 r l) = ix2 ⟨512 * t.val + r.val, by omega⟩ l by blk_ext [idx t]]
    simp only [hb, hc]
    rfl

end Cert.Fuse

end
-- ==== Proof.FuseClaims.lean ====
module

public import proofs.«01_k».proof.Defs
public import proofs.«01_k».proof.Proof.FuseFrame
public import proofs.«01_k».proof.Proof.Gen.Reference2Ideal.Run
public import proofs.«01_k».proof.Proof.Fuse

/-! The fused call: the reference's arrays, and the claims about the call. -/

@[expose] public section

set_option maxRecDepth 16384

noncomputable section

namespace Cert.Fuse

open Idealize.ShloMosaic Idealize.ShloMosaic.TcCoe Idealize.SL.Sem
open Cert.Reference2Ideal Cert.Reference2Ideal.Gen Cert.RowNorm

section reference

variable (x : FVec Ideal S32768x1024 .f32) (g : FVec Ideal S1024 .f32) (w : FVec Ideal S1024x2944 .f32)

/-- The reference's product. -/
def product : FVec Ideal S32768x2944 .f32 :=
  Host.dotGeneral dot_S32768x1024_S1024x2944_S32768x2944_1_0_0_1_n_n none (mulf (mulf x (broadcastInDim S32768x1024 ![0, 1] bcast_S32768x1_S32768x1024_0_1 (Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g))) w

theorem product_at (n : Fin 32768) (l : Fin 2944) : product x g w (ix2 n l) = whole (fun n k => x (ix2 n k)) g w n l := by
  unfold product
  pointwise
  rfl

/-- Columns `off …` of the product. -/
theorem columns_at (W off : Nat) (hW : off + W ≤ 2944) (h : S32768x2944.Slices ![0, off] (⟨2, ![32768, W]⟩ : Shape)) :
    (extractStridedSlice (⟨2, ![32768, W]⟩ : Shape) ![0, off] (product x g w) h : (⟨2, ![32768, W]⟩ : Shape).Idx → EReal) = cut 32768 W off hW (whole (fun n k => x (ix2 n k)) g w) := by
  funext j
  obtain ⟨n, l, rfl⟩ : ∃ (n : Fin 32768) (l : Fin W), j = ix2 n l := ⟨j 0, j 1, by funext a; match a with | ⟨0, _⟩ => rfl | ⟨1, _⟩ => rfl⟩
  refine Eq.trans ?_ (product_at x g w n ⟨off + l.val, by omega⟩)
  pointwise

/-- 128 columns and the ones after them. -/
theorem columns_ones_at (off : Nat) (hW : off + 128 ≤ 2944) (h : S32768x2944.Slices ![0, off] S32768x128) :
    (truncf .bf16 (concatenate S32768x256 1 [⟨S32768x128, extractStridedSlice S32768x128 ![0, off] (product x g w) h⟩, ⟨S32768x128, (broadcastInDim S32768x128 ![] bcast_S_S32768x128 (constant S_ .f32 0x3F800000#32))⟩] concatenates_S32768x128_S32768x128_S32768x256_d1) bitsLt_bf16_f32 : S32768x256.Idx → EReal)
      = cutOnes 32768 off hW (whole (fun n k => x (ix2 n k)) g w) := by
  rw [show extractStridedSlice S32768x128 ![0, off] (product x g w) h = cut 32768 128 off hW (whole (fun n k => x (ix2 n k)) g w) from columns_at x g w 128 off hW h]
  generalize whole (fun n k => x (ix2 n k)) g w = f
  funext j
  obtain ⟨n, l, rfl⟩ : ∃ (n : Fin 32768) (l : Fin 256), j = ix2 n l := ⟨j 0, j 1, by funext a; match a with | ⟨0, _⟩ => rfl | ⟨1, _⟩ => rfl⟩
  pointwise
  rfl

/-- The reference's new residual. -/
def sum (a b : FVec Ideal S32768x512 .bf16) (wo : FVec Ideal S1024x1024 .f32) : FVec Ideal S32768x1024 .f32 :=
  addf x (Host.dotGeneral dot_S32768x1024_S1024x1024_S32768x1024_1_0_0_1_n_n none (concatenate S32768x1024 1 [⟨S32768x512, (extf .f32 a bitsLt_bf16_f32)⟩, ⟨S32768x512, (extf .f32 b bitsLt_bf16_f32)⟩] concatenates_S32768x512_S32768x512_S32768x1024_d1) wo)

theorem sum_at (a b : FVec Ideal S32768x512 .bf16) (wo : FVec Ideal S1024x1024 .f32) (n : Fin 32768) (l : Fin 1024) :
    sum x a b wo (ix2 n l) = mix x a b wo n l := by
  unfold sum
  pointwise
  exact (add_assoc _ _ _).symm

theorem sum_eq (a b : FVec Ideal S32768x512 .bf16) (wo : FVec Ideal S1024x1024 .f32) :
    (sum x a b wo : S32768x1024.Idx → EReal) = residual (mix x a b wo) := by
  funext j
  obtain ⟨n, l, rfl⟩ : ∃ (n : Fin 32768) (l : Fin 1024), j = ix2 n l := ⟨j 0, j 1, by funext a; match a with | ⟨0, _⟩ => rfl | ⟨1, _⟩ => rfl⟩
  exact sum_at x a b wo n l

/-- The columns, through the logistic function. -/
theorem gates_at (h : S32768x2944.Slices ![0, 1280] S32768x128) :
    (Host.divf (broadcastInDim S32768x128 ![] bcast_S_S32768x128 (constant S_ .f32 0x3F800000#32)) (addf (broadcastInDim S32768x128 ![] bcast_S_S32768x128 (constant S_ .f32 0x3F800000#32)) (Host.exp (Host.negf (extractStridedSlice S32768x128 ![0, 1280] (product x g w) h)))) : S32768x128.Idx → EReal)
      = cut 32768 128 1280 (by omega) (fun n l => gate (whole (fun n k => x (ix2 n k)) g w n l)) := by
  rw [show extractStridedSlice S32768x128 ![0, 1280] (product x g w) h = cut 32768 128 1280 (by omega) (whole (fun n k => x (ix2 n k)) g w) from columns_at x g w 128 1280 (by omega) h]
  generalize whole (fun n k => x (ix2 n k)) g w = f
  funext j
  obtain ⟨n, l, rfl⟩ : ∃ (n : Fin 32768) (l : Fin 128), j = ix2 n l := ⟨j 0, j 1, by funext a; match a with | ⟨0, _⟩ => rfl | ⟨1, _⟩ => rfl⟩
  pointwise
  rfl

end reference

attribute [local instance] Cert.Kernel2.Gen.facts Cert.Kernel2Ideal.Gen.facts Cert.Reference2Ideal.Gen.facts

theorem frame_p : Cert.quiescent_Kernel2 := fun m ρ _ => Cert.Kernel2.Gen.frame m ρ

theorem frame_pi : Cert.quiescent_Kernel2Ideal := fun m ρ _ => Cert.Kernel2Ideal.Gen.frame m ρ

theorem frame_ri : Cert.quiescent_Reference2Ideal := fun m ρ _ =>
  (θ_run Cert.Reference2Ideal.defs _ _).mono (fun r h => ⟨fun c => (h c).2.2.2.2.2.2.2.2.2.2.2,
      Idealize.ShloMosaic.sem_eq_zero_of_no_sems (by decide) r.2⟩)
    (Cert.Reference2Ideal.Value.run (F := Ideal) m ρ)

set_option maxHeartbeats 4000000 in
theorem algebraic : Cert.algebraic_Kernel2Ideal_Reference2Ideal := by
  intro m ρ m' ρ' _ hagree
  refine ⟨fun c => (Cert.Kernel2Ideal.Gen.dats m 0 c).arrAt 11 Cert.Kernel2Ideal.cfg0.N,
    fun c => (Cert.Kernel2Ideal.Gen.dats m 0 c).arrAt 13 Cert.Kernel2Ideal.cfg0.N,
    fun c => (Cert.Kernel2Ideal.Gen.dats m 0 c).arrAt 14 Cert.Kernel2Ideal.cfg0.N,
    fun c => (Cert.Kernel2Ideal.Gen.dats m 0 c).arrAt 16 Cert.Kernel2Ideal.cfg0.N,
    fun c => (Cert.Kernel2Ideal.Gen.dats m 0 c).arrAt 18 Cert.Kernel2Ideal.cfg0.N,
    fun c => (Cert.Kernel2Ideal.Gen.dats m 0 c).arrAt 19 Cert.Kernel2Ideal.cfg0.N,
    fun c => (Cert.Kernel2Ideal.Gen.dats m 0 c).arrAt 20 Cert.Kernel2Ideal.cfg0.N,
    fun c => (Cert.Kernel2Ideal.Gen.dats m 0 c).arrAt 21 Cert.Kernel2Ideal.cfg0.N,
    fun c => (Cert.Kernel2Ideal.Gen.dats m 0 c).arrAt 22 Cert.Kernel2Ideal.cfg0.N,
    fun c => (Cert.Kernel2Ideal.Gen.dats m 0 c).arrAt 23 Cert.Kernel2Ideal.cfg0.N,
    fun c => (Cert.Kernel2Ideal.Gen.dats m 0 c).arrAt 24 Cert.Kernel2Ideal.cfg0.N,
    (θ_run Cert.Kernel2Ideal.defs _ _).mono (fun r h c => ?_) (Cert.Kernel2Ideal.Value.run_blocks (F := Ideal) m ρ), ?_⟩
  · obtain ⟨h11, -, h13, h14, -, h16, -, h18, h19, h20, h21, h22, h23, h24, h⟩ := h c
    exact ⟨h11, h13, h14, h16, h18, h19, h20, h21, h22, h23, h24, h⟩
  refine (θ_run Cert.Reference2Ideal.defs _ _).mono (fun _ h c => ?_) (Cert.Reference2Ideal.Value.run (F := Ideal) m' ρ')
  obtain ⟨h11, h13, h14, h16, h18, h19, h20, h21, h22, h23, h24, h⟩ := h c
  have e0 : m' ((c.tc : Thread nD τ).loc main_arg0) = m ((c.tc : Thread Cert.Kernel2Ideal.nD Cert.Kernel2Ideal.τ).loc Cert.Kernel2Ideal.main_arg0) := (hagree c).1
  have e1 : m' ((c.tc : Thread nD τ).loc main_arg1) = m ((c.tc : Thread Cert.Kernel2Ideal.nD Cert.Kernel2Ideal.τ).loc Cert.Kernel2Ideal.main_arg1) := (hagree c).2.1
  have e2 : m' ((c.tc : Thread nD τ).loc main_arg2) = m ((c.tc : Thread Cert.Kernel2Ideal.nD Cert.Kernel2Ideal.τ).loc Cert.Kernel2Ideal.main_arg2) := (hagree c).2.2.1
  have e3 : m' ((c.tc : Thread nD τ).loc main_arg3) = m ((c.tc : Thread Cert.Kernel2Ideal.nD Cert.Kernel2Ideal.τ).loc Cert.Kernel2Ideal.main_arg3) := (hagree c).2.2.2.1
  have e4 : m' ((c.tc : Thread nD τ).loc main_arg4) = m ((c.tc : Thread Cert.Kernel2Ideal.nD Cert.Kernel2Ideal.τ).loc Cert.Kernel2Ideal.main_arg4) := (hagree c).2.2.2.2.1
  have e5 : m' ((c.tc : Thread nD τ).loc main_arg5) = m ((c.tc : Thread Cert.Kernel2Ideal.nD Cert.Kernel2Ideal.τ).loc Cert.Kernel2Ideal.main_arg5) := (hagree c).2.2.2.2.2.1
  rw [e0, e1, e2, e3] at h11
  rw [e0, e1, e2, e3, e4, e5] at h13 h14 h16 h18 h19 h20 h21 h22 h23 h24
  have hx : (fun n k => sum (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (ix2 n k)) = mixAt m c :=
    funext fun n => funext fun k => sum_at _ _ _ _ n k
  obtain ⟨e13, e14, e16, e18, e19, e20, e21, e22, e23, e24⟩ := finals m c
  refine ⟨h11.trans ((sum_eq _ _ _ _).trans (final11 m c).symm),
    h13.trans ((columns_at (sum _ _ _ _) _ _ 128 512 (by omega) _).trans ?_),
    h14.trans ((columns_at (sum _ _ _ _) _ _ 128 640 (by omega) _).trans ?_),
    h16.trans ((columns_ones_at (sum _ _ _ _) _ _ 896 (by omega) _).trans ?_),
    h18.trans ((columns_ones_at (sum _ _ _ _) _ _ 1152 (by omega) _).trans ?_),
    h19.trans ((gates_at (sum _ _ _ _) _ _ _).trans ?_),
    h20.trans ((columns_at (sum _ _ _ _) _ _ 512 1408 (by omega) _).trans ?_),
    h21.trans ((columns_at (sum _ _ _ _) _ _ 256 1920 (by omega) _).trans ?_),
    h22.trans ((columns_at (sum _ _ _ _) _ _ 128 2176 (by omega) _).trans ?_),
    h23.trans ((columns_at (sum _ _ _ _) _ _ 128 2304 (by omega) _).trans ?_),
    h24.trans ((columns_at (sum _ _ _ _) _ _ 512 2432 (by omega) _).trans ?_), h⟩
  all_goals rw [hx]
  exacts [e13.symm, e14.symm, e16.symm, e18.symm, e19.symm, e20.symm, e21.symm, e22.symm, e23.symm, e24.symm]

end Cert.Fuse

end
-- ==== Proof.OutProj.lean ====
module

public import proofs.«01_k».proof.Proof.Gen.Kernel3.Frame
public import proofs.«01_k».proof.Proof.Gen.Kernel3Ideal.Value
public import proofs.«01_k».proof.Proof.Gen.Reference3Ideal.Run
public import Idealize.ShloMosaic.Lib.Pipeline.ValueKit
public import Idealize.ShloMosaic.Lib.Pointwise
public import Idealize.ShloMosaic.Lib.Quiescent

/-! The output projection: each block of rows is the residual plus two half products, the reference the residual plus one
product of the joined halves. -/

@[expose] public section

set_option maxRecDepth 16384

noncomputable section

namespace Cert.OutProj

open Idealize.ShloMosaic Idealize.ShloMosaic.TcCoe Idealize.SL.Sem
open Idealize.ShloMosaic.Pipeline (Dat)
open Cert.Kernel3Ideal Cert.Kernel3Ideal.Gen

/-- The residual plus the two halves' products, the first half's first. -/
def proj (x : Fin 1024 → EReal) (a b : Fin 512 → EReal) (w : S1024x1024.Idx → EReal) (l : Fin 1024) : EReal :=
  x l + (∑ k : Fin 512, a k * w (ix2 ⟨k.val, by omega⟩ l)) + ∑ k : Fin 512, b k * w (ix2 ⟨512 + k.val, by omega⟩ l)

/-- What the body leaves in its block. -/
theorem block (x0 : Vec Ideal S1024x1024 .f32) (x1 x2 : Vec Ideal S1024x512 .bf16) (x3 : Vec Ideal S1024x1024 .bf16) (r l : Fin 1024) :
    out0_4 x0 x1 x2 x3 (ix2 r l) = proj (fun l => x0 (ix2 r l)) (fun k => x1 (ix2 r k)) (fun k => x2 (ix2 r k)) x3 l := by
  have e0 : View.ld x0 r0_0 = x0 := View.ld_unit_zero (by funext a; fin_cases a <;> rfl) _ _
  have e1 : View.ld x1 r0_1 = x1 := View.ld_unit_zero (by funext a; fin_cases a <;> rfl) _ _
  have e2 : View.ld x2 r0_1 = x2 := View.ld_unit_zero (by funext a; fin_cases a <;> rfl) _ _
  unfold out0_4
  rw [View.canon_unit_zero (by funext a; fin_cases a <;> rfl), e0, e1, e2]
  pointwise [k0_pay1]
  rfl

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![t.val, 0] :=
  (by decide +kernel : ∀ t : Fin grid0.N, _)

theorem weights (c : Dev nD) (t : Fin cfg0.N) (k l : Fin 1024) :
    iblk m c 3 t (ix2 k l) = m ((c : Thread nD τ).loc main_arg3) (ix2 k l) := by
  have e : ((cfg0.win 3).blk t).view.emb (ix2 k l) = ix2 k l := by blk_ext [idx t]
  unfold iblk View.read
  rw [e]
  entry_read
  pointwise
  rfl

theorem rows (c : Dev nD) (t : Fin cfg0.N) (r l : Fin 1024) (hr : 1024 * t.val + r.val < 32768) :
    iblk m c 0 t (ix2 r l) = m ((c : Thread nD τ).loc main_arg0) (ix2 ⟨1024 * t.val + r.val, hr⟩ l) := by
  blk_ext [iblk, V_main_arg0, idx t]

theorem left (c : Dev nD) (t : Fin cfg0.N) (r : Fin 1024) (l : Fin 512) (hr : 1024 * t.val + r.val < 32768) :
    iblk m c 1 t (ix2 r l) = m ((c : Thread nD τ).loc main_arg1) (ix2 ⟨1024 * t.val + r.val, hr⟩ l) := by
  blk_ext [iblk, V_main_arg1, idx t]

theorem right (c : Dev nD) (t : Fin cfg0.N) (r : Fin 1024) (l : Fin 512) (hr : 1024 * t.val + r.val < 32768) :
    iblk m c 2 t (ix2 r l) = m ((c : Thread nD τ).loc main_arg2) (ix2 ⟨1024 * t.val + r.val, hr⟩ l) := by
  blk_ext [iblk, V_main_arg2, idx t]

/-- What the launch leaves in its result array. -/
def whole (c : Dev nD) : S32768x1024.Idx → EReal := fun j =>
  proj (fun l => m ((c : Thread nD τ).loc main_arg0) (ix2 (j 0) l)) (fun k => m ((c : Thread nD τ).loc main_arg1) (ix2 (j 0) k))
    (fun k => m ((c : Thread nD τ).loc main_arg2) (ix2 (j 0) k)) (m ((c : Thread nD τ).loc main_arg3)) (j 1)

theorem final (c : Dev nD) : (dats m 0 c).arrAt 4 cfg0.N = whole m c :=
  (dats m 0 c).arrAt_eq_of_covers 4 (whole m c) (by decide +kernel) fun t _ y => by
    blk_simp
    rw [after0_4]
    obtain ⟨r, l, rfl⟩ : ∃ r l : Fin 1024, y = ix2 r l := ⟨y 0, y 1, by funext a; match a with | ⟨0, _⟩ => rfl | ⟨1, _⟩ => rfl⟩
    have ht : t.val < 32 := lt_of_lt_of_eq t.isLt N_0
    have e : (win0_4.blk t).view.emb (ix2 r l) = ix2 ⟨1024 * t.val + r.val, by omega⟩ l := by blk_ext [idx t]
    rw [e]
    refine (block _ _ _ _ r l).trans ?_
    have h0 := fun l => rows m c t r l (by omega)
    have h1 := fun l => left m c t r l (by omega)
    have h2 := fun l => right m c t r l (by omega)
    have h3 : (iblk m c 3 t : S1024x1024.Idx → EReal) = m ((c : Thread nD τ).loc main_arg3) := by
      funext j
      obtain ⟨k, l, rfl⟩ : ∃ k l : Fin 1024, j = ix2 k l := ⟨j 0, j 1, by funext a; match a with | ⟨0, _⟩ => rfl | ⟨1, _⟩ => rfl⟩
      exact weights m c t k l
    unfold whole
    simp only [h0, h1, h2]
    rw [h3]
    rfl

end Cert.OutProj

end
-- ==== Proof.OutProjClaims.lean ====
module

public import proofs.«01_k».proof.Defs
public import proofs.«01_k».proof.Proof.OutProj

/-! The output projection's reference, and the claims about it. -/

@[expose] public section

set_option maxRecDepth 16384

noncomputable section

namespace Cert.OutProj

open Idealize.ShloMosaic Idealize.ShloMosaic.TcCoe Idealize.SL.Sem
open Cert.Reference3Ideal Cert.Reference3Ideal.Gen

theorem reference (x : FVec Ideal S32768x1024 .f32) (a b : FVec Ideal S32768x512 .bf16) (w : FVec Ideal S1024x1024 .f32) (n : Fin 32768) (l : Fin 1024) :
    addf x (Host.dotGeneral dot_S32768x1024_S1024x1024_S32768x1024_1_0_0_1_n_n none (concatenate S32768x1024 1 [⟨S32768x512, (extf .f32 a bitsLt_bf16_f32)⟩, ⟨S32768x512, (extf .f32 b bitsLt_bf16_f32)⟩] concatenates_S32768x512_S32768x512_S32768x1024_d1) w) (ix2 n l)
      = proj (fun l => x (ix2 n l)) (fun k => a (ix2 n k)) (fun k => b (ix2 n k)) w l := by
  pointwise
  exact (add_assoc _ _ _).symm

attribute [local instance] Cert.Kernel3.Gen.facts Cert.Kernel3Ideal.Gen.facts Cert.Reference3Ideal.Gen.facts

theorem frame_p : Cert.quiescent_Kernel3 := fun m ρ _ => Cert.Kernel3.Gen.frame m ρ

theorem frame_pi : Cert.quiescent_Kernel3Ideal := fun m ρ _ => Cert.Kernel3Ideal.Gen.frame m ρ

theorem frame_ri : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

theorem algebraic : Cert.algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun _ h c => ⟨(h c).1.trans ?_, (h c).2⟩)
    (Cert.Reference3Ideal.Value.run (F := Ideal) m' ρ')
  rw [final m c, (hagree c).1, (hagree c).2.1, (hagree c).2.2.1, (hagree c).2.2.2]
  funext j
  obtain ⟨n, l, rfl⟩ : ∃ (n : Fin 32768) (l : Fin 1024), j = ix2 n l := ⟨j 0, j 1, by funext a; match a with | ⟨0, _⟩ => rfl | ⟨1, _⟩ => rfl⟩
  exact reference _ _ _ _ n l

end Cert.OutProj

end
-- ==== Proof.ProjAb.lean ====
module

public import proofs.«01_k».proof.Proof.Gen.Kernel4Ideal.Value
public import proofs.«01_k».proof.Proof.RowNorm
public import Idealize.ShloMosaic.Lib.Pipeline.ValueKit
public import Idealize.ShloMosaic.Lib.Pointwise

/-! The first layer's norm and projection: what the call leaves in the arrays that are columns of the product. -/

@[expose] public section

set_option maxRecDepth 16384

noncomputable section

namespace Cert.ProjAb

open Idealize.ShloMosaic Idealize.ShloMosaic.TcCoe Idealize.SL.Sem
open Idealize.ShloMosaic.Pipeline (Dat)
open Cert.Kernel4Ideal Cert.Kernel4Ideal.Gen Cert.RowNorm

/-! ## One block -/

section block

variable (x0 : Vec Ideal S1024x1024 .f32) (x1 : Vec Ideal S1x1024 .f32) (x2 : Vec Ideal S1024x2944 .bf16) (x3 x4 x5 : Vec Ideal S1024x128 .f32)
  (x6 : Vec Ideal S256x128 .bf16) (x7 : Vec Ideal S8x128 .f32) (r : Fin 1024)

/-- The block's rows, normed. -/
theorem rows_normed (k : Fin 1024) : k0_pay75 x0 x1 x2 x3 x4 x5 x6 x7 (ix2 r k) = normed (fun k => x0 (ix2 r k)) (fun k => x1 (ix2 0 k)) k := by
  have e0 : View.ld x0 r0_0 = x0 := View.ld_unit_zero (by funext a; fin_cases a <;> rfl) _ _
  have e1 : View.ld x1 r0_1 = x1 := View.ld_unit_zero (by funext a; fin_cases a <;> rfl) _ _
  unfold k0_pay75
  rw [e0, e1]
  pointwise [k0_pay4]
  rfl

/-- Column `l` of the product of the block's normed rows. -/
def bcol (l : Fin 2944) : EReal := col (fun k => x0 (ix2 r k)) (fun k => x1 (ix2 0 k)) (fun k => x2 (ix2 k l))

/-- What the body leaves in the windows that hold columns of the product. -/
theorem blocks :
    (∀ l : Fin 256, out0_10 x0 x1 x2 x3 x4 x5 x6 x7 (ix2 r l) = ones (fun l => bcol x0 x1 x2 r ⟨640 + l.val, by omega⟩) l)
    ∧ (∀ l : Fin 128, out0_13 x0 x1 x2 x3 x4 x5 x6 x7 (ix2 r l) = bcol x0 x1 x2 r ⟨1024 + l.val, by omega⟩)
    ∧ (∀ l : Fin 512, out0_14 x0 x1 x2 x3 x4 x5 x6 x7 (ix2 r l) = bcol x0 x1 x2 r ⟨1152 + l.val, by omega⟩)
    ∧ (∀ l : Fin 256, out0_17 x0 x1 x2 x3 x4 x5 x6 x7 (ix2 r l) = ones (fun l => bcol x0 x1 x2 r ⟨2304 + l.val, by omega⟩) l)
    ∧ ∀ l : Fin 512, out0_18 x0 x1 x2 x3 x4 x5 x6 x7 (ix2 r l) = bcol x0 x1 x2 r ⟨2432 + l.val, by omega⟩ := by
  refine ⟨?_, ?_, ?_, ?_, ?_⟩
  all_goals
    intro l
    simp only [out0_10, out0_13, out0_14, out0_17, out0_18]
    rw [View.canon_unit_zero (by funext a; fin_cases a <;> rfl)]
    pointwise [k0_pay36, k0_pay44, k0_pay47, k0_pay2, k0_pay3]
    simp only [rows_normed]
    rfl

end block

/-! ## The arrays -/

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_10.index t = ![t.val, 0]
    ∧ win0_13.index t = ![t.val, 0]
    ∧ win0_14.index t = ![t.val, 0]
    ∧ win0_17.index t = ![t.val, 0]
    ∧ win0_18.index t = ![t.val, 0] :=
  (by decide +kernel : ∀ t : Fin grid0.N, _)

theorem gain (c : Dev nD) (t : Fin cfg0.N) (k : Fin 1024) :
    iblk m c 1 t (ix2 0 k) = m ((c : Thread nD τ).loc main_arg1) (ix1 k) := by
  have e : ((cfg0.win 1).blk t).view.emb (ix2 0 k) = ix2 0 k := by blk_ext [idx t]
  unfold iblk View.read
  rw [e]
  show V m c main_v23 (ix2 0 k) = _
  have h : V m c main_v23 = broadcastInDim S1x1024 ![1] bcast_S1024_S1x1024_1
      (m ((c : Thread nD τ).loc main_arg1)) := rfl
  rw [h]
  pointwise

theorem weights (c : Dev nD) (t : Fin cfg0.N) (k : Fin 1024) (l : Fin 2944) :
    iblk m c 2 t (ix2 k l) = m ((c : Thread nD τ).loc main_arg2) (ix2 k l) := by
  have e : ((cfg0.win 2).blk t).view.emb (ix2 k l) = ix2 k l := by blk_ext [idx t]
  unfold iblk View.read
  rw [e]
  entry_read
  pointwise
  rfl

theorem rows (c : Dev nD) (t : Fin cfg0.N) (r k : Fin 1024) (hr : 1024 * t.val + r.val < 32768) :
    iblk m c 0 t (ix2 r k) = m ((c : Thread nD τ).loc main_arg0) (ix2 ⟨1024 * t.val + r.val, hr⟩ k) := by
  blk_ext [iblk, V_main_arg0, idx t]

/-- The product of the normed rows with the weights. -/
def whole (x : S32768x1024.Idx → EReal) (g : S1024.Idx → EReal) (w : S1024x2944.Idx → EReal) (n : Fin 32768) (l : Fin 2944) : EReal :=
  col (fun k => x (ix2 n k)) (fun k => g (ix1 k)) (fun k => w (ix2 k l))

/-- The same at the launch's arguments. -/
abbrev wholeAt (c : Dev nD) : Fin 32768 → Fin 2944 → EReal :=
  whole (m ((c : Thread nD τ).loc main_arg0)) (m ((c : Thread nD τ).loc main_arg1)) (m ((c : Thread nD τ).loc main_arg2))

theorem bcol_eq (c : Dev nD) (t : Fin cfg0.N) (r : Fin 1024) (hr : 1024 * t.val + r.val < 32768) (l : Fin 2944) :
    bcol (iblk m c 0 t) (iblk m c 1 t) (iblk m c 2 t) r l = wholeAt m c ⟨1024 * t.val + r.val, hr⟩ l := by
  have h0 : (fun k => iblk m c 0 t (ix2 r k)) = fun k => m ((c : Thread nD τ).loc main_arg0) (ix2 ⟨1024 * t.val + r.val, hr⟩ k) := funext fun k => rows m c t r k hr
  have h1 : (fun k => iblk m c 1 t (ix2 0 k)) = fun k => m ((c : Thread nD τ).loc main_arg1) (ix1 k) := funext fun k => gain m c t k
  have h2 : (fun k => iblk m c 2 t (ix2 k l)) = fun k => m ((c : Thread nD τ).loc main_arg2) (ix2 k l) := funext fun k => weights m c t k l
  have e := congrArg₂ (fun a b => col a b (fun k => iblk m c 2 t (ix2 k l))) h0 h1
  exact e.trans (congrArg (col _ _) h2)

set_option maxHeartbeats 2000000 in
/-- What the call leaves in those windows' arrays. -/
theorem finals (c : Dev nD) :
    (dats m 0 c).arrAt 10 cfg0.N = cutOnes 32768 640 (by omega) (wholeAt m c)
    ∧ (dats m 0 c).arrAt 13 cfg0.N = cut 32768 128 1024 (by omega) (wholeAt m c)
    ∧ (dats m 0 c).arrAt 14 cfg0.N = cut 32768 512 1152 (by omega) (wholeAt m c)
    ∧ (dats m 0 c).arrAt 17 cfg0.N = cutOnes 32768 2304 (by omega) (wholeAt m c)
    ∧ (dats m 0 c).arrAt 18 cfg0.N = cut 32768 512 2432 (by omega) (wholeAt m c) := by
  refine ⟨(dats m 0 c).arrAt_eq_of_covers 10 _ (by decide +kernel) ?_, (dats m 0 c).arrAt_eq_of_covers 13 _ (by decide +kernel) ?_,
    (dats m 0 c).arrAt_eq_of_covers 14 _ (by decide +kernel) ?_, (dats m 0 c).arrAt_eq_of_covers 17 _ (by decide +kernel) ?_,
    (dats m 0 c).arrAt_eq_of_covers 18 _ (by decide +kernel) ?_⟩
  all_goals
    intro t _ y
    have ht : t.val < 32 := lt_of_lt_of_eq t.isLt N_0
    have hb := fun r => blocks (iblk m c 0 t) (iblk m c 1 t) (iblk m c 2 t) (iblk m c 3 t) (iblk m c 4 t) (iblk m c 5 t) (iblk m c 6 t) (iblk m c 7 t) r
    have hc := fun (r : Fin 1024) l => bcol_eq m c t r (by omega) l
    blk_simp
    simp only [after0_10, after0_13, after0_14, after0_17, after0_18]
    obtain ⟨r, l, rfl⟩ : ∃ r l, y = ix2 r l := ⟨y 0, y 1, by funext a; match a with | ⟨0, _⟩ => rfl | ⟨1, _⟩ => rfl⟩
    rw [show View.emb _ (ix2 r l) = ix2 ⟨1024 * t.val + r.val, by omega⟩ l by blk_ext [idx t]]
    simp only [hb, hc]
    rfl

end Cert.ProjAb

end
-- ==== Proof.ProjRope.lean ====
module

public import proofs.«01_k».proof.Proof.ProjAb

/-! The first layer's norm and projection: what the call leaves in the array of the rotated index queries. -/

@[expose] public section

set_option maxRecDepth 16384

noncomputable section

namespace Cert.ProjAb

open Idealize.ShloMosaic Idealize.ShloMosaic.TcCoe Idealize.SL.Sem
open Idealize.ShloMosaic.Pipeline (Dat)
open Cert.Kernel4Ideal Cert.Kernel4Ideal.Gen Cert.RowNorm

/-! ## One block -/

/-- Lane `l` of head `h`: 64 lanes of the turned pair of heads, then zeros. -/
def head (y : Fin 2944 → EReal) (C A B : Fin 128 → EReal) (h : Fin 4) (l : Fin 128) : EReal :=
  if l.val < 64 then turned (fun l => y ⟨768 + 128 * (h.val / 2) + l.val, by omega⟩) C A B ⟨(64 * (h.val % 2) + l.val) % 128, by omega⟩ else 0

theorem turned_low (a : FVec Ideal S1024x1024 .bf16) (C A B : FVec Ideal S1024x128 .f32) (w : Vec Ideal S1024x256 .bf16) (r : Fin 1024) (l : Fin 128) :
    k0_pay38 a C A B w (ix2 r l)
      = turned (fun l => ∑ k : Fin 1024, a (ix2 r k) * w (ix2 k ⟨l.val, by omega⟩)) (fun l => C (ix2 r l)) (fun l => A (ix2 r l)) (fun l => B (ix2 r l)) l := by
  pointwise [k0_pay38, k0_pay37]
  rfl

theorem mask (r : Fin 1024) (l : Fin 128) : k0_pay9 (ix2 r l) = if l.val < 64 then 1#1 else 0#1 := by
  pointwise [k0_pay9]
  revert l
  decide

theorem turned_high (C A B : FVec Ideal S1024x128 .f32) (p : FVec Ideal S1024x256 .f32) (r : Fin 1024) (l : Fin 128) :
    k0_pay41 C A B p (ix2 r l)
      = turned (fun l => p (ix2 r ⟨128 + l.val, by omega⟩)) (fun l => C (ix2 r l)) (fun l => A (ix2 r l)) (fun l => B (ix2 r l)) l := by
  pointwise [k0_pay41]
  rfl

/-- One piece's lane is the head's. -/
theorem head_of (y : Fin 2944 → EReal) (C A B z : Fin 128 → EReal) (h : Fin 4) (q q' : Fin 128)
    (hz : ∀ l : Fin 128, z l = y ⟨768 + 128 * (h.val / 2) + l.val, by omega⟩) (hq : q.val < 64 → q'.val = (64 * (h.val % 2) + q.val) % 128) :
    Scalar.select (if q.val < 64 then 1#1 else 0#1) (turned z C A B q') (0 : EReal) = head y C A B h q := by
  unfold head
  by_cases hl : q.val < 64
  · have e : q' = ⟨(64 * (h.val % 2) + q.val) % 128, by omega⟩ := Fin.ext (hq hl)
    rw [if_pos hl, if_pos hl, e, funext hz]
    rfl
  · rw [if_neg hl, if_neg hl]
    rfl

theorem pieces (n : Fin 1024) (q : Fin 128) : r0_19.emb (ix3 0 n q) = ix3 0 n q ∧ r0_20.emb (ix3 0 n q) = ix3 1 n q
    ∧ r0_21.emb (ix3 0 n q) = ix3 2 n q ∧ r0_22.emb (ix3 0 n q) = ix3 3 n q := by
  refine ⟨?_, ?_, ?_, ?_⟩
  all_goals
    funext a
    apply Fin.ext
    rw [Rect.emb_apply]
    match a with
    | ⟨0, _⟩ => rfl
    | ⟨1, _⟩ => exact (Nat.zero_add _).trans (Nat.one_mul _)
    | ⟨2, _⟩ => exact (Nat.zero_add _).trans (Nat.one_mul _)

section block

variable (x0 : Vec Ideal S1024x1024 .f32) (x1 : Vec Ideal S1x1024 .f32) (x2 : Vec Ideal S1024x2944 .bf16) (x3 x4 x5 : Vec Ideal S1024x128 .f32)
  (x6 : Vec Ideal S256x128 .bf16) (x7 : Vec Ideal S8x128 .f32)

/-- What the body leaves in the index queries' window. -/
theorem block11 (h : Fin 4) (r : Fin 1024) (l : Fin 128) : out0_11 x0 x1 x2 x3 x4 x5 x6 x7 (ix3 h r l)
    = head (bcol x0 x1 x2 r) (fun l => x3 (ix2 r l)) (fun l => x4 (ix2 r l)) (fun l => x5 (ix2 r l)) h l := by
  have e3 : k0_pay76 x0 x1 x2 x3 x4 x5 x6 x7 = x3 := by
    unfold k0_pay76 k0_pay5; rw [shapeCast_id]; exact View.ld_unit_zero (by funext a; fin_cases a <;> rfl) _ _
  have e4 : k0_pay77 x0 x1 x2 x3 x4 x5 x6 x7 = x4 := by
    unfold k0_pay77 k0_pay6; rw [shapeCast_id]; exact View.ld_unit_zero (by funext a; fin_cases a <;> rfl) _ _
  have e5 : k0_pay78 x0 x1 x2 x3 x4 x5 x6 x7 = x5 := by
    unfold k0_pay78 k0_pay7; rw [shapeCast_id]; exact View.ld_unit_zero (by funext a; fin_cases a <;> rfl) _ _
  have em : k0_pay80 x0 x1 x2 x3 x4 x5 x6 x7 = k0_pay9 := rfl
  have ep (n : Fin 1024) (q : Fin 256) : k0_pay93 x0 x1 x2 x3 x4 x5 x6 x7 (ix2 n q) = bcol x0 x1 x2 n ⟨768 + q.val, by omega⟩ := by
    unfold k0_pay93
    pointwise [k0_pay37]
    simp only [rows_normed]
    rfl
  have ew (n : Fin 1024) (q : Fin 2944) : (∑ k : Fin 1024, k0_pay75 x0 x1 x2 x3 x4 x5 x6 x7 (ix2 n k) * x2 (ix2 k q)) = bcol x0 x1 x2 n q := by
    simp only [rows_normed]
    rfl
  unfold out0_11
  rw [e3, e4, e5, em]
  refine (View.canon_apply_of_pieces (fun j => head (bcol x0 x1 x2 (j 1)) (fun l => x3 (ix2 (j 1) l)) (fun l => x4 (ix2 (j 1) l)) (fun l => x5 (ix2 (j 1) l)) (j 0) (j 2))
    _ ?_ _ (cover0_11 _ _ _ _ _)).trans rfl
  intro p hp y
  simp only [List.mem_cons, List.not_mem_nil, or_false] at hp
  rcases hp with rfl | rfl | rfl | rfl
  all_goals
    obtain ⟨o, n, q, rfl⟩ : ∃ (o : Fin 1) (n : Fin 1024) (q : Fin 128), y = ix3 o n q := ⟨y 0, y 1, y 2, by funext a; match a with | ⟨0, _⟩ => rfl | ⟨1, _⟩ => rfl | ⟨2, _⟩ => rfl⟩
    obtain rfl := Subsingleton.elim o 0
    pointwise [k0_pay39, k0_pay40, k0_pay42, k0_pay43, turned_low, turned_high, mask, ep]
    simp only [pieces]
    refine head_of _ _ _ _ _ _ _ _ (fun l => ?_) (fun hl => ?_)
    · first
        | refine congrArg (bcol x0 x1 x2 n) (Fin.ext ?_)
        | refine (ew n ⟨768 + l.val, by omega⟩).trans (congrArg (bcol x0 x1 x2 n) (Fin.ext ?_))
      all_goals
        simp
      all_goals
        omega
    · simp
      omega

end block

/-! ## The rotation -/

/-- Lane `l` of head `h`: the two halves of the head's 64 lanes rotated by one row of the tables, then zeros. -/
def rotated (y : Fin 2944 → EReal) (cs sn : Fin 32 → EReal) (h : Fin 4) (l : Fin 128) : EReal :=
  if h1 : l.val < 32 then
    y ⟨768 + (h.val * 64 + l.val), by omega⟩ * cs ⟨l.val, h1⟩ - y ⟨768 + (h.val * 64 + (32 + l.val)), by omega⟩ * sn ⟨l.val, h1⟩
  else if h2 : l.val < 64 then
    y ⟨768 + (h.val * 64 + (32 + (l.val - 32))), by omega⟩ * cs ⟨l.val - 32, by omega⟩
      + y ⟨768 + (h.val * 64 + (l.val - 32)), by omega⟩ * sn ⟨l.val - 32, by omega⟩
  else 0

theorem head_rotated (y : Fin 2944 → EReal) (cs sn : Fin 32 → EReal) (h : Fin 4) (l : Fin 128) :
    head y (fun l => cs ⟨l.val % 32, by omega⟩) (fun l => if l.val % 64 < 32 then 0 else sn ⟨l.val % 32, by omega⟩)
      (fun l => if l.val % 64 < 32 then -sn ⟨l.val % 32, by omega⟩ else 0) h l = rotated y cs sn h l := by
  unfold head rotated turned
  by_cases h1 : l.val < 32
  · have c1 : (64 * (h.val % 2) + l.val) % 128 % 64 < 32 := by omega
    rw [dif_pos h1, if_pos (by omega)]
    simp only [if_pos c1]
    rw [mul_zero, add_zero, mul_neg, ← sub_eq_add_neg]
    congr 3 <;> exact Fin.ext (by simp only []; omega)
  · rw [dif_neg h1]
    by_cases h2 : l.val < 64
    · have c1 : ¬ (64 * (h.val % 2) + l.val) % 128 % 64 < 32 := by omega
      rw [dif_pos h2, if_pos h2]
      simp only [if_neg c1]
      rw [mul_zero, add_zero]
      congr 3 <;> exact Fin.ext (by simp only []; omega)
    · rw [dif_neg h2, if_neg h2]

/-! ## The tables -/

variable (m : (ℓ : Loc nD τ sig) → Buf (Elt Ideal) ℓ)

theorem tab_idx : ∀ t : Fin cfg0.N, win0_3.index t = ![t.val % 8, 0] ∧ win0_4.index t = ![t.val % 8, 0] ∧ win0_5.index t = ![t.val % 8, 0]
    ∧ win0_11.index t = ![0, t.val, 0] :=
  (by decide +kernel : ∀ t : Fin grid0.N, _)

/-- The row of the tables that row `n` of the array reads. -/
def pos (n : Nat) : Fin 8192 := ⟨n % 8192, by omega⟩

/-- Two tables side by side, the pair repeated to fill the lanes. -/
def tiled (a b : FVec Ideal S8192x32 .f32) : FVec Ideal S8192x128 .f32 :=
  shapeCast S8192x128 (broadcastInDim S1x8192x2x64 ![0, 1, 2, 3] bcast_S1x8192x1x64_S1x8192x2x64_0_1_2_3
    (shapeCast S1x8192x1x64 (concatenate S8192x64 1 [⟨S8192x32, a⟩, ⟨S8192x32, b⟩] concatenates_S8192x32_S8192x32_S8192x64_d1)
      shapeCasts_S8192x64_S1x8192x1x64)) shapeCasts_S1x8192x2x64_S8192x128

theorem tiled_at (a b : FVec Ideal S8192x32 .f32) (n : Fin 8192) (l : Fin 128) :
    tiled a b (ix2 n l) = if l.val % 64 < 32 then a (ix2 n ⟨l.val % 32, by omega⟩) else b (ix2 n ⟨l.val % 32, by omega⟩) := by
  unfold tiled
  pointwise
  split
  · exact congrArg (fun k => a (ix2 n k)) (Fin.ext (by simp only []; omega))
  · exact congrArg (fun k => b (ix2 n k)) (Fin.ext (by simp only []; omega))

theorem tables (c : Dev nD) : V m c main_v13 = tiled (m ((c : Thread nD τ).loc main_arg3)) (m ((c : Thread nD τ).loc main_arg3))
    ∧ V m c main_v17 = tiled (broadcastInDim S8192x32 ![] bcast_S_S8192x32 (constant S_ .f32 0x00000000#32)) (m ((c : Thread nD τ).loc main_arg4))
    ∧ V m c main_v22 = tiled (Host.negf (m ((c : Thread nD τ).loc main_arg4))) (broadcastInDim S8192x32 ![] bcast_S_S8192x32 (constant S_ .f32 0x00000000#32)) :=
  ⟨rfl, rfl, rfl⟩

/-- The tables' rows in one block. -/
theorem blk_tables (c : Dev nD) (t : Fin cfg0.N) (r : Fin 1024) :
    (∀ l : Fin 128, iblk m c 3 t (ix2 r l) = V m c main_v13 (ix2 (pos (1024 * t.val + r.val)) l))
    ∧ (∀ l : Fin 128, iblk m c 4 t (ix2 r l) = V m c main_v17 (ix2 (pos (1024 * t.val + r.val)) l))
    ∧ ∀ l : Fin 128, iblk m c 5 t (ix2 r l) = V m c main_v22 (ix2 (pos (1024 * t.val + r.val)) l) := by
  have ht : t.val < 32 := lt_of_lt_of_eq t.isLt N_0
  refine ⟨fun l => ?_, fun l => ?_, fun l => ?_⟩
  all_goals
    unfold iblk View.read
    rw [show View.emb _ (ix2 r l) = ix2 (pos (1024 * t.val + r.val)) l by unfold pos; blk_ext [tab_idx t]]
    rfl

/-- The array of the rotated index queries. -/
def turnedAll (f : Fin 32768 → Fin 2944 → EReal) (cs sn : S8192x32.Idx → EReal) : S4x32768x128.Idx → EReal := fun j =>
  rotated (f (j 1)) (fun k => cs (ix2 (pos (j 1).val) k)) (fun k => sn (ix2 (pos (j 1).val) k)) (j 0) (j 2)

theorem final11 (c : Dev nD) :
    (dats m 0 c).arrAt 11 cfg0.N = turnedAll (wholeAt m c) (m ((c : Thread nD τ).loc main_arg3)) (m ((c : Thread nD τ).loc main_arg4)) := by
  refine (dats m 0 c).arrAt_eq_of_covers 11 _ (by decide +kernel) ?_
  intro t _ y
  have ht : t.val < 32 := lt_of_lt_of_eq t.isLt N_0
  have hc := fun (r : Fin 1024) => funext fun l => bcol_eq m c t r (by omega) l
  obtain ⟨t13, t17, t22⟩ := tables m c
  blk_simp
  simp only [after0_11]
  obtain ⟨h, r, l, rfl⟩ : ∃ (h : Fin 4) (r : Fin 1024) (l : Fin 128), y = ix3 h r l := ⟨y 0, y 1, y 2, by funext a; match a with | ⟨0, _⟩ => rfl | ⟨1, _⟩ => rfl | ⟨2, _⟩ => rfl⟩
  rw [show View.emb _ (ix3 h r l) = ix3 h ⟨1024 * t.val + r.val, by omega⟩ l by blk_ext [tab_idx t], block11, hc r]
  obtain ⟨b3, b4, b5⟩ := blk_tables m c t r
  refine Eq.trans ?_ (head_rotated (wholeAt m c ⟨1024 * t.val + r.val, by omega⟩) (fun k => m ((c : Thread nD τ).loc main_arg3) (ix2 (pos (1024 * t.val + r.val)) k))
    (fun k => m ((c : Thread nD τ).loc main_arg4) (ix2 (pos (1024 * t.val + r.val)) k)) h l)
  congr 1
  · funext l
    rw [b3, t13, tiled_at]
    exact ite_self _
  · funext l
    rw [b4, t17, tiled_at]
    pointwise
  · funext l
    rw [b5, t22, tiled_at]
    pointwise

end Cert.ProjAb

end
-- ==== Proof.ProjAbClaims.lean ====
module

public import proofs.«01_k».proof.Defs
public import proofs.«01_k».proof.Proof.Gen.Kernel4.Frame
public import proofs.«01_k».proof.Proof.Gen.Reference4Ideal.Run
public import proofs.«01_k».proof.Proof.ProjRope

/-! The first layer's norm and projection: the reference's arrays, and the claims about the call. -/

@[expose] public section

set_option maxRecDepth 16384

noncomputable section

namespace Cert.ProjAb

open Idealize.ShloMosaic Idealize.ShloMosaic.TcCoe Idealize.SL.Sem
open Cert.Reference4Ideal Cert.Reference4Ideal.Gen Cert.RowNorm

section reference

variable (x : FVec Ideal S32768x1024 .f32) (g : FVec Ideal S1024 .f32) (w : FVec Ideal S1024x2944 .f32)

/-- The reference's product. -/
def product : FVec Ideal S32768x2944 .f32 :=
  Host.dotGeneral dot_S32768x1024_S1024x2944_S32768x2944_1_0_0_1_n_n none (mulf (mulf x (broadcastInDim S32768x1024 ![0, 1] bcast_S32768x1_S32768x1024_0_1 (Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g))) w

theorem product_at (n : Fin 32768) (l : Fin 2944) : product x g w (ix2 n l) = whole x g w n l := by
  unfold product
  pointwise
  rfl

/-- Columns `off …` of the product. -/
theorem columns_at (W off : Nat) (hW : off + W ≤ 2944) (h : S32768x2944.Slices ![0, off] (⟨2, ![32768, W]⟩ : Shape)) :
    (extractStridedSlice (⟨2, ![32768, W]⟩ : Shape) ![0, off] (product x g w) h : (⟨2, ![32768, W]⟩ : Shape).Idx → EReal) = cut 32768 W off hW (whole x g w) := by
  funext j
  obtain ⟨n, l, rfl⟩ : ∃ (n : Fin 32768) (l : Fin W), j = ix2 n l := ⟨j 0, j 1, by funext a; match a with | ⟨0, _⟩ => rfl | ⟨1, _⟩ => rfl⟩
  refine Eq.trans ?_ (product_at x g w n ⟨off + l.val, by omega⟩)
  pointwise

/-- 128 columns and the ones after them. -/
theorem columns_ones_at (off : Nat) (hW : off + 128 ≤ 2944) (h : S32768x2944.Slices ![0, off] S32768x128) :
    (truncf .bf16 (concatenate S32768x256 1 [⟨S32768x128, extractStridedSlice S32768x128 ![0, off] (product x g w) h⟩, ⟨S32768x128, (broadcastInDim S32768x128 ![] bcast_S_S32768x128 (constant S_ .f32 0x3F800000#32))⟩] concatenates_S32768x128_S32768x128_S32768x256_d1) bitsLt_bf16_f32 : S32768x256.Idx → EReal)
      = cutOnes 32768 off hW (whole x g w) := by
  rw [show extractStridedSlice S32768x128 ![0, off] (product x g w) h = cut 32768 128 off hW (whole x g w) from columns_at x g w 128 off hW h]
  generalize whole x g w = f
  funext j
  obtain ⟨n, l, rfl⟩ : ∃ (n : Fin 32768) (l : Fin 256), j = ix2 n l := ⟨j 0, j 1, by funext a; match a with | ⟨0, _⟩ => rfl | ⟨1, _⟩ => rfl⟩
  pointwise
  rfl

/-- The first or the second half of each head's 64 lanes of the index queries. -/
def half (off : Nat) (h : S4x8192x4x64.Slices ![0, 0, 0, off] S4x8192x4x32) (p : FVec Ideal S32768x2944 .f32) : FVec Ideal S4x8192x4x32 .f32 :=
  extractStridedSlice S4x8192x4x32 ![0, 0, 0, off] (shapeCast S4x8192x4x64 (extractStridedSlice S32768x256 ![0, 768] p slices_S32768x2944_S32768x256_0_768) shapeCasts_S32768x256_S4x8192x4x64) h

/-- A table, repeated over the sequences and the heads. -/
def repeated (a : FVec Ideal S8192x32 .f32) : FVec Ideal S4x8192x4x32 .f32 :=
  broadcastInDim S4x8192x4x32 ![0, 1, 2, 3] bcast_S1x8192x1x32_S4x8192x4x32_0_1_2_3 (broadcastInDim S1x8192x1x32 ![1, 2, 3] bcast_S8192x1x32_S1x8192x1x32_1_2_3 (broadcastInDim S8192x1x32 ![0, 2] bcast_S8192x32_S8192x1x32_0_2 a))

/-- The reference's rotation. -/
def queries (p : FVec Ideal S32768x2944 .f32) (cs sn : FVec Ideal S8192x32 .f32) : FVec Ideal S4x32768x128 .bf16 :=
  truncf .bf16 (concatenate S4x32768x128 2 [⟨S4x32768x64, (transpose S4x32768x64 [1, 0, 2] (shapeCast S32768x4x64 (concatenate S4x8192x4x64 3
      [⟨S4x8192x4x32, (subf (mulf (half 0 slices_S4x8192x4x64_S4x8192x4x32_0_0_0_0 p) (repeated cs)) (mulf (half 32 slices_S4x8192x4x64_S4x8192x4x32_0_0_0_32 p) (repeated sn)))⟩,
        ⟨S4x8192x4x32, (addf (mulf (half 32 slices_S4x8192x4x64_S4x8192x4x32_0_0_0_32 p) (repeated cs)) (mulf (half 0 slices_S4x8192x4x64_S4x8192x4x32_0_0_0_0 p) (repeated sn)))⟩]
      concatenates_S4x8192x4x32_S4x8192x4x32_S4x8192x4x64_d3) shapeCasts_S4x8192x4x64_S32768x4x64) transposes_S32768x4x64_S4x32768x64_1_0_2)⟩,
    ⟨S4x32768x64, (broadcastInDim S4x32768x64 ![] bcast_S_S4x32768x64 (constant S_ .f32 0x00000000#32))⟩] concatenates_S4x32768x64_S4x32768x64_S4x32768x128_d2) bitsLt_bf16_f32

set_option maxHeartbeats 2000000 in
theorem queries_at (cs sn : FVec Ideal S8192x32 .f32) :
    (queries (product x g w) cs sn : S4x32768x128.Idx → EReal) = turnedAll (whole x g w) cs sn := by
  have hp := product_at x g w
  generalize product x g w = p at hp
  generalize whole x g w = f at hp
  funext j
  obtain ⟨h, n, l, rfl⟩ : ∃ (h : Fin 4) (n : Fin 32768) (l : Fin 128), j = ix3 h n l := ⟨j 0, j 1, j 2, by funext a; match a with | ⟨0, _⟩ => rfl | ⟨1, _⟩ => rfl | ⟨2, _⟩ => rfl⟩
  unfold queries
  pointwise [half, repeated]
  simp only [hp]
  show _ = rotated (f n) (fun k => cs (ix2 (pos n.val) k)) (fun k => sn (ix2 (pos n.val) k)) h l
  unfold rotated pos
  by_cases h1 : l.val < 32
  · have h2 : l.val < 64 := by omega
    simp only [h1, h2, dite_true]
  · by_cases h2 : l.val < 64
    · simp only [h1, h2, dite_true, dite_false]
    · simp only [h1, h2, dite_false]

end reference

attribute [local instance] Cert.Kernel4.Gen.facts Cert.Kernel4Ideal.Gen.facts Cert.Reference4Ideal.Gen.facts

theorem frame_p : Cert.quiescent_Kernel4 := fun m ρ _ => Cert.Kernel4.Gen.frame m ρ

theorem frame_pi : Cert.quiescent_Kernel4Ideal := fun m ρ _ => Cert.Kernel4Ideal.Gen.frame m ρ

theorem frame_ri : Cert.quiescent_Reference4Ideal := fun m ρ _ =>
  (θ_run Cert.Reference4Ideal.defs _ _).mono (fun r h => ⟨fun c => (h c).2.2.2.2.2.2,
      Idealize.ShloMosaic.sem_eq_zero_of_no_sems (by decide) r.2⟩)
    (Cert.Reference4Ideal.Value.run (F := Ideal) m ρ)

theorem queries_eq (m : (ℓ : Loc nD τ sig) → Buf (Elt Ideal) ℓ) (c : Dev nD) : Cert.Reference4Ideal.Value.res_main_v44 m c
    = queries (product (m ((c.tc : Thread nD τ).loc main_arg0)) (m ((c.tc : Thread nD τ).loc main_arg1)) (m ((c.tc : Thread nD τ).loc main_arg2)))
      (m ((c.tc : Thread nD τ).loc main_arg3)) (m ((c.tc : Thread nD τ).loc main_arg4)) := rfl

set_option maxHeartbeats 2000000 in
theorem algebraic : Cert.algebraic_Kernel4Ideal_Reference4Ideal := by
  intro m ρ m' ρ' _ hagree
  refine ⟨fun c => (Cert.Kernel4Ideal.Gen.dats m 0 c).arrAt 10 Cert.Kernel4Ideal.cfg0.N, fun c => (Cert.Kernel4Ideal.Gen.dats m 0 c).arrAt 11 Cert.Kernel4Ideal.cfg0.N, fun c => (Cert.Kernel4Ideal.Gen.dats m 0 c).arrAt 13 Cert.Kernel4Ideal.cfg0.N, fun c => (Cert.Kernel4Ideal.Gen.dats m 0 c).arrAt 14 Cert.Kernel4Ideal.cfg0.N, fun c => (Cert.Kernel4Ideal.Gen.dats m 0 c).arrAt 17 Cert.Kernel4Ideal.cfg0.N, fun c => (Cert.Kernel4Ideal.Gen.dats m 0 c).arrAt 18 Cert.Kernel4Ideal.cfg0.N,
    (θ_run Cert.Kernel4Ideal.defs _ _).mono (fun r h c => ?_) (Cert.Kernel4Ideal.Value.run_blocks (F := Ideal) m ρ), ?_⟩
  · obtain ⟨-, -, h10, h11, -, h13, h14, -, -, h17, h18, h⟩ := h c
    exact ⟨h10, h11, h13, h14, h17, h18, h⟩
  refine (θ_run Cert.Reference4Ideal.defs _ _).mono (fun _ h c => ?_) (Cert.Reference4Ideal.Value.run (F := Ideal) m' ρ')
  obtain ⟨h10, h11, h13, h14, h17, h18, h⟩ := h c
  have ha : m' ((c.tc : Thread nD τ).loc main_arg0) = m ((c.tc : Thread Cert.Kernel4Ideal.nD Cert.Kernel4Ideal.τ).loc Cert.Kernel4Ideal.main_arg0) := (hagree c).1
  have hg : m' ((c.tc : Thread nD τ).loc main_arg1) = m ((c.tc : Thread Cert.Kernel4Ideal.nD Cert.Kernel4Ideal.τ).loc Cert.Kernel4Ideal.main_arg1) := (hagree c).2.1
  have hw : m' ((c.tc : Thread nD τ).loc main_arg2) = m ((c.tc : Thread Cert.Kernel4Ideal.nD Cert.Kernel4Ideal.τ).loc Cert.Kernel4Ideal.main_arg2) := (hagree c).2.2.1
  have hs : m' ((c.tc : Thread nD τ).loc main_arg3) = m ((c.tc : Thread Cert.Kernel4Ideal.nD Cert.Kernel4Ideal.τ).loc Cert.Kernel4Ideal.main_arg3) := (hagree c).2.2.2.1
  have hn : m' ((c.tc : Thread nD τ).loc main_arg4) = m ((c.tc : Thread Cert.Kernel4Ideal.nD Cert.Kernel4Ideal.τ).loc Cert.Kernel4Ideal.main_arg4) := (hagree c).2.2.2.2.1
  rw [queries_eq, ha, hg, hw, hs, hn] at h11
  rw [ha, hg, hw] at h10 h13 h14 h17 h18
  obtain ⟨e10, e13, e14, e17, e18⟩ := finals m c
  exact ⟨h10.trans ((columns_ones_at _ _ _ 640 (by omega) _).trans e10.symm),
    h11.trans ((queries_at _ _ _ _ _).trans (final11 m c).symm),
    h13.trans ((columns_at _ _ _ 128 1024 (by omega) _).trans e13.symm),
    h14.trans ((columns_at _ _ _ 512 1152 (by omega) _).trans e14.symm),
    h17.trans ((columns_ones_at _ _ _ 2304 (by omega) _).trans e17.symm),
    h18.trans ((columns_at _ _ _ 512 2432 (by omega) _).trans e18.symm), h⟩

end Cert.ProjAb

end
-- ==== Proof.HeadNorm.lean ====
module

public import proofs.«01_k».proof.Proof.RowNorm

/-! A head of 64 lanes divided by its root mean square and rotated, and the same computed on 128 lanes, two heads side by side. -/

@[expose] public section

set_option maxRecDepth 16384

noncomputable section

namespace Cert.HeadNorm

open Idealize.ShloMosaic Cert.RowNorm

/-- Lane `i` of a head over its root mean square (64 lanes, with the printed floor), times the gain. -/
def headNorm (z g : Fin 64 → EReal) (i : Fin 64) : EReal :=
  z i * Ideal.rsqrt (Ideal.div (∑ i, z i * z i) (Ideal.ofBits FTy.f32 0x42800000#32) + Ideal.ofBits FTy.f32 0x358637BD#32) * g i

/-- The two halves of a head rotated. -/
def rot (v : Fin 64 → EReal) (cs sn : Fin 32 → EReal) (j : Fin 64) : EReal :=
  if h1 : j.val < 32 then v ⟨j.val, by omega⟩ * cs ⟨j.val, h1⟩ - v ⟨32 + j.val, by omega⟩ * sn ⟨j.val, h1⟩
  else v ⟨32 + (j.val - 32), by omega⟩ * cs ⟨j.val - 32, by omega⟩ + v ⟨j.val - 32, by omega⟩ * sn ⟨j.val - 32, by omega⟩

/-- The squares of 128 lanes, and after them the squares less themselves, times a table's column. -/
def squares (z : Fin 128 → EReal) (T : Fin 256 → Fin 128 → EReal) (l : Fin 128) : EReal :=
  ∑ x : Fin 128, z x * z x * T ⟨x.val, by omega⟩ l + ∑ x : Fin 128, (z x * z x - z x * z x) * T ⟨128 + x.val, by omega⟩ l

/-- Ones where row and column fall into the same head. -/
def table (k : Fin 256) (l : Fin 128) : EReal := if k.val % 128 / 64 = l.val / 64 then 1 else 0

/-- 128 lanes normed by a product with a table, times a gain, then turned. -/
def slab (z : Fin 128 → EReal) (T : Fin 256 → Fin 128 → EReal) (g C A B : Fin 128 → EReal) (l : Fin 128) : EReal :=
  turned (fun l => z l * Ideal.rsqrt (squares z T l * Ideal.ofBits FTy.f32 0x3C800000#32 + Ideal.ofBits FTy.f32 0x358637BD#32) * g l) C A B l

theorem sum_squares (z : Fin 128 → EReal) (hz : ∀ l, ∃ r : ℝ, z l = r) (l : Fin 128) :
    squares z table l
      = ∑ i : Fin 64, z ⟨64 * (l.val / 64) + i.val, by omega⟩ * z ⟨64 * (l.val / 64) + i.val, by omega⟩ := by
  have h0 (i : Fin 128) : (z i * z i - z i * z i) * table ⟨128 + i.val, by omega⟩ l = 0 := by
    obtain ⟨r, hr⟩ := hz i
    rw [hr, ← EReal.coe_mul, ← EReal.coe_sub, sub_self]
    exact zero_mul _
  have h1 (i : Fin 128) : z i * z i * table ⟨i.val, by omega⟩ l = if i.val / 64 = l.val / 64 then z i * z i else 0 := by
    unfold table
    have e : i.val % 128 / 64 = i.val / 64 := by omega
    simp only [e]
    split
    · exact mul_one _
    · exact mul_zero _
  unfold squares
  simp only [h0, h1, Finset.sum_const_zero, add_zero]
  refine (Fin.sum_univ_add (a := 64) (b := 64) (fun i : Fin 128 => if i.val / 64 = l.val / 64 then z i * z i else 0)).trans ?_
  by_cases hl : l.val < 64
  · have ha (i : Fin 64) : (Fin.castAdd 64 i).val / 64 = l.val / 64 := by simp only [Fin.val_castAdd]; omega
    have hb (i : Fin 64) : ¬ (Fin.natAdd 64 i).val / 64 = l.val / 64 := by simp only [Fin.val_natAdd]; omega
    simp only [ha, hb, if_true, if_false, Finset.sum_const_zero, add_zero]
    refine Finset.sum_congr rfl fun i _ => ?_
    have e : Fin.castAdd 64 i = (⟨64 * (l.val / 64) + i.val, by omega⟩ : Fin 128) := Fin.ext (by simp only [Fin.val_castAdd]; omega)
    rw [e]
  · have ha (i : Fin 64) : ¬ (Fin.castAdd 64 i).val / 64 = l.val / 64 := by simp only [Fin.val_castAdd]; omega
    have hb (i : Fin 64) : (Fin.natAdd 64 i).val / 64 = l.val / 64 := by simp only [Fin.val_natAdd]; omega
    simp only [ha, hb, if_true, if_false, Finset.sum_const_zero, zero_add]
    refine Finset.sum_congr rfl fun i _ => ?_
    have e : Fin.natAdd 64 i = (⟨64 * (l.val / 64) + i.val, by omega⟩ : Fin 128) := Fin.ext (by simp only [Fin.val_natAdd]; omega)
    rw [e]

theorem by_64 (x : EReal) : x * Ideal.ofBits FTy.f32 0x3C800000#32 = Ideal.div x (Ideal.ofBits FTy.f32 0x42800000#32) := by
  have e : Ideal.ofBits .f32 0x42800000#32 = ((64 : ℝ) : EReal) := by
    simp [Ideal.ofBits, Ideal.ieee, -EReal.coe_mul]; norm_num
  have e' : Ideal.ofBits .f32 0x3C800000#32 = (((64 : ℝ)⁻¹ : ℝ) : EReal) := by
    simp [Ideal.ofBits, Ideal.ieee, -EReal.coe_mul]; norm_num
  rw [e, e', Ideal.div, if_neg (by exact_mod_cast (by norm_num : (64 : ℝ) ≠ 0)), EReal.coe_inv]

/-- On lanes that are real the two agree. -/
theorem slab_eq (z : Fin 128 → EReal) (hz : ∀ l, ∃ r : ℝ, z l = r) (g : Fin 128 → EReal) (cs sn : Fin 32 → EReal) (l : Fin 128) :
    slab z table g (fun l => cs ⟨l.val % 32, by omega⟩) (fun l => if l.val % 64 < 32 then 0 else sn ⟨l.val % 32, by omega⟩)
      (fun l => if l.val % 64 < 32 then -sn ⟨l.val % 32, by omega⟩ else 0) l
      = rot (headNorm (fun i => z ⟨64 * (l.val / 64) + i.val, by omega⟩) (fun i => g ⟨64 * (l.val / 64) + i.val, by omega⟩)) cs sn ⟨l.val % 64, by omega⟩ := by
  have hn (k : Fin 128) (i : Fin 64) (hk : k.val = 64 * (l.val / 64) + i.val) :
      z k * Ideal.rsqrt (squares z table k * Ideal.ofBits FTy.f32 0x3C800000#32 + Ideal.ofBits FTy.f32 0x358637BD#32) * g k
        = headNorm (fun i => z ⟨64 * (l.val / 64) + i.val, by omega⟩) (fun i => g ⟨64 * (l.val / 64) + i.val, by omega⟩) i := by
    have hd : k.val / 64 = l.val / 64 := by omega
    have e : (⟨64 * (l.val / 64) + i.val, by omega⟩ : Fin 128) = k := Fin.ext hk.symm
    rw [sum_squares z hz, by_64]
    unfold headNorm
    simp only [hd, e]
  unfold slab turned rot
  by_cases h1 : l.val % 64 < 32
  · rw [dif_pos h1]
    simp only [if_pos h1]
    rw [mul_zero, add_zero, mul_neg, ← sub_eq_add_neg, hn l ⟨l.val % 64, by omega⟩ (by simp only []; omega),
      hn ⟨(l.val + 128 - 96) % 128, by omega⟩ ⟨32 + l.val % 64, by omega⟩ (by simp only []; omega)]
    have e : (⟨l.val % 32, by omega⟩ : Fin 32) = ⟨l.val % 64, h1⟩ := Fin.ext (by simp only []; omega)
    rw [e]
  · rw [dif_neg h1]
    simp only [if_neg h1]
    rw [mul_zero, add_zero, hn l ⟨32 + (l.val % 64 - 32), by omega⟩ (by simp only []; omega),
      hn ⟨(l.val + 128 - 32) % 128, by omega⟩ ⟨l.val % 64 - 32, by omega⟩ (by simp only []; omega)]
    have e : (⟨l.val % 32, by omega⟩ : Fin 32) = ⟨l.val % 64 - 32, by omega⟩ := Fin.ext (by simp only []; omega)
    rw [e]

/-- Eight heads of 64 lanes out of four pairs: the first four with zeros after them, the others with zeros before them. -/
def placed (f : Fin 4 → Fin 128 → EReal) (h : Fin 8) (l : Fin 128) : EReal :=
  if h.val < 4 then (if l.val < 64 then f ⟨h.val / 2, by omega⟩ ⟨(64 * (h.val % 2) + l.val) % 128, by omega⟩ else 0)
  else if l.val < 64 then 0 else f ⟨h.val / 2, by omega⟩ ⟨(64 * (h.val % 2) + l.val + 64) % 128, by omega⟩

theorem placed_first (f : Fin 4 → Fin 128 → EReal) (h : Fin 8) (q q' : Fin 128) (u : EReal) (hu : u = f ⟨h.val / 2, by omega⟩ q') (hh : h.val < 4)
    (hq : q.val < 64 → q'.val = (64 * (h.val % 2) + q.val) % 128) :
    Scalar.select (if q.val < 64 then 1#1 else 0#1) u (0 : EReal) = placed f h q := by
  unfold placed
  rw [if_pos hh]
  by_cases hl : q.val < 64
  · rw [if_pos hl, if_pos hl, hu, show q' = ⟨(64 * (h.val % 2) + q.val) % 128, by omega⟩ from Fin.ext (hq hl)]
    rfl
  · rw [if_neg hl, if_neg hl]
    rfl

theorem placed_last (f : Fin 4 → Fin 128 → EReal) (h : Fin 8) (q q' : Fin 128) (u : EReal) (hu : u = f ⟨h.val / 2, by omega⟩ q') (hh : ¬ h.val < 4)
    (hq : ¬ q.val < 64 → q'.val = (64 * (h.val % 2) + q.val + 64) % 128) :
    Scalar.select (if q.val < 64 then 1#1 else 0#1) (0 : EReal) u = placed f h q := by
  unfold placed
  rw [if_neg hh]
  by_cases hl : q.val < 64
  · rw [if_pos hl, if_pos hl]
    rfl
  · rw [if_neg hl, if_neg hl, hu, show q' = ⟨(64 * (h.val % 2) + q.val + 64) % 128, by omega⟩ from Fin.ext (hq hl)]
    rfl

/-! ## Real rows -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_real {ι : Type} (s : Finset ι) (f : ι → EReal) (hf : ∀ i, ∃ r : ℝ, f i = r) : ∃ r : ℝ, ∑ i ∈ s, f i = r := by
  choose r hr using hf
  exact ⟨∑ i ∈ s, r i, by rw [coe_sum]; exact Finset.sum_congr rfl fun i _ => hr i⟩

theorem mul_real {a b : EReal} (ha : ∃ r : ℝ, a = r) (hb : ∃ r : ℝ, b = r) : ∃ r : ℝ, a * b = r := by
  obtain ⟨r, rfl⟩ := ha
  obtain ⟨s, rfl⟩ := hb
  exact ⟨r * s, (EReal.coe_mul r s).symm⟩

theorem floor_eq : ∃ ε : ℝ, 0 < ε ∧ Ideal.ofBits .f32 0x358637BD#32 = (ε : EReal) := by
  refine ⟨_, ?_, by simp [Ideal.ofBits, Ideal.ieee, -EReal.coe_mul]; rfl⟩
  positivity

/-- A product of a real row, normed, with a real column is real. -/
theorem col_real (x g w : Fin 1024 → EReal) (hx : ∀ k, ∃ r : ℝ, x k = r) (hg : ∀ k, ∃ r : ℝ, g k = r) (hw : ∀ k, ∃ r : ℝ, w k = r) :
    ∃ r : ℝ, col x g w = r := by
  refine sum_real _ _ fun k => mul_real (mul_real (mul_real (hx k) ?_) (hg k)) (hw k)
  choose r hr using hx
  have hs : ∑ i, x i * x i = ((∑ i, r i * r i : ℝ) : EReal) := by
    rw [coe_sum]
    exact Finset.sum_congr rfl fun i _ => by rw [hr, EReal.coe_mul]
  have h0 : 0 ≤ ∑ i, r i * r i := Finset.sum_nonneg fun i _ => mul_self_nonneg _
  have e : Ideal.ofBits .f32 0x44800000#32 = ((1024 : ℝ) : EReal) := by
    simp [Ideal.ofBits, Ideal.ieee, -EReal.coe_mul]; norm_num
  obtain ⟨ε, hε, he⟩ := floor_eq
  have hp : 0 < (∑ i, r i * r i) * (1024 : ℝ)⁻¹ + ε := by positivity
  refine ⟨(Real.sqrt ((∑ i, r i * r i) * (1024 : ℝ)⁻¹ + ε))⁻¹, ?_⟩
  rw [hs, e, he, Ideal.div, if_neg (by exact_mod_cast (by norm_num : (1024 : ℝ) ≠ 0)), ← EReal.coe_inv, ← EReal.coe_mul, ← EReal.coe_add]
  show (if _ then _ else if _ then _ else _ : EReal) = _
  rw [if_neg hp.not_gt, if_neg hp.ne']

end Cert.HeadNorm

end
-- ==== Proof.Heads.lean ====
module

public import proofs.«01_k».proof.Proof.Gen.Kernel5Ideal.Value
public import proofs.«01_k».proof.Proof.HeadNorm
public import Idealize.ShloMosaic.Lib.Pipeline.ValueKit
public import Idealize.ShloMosaic.Lib.Pointwise

/-! The first layer's normed and rotated heads: what the call's body leaves in their windows. -/

@[expose] public section

set_option maxRecDepth 16384

noncomputable section

namespace Cert.Heads

open Idealize.ShloMosaic Idealize.ShloMosaic.TcCoe Idealize.SL.Sem
open Idealize.ShloMosaic.Pipeline (Dat)
open Cert.Kernel5Ideal Cert.Kernel5Ideal.Gen Cert.RowNorm Cert.HeadNorm

/-- The scale of the queries. -/
abbrev qs : EReal := Named.named (F := Ideal) (φ := .f32) κ "q_scale" 0x3E38AA3B#32

section pays

variable (C A B : FVec Ideal S1024x128 .f32) (T : FVec Ideal S256x128 .bf16) (g : FVec Ideal S1x128 .f32) (z : FVec Ideal S1024x128 .f32)
  (p : FVec Ideal S1024x512 .f32) (r : Fin 1024) (l : Fin 128)

/-- `slab` at row `r` of the arrays. -/
abbrev slabAt (z : Fin 128 → EReal) : EReal :=
  slab z (fun k l => T (ix2 k l)) (fun l => g (ix2 0 l)) (fun l => C (ix2 r l)) (fun l => A (ix2 r l)) (fun l => B (ix2 r l)) l

/-- The body's scaled slabs of queries, the first of each four. -/
theorem scaled_slab :
    k0_pay15 C A B T g z (mulf z z) (ix2 r l) = slabAt C A B T g r l (fun l => z (ix2 r l)) * qs
    ∧ k0_pay52 C A B T g z (mulf z z) (ix2 r l) = slabAt C A B T g r l (fun l => z (ix2 r l)) * qs := by
  constructor
  all_goals
    pointwise [k0_pay15, k0_pay52]
    rfl

/-- The other three. -/
theorem scaled_slabs :
    k0_pay20 C A B T g (k0_pay18 p) (k0_pay19 p) (ix2 r l) = slabAt C A B T g r l (fun l => p (ix2 r ⟨128 + l.val, by omega⟩)) * qs
    ∧ k0_pay25 C A B g (k0_pay23 p) (k0_pay24 T p) (ix2 r l) = slabAt C A B T g r l (fun l => p (ix2 r ⟨256 + l.val, by omega⟩)) * qs
    ∧ k0_pay29 C A B g (k0_pay28 T p) (ix2 r l) = slabAt C A B T g r l (fun l => p (ix2 r ⟨384 + l.val, by omega⟩)) * qs
    ∧ k0_pay57 C A B T g (k0_pay55 p) (k0_pay56 p) (ix2 r l) = slabAt C A B T g r l (fun l => p (ix2 r ⟨128 + l.val, by omega⟩)) * qs
    ∧ k0_pay62 C A B g (k0_pay60 p) (k0_pay61 T p) (ix2 r l) = slabAt C A B T g r l (fun l => p (ix2 r ⟨256 + l.val, by omega⟩)) * qs
    ∧ k0_pay66 C A B g (k0_pay65 T p) (ix2 r l) = slabAt C A B T g r l (fun l => p (ix2 r ⟨384 + l.val, by omega⟩)) * qs := by
  refine ⟨?_, ?_, ?_, ?_, ?_, ?_⟩
  all_goals
    pointwise [k0_pay18, k0_pay19, k0_pay20, k0_pay23, k0_pay24, k0_pay25, k0_pay28, k0_pay29,
      k0_pay55, k0_pay56, k0_pay57, k0_pay60, k0_pay61, k0_pay62, k0_pay65, k0_pay66]
    rfl

variable (a : FVec Ideal S1024x1024 .bf16) (w : Vec Ideal S1024x128 .bf16)

/-- The body's slabs of keys. -/
theorem slabs :
    k0_pay35 C A B g (k0_pay33 a w) (k0_pay34 a T w) (Scalar.ofBits .f32 0x358637BD#32) (ix2 r l)
      = slabAt C A B T g r l (fun l => ∑ k : Fin 1024, a (ix2 r k) * w (ix2 k l))
    ∧ k0_pay45 C A B T (k0_pay44 a w) g (ix2 r l) = slabAt C A B T g r l (fun l => ∑ k : Fin 1024, a (ix2 r k) * w (ix2 k l))
    ∧ k0_pay1 C A B g (k0_pay70 a w) (k0_pay71 a T w) (Scalar.ofBits .f32 0x358637BD#32) (ix2 r l)
      = slabAt C A B T g r l (fun l => ∑ k : Fin 1024, a (ix2 r k) * w (ix2 k l)) := by
  refine ⟨?_, ?_, ?_⟩
  all_goals
    pointwise [k0_pay35, k0_pay33, k0_pay34, k0_pay45, k0_pay44, k0_pay1, k0_pay70, k0_pay71]
    rfl

end pays

theorem mask (r : Fin 1024) (l : Fin 128) : k0_pay12 (ix2 r l) = if l.val < 64 then 1#1 else 0#1 := by
  pointwise [k0_pay12]
  revert l
  decide

theorem pieces (n : Fin 1024) (q : Fin 128) : r0_6.emb (ix3 0 n q) = ix3 0 n q ∧ r0_7.emb (ix3 0 n q) = ix3 1 n q
    ∧ r0_8.emb (ix3 0 n q) = ix3 2 n q ∧ r0_9.emb (ix3 0 n q) = ix3 3 n q ∧ r0_10.emb (ix3 0 n q) = ix3 4 n q ∧ r0_11.emb (ix3 0 n q) = ix3 5 n q
    ∧ r0_12.emb (ix3 0 n q) = ix3 6 n q ∧ r0_13.emb (ix3 0 n q) = ix3 7 n q := by
  refine ⟨?_, ?_, ?_, ?_, ?_, ?_, ?_, ?_⟩
  all_goals
    funext a
    apply Fin.ext
    rw [Rect.emb_apply]
    match a with
    | ⟨0, _⟩ => rfl
    | ⟨1, _⟩ => exact (Nat.zero_add _).trans (Nat.one_mul _)
    | ⟨2, _⟩ => exact (Nat.zero_add _).trans (Nat.one_mul _)

section block

variable (x0 : Vec Ideal S1024x1024 .f32) (x1 : Vec Ideal S1x1024 .f32) (x2 : Vec Ideal S1024x2944 .bf16) (x3 x4 x5 : Vec Ideal S1024x128 .f32)
  (x6 : Vec Ideal S256x128 .bf16) (x7 : Vec Ideal S8x128 .f32)

/-- The block's rows, normed. -/
theorem rows_normed (r k : Fin 1024) : k0_pay4 (View.ld x0 r0_0) (View.ld x1 r0_1) (ix2 r k) = normed (fun k => x0 (ix2 r k)) (fun k => x1 (ix2 0 k)) k := by
  have e0 : View.ld x0 r0_0 = x0 := View.ld_unit_zero (by funext a; fin_cases a <;> rfl) _ _
  have e1 : View.ld x1 r0_1 = x1 := View.ld_unit_zero (by funext a; fin_cases a <;> rfl) _ _
  rw [e0, e1]
  pointwise [k0_pay4]
  rfl

/-- Column `l` of the product of the block's normed rows. -/
def bcol (r : Fin 1024) (l : Fin 2944) : EReal := col (fun k => x0 (ix2 r k)) (fun k => x1 (ix2 0 k)) (fun k => x2 (ix2 k l))

/-- The slab of the 128 columns from `off`, with the gains' row `i`. -/
def bslab (r : Fin 1024) (i : Fin 8) (off : Nat) (h : off + 128 ≤ 2944) (l : Fin 128) : EReal :=
  slab (fun l => bcol x0 x1 x2 r ⟨off + l.val, by omega⟩) (fun k l => x6 (ix2 k l)) (fun l => x7 (ix2 i l)) (fun l => x3 (ix2 r l)) (fun l => x4 (ix2 r l)) (fun l => x5 (ix2 r l)) l

theorem operands : k0_pay73 x0 x1 x2 x3 x4 x5 x6 x7 = x3 ∧ k0_pay74 x0 x1 x2 x3 x4 x5 x6 x7 = x4 ∧ k0_pay75 x0 x1 x2 x3 x4 x5 x6 x7 = x5
    ∧ k0_pay76 x0 x1 x2 x3 x4 x5 x6 x7 = x6 := by
  refine ⟨?_, ?_, ?_, ?_⟩
  all_goals
    simp only [k0_pay73, k0_pay74, k0_pay75, k0_pay76, k0_pay5, k0_pay6, k0_pay7, k0_pay8]
    rw [shapeCast_id]
    exact View.ld_unit_zero (by funext a; fin_cases a <;> rfl) _ _

theorem products (n : Fin 1024) : (∀ q : Fin 512, k0_pay78 x0 x1 x2 x3 x4 x5 x6 x7 (ix2 n q) = bcol x0 x1 x2 n ⟨q.val, by omega⟩)
    ∧ (∀ q : Fin 512, k0_pay89 x0 x1 x2 x3 x4 x5 x6 x7 (ix2 n q) = bcol x0 x1 x2 n ⟨1664 + q.val, by omega⟩)
    ∧ (∀ q : Fin 128, k0_pay81 x0 x1 x2 x3 x4 x5 x6 x7 (ix2 n q) = bcol x0 x1 x2 n ⟨q.val, by omega⟩)
    ∧ ∀ q : Fin 128, k0_pay92 x0 x1 x2 x3 x4 x5 x6 x7 (ix2 n q) = bcol x0 x1 x2 n ⟨1664 + q.val, by omega⟩ := by
  refine ⟨?_, ?_, ?_, ?_⟩
  all_goals
    intro q
    simp only [k0_pay78, k0_pay89, k0_pay81, k0_pay92, k0_pay72]
    pointwise [k0_pay10, k0_pay47, k0_pay13, k0_pay50, rows_normed]
    rfl

theorem gain_rows (l : Fin 128) : View.ld x7 r0_14 (ix2 0 l) = x7 (ix2 1 l) ∧ View.ld x7 r0_24 (ix2 0 l) = x7 (ix2 2 l)
    ∧ View.ld x7 r0_29 (ix2 0 l) = x7 (ix2 4 l) := by
  refine ⟨?_, ?_, ?_⟩
  all_goals
    pointwise

/-- What the body leaves in the keys' windows. -/
theorem blocks (r : Fin 1024) (l : Fin 128) :
    out0_9 x0 x1 x2 x3 x4 x5 x6 x7 (ix2 r l) = bslab x0 x1 x2 x3 x4 x5 x6 x7 r 1 512 (by omega) l
    ∧ out0_12 x0 x1 x2 x3 x4 x5 x6 x7 (ix2 r l) = bslab x0 x1 x2 x3 x4 x5 x6 x7 r 2 1024 (by omega) l
    ∧ out0_16 x0 x1 x2 x3 x4 x5 x6 x7 (ix2 r l) = bslab x0 x1 x2 x3 x4 x5 x6 x7 r 4 2176 (by omega) l := by
  obtain ⟨e3, e4, e5, e6⟩ := operands x0 x1 x2 x3 x4 x5 x6 x7
  have hs := slabs x3 x4 x5 x6
  refine ⟨?_, ?_, ?_⟩
  all_goals
    simp only [out0_9, out0_12, out0_16]
    rw [View.canon_unit_zero (by funext a; fin_cases a <;> rfl), e3, e4, e5, e6]
    simp only [hs, k0_pay72, rows_normed, k0_pay32, k0_pay69, shapeCast_id, slabAt, gain_rows]
    pointwise
    rfl

/-- The four pairs of heads from column `off`. -/
def pairs (r : Fin 1024) (i : Fin 8) (off : Nat) (ho : off + 512 ≤ 2944) (p : Fin 4) (l : Fin 128) : EReal :=
  bslab x0 x1 x2 x3 x4 x5 x6 x7 r i (off + 128 * p.val) (by omega) l * qs

/-- A piece whose lanes are 128 columns of the product, a slab normed and turned. -/
theorem piece_of (r : Fin 1024) (i : Fin 8) (off : Nat) (ho : off + 512 ≤ 2944) (h : Fin 8) (q q' : Fin 128) (z : Fin 128 → EReal)
    (hz : ∀ l : Fin 128, z l = bcol x0 x1 x2 r ⟨off + 128 * (h.val / 2) + l.val, by omega⟩) :
    (h.val < 4 → (q.val < 64 → q'.val = (64 * (h.val % 2) + q.val) % 128) → Scalar.select (if q.val < 64 then 1#1 else 0#1)
      (slab z (fun k l => x6 (ix2 k l)) (fun l => x7 (ix2 i l)) (fun l => x3 (ix2 r l)) (fun l => x4 (ix2 r l)) (fun l => x5 (ix2 r l)) q' * qs) (0 : EReal)
        = placed (pairs x0 x1 x2 x3 x4 x5 x6 x7 r i off ho) h q)
    ∧ (¬ h.val < 4 → (¬ q.val < 64 → q'.val = (64 * (h.val % 2) + q.val + 64) % 128) → Scalar.select (if q.val < 64 then 1#1 else 0#1) (0 : EReal)
      (slab z (fun k l => x6 (ix2 k l)) (fun l => x7 (ix2 i l)) (fun l => x3 (ix2 r l)) (fun l => x4 (ix2 r l)) (fun l => x5 (ix2 r l)) q' * qs)
        = placed (pairs x0 x1 x2 x3 x4 x5 x6 x7 r i off ho) h q) := by
  rw [show z = _ from funext hz]
  exact ⟨fun hh hq => placed_first _ _ _ q' _ rfl hh hq, fun hh hq => placed_last _ _ _ q' _ rfl hh hq⟩

end block

end Cert.Heads

end
-- ==== Proof.HeadTables.lean ====
module

public import proofs.«01_k».proof.Proof.Gen.Kernel5Ideal.Value
public import proofs.«01_k».proof.Proof.HeadNorm
public import proofs.«01_k».proof.Proof.ProjRope
public import Idealize.ShloMosaic.Lib.Pipeline.ValueKit
public import Idealize.ShloMosaic.Lib.Pointwise

/-! The first layer's normed and rotated heads: the tables and gains that the host hands the call. -/

@[expose] public section

set_option maxRecDepth 16384

noncomputable section

namespace Cert.Heads

open Idealize.ShloMosaic Idealize.ShloMosaic.TcCoe Idealize.SL.Sem
open Idealize.ShloMosaic.Pipeline (Dat)
open Cert.Kernel5Ideal Cert.Kernel5Ideal.Gen Cert.RowNorm Cert.HeadNorm
open Cert.ProjAb (pos tiled tiled_at whole)

variable (m : (ℓ : Loc nD τ sig) → Buf (Elt Ideal) ℓ)

/-- Two heads side by side, normed and rotated. -/
def head (z g : Fin 128 → EReal) (cs sn : Fin 32 → EReal) (l : Fin 128) : EReal :=
  rot (headNorm (fun i => z ⟨64 * (l.val / 64) + i.val, by omega⟩) (fun i => g ⟨64 * (l.val / 64) + i.val, by omega⟩)) cs sn ⟨l.val % 64, by omega⟩

/-- The array of a slab's heads. -/
def headsAll (f : Fin 32768 → Fin 2944 → EReal) (off : Nat) (h : off + 128 ≤ 2944) (g : Fin 128 → EReal) (cs sn : S8192x32.Idx → EReal) : S32768x128.Idx → EReal := fun j =>
  head (fun l => f (j 0) ⟨off + l.val, by omega⟩) g (fun k => cs (ix2 (pos (j 0).val) k)) (fun k => sn (ix2 (pos (j 0).val) k)) (j 1)

/-- The array of the scaled queries. -/
def queriesAll (f : Fin 32768 → Fin 2944 → EReal) (off : Nat) (h : off + 512 ≤ 2944) (g : Fin 128 → EReal) (cs sn : S8192x32.Idx → EReal) (u : EReal) :
    S8x32768x128.Idx → EReal := fun j =>
  placed (fun p l => head (fun l => f (j 1) ⟨off + 128 * p.val + l.val, by omega⟩) g (fun k => cs (ix2 (pos (j 1).val) k)) (fun k => sn (ix2 (pos (j 1).val) k)) l * u) (j 0) (j 2)

/-- The gain in row `i`, for two heads. -/
def both (i : Fin 2) (a : S2x64.Idx → EReal) (l : Fin 128) : EReal := a (ix2 i ⟨l.val % 64, by omega⟩)

/-- The gain of one head, nothing for the other. -/
def one (a : S64.Idx → EReal) (l : Fin 128) : EReal := if h : l.val < 64 then a (ix1 ⟨l.val, h⟩) else 0

/-! ## The block-diagonal table -/

/-- A lane's head. -/
def groups : IVec S128 32 :=
  select (andi (cmpi .ne (signi (iotaInDim S128 32 0)) (broadcastInDim S128 ![] bcast_S_S128 (signi (id (constantI S_ 32 64#32)))))
      (cmpi .ne (Host.remsi (iotaInDim S128 32 0) (broadcastInDim S128 ![] bcast_S_S128 (id (constantI S_ 32 64#32)))) (broadcastInDim S128 ![] bcast_S_S128 (constantI S_ 32 0#32))))
    (subi (Host.divsi (iotaInDim S128 32 0) (broadcastInDim S128 ![] bcast_S_S128 (id (constantI S_ 32 64#32)))) (broadcastInDim S128 ![] bcast_S_S128 (constantI S_ 32 1#32)))
    (Host.divsi (iotaInDim S128 32 0) (broadcastInDim S128 ![] bcast_S_S128 (id (constantI S_ 32 64#32))))

theorem groups_at (l : Fin 128) : groups (ix1 l) = BitVec.ofNat 32 (l.val / 64) := by
  pointwise [groups]
  revert l
  decide

/-- Ones where row and column fall into the same head, 128 lanes square. -/
def same : FVec Ideal S128x128 .bf16 :=
  uitofp .bf16 (cmpi .eq (broadcastInDim S128x128 ![0, 1] bcast_S128x1_S128x128_0_1 (broadcastInDim S128x1 ![0] bcast_S128_S128x1_0 groups))
    (broadcastInDim S128x128 ![0, 1] bcast_S1x128_S128x128_0_1 (broadcastInDim S1x128 ![1] bcast_S128_S1x128_1 groups)))

theorem same_at (k l : Fin 128) : same (ix2 k l) = if k.val / 64 = l.val / 64 then 1 else 0 := by
  pointwise [same, groups_at]
  have e (x y : Fin 2) : IntOp.cmpi CmpIPredicate.eq (BitVec.ofNat 32 x.val) (BitVec.ofNat 32 y.val) = if x.val = y.val then 1#1 else 0#1 := by
    decide +revert
  rw [e ⟨k.val / 64, by omega⟩ ⟨l.val / 64, by omega⟩]
  split
  · simp [FloatOps.uitofp]
  · simp [FloatOps.uitofp]

def stacked : FVec Ideal S256x128 .bf16 := concatenate S256x128 0 [⟨S128x128, same⟩, ⟨S128x128, same⟩] concatenates_S128x128_S128x128_S256x128_d0

theorem stacked_at (k : Fin 256) (l : Fin 128) : stacked (ix2 k l) = table k l := by
  unfold stacked
  pointwise [same_at]
  unfold table
  split
  · rw [show k.val % 128 = k.val by omega]
  · rw [show k.val % 128 = k.val - 128 by omega]

set_option maxHeartbeats 1000000 in
theorem stacked_eq (c : Dev nD) : V m c main_v40 = stacked := by
  entry_read
  rfl

/-! ## The gains -/

/-- A gain of 64 lanes, twice. -/
def twice (off : Nat) (h : S2x64.Slices ![off, 0] S1x64) (a : FVec Ideal S2x64 .f32) : FVec Ideal S1x128 .f32 :=
  broadcastInDim S1x128 ![1] bcast_S128_S1x128_1 (shapeCast S128 (broadcastInDim S2x64 ![0, 1] bcast_S1x64_S2x64_0_1
    (shapeCast S1x64 (shapeCast S64 (extractStridedSlice S1x64 ![off, 0] a h) shapeCasts_S1x64_S64) shapeCasts_S64_S1x64)) shapeCasts_S2x64_S128)

theorem twice_at (a : FVec Ideal S2x64 .f32) (l : Fin 128) :
    twice 0 slices_S2x64_S1x64_0_0 a (ix2 0 l) = a (ix2 0 ⟨l.val % 64, by omega⟩) ∧ twice 1 slices_S2x64_S1x64_1_0 a (ix2 0 l) = a (ix2 1 ⟨l.val % 64, by omega⟩) := by
  constructor
  all_goals
    pointwise [twice]

/-- A gain of 64 lanes, zeros after it. -/
def padded (a : FVec Ideal S64 .f32) : FVec Ideal S1x128 .f32 :=
  broadcastInDim S1x128 ![1] bcast_S128_S1x128_1 (concatenate S128 0 [⟨S64, a⟩, ⟨S64, broadcastInDim S64 ![] bcast_S_S64 (constant S_ .f32 0x00000000#32)⟩] concatenates_S64_S64_S128_d0)

def noGain : FVec Ideal S1x128 .f32 := broadcastInDim S1x128 ![1] bcast_S128_S1x128_1 (broadcastInDim S128 ![] bcast_S_S128 (constant S_ .f32 0x00000000#32))

theorem padded_at (a : FVec Ideal S64 .f32) (l : Fin 128) : padded a (ix2 0 l) = if h : l.val < 64 then a (ix1 ⟨l.val, h⟩) else 0 := by
  pointwise [padded]

/-- The eight rows of gains. -/
def gains (a5 a7 : FVec Ideal S2x64 .f32) (a6 : FVec Ideal S64 .f32) : FVec Ideal S8x128 .f32 :=
  concatenate S8x128 0 [⟨S1x128, twice 0 slices_S2x64_S1x64_0_0 a5⟩, ⟨S1x128, twice 1 slices_S2x64_S1x64_1_0 a5⟩, ⟨S1x128, padded a6⟩,
    ⟨S1x128, twice 0 slices_S2x64_S1x64_0_0 a7⟩, ⟨S1x128, twice 1 slices_S2x64_S1x64_1_0 a7⟩, ⟨S1x128, noGain⟩, ⟨S1x128, noGain⟩, ⟨S1x128, noGain⟩]
    concatenates_S1x128_S1x128_S1x128_S1x128_S1x128_S1x128_S1x128_S1x128_S8x128_d0

theorem gains_at (a5 a7 : FVec Ideal S2x64 .f32) (a6 : FVec Ideal S64 .f32) (l : Fin 128) :
    gains a5 a7 a6 (ix2 0 l) = a5 (ix2 0 ⟨l.val % 64, by omega⟩) ∧ gains a5 a7 a6 (ix2 1 l) = a5 (ix2 1 ⟨l.val % 64, by omega⟩)
    ∧ gains a5 a7 a6 (ix2 2 l) = (if h : l.val < 64 then a6 (ix1 ⟨l.val, h⟩) else 0)
    ∧ gains a5 a7 a6 (ix2 3 l) = a7 (ix2 0 ⟨l.val % 64, by omega⟩) ∧ gains a5 a7 a6 (ix2 4 l) = a7 (ix2 1 ⟨l.val % 64, by omega⟩) := by
  refine ⟨?_, ?_, ?_, ?_, ?_⟩
  all_goals
    unfold gains
    pointwise
    simp only [twice_at, padded_at]

theorem gains_eq (c : Dev nD) : V m c main_v31 = gains (m ((c : Thread nD τ).loc main_arg5)) (m ((c : Thread nD τ).loc main_arg7)) (m ((c : Thread nD τ).loc main_arg6)) := rfl

/-! ## The rotation's tables -/

theorem tables (c : Dev nD) : V m c main_v45 = tiled (m ((c : Thread nD τ).loc main_arg3)) (m ((c : Thread nD τ).loc main_arg3))
    ∧ V m c main_v49 = tiled (broadcastInDim S8192x32 ![] bcast_S_S8192x32 (constant S_ .f32 0x00000000#32)) (m ((c : Thread nD τ).loc main_arg4))
    ∧ V m c main_v54 = tiled (Host.negf (m ((c : Thread nD τ).loc main_arg4))) (broadcastInDim S8192x32 ![] bcast_S_S8192x32 (constant S_ .f32 0x00000000#32)) :=
  ⟨rfl, rfl, rfl⟩

end Cert.Heads

end
-- ==== Proof.HeadQueries.lean ====
module

public import proofs.«01_k».proof.Proof.Heads
public import Idealize.ShloMosaic.Lib.Pointwise

/-! The first layer's normed and rotated heads: what the call's body leaves in the queries' windows. -/

@[expose] public section

set_option maxRecDepth 16384

noncomputable section

namespace Cert.Heads

open Idealize.ShloMosaic Idealize.ShloMosaic.TcCoe Idealize.SL.Sem
open Idealize.ShloMosaic.Pipeline (Dat)
open Cert.Kernel5Ideal Cert.Kernel5Ideal.Gen Cert.RowNorm Cert.HeadNorm

variable (x0 : Vec Ideal S1024x1024 .f32) (x1 : Vec Ideal S1x1024 .f32) (x2 : Vec Ideal S1024x2944 .bf16) (x3 x4 x5 : Vec Ideal S1024x128 .f32)
  (x6 : Vec Ideal S256x128 .bf16) (x7 : Vec Ideal S8x128 .f32)

attribute [local irreducible] pairs bslab slab

set_option maxHeartbeats 6000000 in
/-- What the body leaves in the queries' windows. -/
theorem blocks_q (h : Fin 8) (r : Fin 1024) (l : Fin 128) :
    out0_8 x0 x1 x2 x3 x4 x5 x6 x7 (ix3 h r l) = placed (pairs x0 x1 x2 x3 x4 x5 x6 x7 r 0 0 (by omega)) h l
    ∧ out0_15 x0 x1 x2 x3 x4 x5 x6 x7 (ix3 h r l) = placed (pairs x0 x1 x2 x3 x4 x5 x6 x7 r 3 1664 (by omega)) h l := by
  obtain ⟨e3, e4, e5, e6⟩ := operands x0 x1 x2 x3 x4 x5 x6 x7
  have hp := products x0 x1 x2 x3 x4 x5 x6 x7
  have hs := scaled_slab x3 x4 x5 x6
  have hs' := scaled_slabs x3 x4 x5 x6
  have e80 : k0_pay80 x0 x1 x2 x3 x4 x5 x6 x7 = k0_pay12 := rfl
  have e91 : k0_pay91 x0 x1 x2 x3 x4 x5 x6 x7 = k0_pay12 := rfl
  have e82 : k0_pay82 x0 x1 x2 x3 x4 x5 x6 x7 = mulf (k0_pay81 x0 x1 x2 x3 x4 x5 x6 x7) (k0_pay81 x0 x1 x2 x3 x4 x5 x6 x7) := rfl
  have e93 : k0_pay93 x0 x1 x2 x3 x4 x5 x6 x7 = mulf (k0_pay92 x0 x1 x2 x3 x4 x5 x6 x7) (k0_pay92 x0 x1 x2 x3 x4 x5 x6 x7) := rfl
  have e79 (l : Fin 128) : k0_pay79 x0 x1 x2 x3 x4 x5 x6 x7 (ix2 0 l) = x7 (ix2 0 l) := by
    unfold k0_pay79
    pointwise [k0_pay11]
  have e90 (l : Fin 128) : k0_pay90 x0 x1 x2 x3 x4 x5 x6 x7 (ix2 0 l) = x7 (ix2 3 l) := by
    unfold k0_pay90
    pointwise [k0_pay48]
  refine ⟨(View.canon_apply_of_pieces (fun j => placed (pairs x0 x1 x2 x3 x4 x5 x6 x7 (j 1) 0 0 (by omega)) (j 0) (j 2))
      _ ?_ _ (cover0_8 _ _ _ _ _ _ _ _ _)).trans rfl,
    (View.canon_apply_of_pieces (fun j => placed (pairs x0 x1 x2 x3 x4 x5 x6 x7 (j 1) 3 1664 (by omega)) (j 0) (j 2))
      _ ?_ _ (cover0_15 _ _ _ _ _ _ _ _ _)).trans rfl⟩
  all_goals
    intro p hp' y
    simp only [List.mem_cons, List.not_mem_nil, or_false] at hp'
    rcases hp' with rfl | rfl | rfl | rfl | rfl | rfl | rfl | rfl
  all_goals
    obtain ⟨o, n, q, rfl⟩ : ∃ (o : Fin 1) (n : Fin 1024) (q : Fin 128), y = ix3 o n q := ⟨y 0, y 1, y 2, by funext a; match a with | ⟨0, _⟩ => rfl | ⟨1, _⟩ => rfl | ⟨2, _⟩ => rfl⟩
    obtain rfl := Subsingleton.elim o 0
    pointwise [k0_pay16, k0_pay17, k0_pay21, k0_pay22, k0_pay26, k0_pay27, k0_pay30, k0_pay31, k0_pay83, k0_pay84, k0_pay85, k0_pay86, k0_pay87, k0_pay53, k0_pay54,
      k0_pay58, k0_pay59, k0_pay63, k0_pay64, k0_pay67, k0_pay68, k0_pay94, k0_pay95, k0_pay96, k0_pay97, k0_pay98, mask, e3, e4, e5, e6, e80, e91]
    simp only [pieces, e82, e93, hs, hs', hp, e79, e90, slabAt]
    first
      | refine (piece_of x0 x1 x2 x3 x4 x5 x6 x7 n _ _ _ _ q _ _ (fun l => ?_)).1 ?_ (fun hl => ?_)
      | refine (piece_of x0 x1 x2 x3 x4 x5 x6 x7 n _ _ _ _ q _ _ (fun l => ?_)).2 ?_ (fun hl => ?_)
    · refine congrArg (bcol x0 x1 x2 n) (Fin.ext ?_)
      simp
      all_goals omega
    · simp
    · simp
      all_goals omega

end Cert.Heads

end
-- ==== Proof.HeadsFinal.lean ====
module

public import proofs.«01_k».proof.Proof.Heads
public import proofs.«01_k».proof.Proof.HeadTables
public import proofs.«01_k».proof.Proof.HeadQueries

/-! The first layer's normed and rotated heads: what the call leaves in their arrays. -/

@[expose] public section

set_option maxRecDepth 16384

noncomputable section

namespace Cert.Heads

open Idealize.ShloMosaic Idealize.ShloMosaic.TcCoe Idealize.SL.Sem
open Idealize.ShloMosaic.Pipeline (Dat)
open Cert.Kernel5Ideal Cert.Kernel5Ideal.Gen Cert.RowNorm Cert.HeadNorm
open Cert.ProjAb (pos tiled tiled_at whole)

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![t.val % 8, 0] ∧ win0_4.index t = ![t.val % 8, 0] ∧ win0_5.index t = ![t.val % 8, 0]
    ∧ win0_6.index t = ![0, 0] ∧ win0_7.index t = ![0, 0]
    ∧ win0_8.index t = ![0, t.val, 0] ∧ win0_9.index t = ![t.val, 0] ∧ win0_12.index t = ![t.val, 0]
    ∧ win0_15.index t = ![0, t.val, 0] ∧ win0_16.index t = ![t.val, 0] :=
  (by decide +kernel : ∀ t : Fin grid0.N, _)

theorem gain (c : Dev nD) (t : Fin cfg0.N) (k : Fin 1024) :
    iblk m c 1 t (ix2 0 k) = m ((c : Thread nD τ).loc main_arg1) (ix1 k) := by
  have e : ((cfg0.win 1).blk t).view.emb (ix2 0 k) = ix2 0 k := by blk_ext [idx t]
  unfold iblk View.read
  rw [e]
  show V m c main_v55 (ix2 0 k) = _
  have h : V m c main_v55 = broadcastInDim S1x1024 ![1] bcast_S1024_S1x1024_1
      (m ((c : Thread nD τ).loc main_arg1)) := rfl
  rw [h]
  pointwise

theorem weights (c : Dev nD) (t : Fin cfg0.N) (k : Fin 1024) (l : Fin 2944) :
    iblk m c 2 t (ix2 k l) = m ((c : Thread nD τ).loc main_arg2) (ix2 k l) := by
  have e : ((cfg0.win 2).blk t).view.emb (ix2 k l) = ix2 k l := by blk_ext [idx t]
  unfold iblk View.read
  rw [e]
  entry_read
  pointwise
  rfl

theorem rows (c : Dev nD) (t : Fin cfg0.N) (r k : Fin 1024) (hr : 1024 * t.val + r.val < 32768) :
    iblk m c 0 t (ix2 r k) = m ((c : Thread nD τ).loc main_arg0) (ix2 ⟨1024 * t.val + r.val, hr⟩ k) := by
  blk_ext [iblk, V_main_arg0, idx t]

/-- The product of the normed rows with the weights. -/
abbrev wholeAt (c : Dev nD) : Fin 32768 → Fin 2944 → EReal :=
  whole (m ((c : Thread nD τ).loc main_arg0)) (m ((c : Thread nD τ).loc main_arg1)) (m ((c : Thread nD τ).loc main_arg2))

theorem bcol_eq (c : Dev nD) (t : Fin cfg0.N) (r : Fin 1024) (hr : 1024 * t.val + r.val < 32768) (l : Fin 2944) :
    bcol (iblk m c 0 t) (iblk m c 1 t) (iblk m c 2 t) r l = wholeAt m c ⟨1024 * t.val + r.val, hr⟩ l := by
  have h0 : (fun k => iblk m c 0 t (ix2 r k)) = fun k => m ((c : Thread nD τ).loc main_arg0) (ix2 ⟨1024 * t.val + r.val, hr⟩ k) := funext fun k => rows m c t r k hr
  have h1 : (fun k => iblk m c 1 t (ix2 0 k)) = fun k => m ((c : Thread nD τ).loc main_arg1) (ix1 k) := funext fun k => gain m c t k
  have h2 : (fun k => iblk m c 2 t (ix2 k l)) = fun k => m ((c : Thread nD τ).loc main_arg2) (ix2 k l) := funext fun k => weights m c t k l
  have e := congrArg₂ (fun a b => col a b (fun k => iblk m c 2 t (ix2 k l))) h0 h1
  exact e.trans (congrArg (col _ _) h2)

set_option maxHeartbeats 1000000 in
/-- The rotation's tables in one block. -/
theorem blk_tables (c : Dev nD) (t : Fin cfg0.N) (r : Fin 1024) :
    (∀ l : Fin 128, iblk m c 3 t (ix2 r l) = V m c main_v45 (ix2 (pos (1024 * t.val + r.val)) l))
    ∧ (∀ l : Fin 128, iblk m c 4 t (ix2 r l) = V m c main_v49 (ix2 (pos (1024 * t.val + r.val)) l))
    ∧ ∀ l : Fin 128, iblk m c 5 t (ix2 r l) = V m c main_v54 (ix2 (pos (1024 * t.val + r.val)) l) := by
  have ht : t.val < 32 := lt_of_lt_of_eq t.isLt N_0
  refine ⟨fun l => ?_, fun l => ?_, fun l => ?_⟩
  all_goals
    unfold iblk View.read
    rw [show View.emb _ (ix2 r l) = ix2 (pos (1024 * t.val + r.val)) l by unfold pos; blk_ext [idx t]]
    rfl

/-- The block-diagonal table and the gains in one block. -/
theorem blk_whole (c : Dev nD) (t : Fin cfg0.N) (l : Fin 128) : (∀ k : Fin 256, iblk m c 6 t (ix2 k l) = V m c main_v40 (ix2 k l))
    ∧ ∀ i : Fin 8, iblk m c 7 t (ix2 i l) = V m c main_v31 (ix2 i l) := by
  constructor
  · intro k
    have e : ((cfg0.win 6).blk t).view.emb (ix2 k l) = ix2 k l := by blk_ext [idx t]
    unfold iblk View.read
    rw [e]
    rfl
  · intro i
    have e : ((cfg0.win 7).blk t).view.emb (ix2 i l) = ix2 i l := by blk_ext [idx t]
    unfold iblk View.read
    rw [e]
    rfl

/-- The launch's gains. -/
abbrev gainsAt (c : Dev nD) : FVec Ideal S8x128 .f32 :=
  gains (m ((c : Thread nD τ).loc main_arg5)) (m ((c : Thread nD τ).loc main_arg7)) (m ((c : Thread nD τ).loc main_arg6))

theorem slab_congr {z z' : Fin 128 → EReal} {T T' : Fin 256 → Fin 128 → EReal} {g g' C C' A A' B B' : Fin 128 → EReal} (l : Fin 128) (hz : ∀ l, z l = z' l)
    (hT : ∀ l k, T k l = T' k l) (hg : ∀ l, g l = g' l) (hC : ∀ l, C l = C' l) (hA : ∀ l, A l = A' l) (hB : ∀ l, B l = B' l) :
    slab z T g C A B l = slab z' T' g' C' A' B' l := by
  rw [show z = z' from funext hz, show T = T' from funext fun k => funext fun l => hT l k, show g = g' from funext hg, show C = C' from funext hC,
    show A = A' from funext hA, show B = B' from funext hB]

set_option maxHeartbeats 1000000 in
theorem bslab_at (c : Dev nD) (t : Fin cfg0.N) (r : Fin 1024) (hr : 1024 * t.val + r.val < 32768) (hf : ∀ n l, ∃ q : ℝ, wholeAt m c n l = q)
    (i : Fin 8) (off : Nat) (h : off + 128 ≤ 2944) (l : Fin 128) :
    bslab (iblk m c 0 t) (iblk m c 1 t) (iblk m c 2 t) (iblk m c 3 t) (iblk m c 4 t) (iblk m c 5 t) (iblk m c 6 t) (iblk m c 7 t) r i off h l
      = head (fun l => wholeAt m c ⟨1024 * t.val + r.val, hr⟩ ⟨off + l.val, by omega⟩) (fun l => gainsAt m c (ix2 i l))
        (fun k => m ((c : Thread nD τ).loc main_arg3) (ix2 (pos (1024 * t.val + r.val)) k)) (fun k => m ((c : Thread nD τ).loc main_arg4) (ix2 (pos (1024 * t.val + r.val)) k)) l := by
  obtain ⟨b3, b4, b5⟩ := blk_tables m c t r
  obtain ⟨t3, t4, t5⟩ := tables m c
  refine Eq.trans ?_ (slab_eq (fun l => wholeAt m c ⟨1024 * t.val + r.val, hr⟩ ⟨off + l.val, by omega⟩) (fun l => hf _ _) (fun l => gainsAt m c (ix2 i l))
    (fun k => m ((c : Thread nD τ).loc main_arg3) (ix2 (pos (1024 * t.val + r.val)) k)) (fun k => m ((c : Thread nD τ).loc main_arg4) (ix2 (pos (1024 * t.val + r.val)) k)) l)
  unfold bslab
  refine slab_congr l (fun l => bcol_eq m c t r hr _) (fun l k => ?_) (fun l => ?_) (fun l => ?_) (fun l => ?_) (fun l => ?_)
  · rw [(blk_whole m c t l).1, stacked_eq, stacked_at]
  · rw [(blk_whole m c t l).2, gains_eq]
  · rw [b3, t3, tiled_at]
    exact ite_self _
  · rw [b4, t4, tiled_at]
    pointwise
  · rw [b5, t5, tiled_at]
    pointwise

theorem gainsAt_eq (c : Dev nD) : (fun l => gainsAt m c (ix2 0 l)) = both 0 (m ((c : Thread nD τ).loc main_arg5)) ∧ (fun l => gainsAt m c (ix2 1 l)) = both 1 (m ((c : Thread nD τ).loc main_arg5))
    ∧ (fun l => gainsAt m c (ix2 2 l)) = one (m ((c : Thread nD τ).loc main_arg6))
    ∧ (fun l => gainsAt m c (ix2 3 l)) = both 0 (m ((c : Thread nD τ).loc main_arg7)) ∧ (fun l => gainsAt m c (ix2 4 l)) = both 1 (m ((c : Thread nD τ).loc main_arg7)) := by
  refine ⟨?_, ?_, ?_, ?_, ?_⟩
  all_goals
    funext l
    simp only [gainsAt, gains_at]
    rfl

set_option maxHeartbeats 4000000 in
/-- What the call leaves in the keys' arrays. -/
theorem finals (c : Dev nD) (hf : ∀ n l, ∃ q : ℝ, wholeAt m c n l = q) :
    (dats m 0 c).arrAt 9 cfg0.N = headsAll (wholeAt m c) 512 (by omega) (both 1 (m ((c : Thread nD τ).loc main_arg5))) (m ((c : Thread nD τ).loc main_arg3)) (m ((c : Thread nD τ).loc main_arg4))
    ∧ (dats m 0 c).arrAt 12 cfg0.N = headsAll (wholeAt m c) 1024 (by omega) (one (m ((c : Thread nD τ).loc main_arg6))) (m ((c : Thread nD τ).loc main_arg3)) (m ((c : Thread nD τ).loc main_arg4))
    ∧ (dats m 0 c).arrAt 16 cfg0.N = headsAll (wholeAt m c) 2176 (by omega) (both 1 (m ((c : Thread nD τ).loc main_arg7))) (m ((c : Thread nD τ).loc main_arg3)) (m ((c : Thread nD τ).loc main_arg4)) := by
  refine ⟨(dats m 0 c).arrAt_eq_of_covers 9 _ (by decide +kernel) ?_, (dats m 0 c).arrAt_eq_of_covers 12 _ (by decide +kernel) ?_,
    (dats m 0 c).arrAt_eq_of_covers 16 _ (by decide +kernel) ?_⟩
  all_goals
    intro t _ y
    have ht : t.val < 32 := lt_of_lt_of_eq t.isLt N_0
    have hb := fun r => blocks (iblk m c 0 t) (iblk m c 1 t) (iblk m c 2 t) (iblk m c 3 t) (iblk m c 4 t) (iblk m c 5 t) (iblk m c 6 t) (iblk m c 7 t) r
    have hs := fun (r : Fin 1024) => bslab_at m c t r (by omega) hf
    blk_simp
    simp only [after0_9, after0_12, after0_16]
    obtain ⟨r, l, rfl⟩ : ∃ r l, y = ix2 r l := ⟨y 0, y 1, by funext a; match a with | ⟨0, _⟩ => rfl | ⟨1, _⟩ => rfl⟩
    rw [show View.emb _ (ix2 r l) = ix2 ⟨1024 * t.val + r.val, by omega⟩ l by blk_ext [idx t]]
    simp only [hb, hs, gainsAt_eq]
    rfl

set_option maxHeartbeats 4000000 in
/-- What the call leaves in the queries' arrays. -/
theorem finals_q (c : Dev nD) (hf : ∀ n l, ∃ q : ℝ, wholeAt m c n l = q) :
    (dats m 0 c).arrAt 8 cfg0.N = queriesAll (wholeAt m c) 0 (by omega) (both 0 (m ((c : Thread nD τ).loc main_arg5))) (m ((c : Thread nD τ).loc main_arg3)) (m ((c : Thread nD τ).loc main_arg4)) qs
    ∧ (dats m 0 c).arrAt 15 cfg0.N = queriesAll (wholeAt m c) 1664 (by omega) (both 0 (m ((c : Thread nD τ).loc main_arg7))) (m ((c : Thread nD τ).loc main_arg3)) (m ((c : Thread nD τ).loc main_arg4)) qs := by
  refine ⟨(dats m 0 c).arrAt_eq_of_covers 8 _ (by decide +kernel) ?_, (dats m 0 c).arrAt_eq_of_covers 15 _ (by decide +kernel) ?_⟩
  all_goals
    intro t _ y
    have ht : t.val < 32 := lt_of_lt_of_eq t.isLt N_0
    have hb := blocks_q (iblk m c 0 t) (iblk m c 1 t) (iblk m c 2 t) (iblk m c 3 t) (iblk m c 4 t) (iblk m c 5 t) (iblk m c 6 t) (iblk m c 7 t)
    have hs := fun (r : Fin 1024) => bslab_at m c t r (by omega) hf
    blk_simp
    simp only [after0_8, after0_15]
    obtain ⟨h, r, l, rfl⟩ : ∃ (h : Fin 8) (r : Fin 1024) (l : Fin 128), y = ix3 h r l := ⟨y 0, y 1, y 2, by funext a; match a with | ⟨0, _⟩ => rfl | ⟨1, _⟩ => rfl | ⟨2, _⟩ => rfl⟩
    rw [show View.emb _ (ix3 h r l) = ix3 h ⟨1024 * t.val + r.val, by omega⟩ l by blk_ext [idx t]]
    simp only [hb]
    unfold pairs
    simp only [hs, gainsAt_eq]
    rfl

end Cert.Heads

end
-- ==== Proof.HeadsRef.lean ====
module

public import proofs.«01_k».proof.Proof.Gen.Reference5Ideal.Run
public import proofs.«01_k».proof.Proof.HeadTables
public import Idealize.ShloMosaic.Lib.Pointwise

/-! The first layer's normed and rotated heads: the reference's arrays at an index. -/

@[expose] public section

set_option maxRecDepth 16384

noncomputable section

namespace Cert.Heads

open Idealize.ShloMosaic Idealize.ShloMosaic.TcCoe Idealize.SL.Sem Idealize.ShloMosaic.StableHlo
open Cert.Reference5Ideal Cert.Reference5Ideal.Gen Cert.Reference5Ideal.Value Cert.RowNorm Cert.HeadNorm
open Cert.ProjAb (pos whole)

variable (V0 : Valuation τ sig (Elt Ideal))

/-- An argument of the reference. -/
abbrev arg (r : Ref sig .tc) := V0 (Proc.devRef .tc r)

/-- The product of the reference's normed rows with its weights. -/
abbrev prod (n : Fin 32768) (l : Fin 2944) : EReal := whole (arg V0 main_arg0) (arg V0 main_arg1) (arg V0 main_arg2) n l

theorem prod_at (n : Fin 32768) (l : Fin 2944) : res_main_v13 V0 (ix2 n l) = prod V0 n l := by
  unfold res_main_v13
  pointwise
  rfl

/-- A row of the array, given as a sequence and a place in it. -/
abbrev row (b : Fin 4) (s : Fin 8192) : Fin 32768 := ⟨b.val * 8192 + s.val, by omega⟩

set_option maxHeartbeats 2000000 in
/-- The reference's normed heads. -/
theorem normed_heads (b : Fin 4) (s : Fin 8192) (i : Fin 64) :
    (∀ h : Fin 8, res_main_v32 V0 (ix4 b s h i) = headNorm (fun i => prod V0 (row b s) ⟨h.val * 64 + i.val, by omega⟩) (fun i => arg V0 main_arg5 (ix2 0 i)) i)
    ∧ (∀ h : Fin 2, res_main_v82 V0 (ix4 b s h i) = headNorm (fun i => prod V0 (row b s) ⟨512 + (h.val * 64 + i.val), by omega⟩) (fun i => arg V0 main_arg5 (ix2 1 i)) i)
    ∧ (∀ h : Fin 1, res_main_v117 V0 (ix4 b s h i) = headNorm (fun i => prod V0 (row b s) ⟨1024 + i.val, by omega⟩) (fun i => arg V0 main_arg6 (ix1 i)) i)
    ∧ (∀ h : Fin 8, res_main_v156 V0 (ix4 b s h i) = headNorm (fun i => prod V0 (row b s) ⟨1664 + (h.val * 64 + i.val), by omega⟩) (fun i => arg V0 main_arg7 (ix2 0 i)) i)
    ∧ (∀ h : Fin 2, res_main_v206 V0 (ix4 b s h i) = headNorm (fun i => prod V0 (row b s) ⟨2176 + (h.val * 64 + i.val), by omega⟩) (fun i => arg V0 main_arg7 (ix2 1 i)) i) := by
  have hp := prod_at V0
  refine ⟨?_, ?_, ?_, ?_, ?_⟩
  all_goals
    intro h
    pointwise [res_main_v32, res_main_v82, res_main_v117, res_main_v156, res_main_v206, res_main_v19, res_main_v69, res_main_v104, res_main_v143, res_main_v193, hp]
    rfl

/-- The reference's halves of heads. -/
theorem halves (b : Fin 4) (s : Fin 8192) (k : Fin 32) :
    (∀ h : Fin 8, res_main_v33 V0 (ix4 b s h k) = res_main_v32 V0 (ix4 b s h ⟨k.val, by omega⟩) ∧ res_main_v34 V0 (ix4 b s h k) = res_main_v32 V0 (ix4 b s h ⟨32 + k.val, by omega⟩)
      ∧ res_main_v157 V0 (ix4 b s h k) = res_main_v156 V0 (ix4 b s h ⟨k.val, by omega⟩) ∧ res_main_v158 V0 (ix4 b s h k) = res_main_v156 V0 (ix4 b s h ⟨32 + k.val, by omega⟩))
    ∧ (∀ h : Fin 2, res_main_v83 V0 (ix4 b s h k) = res_main_v82 V0 (ix4 b s h ⟨k.val, by omega⟩) ∧ res_main_v84 V0 (ix4 b s h k) = res_main_v82 V0 (ix4 b s h ⟨32 + k.val, by omega⟩)
      ∧ res_main_v207 V0 (ix4 b s h k) = res_main_v206 V0 (ix4 b s h ⟨k.val, by omega⟩) ∧ res_main_v208 V0 (ix4 b s h k) = res_main_v206 V0 (ix4 b s h ⟨32 + k.val, by omega⟩))
    ∧ ∀ h : Fin 1, res_main_v118 V0 (ix4 b s h k) = res_main_v117 V0 (ix4 b s h ⟨k.val, by omega⟩) ∧ res_main_v119 V0 (ix4 b s h k) = res_main_v117 V0 (ix4 b s h ⟨32 + k.val, by omega⟩) := by
  refine ⟨fun h => ⟨?_, ?_, ?_, ?_⟩, fun h => ⟨?_, ?_, ?_, ?_⟩, fun h => ?_⟩
  on_goal 9 =>
    obtain rfl := Subsingleton.elim h 0
    constructor
  all_goals
    pointwise [res_main_v33, res_main_v34, res_main_v83, res_main_v84, res_main_v118, res_main_v119, res_main_v157, res_main_v158, res_main_v207, res_main_v208]

theorem turns (s : Fin 8192) (k : Fin 32) : res_main_v14 V0 (ix3 s 0 k) = arg V0 main_arg3 (ix2 s k) ∧ res_main_v15 V0 (ix3 s 0 k) = arg V0 main_arg4 (ix2 s k) := by
  constructor
  all_goals
    pointwise [res_main_v14, res_main_v15]

theorem row_eq (n : Fin 32768) : row ⟨n.val / 8192, by omega⟩ ⟨n.val % 8192, by omega⟩ = n := Fin.ext (by show n.val / 8192 * 8192 + n.val % 8192 = n.val; omega)

theorem head_of (z g : Fin 128 → EReal) (Z G : Fin 64 → EReal) (cs sn : Fin 32 → EReal) (l : Fin 128) (k : Fin 64) (hk : k.val = l.val % 64)
    (hz : ∀ i : Fin 64, Z i = z ⟨64 * (l.val / 64) + i.val, by omega⟩) (hg : ∀ i : Fin 64, G i = g ⟨64 * (l.val / 64) + i.val, by omega⟩) :
    rot (headNorm Z G) cs sn k = head z g cs sn l := by
  have e : k = ⟨l.val % 64, Nat.mod_lt _ (by decide)⟩ := Fin.ext hk
  rw [e, show Z = _ from funext hz, show G = _ from funext hg]
  rfl

theorem heads_of (f : Fin 32768 → Fin 2944 → EReal) (off : Nat) (h : off + 128 ≤ 2944) (r : Fin 2) (a : S2x64.Idx → EReal) (cs sn : S8192x32.Idx → EReal) (n : Fin 32768) (l : Fin 128) :
    rot (headNorm (fun i => f n ⟨off + (l.val / 64 * 64 + i.val), by omega⟩) (fun i => a (ix2 r i))) (fun k => cs (ix2 (pos n.val) k)) (fun k => sn (ix2 (pos n.val) k)) ⟨l.val % 64, by omega⟩
      = headsAll f off h (both r a) cs sn (ix2 n l) :=
  head_of (fun l => f n ⟨off + l.val, by omega⟩) _ _ _ _ _ l _ rfl (fun i => congrArg (f n) (Fin.ext (by simp only []; omega)))
    (fun i => congrArg (fun k => a (ix2 r k)) (Fin.ext (by simp only []; omega)))

theorem one_of (f : Fin 32768 → Fin 2944 → EReal) (a : S64.Idx → EReal) (cs sn : S8192x32.Idx → EReal) (n : Fin 32768) (l : Fin 128) :
    (if h : l.val < 64 then rot (headNorm (fun i => f n ⟨1024 + i.val, by omega⟩) (fun i => a (ix1 i))) (fun k => cs (ix2 (pos n.val) k)) (fun k => sn (ix2 (pos n.val) k)) ⟨l.val, h⟩ else 0)
      = headsAll f 1024 (by omega) (one a) cs sn (ix2 n l) := by
  by_cases h : l.val < 64
  · rw [dif_pos h]
    refine head_of (fun l => f n ⟨1024 + l.val, by omega⟩) _ _ _ _ _ l _ (by simp only []; omega) (fun i => congrArg (f n) (Fin.ext (by simp only []; omega))) (fun i => ?_)
    unfold one
    rw [dif_pos (by simp only []; omega)]
    exact congrArg (fun k => a (ix1 k)) (Fin.ext (by simp only []; omega))
  · rw [dif_neg h]
    show 0 = head (fun l => f n ⟨1024 + l.val, by omega⟩) (one a) (fun k => cs (ix2 (pos n.val) k)) (fun k => sn (ix2 (pos n.val) k)) l
    have hg (i : Fin 64) : one a ⟨64 * (l.val / 64) + i.val, by omega⟩ = 0 := by
      unfold one
      rw [dif_neg (by simp only []; omega)]
    have hn (Z : Fin 64 → EReal) : headNorm Z (fun i => one a ⟨64 * (l.val / 64) + i.val, by omega⟩) = fun _ => 0 := funext fun i => by
      unfold headNorm
      simp only [hg, mul_zero]
    unfold head rot
    simp only [hn, zero_mul, sub_zero, add_zero, dite_eq_ite, ite_self]

theorem query_of (f : Fin 32768 → Fin 2944 → EReal) (off : Nat) (ho : off + 512 ≤ 2944) (a : S2x64.Idx → EReal) (cs sn : S8192x32.Idx → EReal) (u : EReal)
    (h : Fin 8) (n : Fin 32768) (l : Fin 128) (k : Fin 64) (hk : l.val = (64 * (h.val % 2) + k.val) % 128) (Z : Fin 64 → EReal) (hz : ∀ i, Z i = f n ⟨off + (64 * h.val + i.val), by omega⟩) :
    rot (headNorm Z (fun i => a (ix2 0 i))) (fun k => cs (ix2 (pos n.val) k)) (fun k => sn (ix2 (pos n.val) k)) k * u
      = head (fun l => f n ⟨off + 128 * (h.val / 2) + l.val, by omega⟩) (both 0 a) (fun k => cs (ix2 (pos n.val) k)) (fun k => sn (ix2 (pos n.val) k)) l * u :=
  congrArg (· * u) (head_of _ _ _ _ _ _ l k (by omega) (fun i => (hz i).trans (congrArg (f n) (Fin.ext (by simp only []; omega))))
    (fun i => congrArg (fun k => a (ix2 0 k)) (Fin.ext (by simp only []; omega))))

set_option maxHeartbeats 4000000 in
/-- The reference's keys. -/
theorem keys_at :
    (truncf .bf16 (shapeCast _ (shapeCast _ (concatenate S4x8192x2x64 3 [⟨S4x8192x2x32, (subf (mulf (res_main_v83 V0) (broadcastInDim S4x8192x2x32 ![0, 1, 2, 3] bcast_S1x8192x1x32_S4x8192x2x32_0_1_2_3 (broadcastInDim S1x8192x1x32 ![1, 2, 3] bcast_S8192x1x32_S1x8192x1x32_1_2_3 (res_main_v14 V0)))) (mulf (res_main_v84 V0) (broadcastInDim S4x8192x2x32 ![0, 1, 2, 3] bcast_S1x8192x1x32_S4x8192x2x32_0_1_2_3 (broadcastInDim S1x8192x1x32 ![1, 2, 3] bcast_S8192x1x32_S1x8192x1x32_1_2_3 (res_main_v15 V0)))))⟩, ⟨S4x8192x2x32, (addf (mulf (res_main_v84 V0) (broadcastInDim S4x8192x2x32 ![0, 1, 2, 3] bcast_S1x8192x1x32_S4x8192x2x32_0_1_2_3 (broadcastInDim S1x8192x1x32 ![1, 2, 3] bcast_S8192x1x32_S1x8192x1x32_1_2_3 (res_main_v14 V0)))) (mulf (res_main_v83 V0) (broadcastInDim S4x8192x2x32 ![0, 1, 2, 3] bcast_S1x8192x1x32_S4x8192x2x32_0_1_2_3 (broadcastInDim S1x8192x1x32 ![1, 2, 3] bcast_S8192x1x32_S1x8192x1x32_1_2_3 (res_main_v15 V0)))))⟩] concatenates_S4x8192x2x32_S4x8192x2x32_S4x8192x2x64_d3) shapeCasts_S4x8192x2x64_S32768x2x64) shapeCasts_S32768x2x64_S32768x128) bitsLt_bf16_f32 : S32768x128.Idx → EReal)
      = headsAll (prod V0) 512 (by omega) (both 1 (arg V0 main_arg5)) (arg V0 main_arg3) (arg V0 main_arg4)
    ∧ (truncf .bf16 (shapeCast _ (shapeCast _ (concatenate S4x8192x2x64 3 [⟨S4x8192x2x32, (subf (mulf (res_main_v207 V0) (broadcastInDim S4x8192x2x32 ![0, 1, 2, 3] bcast_S1x8192x1x32_S4x8192x2x32_0_1_2_3 (broadcastInDim S1x8192x1x32 ![1, 2, 3] bcast_S8192x1x32_S1x8192x1x32_1_2_3 (res_main_v14 V0)))) (mulf (res_main_v208 V0) (broadcastInDim S4x8192x2x32 ![0, 1, 2, 3] bcast_S1x8192x1x32_S4x8192x2x32_0_1_2_3 (broadcastInDim S1x8192x1x32 ![1, 2, 3] bcast_S8192x1x32_S1x8192x1x32_1_2_3 (res_main_v15 V0)))))⟩, ⟨S4x8192x2x32, (addf (mulf (res_main_v208 V0) (broadcastInDim S4x8192x2x32 ![0, 1, 2, 3] bcast_S1x8192x1x32_S4x8192x2x32_0_1_2_3 (broadcastInDim S1x8192x1x32 ![1, 2, 3] bcast_S8192x1x32_S1x8192x1x32_1_2_3 (res_main_v14 V0)))) (mulf (res_main_v207 V0) (broadcastInDim S4x8192x2x32 ![0, 1, 2, 3] bcast_S1x8192x1x32_S4x8192x2x32_0_1_2_3 (broadcastInDim S1x8192x1x32 ![1, 2, 3] bcast_S8192x1x32_S1x8192x1x32_1_2_3 (res_main_v15 V0)))))⟩] concatenates_S4x8192x2x32_S4x8192x2x32_S4x8192x2x64_d3) shapeCasts_S4x8192x2x64_S32768x2x64) shapeCasts_S32768x2x64_S32768x128) bitsLt_bf16_f32 : S32768x128.Idx → EReal)
      = headsAll (prod V0) 2176 (by omega) (both 1 (arg V0 main_arg7)) (arg V0 main_arg3) (arg V0 main_arg4) := by
  have hh := halves V0
  have hn := normed_heads V0
  have ht := turns V0
  constructor
  all_goals
    funext j
    obtain ⟨n, l, rfl⟩ : ∃ (n : Fin 32768) (l : Fin 128), j = ix2 n l := ⟨j 0, j 1, by funext a; match a with | ⟨0, _⟩ => rfl | ⟨1, _⟩ => rfl⟩
    pointwise [hh, hn, ht]
    simp only [row_eq]
  · exact heads_of (prod V0) 512 _ 1 (arg V0 main_arg5) (arg V0 main_arg3) (arg V0 main_arg4) n l
  · exact heads_of (prod V0) 2176 _ 1 (arg V0 main_arg7) (arg V0 main_arg3) (arg V0 main_arg4) n l

set_option maxHeartbeats 4000000 in
/-- The reference's index keys. -/
theorem index_keys_at :
    (truncf .bf16 (concatenate S32768x128 1 [⟨S32768x64, (shapeCast _ (shapeCast _ (concatenate S4x8192x1x64 3 [⟨S4x8192x1x32, (subf (mulf (res_main_v118 V0) (broadcastInDim S4x8192x1x32 ![0, 1, 2, 3] bcast_S1x8192x1x32_S4x8192x1x32_0_1_2_3 (broadcastInDim S1x8192x1x32 ![1, 2, 3] bcast_S8192x1x32_S1x8192x1x32_1_2_3 (res_main_v14 V0)))) (mulf (res_main_v119 V0) (broadcastInDim S4x8192x1x32 ![0, 1, 2, 3] bcast_S1x8192x1x32_S4x8192x1x32_0_1_2_3 (broadcastInDim S1x8192x1x32 ![1, 2, 3] bcast_S8192x1x32_S1x8192x1x32_1_2_3 (res_main_v15 V0)))))⟩, ⟨S4x8192x1x32, (addf (mulf (res_main_v119 V0) (broadcastInDim S4x8192x1x32 ![0, 1, 2, 3] bcast_S1x8192x1x32_S4x8192x1x32_0_1_2_3 (broadcastInDim S1x8192x1x32 ![1, 2, 3] bcast_S8192x1x32_S1x8192x1x32_1_2_3 (res_main_v14 V0)))) (mulf (res_main_v118 V0) (broadcastInDim S4x8192x1x32 ![0, 1, 2, 3] bcast_S1x8192x1x32_S4x8192x1x32_0_1_2_3 (broadcastInDim S1x8192x1x32 ![1, 2, 3] bcast_S8192x1x32_S1x8192x1x32_1_2_3 (res_main_v15 V0)))))⟩] concatenates_S4x8192x1x32_S4x8192x1x32_S4x8192x1x64_d3) shapeCasts_S4x8192x1x64_S32768x1x64) shapeCasts_S32768x1x64_S32768x64)⟩, ⟨S32768x64, (broadcastInDim S32768x64 ![] bcast_S_S32768x64 (constant S_ .f32 0x00000000#32))⟩] concatenates_S32768x64_S32768x64_S32768x128_d1) bitsLt_bf16_f32 : S32768x128.Idx → EReal)
      = headsAll (prod V0) 1024 (by omega) (one (arg V0 main_arg6)) (arg V0 main_arg3) (arg V0 main_arg4) := by
  have hh := halves V0
  have hn := normed_heads V0
  have ht := turns V0
  funext j
  obtain ⟨n, l, rfl⟩ : ∃ (n : Fin 32768) (l : Fin 128), j = ix2 n l := ⟨j 0, j 1, by funext a; match a with | ⟨0, _⟩ => rfl | ⟨1, _⟩ => rfl⟩
  pointwise [hh, hn, ht]
  simp only [row_eq]
  exact one_of (prod V0) (arg V0 main_arg6) (arg V0 main_arg3) (arg V0 main_arg4) n l

end Cert.Heads

end
-- ==== Proof.HeadsRefQueries.lean ====
module

public import proofs.«01_k».proof.Proof.HeadsRef
public import Idealize.ShloMosaic.Lib.Pointwise

/-! The first layer's normed and rotated heads: the reference's queries at an index. -/

@[expose] public section

set_option maxRecDepth 16384

noncomputable section

namespace Cert.Heads

open Idealize.ShloMosaic Idealize.ShloMosaic.TcCoe Idealize.SL.Sem Idealize.ShloMosaic.StableHlo
open Cert.Reference5Ideal Cert.Reference5Ideal.Gen Cert.Reference5Ideal.Value Cert.RowNorm Cert.HeadNorm
open Cert.ProjAb (pos whole)

variable (V0 : Valuation τ sig (Elt Ideal))

/-- The queries' scale. -/
def scale : EReal := Ideal.div (Ideal.div (Ideal.ofBits .f32 0x3F800000#32) (Ideal.sqrt (Ideal.ofBits .f32 0x42800000#32))) (Ideal.log (Ideal.ofBits .f32 0x40000000#32))

theorem scale_const : (id (Host.divf (Host.divf (constant S_ .f32 0x3F800000#32) (Host.sqrt (constant S_ .f32 0x42800000#32))) (Host.log (constant S_ .f32 0x40000000#32))) : FVec Ideal S_ .f32) ix0 = scale := rfl

attribute [local irreducible] headNorm head scale

set_option maxHeartbeats 4000000 in
/-- The reference's scaled queries, head by head. -/
theorem scaled_at (h : Fin 8) (n : Fin 32768) (k : Fin 64) :
    res_main_v58 V0 (ix3 h n k) = rot (headNorm (fun i => prod V0 n ⟨h.val * 64 + i.val, by omega⟩) (fun i => arg V0 main_arg5 (ix2 0 i))) (fun k => arg V0 main_arg3 (ix2 (pos n.val) k)) (fun k => arg V0 main_arg4 (ix2 (pos n.val) k)) k * scale
    ∧ res_main_v182 V0 (ix3 h n k) = rot (headNorm (fun i => prod V0 n ⟨1664 + (h.val * 64 + i.val), by omega⟩) (fun i => arg V0 main_arg7 (ix2 0 i))) (fun k => arg V0 main_arg3 (ix2 (pos n.val) k)) (fun k => arg V0 main_arg4 (ix2 (pos n.val) k)) k * scale := by
  have hh := halves V0
  have hn := normed_heads V0
  have ht := turns V0
  constructor
  all_goals
    pointwise [res_main_v58, res_main_v182, hh, hn, ht]
    simp only [row_eq]
    rw [scale_const]
    rfl

theorem zero_at (h : Fin 4) (n : Fin 32768) (k : Fin 64) : res_main_v59 V0 (ix3 h n k) = (0 : EReal) ∧ res_main_v183 V0 (ix3 h n k) = (0 : EReal) := by
  constructor
  all_goals
    pointwise [res_main_v59, res_main_v183]

/-- A head of the queries at its place among the pairs. -/
theorem placed_of (f : Fin 32768 → Fin 2944 → EReal) (off : Nat) (ho : off + 512 ≤ 2944) (a : S2x64.Idx → EReal) (cs sn : S8192x32.Idx → EReal) (u : EReal) (q : Fin 8 → Fin 64 → EReal)
    (n : Fin 32768) (hq : ∀ h k, q h k = rot (headNorm (fun i => f n ⟨off + (h.val * 64 + i.val), by omega⟩) (fun i => a (ix2 0 i))) (fun k => cs (ix2 (pos n.val) k)) (fun k => sn (ix2 (pos n.val) k)) k * u)
    (h : Fin 8) (l : Fin 128) :
    (if h1 : h.val < 4 then (if h2 : l.val < 64 then q h ⟨l.val, h2⟩ else 0) else if h2 : l.val < 64 then 0 else q h ⟨l.val - 64, by omega⟩)
      = queriesAll f off ho (both 0 a) cs sn u (ix3 h n l) := by
  show _ = placed _ h l
  unfold placed
  by_cases h1 : h.val < 4
  · by_cases h2 : l.val < 64
    · rw [dif_pos h1, dif_pos h2, if_pos h1, if_pos h2, hq]
      exact query_of f off ho a cs sn u h n _ ⟨l.val, h2⟩ rfl _ (fun i => congrArg (f n) (Fin.ext (by simp only []; omega)))
    · rw [dif_pos h1, dif_neg h2, if_pos h1, if_neg h2]
  · by_cases h2 : l.val < 64
    · rw [dif_neg h1, dif_pos h2, if_neg h1, if_pos h2]
    · rw [dif_neg h1, dif_neg h2, if_neg h1, if_neg h2, hq]
      exact query_of f off ho a cs sn u h n _ ⟨l.val - 64, by omega⟩ (by simp only []; omega) _ (fun i => congrArg (f n) (Fin.ext (by simp only []; omega)))

set_option maxHeartbeats 4000000 in
/-- The reference's scaled queries. -/
theorem queries_at :
    (truncf .bf16 (concatenate S8x32768x128 0 [⟨S4x32768x128, (concatenate S4x32768x128 2 [⟨S4x32768x64, (extractStridedSlice S4x32768x64 ![0, 0, 0] (res_main_v58 V0) slices_S8x32768x64_S4x32768x64_0_0_0)⟩, ⟨S4x32768x64, (res_main_v59 V0)⟩] concatenates_S4x32768x64_S4x32768x64_S4x32768x128_d2)⟩, ⟨S4x32768x128, (concatenate S4x32768x128 2 [⟨S4x32768x64, (res_main_v59 V0)⟩, ⟨S4x32768x64, (extractStridedSlice S4x32768x64 ![4, 0, 0] (res_main_v58 V0) slices_S8x32768x64_S4x32768x64_4_0_0)⟩] concatenates_S4x32768x64_S4x32768x64_S4x32768x128_d2)⟩] concatenates_S4x32768x128_S4x32768x128_S8x32768x128_d0) bitsLt_bf16_f32 : S8x32768x128.Idx → EReal)
      = queriesAll (prod V0) 0 (by omega) (both 0 (arg V0 main_arg5)) (arg V0 main_arg3) (arg V0 main_arg4) scale
    ∧ (truncf .bf16 (concatenate S8x32768x128 0 [⟨S4x32768x128, (concatenate S4x32768x128 2 [⟨S4x32768x64, (extractStridedSlice S4x32768x64 ![0, 0, 0] (res_main_v182 V0) slices_S8x32768x64_S4x32768x64_0_0_0)⟩, ⟨S4x32768x64, (res_main_v183 V0)⟩] concatenates_S4x32768x64_S4x32768x64_S4x32768x128_d2)⟩, ⟨S4x32768x128, (concatenate S4x32768x128 2 [⟨S4x32768x64, (res_main_v183 V0)⟩, ⟨S4x32768x64, (extractStridedSlice S4x32768x64 ![4, 0, 0] (res_main_v182 V0) slices_S8x32768x64_S4x32768x64_4_0_0)⟩] concatenates_S4x32768x64_S4x32768x64_S4x32768x128_d2)⟩] concatenates_S4x32768x128_S4x32768x128_S8x32768x128_d0) bitsLt_bf16_f32 : S8x32768x128.Idx → EReal)
      = queriesAll (prod V0) 1664 (by omega) (both 0 (arg V0 main_arg7)) (arg V0 main_arg3) (arg V0 main_arg4) scale := by
  have hz := zero_at V0
  constructor
  all_goals
    funext j
    obtain ⟨h, n, l, rfl⟩ : ∃ (h : Fin 8) (n : Fin 32768) (l : Fin 128), j = ix3 h n l := ⟨j 0, j 1, j 2, by funext a; match a with | ⟨0, _⟩ => rfl | ⟨1, _⟩ => rfl | ⟨2, _⟩ => rfl⟩
  · rw [← placed_of (prod V0) 0 (by omega) (arg V0 main_arg5) (arg V0 main_arg3) (arg V0 main_arg4) scale (fun h k => res_main_v58 V0 (ix3 h n k)) n
      (fun h k => (scaled_at V0 h n k).1.trans (by simp only [Nat.zero_add])) h l]
    pointwise [hz]
    congr 1
    funext h1
    have e : (⟨4 + (h.val - 4), by omega⟩ : Fin 8) = h := Fin.ext (by show 4 + (h.val - 4) = h.val; omega)
    simp only [e]
  · rw [← placed_of (prod V0) 1664 (by omega) (arg V0 main_arg7) (arg V0 main_arg3) (arg V0 main_arg4) scale (fun h k => res_main_v182 V0 (ix3 h n k)) n
      (fun h k => (scaled_at V0 h n k).2) h l]
    pointwise [hz]
    congr 1
    funext h1
    have e : (⟨4 + (h.val - 4), by omega⟩ : Fin 8) = h := Fin.ext (by show 4 + (h.val - 4) = h.val; omega)
    simp only [e]

end Cert.Heads

end
-- ==== Proof.HeadsReal.lean ====
module

public import proofs.«01_k».proof.Proof.Gen.Pre_finite5
public import proofs.«01_k».proof.Proof.HeadNorm
public import proofs.«01_k».proof.Proof.RefValue
public import Idealize.ShloMosaic.Lib.ReduceAll
public import Idealize.ShloMosaic.Lib.Affine

/-! What the precondition says of the arguments, and the scale of the queries as a real. -/

@[expose] public section

set_option maxRecDepth 16384

noncomputable section

namespace Cert.Heads

open Idealize.ShloMosaic Idealize.ShloMosaic.TcCoe Idealize.SL.Sem

attribute [local instance] Cert.Pre_finite5.Gen.facts

/-! ## The precondition -/

theorem real_of_abs (x : EReal) (h : Ideal.cmp .olt (max x (-x)) (Ideal.ofBits .f32 0x7F800000#32) = 1#1) : ∃ r : ℝ, x = r := by
  rw [RefValue.inf_eq] at h
  have hx : max x (-x) < ⊤ := by
    by_contra hn
    simp [Ideal.cmp, hn] at h
  induction x using EReal.rec with
  | bot => simp at hx
  | top => simp at hx
  | coe r => exact ⟨r, rfl⟩

section finite

variable (x : FVec Ideal Cert.Pre_finite5.S32768x1024 .f32) (g : FVec Ideal Cert.Pre_finite5.S1024 .f32) (w : FVec Ideal Cert.Pre_finite5.S1024x2944 .f32)
  (cs sn : FVec Ideal Cert.Pre_finite5.S8192x32 .f32) (a5 : FVec Ideal Cert.Pre_finite5.S2x64 .f32) (a6 : FVec Ideal Cert.Pre_finite5.S64 .f32) (a7 : FVec Ideal Cert.Pre_finite5.S2x64 .f32)

theorem real_args (h : Cert.Pre_finite5.fn (F := Ideal) x g w cs sn a5 a6 a7 = fun _ => 1#1) :
    (∀ j, ∃ r : ℝ, g j = r) ∧ ∀ j, ∃ r : ℝ, w j = r := by
  haveI : Subsingleton Cert.Pre_finite5.S_.Idx := ⟨fun a b => funext fun i => i.elim0⟩
  have h0 := congrFun h ix0
  unfold Cert.Pre_finite5.fn at h0
  obtain ⟨h0, h1⟩ := IntOp.andi_eq_one.mp h0
  refine ⟨fun j => real_of_abs _ ?_, fun j => real_of_abs _ ?_⟩
  · exact Host.reduce_andi_all (t := Cert.Pre_finite5.S_) _ _ _ _ ix0 h0 j
  · exact Host.reduce_andi_all (t := Cert.Pre_finite5.S_) _ _ _ _ ix0 h1 j

end finite

/-! ## A row of the product -/

/-- A product of a row, normed, with a real column is real: a row with an infinite entry is normed to zero. -/
theorem col_real_any (x g w : Fin 1024 → EReal) (hg : ∀ k, ∃ r : ℝ, g k = r) (hw : ∀ k, ∃ r : ℝ, w k = r) :
    ∃ r : ℝ, Cert.RowNorm.col x g w = r := by
  by_cases hx : ∀ k, ∃ r : ℝ, x k = r
  · exact Cert.HeadNorm.col_real x g w hx hg hw
  obtain ⟨k, hk⟩ := not_forall.mp hx
  have hsq : x k * x k = ⊤ := by
    generalize x k = y at hk
    induction y using EReal.rec with
    | bot => exact EReal.bot_mul_bot
    | top => exact EReal.top_mul_top
    | coe r => exact absurd ⟨r, rfl⟩ hk
  have h0 (i : Fin 1024) : 0 ≤ x i * x i := by
    generalize x i = y
    induction y using EReal.rec with
    | bot => rw [EReal.bot_mul_bot]; exact le_top
    | top => rw [EReal.top_mul_top]; exact le_top
    | coe r => exact_mod_cast mul_self_nonneg r
  have hs : ∑ i, x i * x i = ⊤ := top_le_iff.mp (hsq ▸ Finset.single_le_sum (f := fun i => x i * x i) (fun i _ => h0 i) (Finset.mem_univ k))
  have e : Ideal.ofBits .f32 0x44800000#32 = ((1024 : ℝ) : EReal) := by
    simp [Ideal.ofBits, Ideal.ieee, -EReal.coe_mul]; norm_num
  obtain ⟨ε, hε, he⟩ := Cert.HeadNorm.floor_eq
  refine Cert.HeadNorm.sum_real _ _ fun i => Cert.HeadNorm.mul_real (Cert.HeadNorm.mul_real ⟨0, ?_⟩ (hg i)) (hw i)
  rw [hs, e, he, Ideal.div, if_neg (by exact_mod_cast (by norm_num : (1024 : ℝ) ≠ 0)), ← EReal.coe_inv, EReal.top_mul_coe_of_pos (by norm_num),
    EReal.top_add_coe]
  exact mul_zero _

/-! ## The scale -/

theorem scale_value : Ideal.div (Ideal.div (Ideal.ofBits .f32 0x3F800000#32) (Ideal.sqrt (Ideal.ofBits .f32 0x42800000#32))) (Ideal.log (Ideal.ofBits .f32 0x40000000#32))
    = (((Real.sqrt 64)⁻¹ * (Real.log 2)⁻¹ : ℝ) : EReal) := by
  have e1 : Ideal.ofBits .f32 0x3F800000#32 = ((1 : ℝ) : EReal) := by
    simp [Ideal.ofBits, Ideal.ieee, -EReal.coe_mul]; norm_num
  have e2 : Ideal.ofBits .f32 0x42800000#32 = ((64 : ℝ) : EReal) := by
    simp [Ideal.ofBits, Ideal.ieee, -EReal.coe_mul]; norm_num
  have e3 : Ideal.ofBits .f32 0x40000000#32 = ((2 : ℝ) : EReal) := by
    simp [Ideal.ofBits, Ideal.ieee, -EReal.coe_mul]; norm_num
  have h1 : Real.sqrt 64 ≠ 0 := (Real.sqrt_pos.mpr (by norm_num)).ne'
  have h2 : Real.log 2 ≠ 0 := (Real.log_pos (by norm_num)).ne'
  have e4 : Ideal.log ((2 : ℝ) : EReal) = ((Real.log 2 : ℝ) : EReal) := by
    show (if _ then _ else _ : EReal) = _
    simp
  rw [e1, e2, e3, e4, Ideal.sqrt_coe, if_neg (by norm_num), Ideal.div, if_neg (by exact_mod_cast h2), Ideal.div, if_neg (by exact_mod_cast h1), EReal.coe_one, one_mul, EReal.coe_mul,
    EReal.coe_inv, EReal.coe_inv]

end Cert.Heads

end
-- ==== Proof.HeadsClaims.lean ====
module

public import proofs.«01_k».proof.Defs
public import proofs.«01_k».proof.Proof.Gen.Kernel5.Frame
public import proofs.«01_k».proof.Proof.Gen.Pre_finite5
public import proofs.«01_k».proof.Proof.HeadsFinal
public import proofs.«01_k».proof.Proof.HeadsRefQueries
public import proofs.«01_k».proof.Proof.HeadsReal

/-! The first layer's normed and rotated heads: the claims about the call. -/

@[expose] public section

set_option maxRecDepth 16384

noncomputable section

namespace Cert.Heads

open Idealize.ShloMosaic Idealize.ShloMosaic.TcCoe Idealize.SL.Sem
open Cert.RowNorm Cert.HeadNorm
open Cert.ProjAb (whole)

attribute [local instance] Cert.Kernel5.Gen.facts Cert.Kernel5Ideal.Gen.facts Cert.Reference5Ideal.Gen.facts Cert.Pre_finite5.Gen.facts

theorem frame_p : Cert.quiescent_Kernel5 := fun m ρ _ => Cert.Kernel5.Gen.frame m ρ

theorem frame_pi : Cert.quiescent_Kernel5Ideal := fun m ρ _ => Cert.Kernel5Ideal.Gen.frame m ρ

theorem frame_pi_finite : Cert.quiescent_Kernel5Ideal_pre_finite5 := fun m ρ _ => Cert.Kernel5Ideal.Gen.frame m ρ

theorem frame_ri : Cert.quiescent_Reference5Ideal := fun m ρ _ =>
  (θ_run Cert.Reference5Ideal.defs _ _).mono (fun r h => ⟨fun c => (h c).2.2.2.2.2,
      Idealize.ShloMosaic.sem_eq_zero_of_no_sems (by decide) r.2⟩)
    (Cert.Reference5Ideal.Value.run (F := Ideal) m ρ)

theorem frame_ri_finite : Cert.quiescent_Reference5Ideal_pre_finite5 := fun m ρ _ => frame_ri m ρ trivial

theorem preserves : Cert.preserves_Kernel5_Kernel5Ideal :=
  IdealRules.named_const.statement Cert.Kernel5Ideal.κ "q_scale" .f32 0x3E38AA3B#32 (((Real.sqrt 64)⁻¹ * (Real.log 2)⁻¹ : ℝ) : EReal) rfl

theorem scale_eq : scale = qs := scale_value

set_option maxHeartbeats 2000000 in
theorem algebraic : Cert.algebraic_Kernel5Ideal_Reference5Ideal_pre_finite5 := by
  intro m ρ m' ρ' hpre hagree
  refine ⟨fun c => (Cert.Kernel5Ideal.Gen.dats m 0 c).arrAt 8 Cert.Kernel5Ideal.cfg0.N, fun c => (Cert.Kernel5Ideal.Gen.dats m 0 c).arrAt 9 Cert.Kernel5Ideal.cfg0.N, fun c => (Cert.Kernel5Ideal.Gen.dats m 0 c).arrAt 12 Cert.Kernel5Ideal.cfg0.N, fun c => (Cert.Kernel5Ideal.Gen.dats m 0 c).arrAt 15 Cert.Kernel5Ideal.cfg0.N, fun c => (Cert.Kernel5Ideal.Gen.dats m 0 c).arrAt 16 Cert.Kernel5Ideal.cfg0.N,
    (θ_run Cert.Kernel5Ideal.defs _ _).mono (fun r h c => ?_) (Cert.Kernel5Ideal.Value.run_blocks (F := Ideal) m ρ), ?_⟩
  · obtain ⟨h8, h9, -, -, h12, -, -, h15, h16, -, -, h⟩ := h c
    exact ⟨h8, h9, h12, h15, h16, h⟩
  refine (θ_run Cert.Reference5Ideal.defs _ _).mono (fun _ h c => ?_) (Cert.Reference5Ideal.Value.run (F := Ideal) m' ρ')
  obtain ⟨h8, h9, h12, h15, h16, h⟩ := h c
  have e0 : arg (StableHlo.launchContents m' c) Cert.Reference5Ideal.main_arg0 = m ((c.tc : Thread Cert.Kernel5Ideal.nD Cert.Kernel5Ideal.τ).loc Cert.Kernel5Ideal.main_arg0) := (hagree c).1
  have e1 : arg (StableHlo.launchContents m' c) Cert.Reference5Ideal.main_arg1 = m ((c.tc : Thread Cert.Kernel5Ideal.nD Cert.Kernel5Ideal.τ).loc Cert.Kernel5Ideal.main_arg1) := (hagree c).2.1
  have e2 : arg (StableHlo.launchContents m' c) Cert.Reference5Ideal.main_arg2 = m ((c.tc : Thread Cert.Kernel5Ideal.nD Cert.Kernel5Ideal.τ).loc Cert.Kernel5Ideal.main_arg2) := (hagree c).2.2.1
  have e3 : arg (StableHlo.launchContents m' c) Cert.Reference5Ideal.main_arg3 = m ((c.tc : Thread Cert.Kernel5Ideal.nD Cert.Kernel5Ideal.τ).loc Cert.Kernel5Ideal.main_arg3) := (hagree c).2.2.2.1
  have e4 : arg (StableHlo.launchContents m' c) Cert.Reference5Ideal.main_arg4 = m ((c.tc : Thread Cert.Kernel5Ideal.nD Cert.Kernel5Ideal.τ).loc Cert.Kernel5Ideal.main_arg4) := (hagree c).2.2.2.2.1
  have e5 : arg (StableHlo.launchContents m' c) Cert.Reference5Ideal.main_arg5 = m ((c.tc : Thread Cert.Kernel5Ideal.nD Cert.Kernel5Ideal.τ).loc Cert.Kernel5Ideal.main_arg5) := (hagree c).2.2.2.2.2.1
  have e6 : arg (StableHlo.launchContents m' c) Cert.Reference5Ideal.main_arg6 = m ((c.tc : Thread Cert.Kernel5Ideal.nD Cert.Kernel5Ideal.τ).loc Cert.Kernel5Ideal.main_arg6) := (hagree c).2.2.2.2.2.2.1
  have e7 : arg (StableHlo.launchContents m' c) Cert.Reference5Ideal.main_arg7 = m ((c.tc : Thread Cert.Kernel5Ideal.nD Cert.Kernel5Ideal.τ).loc Cert.Kernel5Ideal.main_arg7) := (hagree c).2.2.2.2.2.2.2
  have hprod : prod (StableHlo.launchContents m' c) = wholeAt m c := by
    funext n l
    show whole _ _ _ n l = _
    rw [e0, e1, e2]
  obtain ⟨rg, rw'⟩ := real_args _ _ _ _ _ _ _ _ (hpre c)
  have hf (n : Fin 32768) (l : Fin 2944) : ∃ q : ℝ, wholeAt m c n l = q := col_real_any _ _ _ (fun k => rg _) (fun k => rw' _)
  obtain ⟨f9, f12, f16⟩ := finals m c hf
  obtain ⟨f8, f15⟩ := finals_q m c hf
  obtain ⟨r9, r16⟩ := keys_at (StableHlo.launchContents m' c)
  obtain ⟨r8, r15⟩ := queries_at (StableHlo.launchContents m' c)
  have r12 := index_keys_at (StableHlo.launchContents m' c)
  rw [hprod, e3, e4, e5] at r9
  rw [hprod, e3, e4, e7] at r16
  rw [hprod, e3, e4, e6] at r12
  rw [hprod, e3, e4, e5, scale_eq] at r8
  rw [hprod, e3, e4, e7, scale_eq] at r15
  exact ⟨h8.trans (r8.trans f8.symm), h9.trans (r9.trans f9.symm), h12.trans (r12.trans f12.symm), h15.trans (r15.trans f15.symm), h16.trans (r16.trans f16.symm), h⟩

end Cert.Heads

end
-- ==== Proof.lean ====
module

public import proofs.«01_k».proof.Defs
public import proofs.«01_k».proof.Proof.Claims
public import proofs.«01_k».proof.Proof.Gen.Kernel
public import proofs.«01_k».proof.Proof.Gen.KernelIdeal
public import proofs.«01_k».proof.Proof.Gen.ReferenceIdeal
public import proofs.«01_k».proof.Proof.FuseClaims
public import proofs.«01_k».proof.Proof.OutProjClaims
public import proofs.«01_k».proof.Proof.ProjAbClaims
public import proofs.«01_k».proof.Proof.HeadsClaims
public import proofs.«01_k».proof.Proof.Gen.Pre_finite5
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.Pre_finite5.Gen.facts,
    Claims.frame_p, Claims.frame_pi, Claims.frame_ri,
    Fuse.frame_p, Fuse.frame_pi, Fuse.frame_ri,
    OutProj.frame_p, OutProj.frame_pi, OutProj.frame_ri,
    ProjAb.frame_p, ProjAb.frame_pi, ProjAb.frame_ri,
    Heads.frame_p, Heads.frame_pi, Heads.frame_pi_finite, Heads.frame_ri, Heads.frame_ri_finite,
    Claims.preserves, Claims.algebraic,
    trivial, Fuse.algebraic,
    trivial, OutProj.algebraic,
    trivial, ProjAb.algebraic,
    Heads.preserves, Heads.algebraic⟩

end Cert.Proof

end
